-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_range_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S512x512 : Shape := ⟨2, ![512, 512]⟩
abbrev S4104x512 : Shape := ⟨2, ![4104, 512]⟩
abbrev S352x512 : Shape := ⟨2, ![352, 512]⟩
abbrev S160x512 : Shape := ⟨2, ![160, 512]⟩
abbrev S_ : Shape := ⟨0, ![]⟩
abbrev S5 : Shape := ⟨1, ![5]⟩
abbrev S3 : Shape := ⟨1, ![3]⟩
abbrev S8x512 : Shape := ⟨2, ![8, 512]⟩
abbrev S1 : Shape := ⟨1, ![1]⟩
abbrev S1x512 : Shape := ⟨2, ![1, 512]⟩
abbrev S96x512 : Shape := ⟨2, ![96, 512]⟩
abbrev S48x512 : Shape := ⟨2, ![48, 512]⟩
abbrev S16x512 : Shape := ⟨2, ![16, 512]⟩

abbrev nBuf : Space → Nat
  | .hbm => 3
  | .vmem => 7
  | .smem => 1
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S512x512, .f32⟩
  | .local _ .vmem, ⟨0, _⟩ => ⟨S512x512, .f32⟩
  | .local _ .vmem, ⟨1, _⟩ => ⟨S4104x512, .f32⟩
  | .local _ .vmem, ⟨2, _⟩ => ⟨S352x512, .f32⟩
  | .local _ .vmem, ⟨3, _⟩ => ⟨S352x512, .bf16⟩
  | .local _ .vmem, ⟨4, _⟩ => ⟨S352x512, .bf16⟩
  | .local _ .vmem, ⟨5, _⟩ => ⟨S160x512, .bf16⟩
  | .local _ .vmem, ⟨6, _⟩ => ⟨S160x512, .bf16⟩
  | .local _ .smem, ⟨0, _⟩ => ⟨S512, .i32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6 : BitVec 32 := 2#32
  let v14 : BitVec 32 := Scalar.muli v2 c2_i32_6
  let v15 : BitVec 32 := Scalar.addi c0_i32_7 v14
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v16 : BitVec 32 := Scalar.muli v6 c1_i32_8
  let v17 : BitVec 32 := Scalar.addi v15 v16
  v17.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v18 : BitVec 32 := Scalar.muli v7 c2_i32_10
  let v19 : BitVec 32 := Scalar.addi c0_i32_11 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v20 : BitVec 32 := Scalar.muli v5 c1_i32_12
  let v21 : BitVec 32 := Scalar.addi v19 v20
  v21.toNat
def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c0_i32_15 : BitVec 32 := 0#32
  let v25 : BitVec 32 := Scalar.addi v23 c0_i32_15
  let v26 : Index := Scalar.indexCast v25
  ![v26.toNat]
def k0_off2 (d0 : Dev nD) (v27 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v28 : BitVec 1 := Scalar.cmpi .sge v27 v22
  let c4096_i32_16 : BitVec 32 := 4096#32
  let v29 : BitVec 32 := Scalar.addi v22 c4096_i32_16
  let v30 : BitVec 1 := Scalar.cmpi .slt v27 v29
  let v31 : BitVec 1 := Scalar.andi v28 v30
  let v32 : BitVec 32 := Scalar.subi v27 v22
  let c4096_i32_17 : BitVec 32 := 4096#32
  let v33 : BitVec 32 := Scalar.select v31 v32 c4096_i32_17
  let v34 : Index := Scalar.indexCast v33
  let c0_18 : Index := 0#32
  ![v34.toNat, 0]

def k0_chk1 (d0 : Dev nD) (v27 : BitVec 32) : Prop :=
  (∀ a, (k0_off2 d0 v27) a + S1x512.size a ≤ S4104x512.size a)
theorem k0_off2_inb : ∀ (d0 : Dev nD) (v27 : BitVec 32) (k0_hw1 : k0_chk1 d0 v27), ∀ a, (k0_off2 d0 v27) a + S1x512.size a ≤ S4104x512.size a := fun d0 v27 k0_hw1 => k0_hw1

def k0_off3 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c1_i32_21 : BitVec 32 := 1#32
  let v39 : BitVec 32 := Scalar.addi v23 c1_i32_21
  let v40 : Index := Scalar.indexCast v39
  ![v40.toNat]
def k0_off4 (d0 : Dev nD) (v41 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v42 : BitVec 1 := Scalar.cmpi .sge v41 v22
  let c4096_i32_22 : BitVec 32 := 4096#32
  let v43 : BitVec 32 := Scalar.addi v22 c4096_i32_22
  let v44 : BitVec 1 := Scalar.cmpi .slt v41 v43
  let v45 : BitVec 1 := Scalar.andi v42 v44
  let v46 : BitVec 32 := Scalar.subi v41 v22
  let c4096_i32_23 : BitVec 32 := 4096#32
  let v47 : BitVec 32 := Scalar.select v45 v46 c4096_i32_23
  let v48 : Index := Scalar.indexCast v47
  let c0_24 : Index := 0#32
  ![v48.toNat, 0]

def k0_chk2 (d0 : Dev nD) (v41 : BitVec 32) : Prop :=
  (∀ a, (k0_off4 d0 v41) a + S1x512.size a ≤ S4104x512.size a)
theorem k0_off4_inb : ∀ (d0 : Dev nD) (v41 : BitVec 32) (k0_hw2 : k0_chk2 d0 v41), ∀ a, (k0_off4 d0 v41) a + S1x512.size a ≤ S4104x512.size a := fun d0 v41 k0_hw2 => k0_hw2

def k0_off5 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c2_i32_26 : BitVec 32 := 2#32
  let v53 : BitVec 32 := Scalar.addi v23 c2_i32_26
  let v54 : Index := Scalar.indexCast v53
  ![v54.toNat]
def k0_off6 (d0 : Dev nD) (v55 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v56 : BitVec 1 := Scalar.cmpi .sge v55 v22
  let c4096_i32_27 : BitVec 32 := 4096#32
  let v57 : BitVec 32 := Scalar.addi v22 c4096_i32_27
  let v58 : BitVec 1 := Scalar.cmpi .slt v55 v57
  let v59 : BitVec 1 := Scalar.andi v56 v58
  let v60 : BitVec 32 := Scalar.subi v55 v22
  let c4096_i32_28 : BitVec 32 := 4096#32
  let v61 : BitVec 32 := Scalar.select v59 v60 c4096_i32_28
  let v62 : Index := Scalar.indexCast v61
  let c0_29 : Index := 0#32
  ![v62.toNat, 0]

def k0_chk3 (d0 : Dev nD) (v55 : BitVec 32) : Prop :=
  (∀ a, (k0_off6 d0 v55) a + S1x512.size a ≤ S4104x512.size a)
theorem k0_off6_inb : ∀ (d0 : Dev nD) (v55 : BitVec 32) (k0_hw3 : k0_chk3 d0 v55), ∀ a, (k0_off6 d0 v55) a + S1x512.size a ≤ S4104x512.size a := fun d0 v55 k0_hw3 => k0_hw3

def k0_off7 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c3_i32 : BitVec 32 := 3#32
  let v67 : BitVec 32 := Scalar.addi v23 c3_i32
  let v68 : Index := Scalar.indexCast v67
  ![v68.toNat]
def k0_off8 (d0 : Dev nD) (v69 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v70 : BitVec 1 := Scalar.cmpi .sge v69 v22
  let c4096_i32_31 : BitVec 32 := 4096#32
  let v71 : BitVec 32 := Scalar.addi v22 c4096_i32_31
  let v72 : BitVec 1 := Scalar.cmpi .slt v69 v71
  let v73 : BitVec 1 := Scalar.andi v70 v72
  let v74 : BitVec 32 := Scalar.subi v69 v22
  let c4096_i32_32 : BitVec 32 := 4096#32
  let v75 : BitVec 32 := Scalar.select v73 v74 c4096_i32_32
  let v76 : Index := Scalar.indexCast v75
  let c0_33 : Index := 0#32
  ![v76.toNat, 0]

def k0_chk4 (d0 : Dev nD) (v69 : BitVec 32) : Prop :=
  (∀ a, (k0_off8 d0 v69) a + S1x512.size a ≤ S4104x512.size a)
theorem k0_off8_inb : ∀ (d0 : Dev nD) (v69 : BitVec 32) (k0_hw4 : k0_chk4 d0 v69), ∀ a, (k0_off8 d0 v69) a + S1x512.size a ≤ S4104x512.size a := fun d0 v69 k0_hw4 => k0_hw4

def k0_off9 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c4_i32 : BitVec 32 := 4#32
  let v81 : BitVec 32 := Scalar.addi v23 c4_i32
  let v82 : Index := Scalar.indexCast v81
  ![v82.toNat]
def k0_off10 (d0 : Dev nD) (v83 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v84 : BitVec 1 := Scalar.cmpi .sge v83 v22
  let c4096_i32_35 : BitVec 32 := 4096#32
  let v85 : BitVec 32 := Scalar.addi v22 c4096_i32_35
  let v86 : BitVec 1 := Scalar.cmpi .slt v83 v85
  let v87 : BitVec 1 := Scalar.andi v84 v86
  let v88 : BitVec 32 := Scalar.subi v83 v22
  let c4096_i32_36 : BitVec 32 := 4096#32
  let v89 : BitVec 32 := Scalar.select v87 v88 c4096_i32_36
  let v90 : Index := Scalar.indexCast v89
  let c0_37 : Index := 0#32
  ![v90.toNat, 0]

def k0_chk5 (d0 : Dev nD) (v83 : BitVec 32) : Prop :=
  (∀ a, (k0_off10 d0 v83) a + S1x512.size a ≤ S4104x512.size a)
theorem k0_off10_inb : ∀ (d0 : Dev nD) (v83 : BitVec 32) (k0_hw5 : k0_chk5 d0 v83), ∀ a, (k0_off10 d0 v83) a + S1x512.size a ≤ S4104x512.size a := fun d0 v83 k0_hw5 => k0_hw5

def k0_off11 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c5_i32 : BitVec 32 := 5#32
  let v95 : BitVec 32 := Scalar.addi v23 c5_i32
  let v96 : Index := Scalar.indexCast v95
  ![v96.toNat]
def k0_off12 (d0 : Dev nD) (v97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v98 : BitVec 1 := Scalar.cmpi .sge v97 v22
  let c4096_i32_39 : BitVec 32 := 4096#32
  let v99 : BitVec 32 := Scalar.addi v22 c4096_i32_39
  let v100 : BitVec 1 := Scalar.cmpi .slt v97 v99
  let v101 : BitVec 1 := Scalar.andi v98 v100
  let v102 : BitVec 32 := Scalar.subi v97 v22
  let c4096_i32_40 : BitVec 32 := 4096#32
  let v103 : BitVec 32 := Scalar.select v101 v102 c4096_i32_40
  let v104 : Index := Scalar.indexCast v103
  let c0_41 : Index := 0#32
  ![v104.toNat, 0]

def k0_chk6 (d0 : Dev nD) (v97 : BitVec 32) : Prop :=
  (∀ a, (k0_off12 d0 v97) a + S1x512.size a ≤ S4104x512.size a)
theorem k0_off12_inb : ∀ (d0 : Dev nD) (v97 : BitVec 32) (k0_hw6 : k0_chk6 d0 v97), ∀ a, (k0_off12 d0 v97) a + S1x512.size a ≤ S4104x512.size a := fun d0 v97 k0_hw6 => k0_hw6

def k0_off13 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c6_i32 : BitVec 32 := 6#32
  let v109 : BitVec 32 := Scalar.addi v23 c6_i32
  let v110 : Index := Scalar.indexCast v109
  ![v110.toNat]
def k0_off14 (d0 : Dev nD) (v111 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v112 : BitVec 1 := Scalar.cmpi .sge v111 v22
  let c4096_i32_43 : BitVec 32 := 4096#32
  let v113 : BitVec 32 := Scalar.addi v22 c4096_i32_43
  let v114 : BitVec 1 := Scalar.cmpi .slt v111 v113
  let v115 : BitVec 1 := Scalar.andi v112 v114
  let v116 : BitVec 32 := Scalar.subi v111 v22
  let c4096_i32_44 : BitVec 32 := 4096#32
  let v117 : BitVec 32 := Scalar.select v115 v116 c4096_i32_44
  let v118 : Index := Scalar.indexCast v117
  let c0_45 : Index := 0#32
  ![v118.toNat, 0]

def k0_chk7 (d0 : Dev nD) (v111 : BitVec 32) : Prop :=
  (∀ a, (k0_off14 d0 v111) a + S1x512.size a ≤ S4104x512.size a)
theorem k0_off14_inb : ∀ (d0 : Dev nD) (v111 : BitVec 32) (k0_hw7 : k0_chk7 d0 v111), ∀ a, (k0_off14 d0 v111) a + S1x512.size a ≤ S4104x512.size a := fun d0 v111 k0_hw7 => k0_hw7

def k0_off15 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c7_i32 : BitVec 32 := 7#32
  let v123 : BitVec 32 := Scalar.addi v23 c7_i32
  let v124 : Index := Scalar.indexCast v123
  ![v124.toNat]
def k0_off16 (d0 : Dev nD) (v125 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v126 : BitVec 1 := Scalar.cmpi .sge v125 v22
  let c4096_i32_47 : BitVec 32 := 4096#32
  let v127 : BitVec 32 := Scalar.addi v22 c4096_i32_47
  let v128 : BitVec 1 := Scalar.cmpi .slt v125 v127
  let v129 : BitVec 1 := Scalar.andi v126 v128
  let v130 : BitVec 32 := Scalar.subi v125 v22
  let c4096_i32_48 : BitVec 32 := 4096#32
  let v131 : BitVec 32 := Scalar.select v129 v130 c4096_i32_48
  let v132 : Index := Scalar.indexCast v131
  let c0_49 : Index := 0#32
  ![v132.toNat, 0]

def k0_chk8 (d0 : Dev nD) (v125 : BitVec 32) : Prop :=
  (∀ a, (k0_off16 d0 v125) a + S1x512.size a ≤ S4104x512.size a)
theorem k0_off16_inb : ∀ (d0 : Dev nD) (v125 : BitVec 32) (k0_hw8 : k0_chk8 d0 v125), ∀ a, (k0_off16 d0 v125) a + S1x512.size a ≤ S4104x512.size a := fun d0 v125 k0_hw8 => k0_hw8

def k0_off17 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c8_i32 : BitVec 32 := 8#32
  let v137 : BitVec 32 := Scalar.addi v23 c8_i32
  let v138 : Index := Scalar.indexCast v137
  ![v138.toNat]
def k0_off18 (d0 : Dev nD) (v139 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v140 : BitVec 1 := Scalar.cmpi .sge v139 v22
  let c4096_i32_51 : BitVec 32 := 4096#32
  let v141 : BitVec 32 := Scalar.addi v22 c4096_i32_51
  let v142 : BitVec 1 := Scalar.cmpi .slt v139 v141
  let v143 : BitVec 1 := Scalar.andi v140 v142
  let v144 : BitVec 32 := Scalar.subi v139 v22
  let c4096_i32_52 : BitVec 32 := 4096#32
  let v145 : BitVec 32 := Scalar.select v143 v144 c4096_i32_52
  let v146 : Index := Scalar.indexCast v145
  let c0_53 : Index := 0#32
  ![v146.toNat, 0]

def k0_chk9 (d0 : Dev nD) (v139 : BitVec 32) : Prop :=
  (∀ a, (k0_off18 d0 v139) a + S1x512.size a ≤ S4104x512.size a)
theorem k0_off18_inb : ∀ (d0 : Dev nD) (v139 : BitVec 32) (k0_hw9 : k0_chk9 d0 v139), ∀ a, (k0_off18 d0 v139) a + S1x512.size a ≤ S4104x512.size a := fun d0 v139 k0_hw9 => k0_hw9

def k0_off19 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c9_i32 : BitVec 32 := 9#32
  let v151 : BitVec 32 := Scalar.addi v23 c9_i32
  let v152 : Index := Scalar.indexCast v151
  ![v152.toNat]
def k0_off20 (d0 : Dev nD) (v153 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v154 : BitVec 1 := Scalar.cmpi .sge v153 v22
  let c4096_i32_55 : BitVec 32 := 4096#32
  let v155 : BitVec 32 := Scalar.addi v22 c4096_i32_55
  let v156 : BitVec 1 := Scalar.cmpi .slt v153 v155
  let v157 : BitVec 1 := Scalar.andi v154 v156
  let v158 : BitVec 32 := Scalar.subi v153 v22
  let c4096_i32_56 : BitVec 32 := 4096#32
  let v159 : BitVec 32 := Scalar.select v157 v158 c4096_i32_56
  let v160 : Index := Scalar.indexCast v159
  let c0_57 : Index := 0#32
  ![v160.toNat, 0]

def k0_chk10 (d0 : Dev nD) (v153 : BitVec 32) : Prop :=
  (∀ a, (k0_off20 d0 v153) a + S1x512.size a ≤ S4104x512.size a)
theorem k0_off20_inb : ∀ (d0 : Dev nD) (v153 : BitVec 32) (k0_hw10 : k0_chk10 d0 v153), ∀ a, (k0_off20 d0 v153) a + S1x512.size a ≤ S4104x512.size a := fun d0 v153 k0_hw10 => k0_hw10

def k0_off21 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c10_i32 : BitVec 32 := 10#32
  let v165 : BitVec 32 := Scalar.addi v23 c10_i32
  let v166 : Index := Scalar.indexCast v165
  ![v166.toNat]
def k0_off22 (d0 : Dev nD) (v167 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v168 : BitVec 1 := Scalar.cmpi .sge v167 v22
  let c4096_i32_59 : BitVec 32 := 4096#32
  let v169 : BitVec 32 := Scalar.addi v22 c4096_i32_59
  let v170 : BitVec 1 := Scalar.cmpi .slt v167 v169
  let v171 : BitVec 1 := Scalar.andi v168 v170
  let v172 : BitVec 32 := Scalar.subi v167 v22
  let c4096_i32_60 : BitVec 32 := 4096#32
  let v173 : BitVec 32 := Scalar.select v171 v172 c4096_i32_60
  let v174 : Index := Scalar.indexCast v173
  let c0_61 : Index := 0#32
  ![v174.toNat, 0]

def k0_chk11 (d0 : Dev nD) (v167 : BitVec 32) : Prop :=
  (∀ a, (k0_off22 d0 v167) a + S1x512.size a ≤ S4104x512.size a)
theorem k0_off22_inb : ∀ (d0 : Dev nD) (v167 : BitVec 32) (k0_hw11 : k0_chk11 d0 v167), ∀ a, (k0_off22 d0 v167) a + S1x512.size a ≤ S4104x512.size a := fun d0 v167 k0_hw11 => k0_hw11

def k0_off23 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c11_i32 : BitVec 32 := 11#32
  let v179 : BitVec 32 := Scalar.addi v23 c11_i32
  let v180 : Index := Scalar.indexCast v179
  ![v180.toNat]
def k0_off24 (d0 : Dev nD) (v181 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v182 : BitVec 1 := Scalar.cmpi .sge v181 v22
  let c4096_i32_63 : BitVec 32 := 4096#32
  let v183 : BitVec 32 := Scalar.addi v22 c4096_i32_63
  let v184 : BitVec 1 := Scalar.cmpi .slt v181 v183
  let v185 : BitVec 1 := Scalar.andi v182 v184
  let v186 : BitVec 32 := Scalar.subi v181 v22
  let c4096_i32_64 : BitVec 32 := 4096#32
  let v187 : BitVec 32 := Scalar.select v185 v186 c4096_i32_64
  let v188 : Index := Scalar.indexCast v187
  let c0_65 : Index := 0#32
  ![v188.toNat, 0]

def k0_chk12 (d0 : Dev nD) (v181 : BitVec 32) : Prop :=
  (∀ a, (k0_off24 d0 v181) a + S1x512.size a ≤ S4104x512.size a)
theorem k0_off24_inb : ∀ (d0 : Dev nD) (v181 : BitVec 32) (k0_hw12 : k0_chk12 d0 v181), ∀ a, (k0_off24 d0 v181) a + S1x512.size a ≤ S4104x512.size a := fun d0 v181 k0_hw12 => k0_hw12

def k0_off25 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c12_i32 : BitVec 32 := 12#32
  let v193 : BitVec 32 := Scalar.addi v23 c12_i32
  let v194 : Index := Scalar.indexCast v193
  ![v194.toNat]
def k0_off26 (d0 : Dev nD) (v195 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v196 : BitVec 1 := Scalar.cmpi .sge v195 v22
  let c4096_i32_67 : BitVec 32 := 4096#32
  let v197 : BitVec 32 := Scalar.addi v22 c4096_i32_67
  let v198 : BitVec 1 := Scalar.cmpi .slt v195 v197
  let v199 : BitVec 1 := Scalar.andi v196 v198
  let v200 : BitVec 32 := Scalar.subi v195 v22
  let c4096_i32_68 : BitVec 32 := 4096#32
  let v201 : BitVec 32 := Scalar.select v199 v200 c4096_i32_68
  let v202 : Index := Scalar.indexCast v201
  let c0_69 : Index := 0#32
  ![v202.toNat, 0]

def k0_chk13 (d0 : Dev nD) (v195 : BitVec 32) : Prop :=
  (∀ a, (k0_off26 d0 v195) a + S1x512.size a ≤ S4104x512.size a)
theorem k0_off26_inb : ∀ (d0 : Dev nD) (v195 : BitVec 32) (k0_hw13 : k0_chk13 d0 v195), ∀ a, (k0_off26 d0 v195) a + S1x512.size a ≤ S4104x512.size a := fun d0 v195 k0_hw13 => k0_hw13

def k0_off27 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c13_i32 : BitVec 32 := 13#32
  let v207 : BitVec 32 := Scalar.addi v23 c13_i32
  let v208 : Index := Scalar.indexCast v207
  ![v208.toNat]
def k0_off28 (d0 : Dev nD) (v209 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v210 : BitVec 1 := Scalar.cmpi .sge v209 v22
  let c4096_i32_71 : BitVec 32 := 4096#32
  let v211 : BitVec 32 := Scalar.addi v22 c4096_i32_71
  let v212 : BitVec 1 := Scalar.cmpi .slt v209 v211
  let v213 : BitVec 1 := Scalar.andi v210 v212
  let v214 : BitVec 32 := Scalar.subi v209 v22
  let c4096_i32_72 : BitVec 32 := 4096#32
  let v215 : BitVec 32 := Scalar.select v213 v214 c4096_i32_72
  let v216 : Index := Scalar.indexCast v215
  let c0_73 : Index := 0#32
  ![v216.toNat, 0]

def k0_chk14 (d0 : Dev nD) (v209 : BitVec 32) : Prop :=
  (∀ a, (k0_off28 d0 v209) a + S1x512.size a ≤ S4104x512.size a)
theorem k0_off28_inb : ∀ (d0 : Dev nD) (v209 : BitVec 32) (k0_hw14 : k0_chk14 d0 v209), ∀ a, (k0_off28 d0 v209) a + S1x512.size a ≤ S4104x512.size a := fun d0 v209 k0_hw14 => k0_hw14

def k0_off29 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c14_i32 : BitVec 32 := 14#32
  let v221 : BitVec 32 := Scalar.addi v23 c14_i32
  let v222 : Index := Scalar.indexCast v221
  ![v222.toNat]
def k0_off30 (d0 : Dev nD) (v223 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v224 : BitVec 1 := Scalar.cmpi .sge v223 v22
  let c4096_i32_75 : BitVec 32 := 4096#32
  let v225 : BitVec 32 := Scalar.addi v22 c4096_i32_75
  let v226 : BitVec 1 := Scalar.cmpi .slt v223 v225
  let v227 : BitVec 1 := Scalar.andi v224 v226
  let v228 : BitVec 32 := Scalar.subi v223 v22
  let c4096_i32_76 : BitVec 32 := 4096#32
  let v229 : BitVec 32 := Scalar.select v227 v228 c4096_i32_76
  let v230 : Index := Scalar.indexCast v229
  let c0_77 : Index := 0#32
  ![v230.toNat, 0]

def k0_chk15 (d0 : Dev nD) (v223 : BitVec 32) : Prop :=
  (∀ a, (k0_off30 d0 v223) a + S1x512.size a ≤ S4104x512.size a)
theorem k0_off30_inb : ∀ (d0 : Dev nD) (v223 : BitVec 32) (k0_hw15 : k0_chk15 d0 v223), ∀ a, (k0_off30 d0 v223) a + S1x512.size a ≤ S4104x512.size a := fun d0 v223 k0_hw15 => k0_hw15

def k0_off31 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c15_i32 : BitVec 32 := 15#32
  let v235 : BitVec 32 := Scalar.addi v23 c15_i32
  let v236 : Index := Scalar.indexCast v235
  ![v236.toNat]
def k0_off32 (d0 : Dev nD) (v237 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v238 : BitVec 1 := Scalar.cmpi .sge v237 v22
  let c4096_i32_79 : BitVec 32 := 4096#32
  let v239 : BitVec 32 := Scalar.addi v22 c4096_i32_79
  let v240 : BitVec 1 := Scalar.cmpi .slt v237 v239
  let v241 : BitVec 1 := Scalar.andi v238 v240
  let v242 : BitVec 32 := Scalar.subi v237 v22
  let c4096_i32_80 : BitVec 32 := 4096#32
  let v243 : BitVec 32 := Scalar.select v241 v242 c4096_i32_80
  let v244 : Index := Scalar.indexCast v243
  let c0_81 : Index := 0#32
  ![v244.toNat, 0]

def k0_chk16 (d0 : Dev nD) (v237 : BitVec 32) : Prop :=
  (∀ a, (k0_off32 d0 v237) a + S1x512.size a ≤ S4104x512.size a)
theorem k0_off32_inb : ∀ (d0 : Dev nD) (v237 : BitVec 32) (k0_hw16 : k0_chk16 d0 v237), ∀ a, (k0_off32 d0 v237) a + S1x512.size a ≤ S4104x512.size a := fun d0 v237 k0_hw16 => k0_hw16

def k0_off33 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c16_i32 : BitVec 32 := 16#32
  let v249 : BitVec 32 := Scalar.addi v23 c16_i32
  let v250 : Index := Scalar.indexCast v249
  ![v250.toNat]
def k0_off34 (d0 : Dev nD) (v251 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v252 : BitVec 1 := Scalar.cmpi .sge v251 v22
  let c4096_i32_83 : BitVec 32 := 4096#32
  let v253 : BitVec 32 := Scalar.addi v22 c4096_i32_83
  let v254 : BitVec 1 := Scalar.cmpi .slt v251 v253
  let v255 : BitVec 1 := Scalar.andi v252 v254
  let v256 : BitVec 32 := Scalar.subi v251 v22
  let c4096_i32_84 : BitVec 32 := 4096#32
  let v257 : BitVec 32 := Scalar.select v255 v256 c4096_i32_84
  let v258 : Index := Scalar.indexCast v257
  let c0_85 : Index := 0#32
  ![v258.toNat, 0]

def k0_chk17 (d0 : Dev nD) (v251 : BitVec 32) : Prop :=
  (∀ a, (k0_off34 d0 v251) a + S1x512.size a ≤ S4104x512.size a)
theorem k0_off34_inb : ∀ (d0 : Dev nD) (v251 : BitVec 32) (k0_hw17 : k0_chk17 d0 v251), ∀ a, (k0_off34 d0 v251) a + S1x512.size a ≤ S4104x512.size a := fun d0 v251 k0_hw17 => k0_hw17

def k0_off35 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c17_i32 : BitVec 32 := 17#32
  let v263 : BitVec 32 := Scalar.addi v23 c17_i32
  let v264 : Index := Scalar.indexCast v263
  ![v264.toNat]
def k0_off36 (d0 : Dev nD) (v265 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v266 : BitVec 1 := Scalar.cmpi .sge v265 v22
  let c4096_i32_87 : BitVec 32 := 4096#32
  let v267 : BitVec 32 := Scalar.addi v22 c4096_i32_87
  let v268 : BitVec 1 := Scalar.cmpi .slt v265 v267
  let v269 : BitVec 1 := Scalar.andi v266 v268
  let v270 : BitVec 32 := Scalar.subi v265 v22
  let c4096_i32_88 : BitVec 32 := 4096#32
  let v271 : BitVec 32 := Scalar.select v269 v270 c4096_i32_88
  let v272 : Index := Scalar.indexCast v271
  let c0_89 : Index := 0#32
  ![v272.toNat, 0]

def k0_chk18 (d0 : Dev nD) (v265 : BitVec 32) : Prop :=
  (∀ a, (k0_off36 d0 v265) a + S1x512.size a ≤ S4104x512.size a)
theorem k0_off36_inb : ∀ (d0 : Dev nD) (v265 : BitVec 32) (k0_hw18 : k0_chk18 d0 v265), ∀ a, (k0_off36 d0 v265) a + S1x512.size a ≤ S4104x512.size a := fun d0 v265 k0_hw18 => k0_hw18

def k0_off37 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c18_i32 : BitVec 32 := 18#32
  let v277 : BitVec 32 := Scalar.addi v23 c18_i32
  let v278 : Index := Scalar.indexCast v277
  ![v278.toNat]
def k0_off38 (d0 : Dev nD) (v279 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v280 : BitVec 1 := Scalar.cmpi .sge v279 v22
  let c4096_i32_91 : BitVec 32 := 4096#32
  let v281 : BitVec 32 := Scalar.addi v22 c4096_i32_91
  let v282 : BitVec 1 := Scalar.cmpi .slt v279 v281
  let v283 : BitVec 1 := Scalar.andi v280 v282
  let v284 : BitVec 32 := Scalar.subi v279 v22
  let c4096_i32_92 : BitVec 32 := 4096#32
  let v285 : BitVec 32 := Scalar.select v283 v284 c4096_i32_92
  let v286 : Index := Scalar.indexCast v285
  let c0_93 : Index := 0#32
  ![v286.toNat, 0]

def k0_chk19 (d0 : Dev nD) (v279 : BitVec 32) : Prop :=
  (∀ a, (k0_off38 d0 v279) a + S1x512.size a ≤ S4104x512.size a)
theorem k0_off38_inb : ∀ (d0 : Dev nD) (v279 : BitVec 32) (k0_hw19 : k0_chk19 d0 v279), ∀ a, (k0_off38 d0 v279) a + S1x512.size a ≤ S4104x512.size a := fun d0 v279 k0_hw19 => k0_hw19

def k0_off39 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c19_i32 : BitVec 32 := 19#32
  let v291 : BitVec 32 := Scalar.addi v23 c19_i32
  let v292 : Index := Scalar.indexCast v291
  ![v292.toNat]
def k0_off40 (d0 : Dev nD) (v293 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v294 : BitVec 1 := Scalar.cmpi .sge v293 v22
  let c4096_i32_95 : BitVec 32 := 4096#32
  let v295 : BitVec 32 := Scalar.addi v22 c4096_i32_95
  let v296 : BitVec 1 := Scalar.cmpi .slt v293 v295
  let v297 : BitVec 1 := Scalar.andi v294 v296
  let v298 : BitVec 32 := Scalar.subi v293 v22
  let c4096_i32_96 : BitVec 32 := 4096#32
  let v299 : BitVec 32 := Scalar.select v297 v298 c4096_i32_96
  let v300 : Index := Scalar.indexCast v299
  let c0_97 : Index := 0#32
  ![v300.toNat, 0]

def k0_chk20 (d0 : Dev nD) (v293 : BitVec 32) : Prop :=
  (∀ a, (k0_off40 d0 v293) a + S1x512.size a ≤ S4104x512.size a)
theorem k0_off40_inb : ∀ (d0 : Dev nD) (v293 : BitVec 32) (k0_hw20 : k0_chk20 d0 v293), ∀ a, (k0_off40 d0 v293) a + S1x512.size a ≤ S4104x512.size a := fun d0 v293 k0_hw20 => k0_hw20

def k0_off41 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c20_i32 : BitVec 32 := 20#32
  let v305 : BitVec 32 := Scalar.addi v23 c20_i32
  let v306 : Index := Scalar.indexCast v305
  ![v306.toNat]
def k0_off42 (d0 : Dev nD) (v307 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v308 : BitVec 1 := Scalar.cmpi .sge v307 v22
  let c4096_i32_99 : BitVec 32 := 4096#32
  let v309 : BitVec 32 := Scalar.addi v22 c4096_i32_99
  let v310 : BitVec 1 := Scalar.cmpi .slt v307 v309
  let v311 : BitVec 1 := Scalar.andi v308 v310
  let v312 : BitVec 32 := Scalar.subi v307 v22
  let c4096_i32_100 : BitVec 32 := 4096#32
  let v313 : BitVec 32 := Scalar.select v311 v312 c4096_i32_100
  let v314 : Index := Scalar.indexCast v313
  let c0_101 : Index := 0#32
  ![v314.toNat, 0]

def k0_chk21 (d0 : Dev nD) (v307 : BitVec 32) : Prop :=
  (∀ a, (k0_off42 d0 v307) a + S1x512.size a ≤ S4104x512.size a)
theorem k0_off42_inb : ∀ (d0 : Dev nD) (v307 : BitVec 32) (k0_hw21 : k0_chk21 d0 v307), ∀ a, (k0_off42 d0 v307) a + S1x512.size a ≤ S4104x512.size a := fun d0 v307 k0_hw21 => k0_hw21

def k0_off43 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c21_i32 : BitVec 32 := 21#32
  let v319 : BitVec 32 := Scalar.addi v23 c21_i32
  let v320 : Index := Scalar.indexCast v319
  ![v320.toNat]
def k0_off44 (d0 : Dev nD) (v321 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v322 : BitVec 1 := Scalar.cmpi .sge v321 v22
  let c4096_i32_103 : BitVec 32 := 4096#32
  let v323 : BitVec 32 := Scalar.addi v22 c4096_i32_103
  let v324 : BitVec 1 := Scalar.cmpi .slt v321 v323
  let v325 : BitVec 1 := Scalar.andi v322 v324
  let v326 : BitVec 32 := Scalar.subi v321 v22
  let c4096_i32_104 : BitVec 32 := 4096#32
  let v327 : BitVec 32 := Scalar.select v325 v326 c4096_i32_104
  let v328 : Index := Scalar.indexCast v327
  let c0_105 : Index := 0#32
  ![v328.toNat, 0]

def k0_chk22 (d0 : Dev nD) (v321 : BitVec 32) : Prop :=
  (∀ a, (k0_off44 d0 v321) a + S1x512.size a ≤ S4104x512.size a)
theorem k0_off44_inb : ∀ (d0 : Dev nD) (v321 : BitVec 32) (k0_hw22 : k0_chk22 d0 v321), ∀ a, (k0_off44 d0 v321) a + S1x512.size a ≤ S4104x512.size a := fun d0 v321 k0_hw22 => k0_hw22

def k0_off45 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c22_i32 : BitVec 32 := 22#32
  let v333 : BitVec 32 := Scalar.addi v23 c22_i32
  let v334 : Index := Scalar.indexCast v333
  ![v334.toNat]
def k0_off46 (d0 : Dev nD) (v335 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v336 : BitVec 1 := Scalar.cmpi .sge v335 v22
  let c4096_i32_107 : BitVec 32 := 4096#32
  let v337 : BitVec 32 := Scalar.addi v22 c4096_i32_107
  let v338 : BitVec 1 := Scalar.cmpi .slt v335 v337
  let v339 : BitVec 1 := Scalar.andi v336 v338
  let v340 : BitVec 32 := Scalar.subi v335 v22
  let c4096_i32_108 : BitVec 32 := 4096#32
  let v341 : BitVec 32 := Scalar.select v339 v340 c4096_i32_108
  let v342 : Index := Scalar.indexCast v341
  let c0_109 : Index := 0#32
  ![v342.toNat, 0]

def k0_chk23 (d0 : Dev nD) (v335 : BitVec 32) : Prop :=
  (∀ a, (k0_off46 d0 v335) a + S1x512.size a ≤ S4104x512.size a)
theorem k0_off46_inb : ∀ (d0 : Dev nD) (v335 : BitVec 32) (k0_hw23 : k0_chk23 d0 v335), ∀ a, (k0_off46 d0 v335) a + S1x512.size a ≤ S4104x512.size a := fun d0 v335 k0_hw23 => k0_hw23

def k0_off47 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c23_i32 : BitVec 32 := 23#32
  let v347 : BitVec 32 := Scalar.addi v23 c23_i32
  let v348 : Index := Scalar.indexCast v347
  ![v348.toNat]
def k0_off48 (d0 : Dev nD) (v349 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v350 : BitVec 1 := Scalar.cmpi .sge v349 v22
  let c4096_i32_111 : BitVec 32 := 4096#32
  let v351 : BitVec 32 := Scalar.addi v22 c4096_i32_111
  let v352 : BitVec 1 := Scalar.cmpi .slt v349 v351
  let v353 : BitVec 1 := Scalar.andi v350 v352
  let v354 : BitVec 32 := Scalar.subi v349 v22
  let c4096_i32_112 : BitVec 32 := 4096#32
  let v355 : BitVec 32 := Scalar.select v353 v354 c4096_i32_112
  let v356 : Index := Scalar.indexCast v355
  let c0_113 : Index := 0#32
  ![v356.toNat, 0]

def k0_chk24 (d0 : Dev nD) (v349 : BitVec 32) : Prop :=
  (∀ a, (k0_off48 d0 v349) a + S1x512.size a ≤ S4104x512.size a)
theorem k0_off48_inb : ∀ (d0 : Dev nD) (v349 : BitVec 32) (k0_hw24 : k0_chk24 d0 v349), ∀ a, (k0_off48 d0 v349) a + S1x512.size a ≤ S4104x512.size a := fun d0 v349 k0_hw24 => k0_hw24

def k0_off49 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c24_i32 : BitVec 32 := 24#32
  let v361 : BitVec 32 := Scalar.addi v23 c24_i32
  let v362 : Index := Scalar.indexCast v361
  ![v362.toNat]
def k0_off50 (d0 : Dev nD) (v363 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v364 : BitVec 1 := Scalar.cmpi .sge v363 v22
  let c4096_i32_115 : BitVec 32 := 4096#32
  let v365 : BitVec 32 := Scalar.addi v22 c4096_i32_115
  let v366 : BitVec 1 := Scalar.cmpi .slt v363 v365
  let v367 : BitVec 1 := Scalar.andi v364 v366
  let v368 : BitVec 32 := Scalar.subi v363 v22
  let c4096_i32_116 : BitVec 32 := 4096#32
  let v369 : BitVec 32 := Scalar.select v367 v368 c4096_i32_116
  let v370 : Index := Scalar.indexCast v369
  let c0_117 : Index := 0#32
  ![v370.toNat, 0]

def k0_chk25 (d0 : Dev nD) (v363 : BitVec 32) : Prop :=
  (∀ a, (k0_off50 d0 v363) a + S1x512.size a ≤ S4104x512.size a)
theorem k0_off50_inb : ∀ (d0 : Dev nD) (v363 : BitVec 32) (k0_hw25 : k0_chk25 d0 v363), ∀ a, (k0_off50 d0 v363) a + S1x512.size a ≤ S4104x512.size a := fun d0 v363 k0_hw25 => k0_hw25

def k0_off51 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c25_i32 : BitVec 32 := 25#32
  let v375 : BitVec 32 := Scalar.addi v23 c25_i32
  let v376 : Index := Scalar.indexCast v375
  ![v376.toNat]
def k0_off52 (d0 : Dev nD) (v377 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v378 : BitVec 1 := Scalar.cmpi .sge v377 v22
  let c4096_i32_119 : BitVec 32 := 4096#32
  let v379 : BitVec 32 := Scalar.addi v22 c4096_i32_119
  let v380 : BitVec 1 := Scalar.cmpi .slt v377 v379
  let v381 : BitVec 1 := Scalar.andi v378 v380
  let v382 : BitVec 32 := Scalar.subi v377 v22
  let c4096_i32_120 : BitVec 32 := 4096#32
  let v383 : BitVec 32 := Scalar.select v381 v382 c4096_i32_120
  let v384 : Index := Scalar.indexCast v383
  let c0_121 : Index := 0#32
  ![v384.toNat, 0]

def k0_chk26 (d0 : Dev nD) (v377 : BitVec 32) : Prop :=
  (∀ a, (k0_off52 d0 v377) a + S1x512.size a ≤ S4104x512.size a)
theorem k0_off52_inb : ∀ (d0 : Dev nD) (v377 : BitVec 32) (k0_hw26 : k0_chk26 d0 v377), ∀ a, (k0_off52 d0 v377) a + S1x512.size a ≤ S4104x512.size a := fun d0 v377 k0_hw26 => k0_hw26

def k0_off53 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c26_i32 : BitVec 32 := 26#32
  let v389 : BitVec 32 := Scalar.addi v23 c26_i32
  let v390 : Index := Scalar.indexCast v389
  ![v390.toNat]
def k0_off54 (d0 : Dev nD) (v391 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v392 : BitVec 1 := Scalar.cmpi .sge v391 v22
  let c4096_i32_123 : BitVec 32 := 4096#32
  let v393 : BitVec 32 := Scalar.addi v22 c4096_i32_123
  let v394 : BitVec 1 := Scalar.cmpi .slt v391 v393
  let v395 : BitVec 1 := Scalar.andi v392 v394
  let v396 : BitVec 32 := Scalar.subi v391 v22
  let c4096_i32_124 : BitVec 32 := 4096#32
  let v397 : BitVec 32 := Scalar.select v395 v396 c4096_i32_124
  let v398 : Index := Scalar.indexCast v397
  let c0_125 : Index := 0#32
  ![v398.toNat, 0]

def k0_chk27 (d0 : Dev nD) (v391 : BitVec 32) : Prop :=
  (∀ a, (k0_off54 d0 v391) a + S1x512.size a ≤ S4104x512.size a)
theorem k0_off54_inb : ∀ (d0 : Dev nD) (v391 : BitVec 32) (k0_hw27 : k0_chk27 d0 v391), ∀ a, (k0_off54 d0 v391) a + S1x512.size a ≤ S4104x512.size a := fun d0 v391 k0_hw27 => k0_hw27

def k0_off55 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c27_i32 : BitVec 32 := 27#32
  let v403 : BitVec 32 := Scalar.addi v23 c27_i32
  let v404 : Index := Scalar.indexCast v403
  ![v404.toNat]
def k0_off56 (d0 : Dev nD) (v405 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v406 : BitVec 1 := Scalar.cmpi .sge v405 v22
  let c4096_i32_127 : BitVec 32 := 4096#32
  let v407 : BitVec 32 := Scalar.addi v22 c4096_i32_127
  let v408 : BitVec 1 := Scalar.cmpi .slt v405 v407
  let v409 : BitVec 1 := Scalar.andi v406 v408
  let v410 : BitVec 32 := Scalar.subi v405 v22
  let c4096_i32_128 : BitVec 32 := 4096#32
  let v411 : BitVec 32 := Scalar.select v409 v410 c4096_i32_128
  let v412 : Index := Scalar.indexCast v411
  let c0_129 : Index := 0#32
  ![v412.toNat, 0]

def k0_chk28 (d0 : Dev nD) (v405 : BitVec 32) : Prop :=
  (∀ a, (k0_off56 d0 v405) a + S1x512.size a ≤ S4104x512.size a)
theorem k0_off56_inb : ∀ (d0 : Dev nD) (v405 : BitVec 32) (k0_hw28 : k0_chk28 d0 v405), ∀ a, (k0_off56 d0 v405) a + S1x512.size a ≤ S4104x512.size a := fun d0 v405 k0_hw28 => k0_hw28

def k0_off57 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c28_i32 : BitVec 32 := 28#32
  let v417 : BitVec 32 := Scalar.addi v23 c28_i32
  let v418 : Index := Scalar.indexCast v417
  ![v418.toNat]
def k0_off58 (d0 : Dev nD) (v419 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v420 : BitVec 1 := Scalar.cmpi .sge v419 v22
  let c4096_i32_131 : BitVec 32 := 4096#32
  let v421 : BitVec 32 := Scalar.addi v22 c4096_i32_131
  let v422 : BitVec 1 := Scalar.cmpi .slt v419 v421
  let v423 : BitVec 1 := Scalar.andi v420 v422
  let v424 : BitVec 32 := Scalar.subi v419 v22
  let c4096_i32_132 : BitVec 32 := 4096#32
  let v425 : BitVec 32 := Scalar.select v423 v424 c4096_i32_132
  let v426 : Index := Scalar.indexCast v425
  let c0_133 : Index := 0#32
  ![v426.toNat, 0]

def k0_chk29 (d0 : Dev nD) (v419 : BitVec 32) : Prop :=
  (∀ a, (k0_off58 d0 v419) a + S1x512.size a ≤ S4104x512.size a)
theorem k0_off58_inb : ∀ (d0 : Dev nD) (v419 : BitVec 32) (k0_hw29 : k0_chk29 d0 v419), ∀ a, (k0_off58 d0 v419) a + S1x512.size a ≤ S4104x512.size a := fun d0 v419 k0_hw29 => k0_hw29

def k0_off59 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c29_i32 : BitVec 32 := 29#32
  let v431 : BitVec 32 := Scalar.addi v23 c29_i32
  let v432 : Index := Scalar.indexCast v431
  ![v432.toNat]
def k0_off60 (d0 : Dev nD) (v433 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v434 : BitVec 1 := Scalar.cmpi .sge v433 v22
  let c4096_i32_135 : BitVec 32 := 4096#32
  let v435 : BitVec 32 := Scalar.addi v22 c4096_i32_135
  let v436 : BitVec 1 := Scalar.cmpi .slt v433 v435
  let v437 : BitVec 1 := Scalar.andi v434 v436
  let v438 : BitVec 32 := Scalar.subi v433 v22
  let c4096_i32_136 : BitVec 32 := 4096#32
  let v439 : BitVec 32 := Scalar.select v437 v438 c4096_i32_136
  let v440 : Index := Scalar.indexCast v439
  let c0_137 : Index := 0#32
  ![v440.toNat, 0]

def k0_chk30 (d0 : Dev nD) (v433 : BitVec 32) : Prop :=
  (∀ a, (k0_off60 d0 v433) a + S1x512.size a ≤ S4104x512.size a)
theorem k0_off60_inb : ∀ (d0 : Dev nD) (v433 : BitVec 32) (k0_hw30 : k0_chk30 d0 v433), ∀ a, (k0_off60 d0 v433) a + S1x512.size a ≤ S4104x512.size a := fun d0 v433 k0_hw30 => k0_hw30

def k0_off61 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c30_i32 : BitVec 32 := 30#32
  let v445 : BitVec 32 := Scalar.addi v23 c30_i32
  let v446 : Index := Scalar.indexCast v445
  ![v446.toNat]
def k0_off62 (d0 : Dev nD) (v447 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v448 : BitVec 1 := Scalar.cmpi .sge v447 v22
  let c4096_i32_139 : BitVec 32 := 4096#32
  let v449 : BitVec 32 := Scalar.addi v22 c4096_i32_139
  let v450 : BitVec 1 := Scalar.cmpi .slt v447 v449
  let v451 : BitVec 1 := Scalar.andi v448 v450
  let v452 : BitVec 32 := Scalar.subi v447 v22
  let c4096_i32_140 : BitVec 32 := 4096#32
  let v453 : BitVec 32 := Scalar.select v451 v452 c4096_i32_140
  let v454 : Index := Scalar.indexCast v453
  let c0_141 : Index := 0#32
  ![v454.toNat, 0]

def k0_chk31 (d0 : Dev nD) (v447 : BitVec 32) : Prop :=
  (∀ a, (k0_off62 d0 v447) a + S1x512.size a ≤ S4104x512.size a)
theorem k0_off62_inb : ∀ (d0 : Dev nD) (v447 : BitVec 32) (k0_hw31 : k0_chk31 d0 v447), ∀ a, (k0_off62 d0 v447) a + S1x512.size a ≤ S4104x512.size a := fun d0 v447 k0_hw31 => k0_hw31

def k0_off63 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c31_i32 : BitVec 32 := 31#32
  let v459 : BitVec 32 := Scalar.addi v23 c31_i32
  let v460 : Index := Scalar.indexCast v459
  ![v460.toNat]
def k0_off64 (d0 : Dev nD) (v461 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v462 : BitVec 1 := Scalar.cmpi .sge v461 v22
  let c4096_i32_143 : BitVec 32 := 4096#32
  let v463 : BitVec 32 := Scalar.addi v22 c4096_i32_143
  let v464 : BitVec 1 := Scalar.cmpi .slt v461 v463
  let v465 : BitVec 1 := Scalar.andi v462 v464
  let v466 : BitVec 32 := Scalar.subi v461 v22
  let c4096_i32_144 : BitVec 32 := 4096#32
  let v467 : BitVec 32 := Scalar.select v465 v466 c4096_i32_144
  let v468 : Index := Scalar.indexCast v467
  let c0_145 : Index := 0#32
  ![v468.toNat, 0]

def k0_chk32 (d0 : Dev nD) (v461 : BitVec 32) : Prop :=
  (∀ a, (k0_off64 d0 v461) a + S1x512.size a ≤ S4104x512.size a)
theorem k0_off64_inb : ∀ (d0 : Dev nD) (v461 : BitVec 32) (k0_hw32 : k0_chk32 d0 v461), ∀ a, (k0_off64 d0 v461) a + S1x512.size a ≤ S4104x512.size a := fun d0 v461 k0_hw32 => k0_hw32

def k0_off65 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c32_i32 : BitVec 32 := 32#32
  let v473 : BitVec 32 := Scalar.addi v23 c32_i32
  let v474 : Index := Scalar.indexCast v473
  ![v474.toNat]
def k0_off66 (d0 : Dev nD) (v475 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v476 : BitVec 1 := Scalar.cmpi .sge v475 v22
  let c4096_i32_147 : BitVec 32 := 4096#32
  let v477 : BitVec 32 := Scalar.addi v22 c4096_i32_147
  let v478 : BitVec 1 := Scalar.cmpi .slt v475 v477
  let v479 : BitVec 1 := Scalar.andi v476 v478
  let v480 : BitVec 32 := Scalar.subi v475 v22
  let c4096_i32_148 : BitVec 32 := 4096#32
  let v481 : BitVec 32 := Scalar.select v479 v480 c4096_i32_148
  let v482 : Index := Scalar.indexCast v481
  let c0_149 : Index := 0#32
  ![v482.toNat, 0]

def k0_chk33 (d0 : Dev nD) (v475 : BitVec 32) : Prop :=
  (∀ a, (k0_off66 d0 v475) a + S1x512.size a ≤ S4104x512.size a)
theorem k0_off66_inb : ∀ (d0 : Dev nD) (v475 : BitVec 32) (k0_hw33 : k0_chk33 d0 v475), ∀ a, (k0_off66 d0 v475) a + S1x512.size a ≤ S4104x512.size a := fun d0 v475 k0_hw33 => k0_hw33

def k0_off67 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c33_i32 : BitVec 32 := 33#32
  let v487 : BitVec 32 := Scalar.addi v23 c33_i32
  let v488 : Index := Scalar.indexCast v487
  ![v488.toNat]
def k0_off68 (d0 : Dev nD) (v489 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v490 : BitVec 1 := Scalar.cmpi .sge v489 v22
  let c4096_i32_151 : BitVec 32 := 4096#32
  let v491 : BitVec 32 := Scalar.addi v22 c4096_i32_151
  let v492 : BitVec 1 := Scalar.cmpi .slt v489 v491
  let v493 : BitVec 1 := Scalar.andi v490 v492
  let v494 : BitVec 32 := Scalar.subi v489 v22
  let c4096_i32_152 : BitVec 32 := 4096#32
  let v495 : BitVec 32 := Scalar.select v493 v494 c4096_i32_152
  let v496 : Index := Scalar.indexCast v495
  let c0_153 : Index := 0#32
  ![v496.toNat, 0]

def k0_chk34 (d0 : Dev nD) (v489 : BitVec 32) : Prop :=
  (∀ a, (k0_off68 d0 v489) a + S1x512.size a ≤ S4104x512.size a)
theorem k0_off68_inb : ∀ (d0 : Dev nD) (v489 : BitVec 32) (k0_hw34 : k0_chk34 d0 v489), ∀ a, (k0_off68 d0 v489) a + S1x512.size a ≤ S4104x512.size a := fun d0 v489 k0_hw34 => k0_hw34

def k0_off69 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c34_i32 : BitVec 32 := 34#32
  let v501 : BitVec 32 := Scalar.addi v23 c34_i32
  let v502 : Index := Scalar.indexCast v501
  ![v502.toNat]
def k0_off70 (d0 : Dev nD) (v503 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v504 : BitVec 1 := Scalar.cmpi .sge v503 v22
  let c4096_i32_155 : BitVec 32 := 4096#32
  let v505 : BitVec 32 := Scalar.addi v22 c4096_i32_155
  let v506 : BitVec 1 := Scalar.cmpi .slt v503 v505
  let v507 : BitVec 1 := Scalar.andi v504 v506
  let v508 : BitVec 32 := Scalar.subi v503 v22
  let c4096_i32_156 : BitVec 32 := 4096#32
  let v509 : BitVec 32 := Scalar.select v507 v508 c4096_i32_156
  let v510 : Index := Scalar.indexCast v509
  let c0_157 : Index := 0#32
  ![v510.toNat, 0]

def k0_chk35 (d0 : Dev nD) (v503 : BitVec 32) : Prop :=
  (∀ a, (k0_off70 d0 v503) a + S1x512.size a ≤ S4104x512.size a)
theorem k0_off70_inb : ∀ (d0 : Dev nD) (v503 : BitVec 32) (k0_hw35 : k0_chk35 d0 v503), ∀ a, (k0_off70 d0 v503) a + S1x512.size a ≤ S4104x512.size a := fun d0 v503 k0_hw35 => k0_hw35

def k0_off71 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c35_i32 : BitVec 32 := 35#32
  let v515 : BitVec 32 := Scalar.addi v23 c35_i32
  let v516 : Index := Scalar.indexCast v515
  ![v516.toNat]
def k0_off72 (d0 : Dev nD) (v517 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v518 : BitVec 1 := Scalar.cmpi .sge v517 v22
  let c4096_i32_159 : BitVec 32 := 4096#32
  let v519 : BitVec 32 := Scalar.addi v22 c4096_i32_159
  let v520 : BitVec 1 := Scalar.cmpi .slt v517 v519
  let v521 : BitVec 1 := Scalar.andi v518 v520
  let v522 : BitVec 32 := Scalar.subi v517 v22
  let c4096_i32_160 : BitVec 32 := 4096#32
  let v523 : BitVec 32 := Scalar.select v521 v522 c4096_i32_160
  let v524 : Index := Scalar.indexCast v523
  let c0_161 : Index := 0#32
  ![v524.toNat, 0]

def k0_chk36 (d0 : Dev nD) (v517 : BitVec 32) : Prop :=
  (∀ a, (k0_off72 d0 v517) a + S1x512.size a ≤ S4104x512.size a)
theorem k0_off72_inb : ∀ (d0 : Dev nD) (v517 : BitVec 32) (k0_hw36 : k0_chk36 d0 v517), ∀ a, (k0_off72 d0 v517) a + S1x512.size a ≤ S4104x512.size a := fun d0 v517 k0_hw36 => k0_hw36

def k0_off73 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c36_i32 : BitVec 32 := 36#32
  let v529 : BitVec 32 := Scalar.addi v23 c36_i32
  let v530 : Index := Scalar.indexCast v529
  ![v530.toNat]
def k0_off74 (d0 : Dev nD) (v531 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v532 : BitVec 1 := Scalar.cmpi .sge v531 v22
  let c4096_i32_163 : BitVec 32 := 4096#32
  let v533 : BitVec 32 := Scalar.addi v22 c4096_i32_163
  let v534 : BitVec 1 := Scalar.cmpi .slt v531 v533
  let v535 : BitVec 1 := Scalar.andi v532 v534
  let v536 : BitVec 32 := Scalar.subi v531 v22
  let c4096_i32_164 : BitVec 32 := 4096#32
  let v537 : BitVec 32 := Scalar.select v535 v536 c4096_i32_164
  let v538 : Index := Scalar.indexCast v537
  let c0_165 : Index := 0#32
  ![v538.toNat, 0]

def k0_chk37 (d0 : Dev nD) (v531 : BitVec 32) : Prop :=
  (∀ a, (k0_off74 d0 v531) a + S1x512.size a ≤ S4104x512.size a)
theorem k0_off74_inb : ∀ (d0 : Dev nD) (v531 : BitVec 32) (k0_hw37 : k0_chk37 d0 v531), ∀ a, (k0_off74 d0 v531) a + S1x512.size a ≤ S4104x512.size a := fun d0 v531 k0_hw37 => k0_hw37

def k0_off75 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c37_i32 : BitVec 32 := 37#32
  let v543 : BitVec 32 := Scalar.addi v23 c37_i32
  let v544 : Index := Scalar.indexCast v543
  ![v544.toNat]
def k0_off76 (d0 : Dev nD) (v545 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v546 : BitVec 1 := Scalar.cmpi .sge v545 v22
  let c4096_i32_167 : BitVec 32 := 4096#32
  let v547 : BitVec 32 := Scalar.addi v22 c4096_i32_167
  let v548 : BitVec 1 := Scalar.cmpi .slt v545 v547
  let v549 : BitVec 1 := Scalar.andi v546 v548
  let v550 : BitVec 32 := Scalar.subi v545 v22
  let c4096_i32_168 : BitVec 32 := 4096#32
  let v551 : BitVec 32 := Scalar.select v549 v550 c4096_i32_168
  let v552 : Index := Scalar.indexCast v551
  let c0_169 : Index := 0#32
  ![v552.toNat, 0]

def k0_chk38 (d0 : Dev nD) (v545 : BitVec 32) : Prop :=
  (∀ a, (k0_off76 d0 v545) a + S1x512.size a ≤ S4104x512.size a)
theorem k0_off76_inb : ∀ (d0 : Dev nD) (v545 : BitVec 32) (k0_hw38 : k0_chk38 d0 v545), ∀ a, (k0_off76 d0 v545) a + S1x512.size a ≤ S4104x512.size a := fun d0 v545 k0_hw38 => k0_hw38

def k0_off77 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c38_i32 : BitVec 32 := 38#32
  let v557 : BitVec 32 := Scalar.addi v23 c38_i32
  let v558 : Index := Scalar.indexCast v557
  ![v558.toNat]
def k0_off78 (d0 : Dev nD) (v559 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v560 : BitVec 1 := Scalar.cmpi .sge v559 v22
  let c4096_i32_171 : BitVec 32 := 4096#32
  let v561 : BitVec 32 := Scalar.addi v22 c4096_i32_171
  let v562 : BitVec 1 := Scalar.cmpi .slt v559 v561
  let v563 : BitVec 1 := Scalar.andi v560 v562
  let v564 : BitVec 32 := Scalar.subi v559 v22
  let c4096_i32_172 : BitVec 32 := 4096#32
  let v565 : BitVec 32 := Scalar.select v563 v564 c4096_i32_172
  let v566 : Index := Scalar.indexCast v565
  let c0_173 : Index := 0#32
  ![v566.toNat, 0]

def k0_chk39 (d0 : Dev nD) (v559 : BitVec 32) : Prop :=
  (∀ a, (k0_off78 d0 v559) a + S1x512.size a ≤ S4104x512.size a)
theorem k0_off78_inb : ∀ (d0 : Dev nD) (v559 : BitVec 32) (k0_hw39 : k0_chk39 d0 v559), ∀ a, (k0_off78 d0 v559) a + S1x512.size a ≤ S4104x512.size a := fun d0 v559 k0_hw39 => k0_hw39

def k0_off79 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c39_i32 : BitVec 32 := 39#32
  let v571 : BitVec 32 := Scalar.addi v23 c39_i32
  let v572 : Index := Scalar.indexCast v571
  ![v572.toNat]
def k0_off80 (d0 : Dev nD) (v573 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v574 : BitVec 1 := Scalar.cmpi .sge v573 v22
  let c4096_i32_175 : BitVec 32 := 4096#32
  let v575 : BitVec 32 := Scalar.addi v22 c4096_i32_175
  let v576 : BitVec 1 := Scalar.cmpi .slt v573 v575
  let v577 : BitVec 1 := Scalar.andi v574 v576
  let v578 : BitVec 32 := Scalar.subi v573 v22
  let c4096_i32_176 : BitVec 32 := 4096#32
  let v579 : BitVec 32 := Scalar.select v577 v578 c4096_i32_176
  let v580 : Index := Scalar.indexCast v579
  let c0_177 : Index := 0#32
  ![v580.toNat, 0]

def k0_chk40 (d0 : Dev nD) (v573 : BitVec 32) : Prop :=
  (∀ a, (k0_off80 d0 v573) a + S1x512.size a ≤ S4104x512.size a)
theorem k0_off80_inb : ∀ (d0 : Dev nD) (v573 : BitVec 32) (k0_hw40 : k0_chk40 d0 v573), ∀ a, (k0_off80 d0 v573) a + S1x512.size a ≤ S4104x512.size a := fun d0 v573 k0_hw40 => k0_hw40

def k0_off81 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c40_i32 : BitVec 32 := 40#32
  let v585 : BitVec 32 := Scalar.addi v23 c40_i32
  let v586 : Index := Scalar.indexCast v585
  ![v586.toNat]
def k0_off82 (d0 : Dev nD) (v587 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v588 : BitVec 1 := Scalar.cmpi .sge v587 v22
  let c4096_i32_179 : BitVec 32 := 4096#32
  let v589 : BitVec 32 := Scalar.addi v22 c4096_i32_179
  let v590 : BitVec 1 := Scalar.cmpi .slt v587 v589
  let v591 : BitVec 1 := Scalar.andi v588 v590
  let v592 : BitVec 32 := Scalar.subi v587 v22
  let c4096_i32_180 : BitVec 32 := 4096#32
  let v593 : BitVec 32 := Scalar.select v591 v592 c4096_i32_180
  let v594 : Index := Scalar.indexCast v593
  let c0_181 : Index := 0#32
  ![v594.toNat, 0]

def k0_chk41 (d0 : Dev nD) (v587 : BitVec 32) : Prop :=
  (∀ a, (k0_off82 d0 v587) a + S1x512.size a ≤ S4104x512.size a)
theorem k0_off82_inb : ∀ (d0 : Dev nD) (v587 : BitVec 32) (k0_hw41 : k0_chk41 d0 v587), ∀ a, (k0_off82 d0 v587) a + S1x512.size a ≤ S4104x512.size a := fun d0 v587 k0_hw41 => k0_hw41

def k0_off83 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c41_i32 : BitVec 32 := 41#32
  let v599 : BitVec 32 := Scalar.addi v23 c41_i32
  let v600 : Index := Scalar.indexCast v599
  ![v600.toNat]
def k0_off84 (d0 : Dev nD) (v601 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v602 : BitVec 1 := Scalar.cmpi .sge v601 v22
  let c4096_i32_183 : BitVec 32 := 4096#32
  let v603 : BitVec 32 := Scalar.addi v22 c4096_i32_183
  let v604 : BitVec 1 := Scalar.cmpi .slt v601 v603
  let v605 : BitVec 1 := Scalar.andi v602 v604
  let v606 : BitVec 32 := Scalar.subi v601 v22
  let c4096_i32_184 : BitVec 32 := 4096#32
  let v607 : BitVec 32 := Scalar.select v605 v606 c4096_i32_184
  let v608 : Index := Scalar.indexCast v607
  let c0_185 : Index := 0#32
  ![v608.toNat, 0]

def k0_chk42 (d0 : Dev nD) (v601 : BitVec 32) : Prop :=
  (∀ a, (k0_off84 d0 v601) a + S1x512.size a ≤ S4104x512.size a)
theorem k0_off84_inb : ∀ (d0 : Dev nD) (v601 : BitVec 32) (k0_hw42 : k0_chk42 d0 v601), ∀ a, (k0_off84 d0 v601) a + S1x512.size a ≤ S4104x512.size a := fun d0 v601 k0_hw42 => k0_hw42

def k0_off85 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c42_i32 : BitVec 32 := 42#32
  let v613 : BitVec 32 := Scalar.addi v23 c42_i32
  let v614 : Index := Scalar.indexCast v613
  ![v614.toNat]
def k0_off86 (d0 : Dev nD) (v615 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v616 : BitVec 1 := Scalar.cmpi .sge v615 v22
  let c4096_i32_187 : BitVec 32 := 4096#32
  let v617 : BitVec 32 := Scalar.addi v22 c4096_i32_187
  let v618 : BitVec 1 := Scalar.cmpi .slt v615 v617
  let v619 : BitVec 1 := Scalar.andi v616 v618
  let v620 : BitVec 32 := Scalar.subi v615 v22
  let c4096_i32_188 : BitVec 32 := 4096#32
  let v621 : BitVec 32 := Scalar.select v619 v620 c4096_i32_188
  let v622 : Index := Scalar.indexCast v621
  let c0_189 : Index := 0#32
  ![v622.toNat, 0]

def k0_chk43 (d0 : Dev nD) (v615 : BitVec 32) : Prop :=
  (∀ a, (k0_off86 d0 v615) a + S1x512.size a ≤ S4104x512.size a)
theorem k0_off86_inb : ∀ (d0 : Dev nD) (v615 : BitVec 32) (k0_hw43 : k0_chk43 d0 v615), ∀ a, (k0_off86 d0 v615) a + S1x512.size a ≤ S4104x512.size a := fun d0 v615 k0_hw43 => k0_hw43

def k0_off87 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c43_i32 : BitVec 32 := 43#32
  let v627 : BitVec 32 := Scalar.addi v23 c43_i32
  let v628 : Index := Scalar.indexCast v627
  ![v628.toNat]
def k0_off88 (d0 : Dev nD) (v629 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v630 : BitVec 1 := Scalar.cmpi .sge v629 v22
  let c4096_i32_191 : BitVec 32 := 4096#32
  let v631 : BitVec 32 := Scalar.addi v22 c4096_i32_191
  let v632 : BitVec 1 := Scalar.cmpi .slt v629 v631
  let v633 : BitVec 1 := Scalar.andi v630 v632
  let v634 : BitVec 32 := Scalar.subi v629 v22
  let c4096_i32_192 : BitVec 32 := 4096#32
  let v635 : BitVec 32 := Scalar.select v633 v634 c4096_i32_192
  let v636 : Index := Scalar.indexCast v635
  let c0_193 : Index := 0#32
  ![v636.toNat, 0]

def k0_chk44 (d0 : Dev nD) (v629 : BitVec 32) : Prop :=
  (∀ a, (k0_off88 d0 v629) a + S1x512.size a ≤ S4104x512.size a)
theorem k0_off88_inb : ∀ (d0 : Dev nD) (v629 : BitVec 32) (k0_hw44 : k0_chk44 d0 v629), ∀ a, (k0_off88 d0 v629) a + S1x512.size a ≤ S4104x512.size a := fun d0 v629 k0_hw44 => k0_hw44

def k0_off89 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c44_i32 : BitVec 32 := 44#32
  let v641 : BitVec 32 := Scalar.addi v23 c44_i32
  let v642 : Index := Scalar.indexCast v641
  ![v642.toNat]
def k0_off90 (d0 : Dev nD) (v643 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v644 : BitVec 1 := Scalar.cmpi .sge v643 v22
  let c4096_i32_195 : BitVec 32 := 4096#32
  let v645 : BitVec 32 := Scalar.addi v22 c4096_i32_195
  let v646 : BitVec 1 := Scalar.cmpi .slt v643 v645
  let v647 : BitVec 1 := Scalar.andi v644 v646
  let v648 : BitVec 32 := Scalar.subi v643 v22
  let c4096_i32_196 : BitVec 32 := 4096#32
  let v649 : BitVec 32 := Scalar.select v647 v648 c4096_i32_196
  let v650 : Index := Scalar.indexCast v649
  let c0_197 : Index := 0#32
  ![v650.toNat, 0]

def k0_chk45 (d0 : Dev nD) (v643 : BitVec 32) : Prop :=
  (∀ a, (k0_off90 d0 v643) a + S1x512.size a ≤ S4104x512.size a)
theorem k0_off90_inb : ∀ (d0 : Dev nD) (v643 : BitVec 32) (k0_hw45 : k0_chk45 d0 v643), ∀ a, (k0_off90 d0 v643) a + S1x512.size a ≤ S4104x512.size a := fun d0 v643 k0_hw45 => k0_hw45

def k0_off91 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c45_i32 : BitVec 32 := 45#32
  let v655 : BitVec 32 := Scalar.addi v23 c45_i32
  let v656 : Index := Scalar.indexCast v655
  ![v656.toNat]
def k0_off92 (d0 : Dev nD) (v657 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v658 : BitVec 1 := Scalar.cmpi .sge v657 v22
  let c4096_i32_199 : BitVec 32 := 4096#32
  let v659 : BitVec 32 := Scalar.addi v22 c4096_i32_199
  let v660 : BitVec 1 := Scalar.cmpi .slt v657 v659
  let v661 : BitVec 1 := Scalar.andi v658 v660
  let v662 : BitVec 32 := Scalar.subi v657 v22
  let c4096_i32_200 : BitVec 32 := 4096#32
  let v663 : BitVec 32 := Scalar.select v661 v662 c4096_i32_200
  let v664 : Index := Scalar.indexCast v663
  let c0_201 : Index := 0#32
  ![v664.toNat, 0]

def k0_chk46 (d0 : Dev nD) (v657 : BitVec 32) : Prop :=
  (∀ a, (k0_off92 d0 v657) a + S1x512.size a ≤ S4104x512.size a)
theorem k0_off92_inb : ∀ (d0 : Dev nD) (v657 : BitVec 32) (k0_hw46 : k0_chk46 d0 v657), ∀ a, (k0_off92 d0 v657) a + S1x512.size a ≤ S4104x512.size a := fun d0 v657 k0_hw46 => k0_hw46

def k0_off93 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c46_i32 : BitVec 32 := 46#32
  let v669 : BitVec 32 := Scalar.addi v23 c46_i32
  let v670 : Index := Scalar.indexCast v669
  ![v670.toNat]
def k0_off94 (d0 : Dev nD) (v671 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v672 : BitVec 1 := Scalar.cmpi .sge v671 v22
  let c4096_i32_203 : BitVec 32 := 4096#32
  let v673 : BitVec 32 := Scalar.addi v22 c4096_i32_203
  let v674 : BitVec 1 := Scalar.cmpi .slt v671 v673
  let v675 : BitVec 1 := Scalar.andi v672 v674
  let v676 : BitVec 32 := Scalar.subi v671 v22
  let c4096_i32_204 : BitVec 32 := 4096#32
  let v677 : BitVec 32 := Scalar.select v675 v676 c4096_i32_204
  let v678 : Index := Scalar.indexCast v677
  let c0_205 : Index := 0#32
  ![v678.toNat, 0]

def k0_chk47 (d0 : Dev nD) (v671 : BitVec 32) : Prop :=
  (∀ a, (k0_off94 d0 v671) a + S1x512.size a ≤ S4104x512.size a)
theorem k0_off94_inb : ∀ (d0 : Dev nD) (v671 : BitVec 32) (k0_hw47 : k0_chk47 d0 v671), ∀ a, (k0_off94 d0 v671) a + S1x512.size a ≤ S4104x512.size a := fun d0 v671 k0_hw47 => k0_hw47

def k0_off95 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c47_i32 : BitVec 32 := 47#32
  let v683 : BitVec 32 := Scalar.addi v23 c47_i32
  let v684 : Index := Scalar.indexCast v683
  ![v684.toNat]
def k0_off96 (d0 : Dev nD) (v685 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v686 : BitVec 1 := Scalar.cmpi .sge v685 v22
  let c4096_i32_207 : BitVec 32 := 4096#32
  let v687 : BitVec 32 := Scalar.addi v22 c4096_i32_207
  let v688 : BitVec 1 := Scalar.cmpi .slt v685 v687
  let v689 : BitVec 1 := Scalar.andi v686 v688
  let v690 : BitVec 32 := Scalar.subi v685 v22
  let c4096_i32_208 : BitVec 32 := 4096#32
  let v691 : BitVec 32 := Scalar.select v689 v690 c4096_i32_208
  let v692 : Index := Scalar.indexCast v691
  let c0_209 : Index := 0#32
  ![v692.toNat, 0]

def k0_chk48 (d0 : Dev nD) (v685 : BitVec 32) : Prop :=
  (∀ a, (k0_off96 d0 v685) a + S1x512.size a ≤ S4104x512.size a)
theorem k0_off96_inb : ∀ (d0 : Dev nD) (v685 : BitVec 32) (k0_hw48 : k0_chk48 d0 v685), ∀ a, (k0_off96 d0 v685) a + S1x512.size a ≤ S4104x512.size a := fun d0 v685 k0_hw48 => k0_hw48

def k0_off97 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c48_i32 : BitVec 32 := 48#32
  let v697 : BitVec 32 := Scalar.addi v23 c48_i32
  let v698 : Index := Scalar.indexCast v697
  ![v698.toNat]
def k0_off98 (d0 : Dev nD) (v699 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v700 : BitVec 1 := Scalar.cmpi .sge v699 v22
  let c4096_i32_211 : BitVec 32 := 4096#32
  let v701 : BitVec 32 := Scalar.addi v22 c4096_i32_211
  let v702 : BitVec 1 := Scalar.cmpi .slt v699 v701
  let v703 : BitVec 1 := Scalar.andi v700 v702
  let v704 : BitVec 32 := Scalar.subi v699 v22
  let c4096_i32_212 : BitVec 32 := 4096#32
  let v705 : BitVec 32 := Scalar.select v703 v704 c4096_i32_212
  let v706 : Index := Scalar.indexCast v705
  let c0_213 : Index := 0#32
  ![v706.toNat, 0]

def k0_chk49 (d0 : Dev nD) (v699 : BitVec 32) : Prop :=
  (∀ a, (k0_off98 d0 v699) a + S1x512.size a ≤ S4104x512.size a)
theorem k0_off98_inb : ∀ (d0 : Dev nD) (v699 : BitVec 32) (k0_hw49 : k0_chk49 d0 v699), ∀ a, (k0_off98 d0 v699) a + S1x512.size a ≤ S4104x512.size a := fun d0 v699 k0_hw49 => k0_hw49

def k0_off99 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c49_i32 : BitVec 32 := 49#32
  let v711 : BitVec 32 := Scalar.addi v23 c49_i32
  let v712 : Index := Scalar.indexCast v711
  ![v712.toNat]
def k0_off100 (d0 : Dev nD) (v713 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v714 : BitVec 1 := Scalar.cmpi .sge v713 v22
  let c4096_i32_215 : BitVec 32 := 4096#32
  let v715 : BitVec 32 := Scalar.addi v22 c4096_i32_215
  let v716 : BitVec 1 := Scalar.cmpi .slt v713 v715
  let v717 : BitVec 1 := Scalar.andi v714 v716
  let v718 : BitVec 32 := Scalar.subi v713 v22
  let c4096_i32_216 : BitVec 32 := 4096#32
  let v719 : BitVec 32 := Scalar.select v717 v718 c4096_i32_216
  let v720 : Index := Scalar.indexCast v719
  let c0_217 : Index := 0#32
  ![v720.toNat, 0]

def k0_chk50 (d0 : Dev nD) (v713 : BitVec 32) : Prop :=
  (∀ a, (k0_off100 d0 v713) a + S1x512.size a ≤ S4104x512.size a)
theorem k0_off100_inb : ∀ (d0 : Dev nD) (v713 : BitVec 32) (k0_hw50 : k0_chk50 d0 v713), ∀ a, (k0_off100 d0 v713) a + S1x512.size a ≤ S4104x512.size a := fun d0 v713 k0_hw50 => k0_hw50

def k0_off101 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c50_i32 : BitVec 32 := 50#32
  let v725 : BitVec 32 := Scalar.addi v23 c50_i32
  let v726 : Index := Scalar.indexCast v725
  ![v726.toNat]
def k0_off102 (d0 : Dev nD) (v727 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v728 : BitVec 1 := Scalar.cmpi .sge v727 v22
  let c4096_i32_219 : BitVec 32 := 4096#32
  let v729 : BitVec 32 := Scalar.addi v22 c4096_i32_219
  let v730 : BitVec 1 := Scalar.cmpi .slt v727 v729
  let v731 : BitVec 1 := Scalar.andi v728 v730
  let v732 : BitVec 32 := Scalar.subi v727 v22
  let c4096_i32_220 : BitVec 32 := 4096#32
  let v733 : BitVec 32 := Scalar.select v731 v732 c4096_i32_220
  let v734 : Index := Scalar.indexCast v733
  let c0_221 : Index := 0#32
  ![v734.toNat, 0]

def k0_chk51 (d0 : Dev nD) (v727 : BitVec 32) : Prop :=
  (∀ a, (k0_off102 d0 v727) a + S1x512.size a ≤ S4104x512.size a)
theorem k0_off102_inb : ∀ (d0 : Dev nD) (v727 : BitVec 32) (k0_hw51 : k0_chk51 d0 v727), ∀ a, (k0_off102 d0 v727) a + S1x512.size a ≤ S4104x512.size a := fun d0 v727 k0_hw51 => k0_hw51

def k0_off103 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c51_i32 : BitVec 32 := 51#32
  let v739 : BitVec 32 := Scalar.addi v23 c51_i32
  let v740 : Index := Scalar.indexCast v739
  ![v740.toNat]
def k0_off104 (d0 : Dev nD) (v741 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v742 : BitVec 1 := Scalar.cmpi .sge v741 v22
  let c4096_i32_223 : BitVec 32 := 4096#32
  let v743 : BitVec 32 := Scalar.addi v22 c4096_i32_223
  let v744 : BitVec 1 := Scalar.cmpi .slt v741 v743
  let v745 : BitVec 1 := Scalar.andi v742 v744
  let v746 : BitVec 32 := Scalar.subi v741 v22
  let c4096_i32_224 : BitVec 32 := 4096#32
  let v747 : BitVec 32 := Scalar.select v745 v746 c4096_i32_224
  let v748 : Index := Scalar.indexCast v747
  let c0_225 : Index := 0#32
  ![v748.toNat, 0]

def k0_chk52 (d0 : Dev nD) (v741 : BitVec 32) : Prop :=
  (∀ a, (k0_off104 d0 v741) a + S1x512.size a ≤ S4104x512.size a)
theorem k0_off104_inb : ∀ (d0 : Dev nD) (v741 : BitVec 32) (k0_hw52 : k0_chk52 d0 v741), ∀ a, (k0_off104 d0 v741) a + S1x512.size a ≤ S4104x512.size a := fun d0 v741 k0_hw52 => k0_hw52

def k0_off105 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c52_i32 : BitVec 32 := 52#32
  let v753 : BitVec 32 := Scalar.addi v23 c52_i32
  let v754 : Index := Scalar.indexCast v753
  ![v754.toNat]
def k0_off106 (d0 : Dev nD) (v755 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v756 : BitVec 1 := Scalar.cmpi .sge v755 v22
  let c4096_i32_227 : BitVec 32 := 4096#32
  let v757 : BitVec 32 := Scalar.addi v22 c4096_i32_227
  let v758 : BitVec 1 := Scalar.cmpi .slt v755 v757
  let v759 : BitVec 1 := Scalar.andi v756 v758
  let v760 : BitVec 32 := Scalar.subi v755 v22
  let c4096_i32_228 : BitVec 32 := 4096#32
  let v761 : BitVec 32 := Scalar.select v759 v760 c4096_i32_228
  let v762 : Index := Scalar.indexCast v761
  let c0_229 : Index := 0#32
  ![v762.toNat, 0]

def k0_chk53 (d0 : Dev nD) (v755 : BitVec 32) : Prop :=
  (∀ a, (k0_off106 d0 v755) a + S1x512.size a ≤ S4104x512.size a)
theorem k0_off106_inb : ∀ (d0 : Dev nD) (v755 : BitVec 32) (k0_hw53 : k0_chk53 d0 v755), ∀ a, (k0_off106 d0 v755) a + S1x512.size a ≤ S4104x512.size a := fun d0 v755 k0_hw53 => k0_hw53

def k0_off107 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c53_i32 : BitVec 32 := 53#32
  let v767 : BitVec 32 := Scalar.addi v23 c53_i32
  let v768 : Index := Scalar.indexCast v767
  ![v768.toNat]
def k0_off108 (d0 : Dev nD) (v769 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v770 : BitVec 1 := Scalar.cmpi .sge v769 v22
  let c4096_i32_231 : BitVec 32 := 4096#32
  let v771 : BitVec 32 := Scalar.addi v22 c4096_i32_231
  let v772 : BitVec 1 := Scalar.cmpi .slt v769 v771
  let v773 : BitVec 1 := Scalar.andi v770 v772
  let v774 : BitVec 32 := Scalar.subi v769 v22
  let c4096_i32_232 : BitVec 32 := 4096#32
  let v775 : BitVec 32 := Scalar.select v773 v774 c4096_i32_232
  let v776 : Index := Scalar.indexCast v775
  let c0_233 : Index := 0#32
  ![v776.toNat, 0]

def k0_chk54 (d0 : Dev nD) (v769 : BitVec 32) : Prop :=
  (∀ a, (k0_off108 d0 v769) a + S1x512.size a ≤ S4104x512.size a)
theorem k0_off108_inb : ∀ (d0 : Dev nD) (v769 : BitVec 32) (k0_hw54 : k0_chk54 d0 v769), ∀ a, (k0_off108 d0 v769) a + S1x512.size a ≤ S4104x512.size a := fun d0 v769 k0_hw54 => k0_hw54

def k0_off109 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c54_i32 : BitVec 32 := 54#32
  let v781 : BitVec 32 := Scalar.addi v23 c54_i32
  let v782 : Index := Scalar.indexCast v781
  ![v782.toNat]
def k0_off110 (d0 : Dev nD) (v783 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v784 : BitVec 1 := Scalar.cmpi .sge v783 v22
  let c4096_i32_235 : BitVec 32 := 4096#32
  let v785 : BitVec 32 := Scalar.addi v22 c4096_i32_235
  let v786 : BitVec 1 := Scalar.cmpi .slt v783 v785
  let v787 : BitVec 1 := Scalar.andi v784 v786
  let v788 : BitVec 32 := Scalar.subi v783 v22
  let c4096_i32_236 : BitVec 32 := 4096#32
  let v789 : BitVec 32 := Scalar.select v787 v788 c4096_i32_236
  let v790 : Index := Scalar.indexCast v789
  let c0_237 : Index := 0#32
  ![v790.toNat, 0]

def k0_chk55 (d0 : Dev nD) (v783 : BitVec 32) : Prop :=
  (∀ a, (k0_off110 d0 v783) a + S1x512.size a ≤ S4104x512.size a)
theorem k0_off110_inb : ∀ (d0 : Dev nD) (v783 : BitVec 32) (k0_hw55 : k0_chk55 d0 v783), ∀ a, (k0_off110 d0 v783) a + S1x512.size a ≤ S4104x512.size a := fun d0 v783 k0_hw55 => k0_hw55

def k0_off111 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c55_i32 : BitVec 32 := 55#32
  let v795 : BitVec 32 := Scalar.addi v23 c55_i32
  let v796 : Index := Scalar.indexCast v795
  ![v796.toNat]
def k0_off112 (d0 : Dev nD) (v797 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v798 : BitVec 1 := Scalar.cmpi .sge v797 v22
  let c4096_i32_239 : BitVec 32 := 4096#32
  let v799 : BitVec 32 := Scalar.addi v22 c4096_i32_239
  let v800 : BitVec 1 := Scalar.cmpi .slt v797 v799
  let v801 : BitVec 1 := Scalar.andi v798 v800
  let v802 : BitVec 32 := Scalar.subi v797 v22
  let c4096_i32_240 : BitVec 32 := 4096#32
  let v803 : BitVec 32 := Scalar.select v801 v802 c4096_i32_240
  let v804 : Index := Scalar.indexCast v803
  let c0_241 : Index := 0#32
  ![v804.toNat, 0]

def k0_chk56 (d0 : Dev nD) (v797 : BitVec 32) : Prop :=
  (∀ a, (k0_off112 d0 v797) a + S1x512.size a ≤ S4104x512.size a)
theorem k0_off112_inb : ∀ (d0 : Dev nD) (v797 : BitVec 32) (k0_hw56 : k0_chk56 d0 v797), ∀ a, (k0_off112 d0 v797) a + S1x512.size a ≤ S4104x512.size a := fun d0 v797 k0_hw56 => k0_hw56

def k0_off113 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c56_i32 : BitVec 32 := 56#32
  let v809 : BitVec 32 := Scalar.addi v23 c56_i32
  let v810 : Index := Scalar.indexCast v809
  ![v810.toNat]
def k0_off114 (d0 : Dev nD) (v811 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v812 : BitVec 1 := Scalar.cmpi .sge v811 v22
  let c4096_i32_243 : BitVec 32 := 4096#32
  let v813 : BitVec 32 := Scalar.addi v22 c4096_i32_243
  let v814 : BitVec 1 := Scalar.cmpi .slt v811 v813
  let v815 : BitVec 1 := Scalar.andi v812 v814
  let v816 : BitVec 32 := Scalar.subi v811 v22
  let c4096_i32_244 : BitVec 32 := 4096#32
  let v817 : BitVec 32 := Scalar.select v815 v816 c4096_i32_244
  let v818 : Index := Scalar.indexCast v817
  let c0_245 : Index := 0#32
  ![v818.toNat, 0]

def k0_chk57 (d0 : Dev nD) (v811 : BitVec 32) : Prop :=
  (∀ a, (k0_off114 d0 v811) a + S1x512.size a ≤ S4104x512.size a)
theorem k0_off114_inb : ∀ (d0 : Dev nD) (v811 : BitVec 32) (k0_hw57 : k0_chk57 d0 v811), ∀ a, (k0_off114 d0 v811) a + S1x512.size a ≤ S4104x512.size a := fun d0 v811 k0_hw57 => k0_hw57

def k0_off115 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c57_i32 : BitVec 32 := 57#32
  let v823 : BitVec 32 := Scalar.addi v23 c57_i32
  let v824 : Index := Scalar.indexCast v823
  ![v824.toNat]
def k0_off116 (d0 : Dev nD) (v825 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v826 : BitVec 1 := Scalar.cmpi .sge v825 v22
  let c4096_i32_247 : BitVec 32 := 4096#32
  let v827 : BitVec 32 := Scalar.addi v22 c4096_i32_247
  let v828 : BitVec 1 := Scalar.cmpi .slt v825 v827
  let v829 : BitVec 1 := Scalar.andi v826 v828
  let v830 : BitVec 32 := Scalar.subi v825 v22
  let c4096_i32_248 : BitVec 32 := 4096#32
  let v831 : BitVec 32 := Scalar.select v829 v830 c4096_i32_248
  let v832 : Index := Scalar.indexCast v831
  let c0_249 : Index := 0#32
  ![v832.toNat, 0]

def k0_chk58 (d0 : Dev nD) (v825 : BitVec 32) : Prop :=
  (∀ a, (k0_off116 d0 v825) a + S1x512.size a ≤ S4104x512.size a)
theorem k0_off116_inb : ∀ (d0 : Dev nD) (v825 : BitVec 32) (k0_hw58 : k0_chk58 d0 v825), ∀ a, (k0_off116 d0 v825) a + S1x512.size a ≤ S4104x512.size a := fun d0 v825 k0_hw58 => k0_hw58

def k0_off117 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c58_i32 : BitVec 32 := 58#32
  let v837 : BitVec 32 := Scalar.addi v23 c58_i32
  let v838 : Index := Scalar.indexCast v837
  ![v838.toNat]
def k0_off118 (d0 : Dev nD) (v839 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v840 : BitVec 1 := Scalar.cmpi .sge v839 v22
  let c4096_i32_251 : BitVec 32 := 4096#32
  let v841 : BitVec 32 := Scalar.addi v22 c4096_i32_251
  let v842 : BitVec 1 := Scalar.cmpi .slt v839 v841
  let v843 : BitVec 1 := Scalar.andi v840 v842
  let v844 : BitVec 32 := Scalar.subi v839 v22
  let c4096_i32_252 : BitVec 32 := 4096#32
  let v845 : BitVec 32 := Scalar.select v843 v844 c4096_i32_252
  let v846 : Index := Scalar.indexCast v845
  let c0_253 : Index := 0#32
  ![v846.toNat, 0]

def k0_chk59 (d0 : Dev nD) (v839 : BitVec 32) : Prop :=
  (∀ a, (k0_off118 d0 v839) a + S1x512.size a ≤ S4104x512.size a)
theorem k0_off118_inb : ∀ (d0 : Dev nD) (v839 : BitVec 32) (k0_hw59 : k0_chk59 d0 v839), ∀ a, (k0_off118 d0 v839) a + S1x512.size a ≤ S4104x512.size a := fun d0 v839 k0_hw59 => k0_hw59

def k0_off119 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c59_i32 : BitVec 32 := 59#32
  let v851 : BitVec 32 := Scalar.addi v23 c59_i32
  let v852 : Index := Scalar.indexCast v851
  ![v852.toNat]
def k0_off120 (d0 : Dev nD) (v853 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v854 : BitVec 1 := Scalar.cmpi .sge v853 v22
  let c4096_i32_255 : BitVec 32 := 4096#32
  let v855 : BitVec 32 := Scalar.addi v22 c4096_i32_255
  let v856 : BitVec 1 := Scalar.cmpi .slt v853 v855
  let v857 : BitVec 1 := Scalar.andi v854 v856
  let v858 : BitVec 32 := Scalar.subi v853 v22
  let c4096_i32_256 : BitVec 32 := 4096#32
  let v859 : BitVec 32 := Scalar.select v857 v858 c4096_i32_256
  let v860 : Index := Scalar.indexCast v859
  let c0_257 : Index := 0#32
  ![v860.toNat, 0]

def k0_chk60 (d0 : Dev nD) (v853 : BitVec 32) : Prop :=
  (∀ a, (k0_off120 d0 v853) a + S1x512.size a ≤ S4104x512.size a)
theorem k0_off120_inb : ∀ (d0 : Dev nD) (v853 : BitVec 32) (k0_hw60 : k0_chk60 d0 v853), ∀ a, (k0_off120 d0 v853) a + S1x512.size a ≤ S4104x512.size a := fun d0 v853 k0_hw60 => k0_hw60

def k0_off121 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c60_i32 : BitVec 32 := 60#32
  let v865 : BitVec 32 := Scalar.addi v23 c60_i32
  let v866 : Index := Scalar.indexCast v865
  ![v866.toNat]
def k0_off122 (d0 : Dev nD) (v867 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v868 : BitVec 1 := Scalar.cmpi .sge v867 v22
  let c4096_i32_259 : BitVec 32 := 4096#32
  let v869 : BitVec 32 := Scalar.addi v22 c4096_i32_259
  let v870 : BitVec 1 := Scalar.cmpi .slt v867 v869
  let v871 : BitVec 1 := Scalar.andi v868 v870
  let v872 : BitVec 32 := Scalar.subi v867 v22
  let c4096_i32_260 : BitVec 32 := 4096#32
  let v873 : BitVec 32 := Scalar.select v871 v872 c4096_i32_260
  let v874 : Index := Scalar.indexCast v873
  let c0_261 : Index := 0#32
  ![v874.toNat, 0]

def k0_chk61 (d0 : Dev nD) (v867 : BitVec 32) : Prop :=
  (∀ a, (k0_off122 d0 v867) a + S1x512.size a ≤ S4104x512.size a)
theorem k0_off122_inb : ∀ (d0 : Dev nD) (v867 : BitVec 32) (k0_hw61 : k0_chk61 d0 v867), ∀ a, (k0_off122 d0 v867) a + S1x512.size a ≤ S4104x512.size a := fun d0 v867 k0_hw61 => k0_hw61

def k0_off123 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c61_i32 : BitVec 32 := 61#32
  let v879 : BitVec 32 := Scalar.addi v23 c61_i32
  let v880 : Index := Scalar.indexCast v879
  ![v880.toNat]
def k0_off124 (d0 : Dev nD) (v881 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v882 : BitVec 1 := Scalar.cmpi .sge v881 v22
  let c4096_i32_263 : BitVec 32 := 4096#32
  let v883 : BitVec 32 := Scalar.addi v22 c4096_i32_263
  let v884 : BitVec 1 := Scalar.cmpi .slt v881 v883
  let v885 : BitVec 1 := Scalar.andi v882 v884
  let v886 : BitVec 32 := Scalar.subi v881 v22
  let c4096_i32_264 : BitVec 32 := 4096#32
  let v887 : BitVec 32 := Scalar.select v885 v886 c4096_i32_264
  let v888 : Index := Scalar.indexCast v887
  let c0_265 : Index := 0#32
  ![v888.toNat, 0]

def k0_chk62 (d0 : Dev nD) (v881 : BitVec 32) : Prop :=
  (∀ a, (k0_off124 d0 v881) a + S1x512.size a ≤ S4104x512.size a)
theorem k0_off124_inb : ∀ (d0 : Dev nD) (v881 : BitVec 32) (k0_hw62 : k0_chk62 d0 v881), ∀ a, (k0_off124 d0 v881) a + S1x512.size a ≤ S4104x512.size a := fun d0 v881 k0_hw62 => k0_hw62

def k0_off125 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c62_i32 : BitVec 32 := 62#32
  let v893 : BitVec 32 := Scalar.addi v23 c62_i32
  let v894 : Index := Scalar.indexCast v893
  ![v894.toNat]
def k0_off126 (d0 : Dev nD) (v895 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v896 : BitVec 1 := Scalar.cmpi .sge v895 v22
  let c4096_i32_267 : BitVec 32 := 4096#32
  let v897 : BitVec 32 := Scalar.addi v22 c4096_i32_267
  let v898 : BitVec 1 := Scalar.cmpi .slt v895 v897
  let v899 : BitVec 1 := Scalar.andi v896 v898
  let v900 : BitVec 32 := Scalar.subi v895 v22
  let c4096_i32_268 : BitVec 32 := 4096#32
  let v901 : BitVec 32 := Scalar.select v899 v900 c4096_i32_268
  let v902 : Index := Scalar.indexCast v901
  let c0_269 : Index := 0#32
  ![v902.toNat, 0]

def k0_chk63 (d0 : Dev nD) (v895 : BitVec 32) : Prop :=
  (∀ a, (k0_off126 d0 v895) a + S1x512.size a ≤ S4104x512.size a)
theorem k0_off126_inb : ∀ (d0 : Dev nD) (v895 : BitVec 32) (k0_hw63 : k0_chk63 d0 v895), ∀ a, (k0_off126 d0 v895) a + S1x512.size a ≤ S4104x512.size a := fun d0 v895 k0_hw63 => k0_hw63

def k0_off127 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c63_i32 : BitVec 32 := 63#32
  let v907 : BitVec 32 := Scalar.addi v23 c63_i32
  let v908 : Index := Scalar.indexCast v907
  ![v908.toNat]
def k0_off128 (d0 : Dev nD) (v909 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v910 : BitVec 1 := Scalar.cmpi .sge v909 v22
  let c4096_i32_271 : BitVec 32 := 4096#32
  let v911 : BitVec 32 := Scalar.addi v22 c4096_i32_271
  let v912 : BitVec 1 := Scalar.cmpi .slt v909 v911
  let v913 : BitVec 1 := Scalar.andi v910 v912
  let v914 : BitVec 32 := Scalar.subi v909 v22
  let c4096_i32_272 : BitVec 32 := 4096#32
  let v915 : BitVec 32 := Scalar.select v913 v914 c4096_i32_272
  let v916 : Index := Scalar.indexCast v915
  let c0_273 : Index := 0#32
  ![v916.toNat, 0]

def k0_chk64 (d0 : Dev nD) (v909 : BitVec 32) : Prop :=
  (∀ a, (k0_off128 d0 v909) a + S1x512.size a ≤ S4104x512.size a)
theorem k0_off128_inb : ∀ (d0 : Dev nD) (v909 : BitVec 32) (k0_hw64 : k0_chk64 d0 v909), ∀ a, (k0_off128 d0 v909) a + S1x512.size a ≤ S4104x512.size a := fun d0 v909 k0_hw64 => k0_hw64

def k0_off129 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c64_i32 : BitVec 32 := 64#32
  let v921 : BitVec 32 := Scalar.addi v23 c64_i32
  let v922 : Index := Scalar.indexCast v921
  ![v922.toNat]
def k0_off130 (d0 : Dev nD) (v923 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v924 : BitVec 1 := Scalar.cmpi .sge v923 v22
  let c4096_i32_275 : BitVec 32 := 4096#32
  let v925 : BitVec 32 := Scalar.addi v22 c4096_i32_275
  let v926 : BitVec 1 := Scalar.cmpi .slt v923 v925
  let v927 : BitVec 1 := Scalar.andi v924 v926
  let v928 : BitVec 32 := Scalar.subi v923 v22
  let c4096_i32_276 : BitVec 32 := 4096#32
  let v929 : BitVec 32 := Scalar.select v927 v928 c4096_i32_276
  let v930 : Index := Scalar.indexCast v929
  let c0_277 : Index := 0#32
  ![v930.toNat, 0]

def k0_chk65 (d0 : Dev nD) (v923 : BitVec 32) : Prop :=
  (∀ a, (k0_off130 d0 v923) a + S1x512.size a ≤ S4104x512.size a)
theorem k0_off130_inb : ∀ (d0 : Dev nD) (v923 : BitVec 32) (k0_hw65 : k0_chk65 d0 v923), ∀ a, (k0_off130 d0 v923) a + S1x512.size a ≤ S4104x512.size a := fun d0 v923 k0_hw65 => k0_hw65

def k0_off131 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c65_i32 : BitVec 32 := 65#32
  let v935 : BitVec 32 := Scalar.addi v23 c65_i32
  let v936 : Index := Scalar.indexCast v935
  ![v936.toNat]
def k0_off132 (d0 : Dev nD) (v937 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v938 : BitVec 1 := Scalar.cmpi .sge v937 v22
  let c4096_i32_279 : BitVec 32 := 4096#32
  let v939 : BitVec 32 := Scalar.addi v22 c4096_i32_279
  let v940 : BitVec 1 := Scalar.cmpi .slt v937 v939
  let v941 : BitVec 1 := Scalar.andi v938 v940
  let v942 : BitVec 32 := Scalar.subi v937 v22
  let c4096_i32_280 : BitVec 32 := 4096#32
  let v943 : BitVec 32 := Scalar.select v941 v942 c4096_i32_280
  let v944 : Index := Scalar.indexCast v943
  let c0_281 : Index := 0#32
  ![v944.toNat, 0]

def k0_chk66 (d0 : Dev nD) (v937 : BitVec 32) : Prop :=
  (∀ a, (k0_off132 d0 v937) a + S1x512.size a ≤ S4104x512.size a)
theorem k0_off132_inb : ∀ (d0 : Dev nD) (v937 : BitVec 32) (k0_hw66 : k0_chk66 d0 v937), ∀ a, (k0_off132 d0 v937) a + S1x512.size a ≤ S4104x512.size a := fun d0 v937 k0_hw66 => k0_hw66

def k0_off133 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c66_i32 : BitVec 32 := 66#32
  let v949 : BitVec 32 := Scalar.addi v23 c66_i32
  let v950 : Index := Scalar.indexCast v949
  ![v950.toNat]
def k0_off134 (d0 : Dev nD) (v951 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v952 : BitVec 1 := Scalar.cmpi .sge v951 v22
  let c4096_i32_283 : BitVec 32 := 4096#32
  let v953 : BitVec 32 := Scalar.addi v22 c4096_i32_283
  let v954 : BitVec 1 := Scalar.cmpi .slt v951 v953
  let v955 : BitVec 1 := Scalar.andi v952 v954
  let v956 : BitVec 32 := Scalar.subi v951 v22
  let c4096_i32_284 : BitVec 32 := 4096#32
  let v957 : BitVec 32 := Scalar.select v955 v956 c4096_i32_284
  let v958 : Index := Scalar.indexCast v957
  let c0_285 : Index := 0#32
  ![v958.toNat, 0]

def k0_chk67 (d0 : Dev nD) (v951 : BitVec 32) : Prop :=
  (∀ a, (k0_off134 d0 v951) a + S1x512.size a ≤ S4104x512.size a)
theorem k0_off134_inb : ∀ (d0 : Dev nD) (v951 : BitVec 32) (k0_hw67 : k0_chk67 d0 v951), ∀ a, (k0_off134 d0 v951) a + S1x512.size a ≤ S4104x512.size a := fun d0 v951 k0_hw67 => k0_hw67

def k0_off135 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c67_i32 : BitVec 32 := 67#32
  let v963 : BitVec 32 := Scalar.addi v23 c67_i32
  let v964 : Index := Scalar.indexCast v963
  ![v964.toNat]
def k0_off136 (d0 : Dev nD) (v965 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v966 : BitVec 1 := Scalar.cmpi .sge v965 v22
  let c4096_i32_287 : BitVec 32 := 4096#32
  let v967 : BitVec 32 := Scalar.addi v22 c4096_i32_287
  let v968 : BitVec 1 := Scalar.cmpi .slt v965 v967
  let v969 : BitVec 1 := Scalar.andi v966 v968
  let v970 : BitVec 32 := Scalar.subi v965 v22
  let c4096_i32_288 : BitVec 32 := 4096#32
  let v971 : BitVec 32 := Scalar.select v969 v970 c4096_i32_288
  let v972 : Index := Scalar.indexCast v971
  let c0_289 : Index := 0#32
  ![v972.toNat, 0]

def k0_chk68 (d0 : Dev nD) (v965 : BitVec 32) : Prop :=
  (∀ a, (k0_off136 d0 v965) a + S1x512.size a ≤ S4104x512.size a)
theorem k0_off136_inb : ∀ (d0 : Dev nD) (v965 : BitVec 32) (k0_hw68 : k0_chk68 d0 v965), ∀ a, (k0_off136 d0 v965) a + S1x512.size a ≤ S4104x512.size a := fun d0 v965 k0_hw68 => k0_hw68

def k0_off137 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c68_i32 : BitVec 32 := 68#32
  let v977 : BitVec 32 := Scalar.addi v23 c68_i32
  let v978 : Index := Scalar.indexCast v977
  ![v978.toNat]
def k0_off138 (d0 : Dev nD) (v979 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v980 : BitVec 1 := Scalar.cmpi .sge v979 v22
  let c4096_i32_291 : BitVec 32 := 4096#32
  let v981 : BitVec 32 := Scalar.addi v22 c4096_i32_291
  let v982 : BitVec 1 := Scalar.cmpi .slt v979 v981
  let v983 : BitVec 1 := Scalar.andi v980 v982
  let v984 : BitVec 32 := Scalar.subi v979 v22
  let c4096_i32_292 : BitVec 32 := 4096#32
  let v985 : BitVec 32 := Scalar.select v983 v984 c4096_i32_292
  let v986 : Index := Scalar.indexCast v985
  let c0_293 : Index := 0#32
  ![v986.toNat, 0]

def k0_chk69 (d0 : Dev nD) (v979 : BitVec 32) : Prop :=
  (∀ a, (k0_off138 d0 v979) a + S1x512.size a ≤ S4104x512.size a)
theorem k0_off138_inb : ∀ (d0 : Dev nD) (v979 : BitVec 32) (k0_hw69 : k0_chk69 d0 v979), ∀ a, (k0_off138 d0 v979) a + S1x512.size a ≤ S4104x512.size a := fun d0 v979 k0_hw69 => k0_hw69

def k0_off139 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c69_i32 : BitVec 32 := 69#32
  let v991 : BitVec 32 := Scalar.addi v23 c69_i32
  let v992 : Index := Scalar.indexCast v991
  ![v992.toNat]
def k0_off140 (d0 : Dev nD) (v993 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v994 : BitVec 1 := Scalar.cmpi .sge v993 v22
  let c4096_i32_295 : BitVec 32 := 4096#32
  let v995 : BitVec 32 := Scalar.addi v22 c4096_i32_295
  let v996 : BitVec 1 := Scalar.cmpi .slt v993 v995
  let v997 : BitVec 1 := Scalar.andi v994 v996
  let v998 : BitVec 32 := Scalar.subi v993 v22
  let c4096_i32_296 : BitVec 32 := 4096#32
  let v999 : BitVec 32 := Scalar.select v997 v998 c4096_i32_296
  let v1000 : Index := Scalar.indexCast v999
  let c0_297 : Index := 0#32
  ![v1000.toNat, 0]

def k0_chk70 (d0 : Dev nD) (v993 : BitVec 32) : Prop :=
  (∀ a, (k0_off140 d0 v993) a + S1x512.size a ≤ S4104x512.size a)
theorem k0_off140_inb : ∀ (d0 : Dev nD) (v993 : BitVec 32) (k0_hw70 : k0_chk70 d0 v993), ∀ a, (k0_off140 d0 v993) a + S1x512.size a ≤ S4104x512.size a := fun d0 v993 k0_hw70 => k0_hw70

def k0_off141 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c70_i32 : BitVec 32 := 70#32
  let v1005 : BitVec 32 := Scalar.addi v23 c70_i32
  let v1006 : Index := Scalar.indexCast v1005
  ![v1006.toNat]
def k0_off142 (d0 : Dev nD) (v1007 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1008 : BitVec 1 := Scalar.cmpi .sge v1007 v22
  let c4096_i32_299 : BitVec 32 := 4096#32
  let v1009 : BitVec 32 := Scalar.addi v22 c4096_i32_299
  let v1010 : BitVec 1 := Scalar.cmpi .slt v1007 v1009
  let v1011 : BitVec 1 := Scalar.andi v1008 v1010
  let v1012 : BitVec 32 := Scalar.subi v1007 v22
  let c4096_i32_300 : BitVec 32 := 4096#32
  let v1013 : BitVec 32 := Scalar.select v1011 v1012 c4096_i32_300
  let v1014 : Index := Scalar.indexCast v1013
  let c0_301 : Index := 0#32
  ![v1014.toNat, 0]

def k0_chk71 (d0 : Dev nD) (v1007 : BitVec 32) : Prop :=
  (∀ a, (k0_off142 d0 v1007) a + S1x512.size a ≤ S4104x512.size a)
theorem k0_off142_inb : ∀ (d0 : Dev nD) (v1007 : BitVec 32) (k0_hw71 : k0_chk71 d0 v1007), ∀ a, (k0_off142 d0 v1007) a + S1x512.size a ≤ S4104x512.size a := fun d0 v1007 k0_hw71 => k0_hw71

def k0_off143 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c71_i32 : BitVec 32 := 71#32
  let v1019 : BitVec 32 := Scalar.addi v23 c71_i32
  let v1020 : Index := Scalar.indexCast v1019
  ![v1020.toNat]
def k0_off144 (d0 : Dev nD) (v1021 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1022 : BitVec 1 := Scalar.cmpi .sge v1021 v22
  let c4096_i32_303 : BitVec 32 := 4096#32
  let v1023 : BitVec 32 := Scalar.addi v22 c4096_i32_303
  let v1024 : BitVec 1 := Scalar.cmpi .slt v1021 v1023
  let v1025 : BitVec 1 := Scalar.andi v1022 v1024
  let v1026 : BitVec 32 := Scalar.subi v1021 v22
  let c4096_i32_304 : BitVec 32 := 4096#32
  let v1027 : BitVec 32 := Scalar.select v1025 v1026 c4096_i32_304
  let v1028 : Index := Scalar.indexCast v1027
  let c0_305 : Index := 0#32
  ![v1028.toNat, 0]

def k0_chk72 (d0 : Dev nD) (v1021 : BitVec 32) : Prop :=
  (∀ a, (k0_off144 d0 v1021) a + S1x512.size a ≤ S4104x512.size a)
theorem k0_off144_inb : ∀ (d0 : Dev nD) (v1021 : BitVec 32) (k0_hw72 : k0_chk72 d0 v1021), ∀ a, (k0_off144 d0 v1021) a + S1x512.size a ≤ S4104x512.size a := fun d0 v1021 k0_hw72 => k0_hw72

def k0_off145 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c72_i32 : BitVec 32 := 72#32
  let v1033 : BitVec 32 := Scalar.addi v23 c72_i32
  let v1034 : Index := Scalar.indexCast v1033
  ![v1034.toNat]
def k0_off146 (d0 : Dev nD) (v1035 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1036 : BitVec 1 := Scalar.cmpi .sge v1035 v22
  let c4096_i32_307 : BitVec 32 := 4096#32
  let v1037 : BitVec 32 := Scalar.addi v22 c4096_i32_307
  let v1038 : BitVec 1 := Scalar.cmpi .slt v1035 v1037
  let v1039 : BitVec 1 := Scalar.andi v1036 v1038
  let v1040 : BitVec 32 := Scalar.subi v1035 v22
  let c4096_i32_308 : BitVec 32 := 4096#32
  let v1041 : BitVec 32 := Scalar.select v1039 v1040 c4096_i32_308
  let v1042 : Index := Scalar.indexCast v1041
  let c0_309 : Index := 0#32
  ![v1042.toNat, 0]

def k0_chk73 (d0 : Dev nD) (v1035 : BitVec 32) : Prop :=
  (∀ a, (k0_off146 d0 v1035) a + S1x512.size a ≤ S4104x512.size a)
theorem k0_off146_inb : ∀ (d0 : Dev nD) (v1035 : BitVec 32) (k0_hw73 : k0_chk73 d0 v1035), ∀ a, (k0_off146 d0 v1035) a + S1x512.size a ≤ S4104x512.size a := fun d0 v1035 k0_hw73 => k0_hw73

def k0_off147 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c73_i32 : BitVec 32 := 73#32
  let v1047 : BitVec 32 := Scalar.addi v23 c73_i32
  let v1048 : Index := Scalar.indexCast v1047
  ![v1048.toNat]
def k0_off148 (d0 : Dev nD) (v1049 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1050 : BitVec 1 := Scalar.cmpi .sge v1049 v22
  let c4096_i32_311 : BitVec 32 := 4096#32
  let v1051 : BitVec 32 := Scalar.addi v22 c4096_i32_311
  let v1052 : BitVec 1 := Scalar.cmpi .slt v1049 v1051
  let v1053 : BitVec 1 := Scalar.andi v1050 v1052
  let v1054 : BitVec 32 := Scalar.subi v1049 v22
  let c4096_i32_312 : BitVec 32 := 4096#32
  let v1055 : BitVec 32 := Scalar.select v1053 v1054 c4096_i32_312
  let v1056 : Index := Scalar.indexCast v1055
  let c0_313 : Index := 0#32
  ![v1056.toNat, 0]

def k0_chk74 (d0 : Dev nD) (v1049 : BitVec 32) : Prop :=
  (∀ a, (k0_off148 d0 v1049) a + S1x512.size a ≤ S4104x512.size a)
theorem k0_off148_inb : ∀ (d0 : Dev nD) (v1049 : BitVec 32) (k0_hw74 : k0_chk74 d0 v1049), ∀ a, (k0_off148 d0 v1049) a + S1x512.size a ≤ S4104x512.size a := fun d0 v1049 k0_hw74 => k0_hw74

def k0_off149 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c74_i32 : BitVec 32 := 74#32
  let v1061 : BitVec 32 := Scalar.addi v23 c74_i32
  let v1062 : Index := Scalar.indexCast v1061
  ![v1062.toNat]
def k0_off150 (d0 : Dev nD) (v1063 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1064 : BitVec 1 := Scalar.cmpi .sge v1063 v22
  let c4096_i32_315 : BitVec 32 := 4096#32
  let v1065 : BitVec 32 := Scalar.addi v22 c4096_i32_315
  let v1066 : BitVec 1 := Scalar.cmpi .slt v1063 v1065
  let v1067 : BitVec 1 := Scalar.andi v1064 v1066
  let v1068 : BitVec 32 := Scalar.subi v1063 v22
  let c4096_i32_316 : BitVec 32 := 4096#32
  let v1069 : BitVec 32 := Scalar.select v1067 v1068 c4096_i32_316
  let v1070 : Index := Scalar.indexCast v1069
  let c0_317 : Index := 0#32
  ![v1070.toNat, 0]

def k0_chk75 (d0 : Dev nD) (v1063 : BitVec 32) : Prop :=
  (∀ a, (k0_off150 d0 v1063) a + S1x512.size a ≤ S4104x512.size a)
theorem k0_off150_inb : ∀ (d0 : Dev nD) (v1063 : BitVec 32) (k0_hw75 : k0_chk75 d0 v1063), ∀ a, (k0_off150 d0 v1063) a + S1x512.size a ≤ S4104x512.size a := fun d0 v1063 k0_hw75 => k0_hw75

def k0_off151 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c75_i32 : BitVec 32 := 75#32
  let v1075 : BitVec 32 := Scalar.addi v23 c75_i32
  let v1076 : Index := Scalar.indexCast v1075
  ![v1076.toNat]
def k0_off152 (d0 : Dev nD) (v1077 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1078 : BitVec 1 := Scalar.cmpi .sge v1077 v22
  let c4096_i32_319 : BitVec 32 := 4096#32
  let v1079 : BitVec 32 := Scalar.addi v22 c4096_i32_319
  let v1080 : BitVec 1 := Scalar.cmpi .slt v1077 v1079
  let v1081 : BitVec 1 := Scalar.andi v1078 v1080
  let v1082 : BitVec 32 := Scalar.subi v1077 v22
  let c4096_i32_320 : BitVec 32 := 4096#32
  let v1083 : BitVec 32 := Scalar.select v1081 v1082 c4096_i32_320
  let v1084 : Index := Scalar.indexCast v1083
  let c0_321 : Index := 0#32
  ![v1084.toNat, 0]

def k0_chk76 (d0 : Dev nD) (v1077 : BitVec 32) : Prop :=
  (∀ a, (k0_off152 d0 v1077) a + S1x512.size a ≤ S4104x512.size a)
theorem k0_off152_inb : ∀ (d0 : Dev nD) (v1077 : BitVec 32) (k0_hw76 : k0_chk76 d0 v1077), ∀ a, (k0_off152 d0 v1077) a + S1x512.size a ≤ S4104x512.size a := fun d0 v1077 k0_hw76 => k0_hw76

def k0_off153 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c76_i32 : BitVec 32 := 76#32
  let v1089 : BitVec 32 := Scalar.addi v23 c76_i32
  let v1090 : Index := Scalar.indexCast v1089
  ![v1090.toNat]
def k0_off154 (d0 : Dev nD) (v1091 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1092 : BitVec 1 := Scalar.cmpi .sge v1091 v22
  let c4096_i32_323 : BitVec 32 := 4096#32
  let v1093 : BitVec 32 := Scalar.addi v22 c4096_i32_323
  let v1094 : BitVec 1 := Scalar.cmpi .slt v1091 v1093
  let v1095 : BitVec 1 := Scalar.andi v1092 v1094
  let v1096 : BitVec 32 := Scalar.subi v1091 v22
  let c4096_i32_324 : BitVec 32 := 4096#32
  let v1097 : BitVec 32 := Scalar.select v1095 v1096 c4096_i32_324
  let v1098 : Index := Scalar.indexCast v1097
  let c0_325 : Index := 0#32
  ![v1098.toNat, 0]

def k0_chk77 (d0 : Dev nD) (v1091 : BitVec 32) : Prop :=
  (∀ a, (k0_off154 d0 v1091) a + S1x512.size a ≤ S4104x512.size a)
theorem k0_off154_inb : ∀ (d0 : Dev nD) (v1091 : BitVec 32) (k0_hw77 : k0_chk77 d0 v1091), ∀ a, (k0_off154 d0 v1091) a + S1x512.size a ≤ S4104x512.size a := fun d0 v1091 k0_hw77 => k0_hw77

def k0_off155 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c77_i32 : BitVec 32 := 77#32
  let v1103 : BitVec 32 := Scalar.addi v23 c77_i32
  let v1104 : Index := Scalar.indexCast v1103
  ![v1104.toNat]
def k0_off156 (d0 : Dev nD) (v1105 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1106 : BitVec 1 := Scalar.cmpi .sge v1105 v22
  let c4096_i32_327 : BitVec 32 := 4096#32
  let v1107 : BitVec 32 := Scalar.addi v22 c4096_i32_327
  let v1108 : BitVec 1 := Scalar.cmpi .slt v1105 v1107
  let v1109 : BitVec 1 := Scalar.andi v1106 v1108
  let v1110 : BitVec 32 := Scalar.subi v1105 v22
  let c4096_i32_328 : BitVec 32 := 4096#32
  let v1111 : BitVec 32 := Scalar.select v1109 v1110 c4096_i32_328
  let v1112 : Index := Scalar.indexCast v1111
  let c0_329 : Index := 0#32
  ![v1112.toNat, 0]

def k0_chk78 (d0 : Dev nD) (v1105 : BitVec 32) : Prop :=
  (∀ a, (k0_off156 d0 v1105) a + S1x512.size a ≤ S4104x512.size a)
theorem k0_off156_inb : ∀ (d0 : Dev nD) (v1105 : BitVec 32) (k0_hw78 : k0_chk78 d0 v1105), ∀ a, (k0_off156 d0 v1105) a + S1x512.size a ≤ S4104x512.size a := fun d0 v1105 k0_hw78 => k0_hw78

def k0_off157 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c78_i32 : BitVec 32 := 78#32
  let v1117 : BitVec 32 := Scalar.addi v23 c78_i32
  let v1118 : Index := Scalar.indexCast v1117
  ![v1118.toNat]
def k0_off158 (d0 : Dev nD) (v1119 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1120 : BitVec 1 := Scalar.cmpi .sge v1119 v22
  let c4096_i32_331 : BitVec 32 := 4096#32
  let v1121 : BitVec 32 := Scalar.addi v22 c4096_i32_331
  let v1122 : BitVec 1 := Scalar.cmpi .slt v1119 v1121
  let v1123 : BitVec 1 := Scalar.andi v1120 v1122
  let v1124 : BitVec 32 := Scalar.subi v1119 v22
  let c4096_i32_332 : BitVec 32 := 4096#32
  let v1125 : BitVec 32 := Scalar.select v1123 v1124 c4096_i32_332
  let v1126 : Index := Scalar.indexCast v1125
  let c0_333 : Index := 0#32
  ![v1126.toNat, 0]

def k0_chk79 (d0 : Dev nD) (v1119 : BitVec 32) : Prop :=
  (∀ a, (k0_off158 d0 v1119) a + S1x512.size a ≤ S4104x512.size a)
theorem k0_off158_inb : ∀ (d0 : Dev nD) (v1119 : BitVec 32) (k0_hw79 : k0_chk79 d0 v1119), ∀ a, (k0_off158 d0 v1119) a + S1x512.size a ≤ S4104x512.size a := fun d0 v1119 k0_hw79 => k0_hw79

def k0_off159 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c79_i32 : BitVec 32 := 79#32
  let v1131 : BitVec 32 := Scalar.addi v23 c79_i32
  let v1132 : Index := Scalar.indexCast v1131
  ![v1132.toNat]
def k0_off160 (d0 : Dev nD) (v1133 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1134 : BitVec 1 := Scalar.cmpi .sge v1133 v22
  let c4096_i32_335 : BitVec 32 := 4096#32
  let v1135 : BitVec 32 := Scalar.addi v22 c4096_i32_335
  let v1136 : BitVec 1 := Scalar.cmpi .slt v1133 v1135
  let v1137 : BitVec 1 := Scalar.andi v1134 v1136
  let v1138 : BitVec 32 := Scalar.subi v1133 v22
  let c4096_i32_336 : BitVec 32 := 4096#32
  let v1139 : BitVec 32 := Scalar.select v1137 v1138 c4096_i32_336
  let v1140 : Index := Scalar.indexCast v1139
  let c0_337 : Index := 0#32
  ![v1140.toNat, 0]

def k0_chk80 (d0 : Dev nD) (v1133 : BitVec 32) : Prop :=
  (∀ a, (k0_off160 d0 v1133) a + S1x512.size a ≤ S4104x512.size a)
theorem k0_off160_inb : ∀ (d0 : Dev nD) (v1133 : BitVec 32) (k0_hw80 : k0_chk80 d0 v1133), ∀ a, (k0_off160 d0 v1133) a + S1x512.size a ≤ S4104x512.size a := fun d0 v1133 k0_hw80 => k0_hw80

def k0_off161 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c80_i32 : BitVec 32 := 80#32
  let v1145 : BitVec 32 := Scalar.addi v23 c80_i32
  let v1146 : Index := Scalar.indexCast v1145
  ![v1146.toNat]
def k0_off162 (d0 : Dev nD) (v1147 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1148 : BitVec 1 := Scalar.cmpi .sge v1147 v22
  let c4096_i32_339 : BitVec 32 := 4096#32
  let v1149 : BitVec 32 := Scalar.addi v22 c4096_i32_339
  let v1150 : BitVec 1 := Scalar.cmpi .slt v1147 v1149
  let v1151 : BitVec 1 := Scalar.andi v1148 v1150
  let v1152 : BitVec 32 := Scalar.subi v1147 v22
  let c4096_i32_340 : BitVec 32 := 4096#32
  let v1153 : BitVec 32 := Scalar.select v1151 v1152 c4096_i32_340
  let v1154 : Index := Scalar.indexCast v1153
  let c0_341 : Index := 0#32
  ![v1154.toNat, 0]

def k0_chk81 (d0 : Dev nD) (v1147 : BitVec 32) : Prop :=
  (∀ a, (k0_off162 d0 v1147) a + S1x512.size a ≤ S4104x512.size a)
theorem k0_off162_inb : ∀ (d0 : Dev nD) (v1147 : BitVec 32) (k0_hw81 : k0_chk81 d0 v1147), ∀ a, (k0_off162 d0 v1147) a + S1x512.size a ≤ S4104x512.size a := fun d0 v1147 k0_hw81 => k0_hw81

def k0_off163 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c81_i32 : BitVec 32 := 81#32
  let v1159 : BitVec 32 := Scalar.addi v23 c81_i32
  let v1160 : Index := Scalar.indexCast v1159
  ![v1160.toNat]
def k0_off164 (d0 : Dev nD) (v1161 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1162 : BitVec 1 := Scalar.cmpi .sge v1161 v22
  let c4096_i32_343 : BitVec 32 := 4096#32
  let v1163 : BitVec 32 := Scalar.addi v22 c4096_i32_343
  let v1164 : BitVec 1 := Scalar.cmpi .slt v1161 v1163
  let v1165 : BitVec 1 := Scalar.andi v1162 v1164
  let v1166 : BitVec 32 := Scalar.subi v1161 v22
  let c4096_i32_344 : BitVec 32 := 4096#32
  let v1167 : BitVec 32 := Scalar.select v1165 v1166 c4096_i32_344
  let v1168 : Index := Scalar.indexCast v1167
  let c0_345 : Index := 0#32
  ![v1168.toNat, 0]

def k0_chk82 (d0 : Dev nD) (v1161 : BitVec 32) : Prop :=
  (∀ a, (k0_off164 d0 v1161) a + S1x512.size a ≤ S4104x512.size a)
theorem k0_off164_inb : ∀ (d0 : Dev nD) (v1161 : BitVec 32) (k0_hw82 : k0_chk82 d0 v1161), ∀ a, (k0_off164 d0 v1161) a + S1x512.size a ≤ S4104x512.size a := fun d0 v1161 k0_hw82 => k0_hw82

def k0_off165 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c82_i32 : BitVec 32 := 82#32
  let v1173 : BitVec 32 := Scalar.addi v23 c82_i32
  let v1174 : Index := Scalar.indexCast v1173
  ![v1174.toNat]
def k0_off166 (d0 : Dev nD) (v1175 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1176 : BitVec 1 := Scalar.cmpi .sge v1175 v22
  let c4096_i32_347 : BitVec 32 := 4096#32
  let v1177 : BitVec 32 := Scalar.addi v22 c4096_i32_347
  let v1178 : BitVec 1 := Scalar.cmpi .slt v1175 v1177
  let v1179 : BitVec 1 := Scalar.andi v1176 v1178
  let v1180 : BitVec 32 := Scalar.subi v1175 v22
  let c4096_i32_348 : BitVec 32 := 4096#32
  let v1181 : BitVec 32 := Scalar.select v1179 v1180 c4096_i32_348
  let v1182 : Index := Scalar.indexCast v1181
  let c0_349 : Index := 0#32
  ![v1182.toNat, 0]

def k0_chk83 (d0 : Dev nD) (v1175 : BitVec 32) : Prop :=
  (∀ a, (k0_off166 d0 v1175) a + S1x512.size a ≤ S4104x512.size a)
theorem k0_off166_inb : ∀ (d0 : Dev nD) (v1175 : BitVec 32) (k0_hw83 : k0_chk83 d0 v1175), ∀ a, (k0_off166 d0 v1175) a + S1x512.size a ≤ S4104x512.size a := fun d0 v1175 k0_hw83 => k0_hw83

def k0_off167 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c83_i32 : BitVec 32 := 83#32
  let v1187 : BitVec 32 := Scalar.addi v23 c83_i32
  let v1188 : Index := Scalar.indexCast v1187
  ![v1188.toNat]
def k0_off168 (d0 : Dev nD) (v1189 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1190 : BitVec 1 := Scalar.cmpi .sge v1189 v22
  let c4096_i32_351 : BitVec 32 := 4096#32
  let v1191 : BitVec 32 := Scalar.addi v22 c4096_i32_351
  let v1192 : BitVec 1 := Scalar.cmpi .slt v1189 v1191
  let v1193 : BitVec 1 := Scalar.andi v1190 v1192
  let v1194 : BitVec 32 := Scalar.subi v1189 v22
  let c4096_i32_352 : BitVec 32 := 4096#32
  let v1195 : BitVec 32 := Scalar.select v1193 v1194 c4096_i32_352
  let v1196 : Index := Scalar.indexCast v1195
  let c0_353 : Index := 0#32
  ![v1196.toNat, 0]

def k0_chk84 (d0 : Dev nD) (v1189 : BitVec 32) : Prop :=
  (∀ a, (k0_off168 d0 v1189) a + S1x512.size a ≤ S4104x512.size a)
theorem k0_off168_inb : ∀ (d0 : Dev nD) (v1189 : BitVec 32) (k0_hw84 : k0_chk84 d0 v1189), ∀ a, (k0_off168 d0 v1189) a + S1x512.size a ≤ S4104x512.size a := fun d0 v1189 k0_hw84 => k0_hw84

def k0_off169 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c84_i32 : BitVec 32 := 84#32
  let v1201 : BitVec 32 := Scalar.addi v23 c84_i32
  let v1202 : Index := Scalar.indexCast v1201
  ![v1202.toNat]
def k0_off170 (d0 : Dev nD) (v1203 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1204 : BitVec 1 := Scalar.cmpi .sge v1203 v22
  let c4096_i32_355 : BitVec 32 := 4096#32
  let v1205 : BitVec 32 := Scalar.addi v22 c4096_i32_355
  let v1206 : BitVec 1 := Scalar.cmpi .slt v1203 v1205
  let v1207 : BitVec 1 := Scalar.andi v1204 v1206
  let v1208 : BitVec 32 := Scalar.subi v1203 v22
  let c4096_i32_356 : BitVec 32 := 4096#32
  let v1209 : BitVec 32 := Scalar.select v1207 v1208 c4096_i32_356
  let v1210 : Index := Scalar.indexCast v1209
  let c0_357 : Index := 0#32
  ![v1210.toNat, 0]

def k0_chk85 (d0 : Dev nD) (v1203 : BitVec 32) : Prop :=
  (∀ a, (k0_off170 d0 v1203) a + S1x512.size a ≤ S4104x512.size a)
theorem k0_off170_inb : ∀ (d0 : Dev nD) (v1203 : BitVec 32) (k0_hw85 : k0_chk85 d0 v1203), ∀ a, (k0_off170 d0 v1203) a + S1x512.size a ≤ S4104x512.size a := fun d0 v1203 k0_hw85 => k0_hw85

def k0_off171 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c85_i32 : BitVec 32 := 85#32
  let v1215 : BitVec 32 := Scalar.addi v23 c85_i32
  let v1216 : Index := Scalar.indexCast v1215
  ![v1216.toNat]
def k0_off172 (d0 : Dev nD) (v1217 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1218 : BitVec 1 := Scalar.cmpi .sge v1217 v22
  let c4096_i32_359 : BitVec 32 := 4096#32
  let v1219 : BitVec 32 := Scalar.addi v22 c4096_i32_359
  let v1220 : BitVec 1 := Scalar.cmpi .slt v1217 v1219
  let v1221 : BitVec 1 := Scalar.andi v1218 v1220
  let v1222 : BitVec 32 := Scalar.subi v1217 v22
  let c4096_i32_360 : BitVec 32 := 4096#32
  let v1223 : BitVec 32 := Scalar.select v1221 v1222 c4096_i32_360
  let v1224 : Index := Scalar.indexCast v1223
  let c0_361 : Index := 0#32
  ![v1224.toNat, 0]

def k0_chk86 (d0 : Dev nD) (v1217 : BitVec 32) : Prop :=
  (∀ a, (k0_off172 d0 v1217) a + S1x512.size a ≤ S4104x512.size a)
theorem k0_off172_inb : ∀ (d0 : Dev nD) (v1217 : BitVec 32) (k0_hw86 : k0_chk86 d0 v1217), ∀ a, (k0_off172 d0 v1217) a + S1x512.size a ≤ S4104x512.size a := fun d0 v1217 k0_hw86 => k0_hw86

def k0_off173 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c86_i32 : BitVec 32 := 86#32
  let v1229 : BitVec 32 := Scalar.addi v23 c86_i32
  let v1230 : Index := Scalar.indexCast v1229
  ![v1230.toNat]
def k0_off174 (d0 : Dev nD) (v1231 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1232 : BitVec 1 := Scalar.cmpi .sge v1231 v22
  let c4096_i32_363 : BitVec 32 := 4096#32
  let v1233 : BitVec 32 := Scalar.addi v22 c4096_i32_363
  let v1234 : BitVec 1 := Scalar.cmpi .slt v1231 v1233
  let v1235 : BitVec 1 := Scalar.andi v1232 v1234
  let v1236 : BitVec 32 := Scalar.subi v1231 v22
  let c4096_i32_364 : BitVec 32 := 4096#32
  let v1237 : BitVec 32 := Scalar.select v1235 v1236 c4096_i32_364
  let v1238 : Index := Scalar.indexCast v1237
  let c0_365 : Index := 0#32
  ![v1238.toNat, 0]

def k0_chk87 (d0 : Dev nD) (v1231 : BitVec 32) : Prop :=
  (∀ a, (k0_off174 d0 v1231) a + S1x512.size a ≤ S4104x512.size a)
theorem k0_off174_inb : ∀ (d0 : Dev nD) (v1231 : BitVec 32) (k0_hw87 : k0_chk87 d0 v1231), ∀ a, (k0_off174 d0 v1231) a + S1x512.size a ≤ S4104x512.size a := fun d0 v1231 k0_hw87 => k0_hw87

def k0_off175 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c87_i32 : BitVec 32 := 87#32
  let v1243 : BitVec 32 := Scalar.addi v23 c87_i32
  let v1244 : Index := Scalar.indexCast v1243
  ![v1244.toNat]
def k0_off176 (d0 : Dev nD) (v1245 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1246 : BitVec 1 := Scalar.cmpi .sge v1245 v22
  let c4096_i32_367 : BitVec 32 := 4096#32
  let v1247 : BitVec 32 := Scalar.addi v22 c4096_i32_367
  let v1248 : BitVec 1 := Scalar.cmpi .slt v1245 v1247
  let v1249 : BitVec 1 := Scalar.andi v1246 v1248
  let v1250 : BitVec 32 := Scalar.subi v1245 v22
  let c4096_i32_368 : BitVec 32 := 4096#32
  let v1251 : BitVec 32 := Scalar.select v1249 v1250 c4096_i32_368
  let v1252 : Index := Scalar.indexCast v1251
  let c0_369 : Index := 0#32
  ![v1252.toNat, 0]

def k0_chk88 (d0 : Dev nD) (v1245 : BitVec 32) : Prop :=
  (∀ a, (k0_off176 d0 v1245) a + S1x512.size a ≤ S4104x512.size a)
theorem k0_off176_inb : ∀ (d0 : Dev nD) (v1245 : BitVec 32) (k0_hw88 : k0_chk88 d0 v1245), ∀ a, (k0_off176 d0 v1245) a + S1x512.size a ≤ S4104x512.size a := fun d0 v1245 k0_hw88 => k0_hw88

def k0_off177 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c88_i32 : BitVec 32 := 88#32
  let v1257 : BitVec 32 := Scalar.addi v23 c88_i32
  let v1258 : Index := Scalar.indexCast v1257
  ![v1258.toNat]
def k0_off178 (d0 : Dev nD) (v1259 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1260 : BitVec 1 := Scalar.cmpi .sge v1259 v22
  let c4096_i32_371 : BitVec 32 := 4096#32
  let v1261 : BitVec 32 := Scalar.addi v22 c4096_i32_371
  let v1262 : BitVec 1 := Scalar.cmpi .slt v1259 v1261
  let v1263 : BitVec 1 := Scalar.andi v1260 v1262
  let v1264 : BitVec 32 := Scalar.subi v1259 v22
  let c4096_i32_372 : BitVec 32 := 4096#32
  let v1265 : BitVec 32 := Scalar.select v1263 v1264 c4096_i32_372
  let v1266 : Index := Scalar.indexCast v1265
  let c0_373 : Index := 0#32
  ![v1266.toNat, 0]

def k0_chk89 (d0 : Dev nD) (v1259 : BitVec 32) : Prop :=
  (∀ a, (k0_off178 d0 v1259) a + S1x512.size a ≤ S4104x512.size a)
theorem k0_off178_inb : ∀ (d0 : Dev nD) (v1259 : BitVec 32) (k0_hw89 : k0_chk89 d0 v1259), ∀ a, (k0_off178 d0 v1259) a + S1x512.size a ≤ S4104x512.size a := fun d0 v1259 k0_hw89 => k0_hw89

def k0_off179 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c89_i32 : BitVec 32 := 89#32
  let v1271 : BitVec 32 := Scalar.addi v23 c89_i32
  let v1272 : Index := Scalar.indexCast v1271
  ![v1272.toNat]
def k0_off180 (d0 : Dev nD) (v1273 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1274 : BitVec 1 := Scalar.cmpi .sge v1273 v22
  let c4096_i32_375 : BitVec 32 := 4096#32
  let v1275 : BitVec 32 := Scalar.addi v22 c4096_i32_375
  let v1276 : BitVec 1 := Scalar.cmpi .slt v1273 v1275
  let v1277 : BitVec 1 := Scalar.andi v1274 v1276
  let v1278 : BitVec 32 := Scalar.subi v1273 v22
  let c4096_i32_376 : BitVec 32 := 4096#32
  let v1279 : BitVec 32 := Scalar.select v1277 v1278 c4096_i32_376
  let v1280 : Index := Scalar.indexCast v1279
  let c0_377 : Index := 0#32
  ![v1280.toNat, 0]

def k0_chk90 (d0 : Dev nD) (v1273 : BitVec 32) : Prop :=
  (∀ a, (k0_off180 d0 v1273) a + S1x512.size a ≤ S4104x512.size a)
theorem k0_off180_inb : ∀ (d0 : Dev nD) (v1273 : BitVec 32) (k0_hw90 : k0_chk90 d0 v1273), ∀ a, (k0_off180 d0 v1273) a + S1x512.size a ≤ S4104x512.size a := fun d0 v1273 k0_hw90 => k0_hw90

def k0_off181 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c90_i32 : BitVec 32 := 90#32
  let v1285 : BitVec 32 := Scalar.addi v23 c90_i32
  let v1286 : Index := Scalar.indexCast v1285
  ![v1286.toNat]
def k0_off182 (d0 : Dev nD) (v1287 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1288 : BitVec 1 := Scalar.cmpi .sge v1287 v22
  let c4096_i32_379 : BitVec 32 := 4096#32
  let v1289 : BitVec 32 := Scalar.addi v22 c4096_i32_379
  let v1290 : BitVec 1 := Scalar.cmpi .slt v1287 v1289
  let v1291 : BitVec 1 := Scalar.andi v1288 v1290
  let v1292 : BitVec 32 := Scalar.subi v1287 v22
  let c4096_i32_380 : BitVec 32 := 4096#32
  let v1293 : BitVec 32 := Scalar.select v1291 v1292 c4096_i32_380
  let v1294 : Index := Scalar.indexCast v1293
  let c0_381 : Index := 0#32
  ![v1294.toNat, 0]

def k0_chk91 (d0 : Dev nD) (v1287 : BitVec 32) : Prop :=
  (∀ a, (k0_off182 d0 v1287) a + S1x512.size a ≤ S4104x512.size a)
theorem k0_off182_inb : ∀ (d0 : Dev nD) (v1287 : BitVec 32) (k0_hw91 : k0_chk91 d0 v1287), ∀ a, (k0_off182 d0 v1287) a + S1x512.size a ≤ S4104x512.size a := fun d0 v1287 k0_hw91 => k0_hw91

def k0_off183 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c91_i32 : BitVec 32 := 91#32
  let v1299 : BitVec 32 := Scalar.addi v23 c91_i32
  let v1300 : Index := Scalar.indexCast v1299
  ![v1300.toNat]
def k0_off184 (d0 : Dev nD) (v1301 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1302 : BitVec 1 := Scalar.cmpi .sge v1301 v22
  let c4096_i32_383 : BitVec 32 := 4096#32
  let v1303 : BitVec 32 := Scalar.addi v22 c4096_i32_383
  let v1304 : BitVec 1 := Scalar.cmpi .slt v1301 v1303
  let v1305 : BitVec 1 := Scalar.andi v1302 v1304
  let v1306 : BitVec 32 := Scalar.subi v1301 v22
  let c4096_i32_384 : BitVec 32 := 4096#32
  let v1307 : BitVec 32 := Scalar.select v1305 v1306 c4096_i32_384
  let v1308 : Index := Scalar.indexCast v1307
  let c0_385 : Index := 0#32
  ![v1308.toNat, 0]

def k0_chk92 (d0 : Dev nD) (v1301 : BitVec 32) : Prop :=
  (∀ a, (k0_off184 d0 v1301) a + S1x512.size a ≤ S4104x512.size a)
theorem k0_off184_inb : ∀ (d0 : Dev nD) (v1301 : BitVec 32) (k0_hw92 : k0_chk92 d0 v1301), ∀ a, (k0_off184 d0 v1301) a + S1x512.size a ≤ S4104x512.size a := fun d0 v1301 k0_hw92 => k0_hw92

def k0_off185 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c92_i32 : BitVec 32 := 92#32
  let v1313 : BitVec 32 := Scalar.addi v23 c92_i32
  let v1314 : Index := Scalar.indexCast v1313
  ![v1314.toNat]
def k0_off186 (d0 : Dev nD) (v1315 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1316 : BitVec 1 := Scalar.cmpi .sge v1315 v22
  let c4096_i32_387 : BitVec 32 := 4096#32
  let v1317 : BitVec 32 := Scalar.addi v22 c4096_i32_387
  let v1318 : BitVec 1 := Scalar.cmpi .slt v1315 v1317
  let v1319 : BitVec 1 := Scalar.andi v1316 v1318
  let v1320 : BitVec 32 := Scalar.subi v1315 v22
  let c4096_i32_388 : BitVec 32 := 4096#32
  let v1321 : BitVec 32 := Scalar.select v1319 v1320 c4096_i32_388
  let v1322 : Index := Scalar.indexCast v1321
  let c0_389 : Index := 0#32
  ![v1322.toNat, 0]

def k0_chk93 (d0 : Dev nD) (v1315 : BitVec 32) : Prop :=
  (∀ a, (k0_off186 d0 v1315) a + S1x512.size a ≤ S4104x512.size a)
theorem k0_off186_inb : ∀ (d0 : Dev nD) (v1315 : BitVec 32) (k0_hw93 : k0_chk93 d0 v1315), ∀ a, (k0_off186 d0 v1315) a + S1x512.size a ≤ S4104x512.size a := fun d0 v1315 k0_hw93 => k0_hw93

def k0_off187 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c93_i32 : BitVec 32 := 93#32
  let v1327 : BitVec 32 := Scalar.addi v23 c93_i32
  let v1328 : Index := Scalar.indexCast v1327
  ![v1328.toNat]
def k0_off188 (d0 : Dev nD) (v1329 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1330 : BitVec 1 := Scalar.cmpi .sge v1329 v22
  let c4096_i32_391 : BitVec 32 := 4096#32
  let v1331 : BitVec 32 := Scalar.addi v22 c4096_i32_391
  let v1332 : BitVec 1 := Scalar.cmpi .slt v1329 v1331
  let v1333 : BitVec 1 := Scalar.andi v1330 v1332
  let v1334 : BitVec 32 := Scalar.subi v1329 v22
  let c4096_i32_392 : BitVec 32 := 4096#32
  let v1335 : BitVec 32 := Scalar.select v1333 v1334 c4096_i32_392
  let v1336 : Index := Scalar.indexCast v1335
  let c0_393 : Index := 0#32
  ![v1336.toNat, 0]

def k0_chk94 (d0 : Dev nD) (v1329 : BitVec 32) : Prop :=
  (∀ a, (k0_off188 d0 v1329) a + S1x512.size a ≤ S4104x512.size a)
theorem k0_off188_inb : ∀ (d0 : Dev nD) (v1329 : BitVec 32) (k0_hw94 : k0_chk94 d0 v1329), ∀ a, (k0_off188 d0 v1329) a + S1x512.size a ≤ S4104x512.size a := fun d0 v1329 k0_hw94 => k0_hw94

def k0_off189 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c94_i32 : BitVec 32 := 94#32
  let v1341 : BitVec 32 := Scalar.addi v23 c94_i32
  let v1342 : Index := Scalar.indexCast v1341
  ![v1342.toNat]
def k0_off190 (d0 : Dev nD) (v1343 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1344 : BitVec 1 := Scalar.cmpi .sge v1343 v22
  let c4096_i32_395 : BitVec 32 := 4096#32
  let v1345 : BitVec 32 := Scalar.addi v22 c4096_i32_395
  let v1346 : BitVec 1 := Scalar.cmpi .slt v1343 v1345
  let v1347 : BitVec 1 := Scalar.andi v1344 v1346
  let v1348 : BitVec 32 := Scalar.subi v1343 v22
  let c4096_i32_396 : BitVec 32 := 4096#32
  let v1349 : BitVec 32 := Scalar.select v1347 v1348 c4096_i32_396
  let v1350 : Index := Scalar.indexCast v1349
  let c0_397 : Index := 0#32
  ![v1350.toNat, 0]

def k0_chk95 (d0 : Dev nD) (v1343 : BitVec 32) : Prop :=
  (∀ a, (k0_off190 d0 v1343) a + S1x512.size a ≤ S4104x512.size a)
theorem k0_off190_inb : ∀ (d0 : Dev nD) (v1343 : BitVec 32) (k0_hw95 : k0_chk95 d0 v1343), ∀ a, (k0_off190 d0 v1343) a + S1x512.size a ≤ S4104x512.size a := fun d0 v1343 k0_hw95 => k0_hw95

def k0_off191 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c95_i32 : BitVec 32 := 95#32
  let v1355 : BitVec 32 := Scalar.addi v23 c95_i32
  let v1356 : Index := Scalar.indexCast v1355
  ![v1356.toNat]
def k0_off192 (d0 : Dev nD) (v1357 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1358 : BitVec 1 := Scalar.cmpi .sge v1357 v22
  let c4096_i32_399 : BitVec 32 := 4096#32
  let v1359 : BitVec 32 := Scalar.addi v22 c4096_i32_399
  let v1360 : BitVec 1 := Scalar.cmpi .slt v1357 v1359
  let v1361 : BitVec 1 := Scalar.andi v1358 v1360
  let v1362 : BitVec 32 := Scalar.subi v1357 v22
  let c4096_i32_400 : BitVec 32 := 4096#32
  let v1363 : BitVec 32 := Scalar.select v1361 v1362 c4096_i32_400
  let v1364 : Index := Scalar.indexCast v1363
  let c0_401 : Index := 0#32
  ![v1364.toNat, 0]

def k0_chk96 (d0 : Dev nD) (v1357 : BitVec 32) : Prop :=
  (∀ a, (k0_off192 d0 v1357) a + S1x512.size a ≤ S4104x512.size a)
theorem k0_off192_inb : ∀ (d0 : Dev nD) (v1357 : BitVec 32) (k0_hw96 : k0_chk96 d0 v1357), ∀ a, (k0_off192 d0 v1357) a + S1x512.size a ≤ S4104x512.size a := fun d0 v1357 k0_hw96 => k0_hw96

def k0_off193 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c96_i32 : BitVec 32 := 96#32
  let v1369 : BitVec 32 := Scalar.addi v23 c96_i32
  let v1370 : Index := Scalar.indexCast v1369
  ![v1370.toNat]
def k0_off194 (d0 : Dev nD) (v1371 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1372 : BitVec 1 := Scalar.cmpi .sge v1371 v22
  let c4096_i32_403 : BitVec 32 := 4096#32
  let v1373 : BitVec 32 := Scalar.addi v22 c4096_i32_403
  let v1374 : BitVec 1 := Scalar.cmpi .slt v1371 v1373
  let v1375 : BitVec 1 := Scalar.andi v1372 v1374
  let v1376 : BitVec 32 := Scalar.subi v1371 v22
  let c4096_i32_404 : BitVec 32 := 4096#32
  let v1377 : BitVec 32 := Scalar.select v1375 v1376 c4096_i32_404
  let v1378 : Index := Scalar.indexCast v1377
  let c0_405 : Index := 0#32
  ![v1378.toNat, 0]

def k0_chk97 (d0 : Dev nD) (v1371 : BitVec 32) : Prop :=
  (∀ a, (k0_off194 d0 v1371) a + S1x512.size a ≤ S4104x512.size a)
theorem k0_off194_inb : ∀ (d0 : Dev nD) (v1371 : BitVec 32) (k0_hw97 : k0_chk97 d0 v1371), ∀ a, (k0_off194 d0 v1371) a + S1x512.size a ≤ S4104x512.size a := fun d0 v1371 k0_hw97 => k0_hw97

def k0_off195 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c97_i32 : BitVec 32 := 97#32
  let v1383 : BitVec 32 := Scalar.addi v23 c97_i32
  let v1384 : Index := Scalar.indexCast v1383
  ![v1384.toNat]
def k0_off196 (d0 : Dev nD) (v1385 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1386 : BitVec 1 := Scalar.cmpi .sge v1385 v22
  let c4096_i32_407 : BitVec 32 := 4096#32
  let v1387 : BitVec 32 := Scalar.addi v22 c4096_i32_407
  let v1388 : BitVec 1 := Scalar.cmpi .slt v1385 v1387
  let v1389 : BitVec 1 := Scalar.andi v1386 v1388
  let v1390 : BitVec 32 := Scalar.subi v1385 v22
  let c4096_i32_408 : BitVec 32 := 4096#32
  let v1391 : BitVec 32 := Scalar.select v1389 v1390 c4096_i32_408
  let v1392 : Index := Scalar.indexCast v1391
  let c0_409 : Index := 0#32
  ![v1392.toNat, 0]

def k0_chk98 (d0 : Dev nD) (v1385 : BitVec 32) : Prop :=
  (∀ a, (k0_off196 d0 v1385) a + S1x512.size a ≤ S4104x512.size a)
theorem k0_off196_inb : ∀ (d0 : Dev nD) (v1385 : BitVec 32) (k0_hw98 : k0_chk98 d0 v1385), ∀ a, (k0_off196 d0 v1385) a + S1x512.size a ≤ S4104x512.size a := fun d0 v1385 k0_hw98 => k0_hw98

def k0_off197 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c98_i32 : BitVec 32 := 98#32
  let v1397 : BitVec 32 := Scalar.addi v23 c98_i32
  let v1398 : Index := Scalar.indexCast v1397
  ![v1398.toNat]
def k0_off198 (d0 : Dev nD) (v1399 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1400 : BitVec 1 := Scalar.cmpi .sge v1399 v22
  let c4096_i32_411 : BitVec 32 := 4096#32
  let v1401 : BitVec 32 := Scalar.addi v22 c4096_i32_411
  let v1402 : BitVec 1 := Scalar.cmpi .slt v1399 v1401
  let v1403 : BitVec 1 := Scalar.andi v1400 v1402
  let v1404 : BitVec 32 := Scalar.subi v1399 v22
  let c4096_i32_412 : BitVec 32 := 4096#32
  let v1405 : BitVec 32 := Scalar.select v1403 v1404 c4096_i32_412
  let v1406 : Index := Scalar.indexCast v1405
  let c0_413 : Index := 0#32
  ![v1406.toNat, 0]

def k0_chk99 (d0 : Dev nD) (v1399 : BitVec 32) : Prop :=
  (∀ a, (k0_off198 d0 v1399) a + S1x512.size a ≤ S4104x512.size a)
theorem k0_off198_inb : ∀ (d0 : Dev nD) (v1399 : BitVec 32) (k0_hw99 : k0_chk99 d0 v1399), ∀ a, (k0_off198 d0 v1399) a + S1x512.size a ≤ S4104x512.size a := fun d0 v1399 k0_hw99 => k0_hw99

def k0_off199 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c99_i32 : BitVec 32 := 99#32
  let v1411 : BitVec 32 := Scalar.addi v23 c99_i32
  let v1412 : Index := Scalar.indexCast v1411
  ![v1412.toNat]
def k0_off200 (d0 : Dev nD) (v1413 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1414 : BitVec 1 := Scalar.cmpi .sge v1413 v22
  let c4096_i32_415 : BitVec 32 := 4096#32
  let v1415 : BitVec 32 := Scalar.addi v22 c4096_i32_415
  let v1416 : BitVec 1 := Scalar.cmpi .slt v1413 v1415
  let v1417 : BitVec 1 := Scalar.andi v1414 v1416
  let v1418 : BitVec 32 := Scalar.subi v1413 v22
  let c4096_i32_416 : BitVec 32 := 4096#32
  let v1419 : BitVec 32 := Scalar.select v1417 v1418 c4096_i32_416
  let v1420 : Index := Scalar.indexCast v1419
  let c0_417 : Index := 0#32
  ![v1420.toNat, 0]

def k0_chk100 (d0 : Dev nD) (v1413 : BitVec 32) : Prop :=
  (∀ a, (k0_off200 d0 v1413) a + S1x512.size a ≤ S4104x512.size a)
theorem k0_off200_inb : ∀ (d0 : Dev nD) (v1413 : BitVec 32) (k0_hw100 : k0_chk100 d0 v1413), ∀ a, (k0_off200 d0 v1413) a + S1x512.size a ≤ S4104x512.size a := fun d0 v1413 k0_hw100 => k0_hw100

def k0_off201 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c100_i32 : BitVec 32 := 100#32
  let v1425 : BitVec 32 := Scalar.addi v23 c100_i32
  let v1426 : Index := Scalar.indexCast v1425
  ![v1426.toNat]
def k0_off202 (d0 : Dev nD) (v1427 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1428 : BitVec 1 := Scalar.cmpi .sge v1427 v22
  let c4096_i32_419 : BitVec 32 := 4096#32
  let v1429 : BitVec 32 := Scalar.addi v22 c4096_i32_419
  let v1430 : BitVec 1 := Scalar.cmpi .slt v1427 v1429
  let v1431 : BitVec 1 := Scalar.andi v1428 v1430
  let v1432 : BitVec 32 := Scalar.subi v1427 v22
  let c4096_i32_420 : BitVec 32 := 4096#32
  let v1433 : BitVec 32 := Scalar.select v1431 v1432 c4096_i32_420
  let v1434 : Index := Scalar.indexCast v1433
  let c0_421 : Index := 0#32
  ![v1434.toNat, 0]

def k0_chk101 (d0 : Dev nD) (v1427 : BitVec 32) : Prop :=
  (∀ a, (k0_off202 d0 v1427) a + S1x512.size a ≤ S4104x512.size a)
theorem k0_off202_inb : ∀ (d0 : Dev nD) (v1427 : BitVec 32) (k0_hw101 : k0_chk101 d0 v1427), ∀ a, (k0_off202 d0 v1427) a + S1x512.size a ≤ S4104x512.size a := fun d0 v1427 k0_hw101 => k0_hw101

def k0_off203 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c101_i32 : BitVec 32 := 101#32
  let v1439 : BitVec 32 := Scalar.addi v23 c101_i32
  let v1440 : Index := Scalar.indexCast v1439
  ![v1440.toNat]
def k0_off204 (d0 : Dev nD) (v1441 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1442 : BitVec 1 := Scalar.cmpi .sge v1441 v22
  let c4096_i32_423 : BitVec 32 := 4096#32
  let v1443 : BitVec 32 := Scalar.addi v22 c4096_i32_423
  let v1444 : BitVec 1 := Scalar.cmpi .slt v1441 v1443
  let v1445 : BitVec 1 := Scalar.andi v1442 v1444
  let v1446 : BitVec 32 := Scalar.subi v1441 v22
  let c4096_i32_424 : BitVec 32 := 4096#32
  let v1447 : BitVec 32 := Scalar.select v1445 v1446 c4096_i32_424
  let v1448 : Index := Scalar.indexCast v1447
  let c0_425 : Index := 0#32
  ![v1448.toNat, 0]

def k0_chk102 (d0 : Dev nD) (v1441 : BitVec 32) : Prop :=
  (∀ a, (k0_off204 d0 v1441) a + S1x512.size a ≤ S4104x512.size a)
theorem k0_off204_inb : ∀ (d0 : Dev nD) (v1441 : BitVec 32) (k0_hw102 : k0_chk102 d0 v1441), ∀ a, (k0_off204 d0 v1441) a + S1x512.size a ≤ S4104x512.size a := fun d0 v1441 k0_hw102 => k0_hw102

def k0_off205 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c102_i32 : BitVec 32 := 102#32
  let v1453 : BitVec 32 := Scalar.addi v23 c102_i32
  let v1454 : Index := Scalar.indexCast v1453
  ![v1454.toNat]
def k0_off206 (d0 : Dev nD) (v1455 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1456 : BitVec 1 := Scalar.cmpi .sge v1455 v22
  let c4096_i32_427 : BitVec 32 := 4096#32
  let v1457 : BitVec 32 := Scalar.addi v22 c4096_i32_427
  let v1458 : BitVec 1 := Scalar.cmpi .slt v1455 v1457
  let v1459 : BitVec 1 := Scalar.andi v1456 v1458
  let v1460 : BitVec 32 := Scalar.subi v1455 v22
  let c4096_i32_428 : BitVec 32 := 4096#32
  let v1461 : BitVec 32 := Scalar.select v1459 v1460 c4096_i32_428
  let v1462 : Index := Scalar.indexCast v1461
  let c0_429 : Index := 0#32
  ![v1462.toNat, 0]

def k0_chk103 (d0 : Dev nD) (v1455 : BitVec 32) : Prop :=
  (∀ a, (k0_off206 d0 v1455) a + S1x512.size a ≤ S4104x512.size a)
theorem k0_off206_inb : ∀ (d0 : Dev nD) (v1455 : BitVec 32) (k0_hw103 : k0_chk103 d0 v1455), ∀ a, (k0_off206 d0 v1455) a + S1x512.size a ≤ S4104x512.size a := fun d0 v1455 k0_hw103 => k0_hw103

def k0_off207 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c103_i32 : BitVec 32 := 103#32
  let v1467 : BitVec 32 := Scalar.addi v23 c103_i32
  let v1468 : Index := Scalar.indexCast v1467
  ![v1468.toNat]
def k0_off208 (d0 : Dev nD) (v1469 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1470 : BitVec 1 := Scalar.cmpi .sge v1469 v22
  let c4096_i32_431 : BitVec 32 := 4096#32
  let v1471 : BitVec 32 := Scalar.addi v22 c4096_i32_431
  let v1472 : BitVec 1 := Scalar.cmpi .slt v1469 v1471
  let v1473 : BitVec 1 := Scalar.andi v1470 v1472
  let v1474 : BitVec 32 := Scalar.subi v1469 v22
  let c4096_i32_432 : BitVec 32 := 4096#32
  let v1475 : BitVec 32 := Scalar.select v1473 v1474 c4096_i32_432
  let v1476 : Index := Scalar.indexCast v1475
  let c0_433 : Index := 0#32
  ![v1476.toNat, 0]

def k0_chk104 (d0 : Dev nD) (v1469 : BitVec 32) : Prop :=
  (∀ a, (k0_off208 d0 v1469) a + S1x512.size a ≤ S4104x512.size a)
theorem k0_off208_inb : ∀ (d0 : Dev nD) (v1469 : BitVec 32) (k0_hw104 : k0_chk104 d0 v1469), ∀ a, (k0_off208 d0 v1469) a + S1x512.size a ≤ S4104x512.size a := fun d0 v1469 k0_hw104 => k0_hw104

def k0_off209 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c104_i32 : BitVec 32 := 104#32
  let v1481 : BitVec 32 := Scalar.addi v23 c104_i32
  let v1482 : Index := Scalar.indexCast v1481
  ![v1482.toNat]
def k0_off210 (d0 : Dev nD) (v1483 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1484 : BitVec 1 := Scalar.cmpi .sge v1483 v22
  let c4096_i32_435 : BitVec 32 := 4096#32
  let v1485 : BitVec 32 := Scalar.addi v22 c4096_i32_435
  let v1486 : BitVec 1 := Scalar.cmpi .slt v1483 v1485
  let v1487 : BitVec 1 := Scalar.andi v1484 v1486
  let v1488 : BitVec 32 := Scalar.subi v1483 v22
  let c4096_i32_436 : BitVec 32 := 4096#32
  let v1489 : BitVec 32 := Scalar.select v1487 v1488 c4096_i32_436
  let v1490 : Index := Scalar.indexCast v1489
  let c0_437 : Index := 0#32
  ![v1490.toNat, 0]

def k0_chk105 (d0 : Dev nD) (v1483 : BitVec 32) : Prop :=
  (∀ a, (k0_off210 d0 v1483) a + S1x512.size a ≤ S4104x512.size a)
theorem k0_off210_inb : ∀ (d0 : Dev nD) (v1483 : BitVec 32) (k0_hw105 : k0_chk105 d0 v1483), ∀ a, (k0_off210 d0 v1483) a + S1x512.size a ≤ S4104x512.size a := fun d0 v1483 k0_hw105 => k0_hw105

def k0_off211 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c105_i32 : BitVec 32 := 105#32
  let v1495 : BitVec 32 := Scalar.addi v23 c105_i32
  let v1496 : Index := Scalar.indexCast v1495
  ![v1496.toNat]
def k0_off212 (d0 : Dev nD) (v1497 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1498 : BitVec 1 := Scalar.cmpi .sge v1497 v22
  let c4096_i32_439 : BitVec 32 := 4096#32
  let v1499 : BitVec 32 := Scalar.addi v22 c4096_i32_439
  let v1500 : BitVec 1 := Scalar.cmpi .slt v1497 v1499
  let v1501 : BitVec 1 := Scalar.andi v1498 v1500
  let v1502 : BitVec 32 := Scalar.subi v1497 v22
  let c4096_i32_440 : BitVec 32 := 4096#32
  let v1503 : BitVec 32 := Scalar.select v1501 v1502 c4096_i32_440
  let v1504 : Index := Scalar.indexCast v1503
  let c0_441 : Index := 0#32
  ![v1504.toNat, 0]

def k0_chk106 (d0 : Dev nD) (v1497 : BitVec 32) : Prop :=
  (∀ a, (k0_off212 d0 v1497) a + S1x512.size a ≤ S4104x512.size a)
theorem k0_off212_inb : ∀ (d0 : Dev nD) (v1497 : BitVec 32) (k0_hw106 : k0_chk106 d0 v1497), ∀ a, (k0_off212 d0 v1497) a + S1x512.size a ≤ S4104x512.size a := fun d0 v1497 k0_hw106 => k0_hw106

def k0_off213 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c106_i32 : BitVec 32 := 106#32
  let v1509 : BitVec 32 := Scalar.addi v23 c106_i32
  let v1510 : Index := Scalar.indexCast v1509
  ![v1510.toNat]
def k0_off214 (d0 : Dev nD) (v1511 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1512 : BitVec 1 := Scalar.cmpi .sge v1511 v22
  let c4096_i32_443 : BitVec 32 := 4096#32
  let v1513 : BitVec 32 := Scalar.addi v22 c4096_i32_443
  let v1514 : BitVec 1 := Scalar.cmpi .slt v1511 v1513
  let v1515 : BitVec 1 := Scalar.andi v1512 v1514
  let v1516 : BitVec 32 := Scalar.subi v1511 v22
  let c4096_i32_444 : BitVec 32 := 4096#32
  let v1517 : BitVec 32 := Scalar.select v1515 v1516 c4096_i32_444
  let v1518 : Index := Scalar.indexCast v1517
  let c0_445 : Index := 0#32
  ![v1518.toNat, 0]

def k0_chk107 (d0 : Dev nD) (v1511 : BitVec 32) : Prop :=
  (∀ a, (k0_off214 d0 v1511) a + S1x512.size a ≤ S4104x512.size a)
theorem k0_off214_inb : ∀ (d0 : Dev nD) (v1511 : BitVec 32) (k0_hw107 : k0_chk107 d0 v1511), ∀ a, (k0_off214 d0 v1511) a + S1x512.size a ≤ S4104x512.size a := fun d0 v1511 k0_hw107 => k0_hw107

def k0_off215 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c107_i32 : BitVec 32 := 107#32
  let v1523 : BitVec 32 := Scalar.addi v23 c107_i32
  let v1524 : Index := Scalar.indexCast v1523
  ![v1524.toNat]
def k0_off216 (d0 : Dev nD) (v1525 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1526 : BitVec 1 := Scalar.cmpi .sge v1525 v22
  let c4096_i32_447 : BitVec 32 := 4096#32
  let v1527 : BitVec 32 := Scalar.addi v22 c4096_i32_447
  let v1528 : BitVec 1 := Scalar.cmpi .slt v1525 v1527
  let v1529 : BitVec 1 := Scalar.andi v1526 v1528
  let v1530 : BitVec 32 := Scalar.subi v1525 v22
  let c4096_i32_448 : BitVec 32 := 4096#32
  let v1531 : BitVec 32 := Scalar.select v1529 v1530 c4096_i32_448
  let v1532 : Index := Scalar.indexCast v1531
  let c0_449 : Index := 0#32
  ![v1532.toNat, 0]

def k0_chk108 (d0 : Dev nD) (v1525 : BitVec 32) : Prop :=
  (∀ a, (k0_off216 d0 v1525) a + S1x512.size a ≤ S4104x512.size a)
theorem k0_off216_inb : ∀ (d0 : Dev nD) (v1525 : BitVec 32) (k0_hw108 : k0_chk108 d0 v1525), ∀ a, (k0_off216 d0 v1525) a + S1x512.size a ≤ S4104x512.size a := fun d0 v1525 k0_hw108 => k0_hw108

def k0_off217 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c108_i32 : BitVec 32 := 108#32
  let v1537 : BitVec 32 := Scalar.addi v23 c108_i32
  let v1538 : Index := Scalar.indexCast v1537
  ![v1538.toNat]
def k0_off218 (d0 : Dev nD) (v1539 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1540 : BitVec 1 := Scalar.cmpi .sge v1539 v22
  let c4096_i32_451 : BitVec 32 := 4096#32
  let v1541 : BitVec 32 := Scalar.addi v22 c4096_i32_451
  let v1542 : BitVec 1 := Scalar.cmpi .slt v1539 v1541
  let v1543 : BitVec 1 := Scalar.andi v1540 v1542
  let v1544 : BitVec 32 := Scalar.subi v1539 v22
  let c4096_i32_452 : BitVec 32 := 4096#32
  let v1545 : BitVec 32 := Scalar.select v1543 v1544 c4096_i32_452
  let v1546 : Index := Scalar.indexCast v1545
  let c0_453 : Index := 0#32
  ![v1546.toNat, 0]

def k0_chk109 (d0 : Dev nD) (v1539 : BitVec 32) : Prop :=
  (∀ a, (k0_off218 d0 v1539) a + S1x512.size a ≤ S4104x512.size a)
theorem k0_off218_inb : ∀ (d0 : Dev nD) (v1539 : BitVec 32) (k0_hw109 : k0_chk109 d0 v1539), ∀ a, (k0_off218 d0 v1539) a + S1x512.size a ≤ S4104x512.size a := fun d0 v1539 k0_hw109 => k0_hw109

def k0_off219 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c109_i32 : BitVec 32 := 109#32
  let v1551 : BitVec 32 := Scalar.addi v23 c109_i32
  let v1552 : Index := Scalar.indexCast v1551
  ![v1552.toNat]
def k0_off220 (d0 : Dev nD) (v1553 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1554 : BitVec 1 := Scalar.cmpi .sge v1553 v22
  let c4096_i32_455 : BitVec 32 := 4096#32
  let v1555 : BitVec 32 := Scalar.addi v22 c4096_i32_455
  let v1556 : BitVec 1 := Scalar.cmpi .slt v1553 v1555
  let v1557 : BitVec 1 := Scalar.andi v1554 v1556
  let v1558 : BitVec 32 := Scalar.subi v1553 v22
  let c4096_i32_456 : BitVec 32 := 4096#32
  let v1559 : BitVec 32 := Scalar.select v1557 v1558 c4096_i32_456
  let v1560 : Index := Scalar.indexCast v1559
  let c0_457 : Index := 0#32
  ![v1560.toNat, 0]

def k0_chk110 (d0 : Dev nD) (v1553 : BitVec 32) : Prop :=
  (∀ a, (k0_off220 d0 v1553) a + S1x512.size a ≤ S4104x512.size a)
theorem k0_off220_inb : ∀ (d0 : Dev nD) (v1553 : BitVec 32) (k0_hw110 : k0_chk110 d0 v1553), ∀ a, (k0_off220 d0 v1553) a + S1x512.size a ≤ S4104x512.size a := fun d0 v1553 k0_hw110 => k0_hw110

def k0_off221 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c110_i32 : BitVec 32 := 110#32
  let v1565 : BitVec 32 := Scalar.addi v23 c110_i32
  let v1566 : Index := Scalar.indexCast v1565
  ![v1566.toNat]
def k0_off222 (d0 : Dev nD) (v1567 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1568 : BitVec 1 := Scalar.cmpi .sge v1567 v22
  let c4096_i32_459 : BitVec 32 := 4096#32
  let v1569 : BitVec 32 := Scalar.addi v22 c4096_i32_459
  let v1570 : BitVec 1 := Scalar.cmpi .slt v1567 v1569
  let v1571 : BitVec 1 := Scalar.andi v1568 v1570
  let v1572 : BitVec 32 := Scalar.subi v1567 v22
  let c4096_i32_460 : BitVec 32 := 4096#32
  let v1573 : BitVec 32 := Scalar.select v1571 v1572 c4096_i32_460
  let v1574 : Index := Scalar.indexCast v1573
  let c0_461 : Index := 0#32
  ![v1574.toNat, 0]

def k0_chk111 (d0 : Dev nD) (v1567 : BitVec 32) : Prop :=
  (∀ a, (k0_off222 d0 v1567) a + S1x512.size a ≤ S4104x512.size a)
theorem k0_off222_inb : ∀ (d0 : Dev nD) (v1567 : BitVec 32) (k0_hw111 : k0_chk111 d0 v1567), ∀ a, (k0_off222 d0 v1567) a + S1x512.size a ≤ S4104x512.size a := fun d0 v1567 k0_hw111 => k0_hw111

def k0_off223 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c111_i32 : BitVec 32 := 111#32
  let v1579 : BitVec 32 := Scalar.addi v23 c111_i32
  let v1580 : Index := Scalar.indexCast v1579
  ![v1580.toNat]
def k0_off224 (d0 : Dev nD) (v1581 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1582 : BitVec 1 := Scalar.cmpi .sge v1581 v22
  let c4096_i32_463 : BitVec 32 := 4096#32
  let v1583 : BitVec 32 := Scalar.addi v22 c4096_i32_463
  let v1584 : BitVec 1 := Scalar.cmpi .slt v1581 v1583
  let v1585 : BitVec 1 := Scalar.andi v1582 v1584
  let v1586 : BitVec 32 := Scalar.subi v1581 v22
  let c4096_i32_464 : BitVec 32 := 4096#32
  let v1587 : BitVec 32 := Scalar.select v1585 v1586 c4096_i32_464
  let v1588 : Index := Scalar.indexCast v1587
  let c0_465 : Index := 0#32
  ![v1588.toNat, 0]

def k0_chk112 (d0 : Dev nD) (v1581 : BitVec 32) : Prop :=
  (∀ a, (k0_off224 d0 v1581) a + S1x512.size a ≤ S4104x512.size a)
theorem k0_off224_inb : ∀ (d0 : Dev nD) (v1581 : BitVec 32) (k0_hw112 : k0_chk112 d0 v1581), ∀ a, (k0_off224 d0 v1581) a + S1x512.size a ≤ S4104x512.size a := fun d0 v1581 k0_hw112 => k0_hw112

def k0_off225 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c112_i32 : BitVec 32 := 112#32
  let v1593 : BitVec 32 := Scalar.addi v23 c112_i32
  let v1594 : Index := Scalar.indexCast v1593
  ![v1594.toNat]
def k0_off226 (d0 : Dev nD) (v1595 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1596 : BitVec 1 := Scalar.cmpi .sge v1595 v22
  let c4096_i32_467 : BitVec 32 := 4096#32
  let v1597 : BitVec 32 := Scalar.addi v22 c4096_i32_467
  let v1598 : BitVec 1 := Scalar.cmpi .slt v1595 v1597
  let v1599 : BitVec 1 := Scalar.andi v1596 v1598
  let v1600 : BitVec 32 := Scalar.subi v1595 v22
  let c4096_i32_468 : BitVec 32 := 4096#32
  let v1601 : BitVec 32 := Scalar.select v1599 v1600 c4096_i32_468
  let v1602 : Index := Scalar.indexCast v1601
  let c0_469 : Index := 0#32
  ![v1602.toNat, 0]

def k0_chk113 (d0 : Dev nD) (v1595 : BitVec 32) : Prop :=
  (∀ a, (k0_off226 d0 v1595) a + S1x512.size a ≤ S4104x512.size a)
theorem k0_off226_inb : ∀ (d0 : Dev nD) (v1595 : BitVec 32) (k0_hw113 : k0_chk113 d0 v1595), ∀ a, (k0_off226 d0 v1595) a + S1x512.size a ≤ S4104x512.size a := fun d0 v1595 k0_hw113 => k0_hw113

def k0_off227 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c113_i32 : BitVec 32 := 113#32
  let v1607 : BitVec 32 := Scalar.addi v23 c113_i32
  let v1608 : Index := Scalar.indexCast v1607
  ![v1608.toNat]
def k0_off228 (d0 : Dev nD) (v1609 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1610 : BitVec 1 := Scalar.cmpi .sge v1609 v22
  let c4096_i32_471 : BitVec 32 := 4096#32
  let v1611 : BitVec 32 := Scalar.addi v22 c4096_i32_471
  let v1612 : BitVec 1 := Scalar.cmpi .slt v1609 v1611
  let v1613 : BitVec 1 := Scalar.andi v1610 v1612
  let v1614 : BitVec 32 := Scalar.subi v1609 v22
  let c4096_i32_472 : BitVec 32 := 4096#32
  let v1615 : BitVec 32 := Scalar.select v1613 v1614 c4096_i32_472
  let v1616 : Index := Scalar.indexCast v1615
  let c0_473 : Index := 0#32
  ![v1616.toNat, 0]

def k0_chk114 (d0 : Dev nD) (v1609 : BitVec 32) : Prop :=
  (∀ a, (k0_off228 d0 v1609) a + S1x512.size a ≤ S4104x512.size a)
theorem k0_off228_inb : ∀ (d0 : Dev nD) (v1609 : BitVec 32) (k0_hw114 : k0_chk114 d0 v1609), ∀ a, (k0_off228 d0 v1609) a + S1x512.size a ≤ S4104x512.size a := fun d0 v1609 k0_hw114 => k0_hw114

def k0_off229 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c114_i32 : BitVec 32 := 114#32
  let v1621 : BitVec 32 := Scalar.addi v23 c114_i32
  let v1622 : Index := Scalar.indexCast v1621
  ![v1622.toNat]
def k0_off230 (d0 : Dev nD) (v1623 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1624 : BitVec 1 := Scalar.cmpi .sge v1623 v22
  let c4096_i32_475 : BitVec 32 := 4096#32
  let v1625 : BitVec 32 := Scalar.addi v22 c4096_i32_475
  let v1626 : BitVec 1 := Scalar.cmpi .slt v1623 v1625
  let v1627 : BitVec 1 := Scalar.andi v1624 v1626
  let v1628 : BitVec 32 := Scalar.subi v1623 v22
  let c4096_i32_476 : BitVec 32 := 4096#32
  let v1629 : BitVec 32 := Scalar.select v1627 v1628 c4096_i32_476
  let v1630 : Index := Scalar.indexCast v1629
  let c0_477 : Index := 0#32
  ![v1630.toNat, 0]

def k0_chk115 (d0 : Dev nD) (v1623 : BitVec 32) : Prop :=
  (∀ a, (k0_off230 d0 v1623) a + S1x512.size a ≤ S4104x512.size a)
theorem k0_off230_inb : ∀ (d0 : Dev nD) (v1623 : BitVec 32) (k0_hw115 : k0_chk115 d0 v1623), ∀ a, (k0_off230 d0 v1623) a + S1x512.size a ≤ S4104x512.size a := fun d0 v1623 k0_hw115 => k0_hw115

def k0_off231 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c115_i32 : BitVec 32 := 115#32
  let v1635 : BitVec 32 := Scalar.addi v23 c115_i32
  let v1636 : Index := Scalar.indexCast v1635
  ![v1636.toNat]
def k0_off232 (d0 : Dev nD) (v1637 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1638 : BitVec 1 := Scalar.cmpi .sge v1637 v22
  let c4096_i32_479 : BitVec 32 := 4096#32
  let v1639 : BitVec 32 := Scalar.addi v22 c4096_i32_479
  let v1640 : BitVec 1 := Scalar.cmpi .slt v1637 v1639
  let v1641 : BitVec 1 := Scalar.andi v1638 v1640
  let v1642 : BitVec 32 := Scalar.subi v1637 v22
  let c4096_i32_480 : BitVec 32 := 4096#32
  let v1643 : BitVec 32 := Scalar.select v1641 v1642 c4096_i32_480
  let v1644 : Index := Scalar.indexCast v1643
  let c0_481 : Index := 0#32
  ![v1644.toNat, 0]

def k0_chk116 (d0 : Dev nD) (v1637 : BitVec 32) : Prop :=
  (∀ a, (k0_off232 d0 v1637) a + S1x512.size a ≤ S4104x512.size a)
theorem k0_off232_inb : ∀ (d0 : Dev nD) (v1637 : BitVec 32) (k0_hw116 : k0_chk116 d0 v1637), ∀ a, (k0_off232 d0 v1637) a + S1x512.size a ≤ S4104x512.size a := fun d0 v1637 k0_hw116 => k0_hw116

def k0_off233 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c116_i32 : BitVec 32 := 116#32
  let v1649 : BitVec 32 := Scalar.addi v23 c116_i32
  let v1650 : Index := Scalar.indexCast v1649
  ![v1650.toNat]
def k0_off234 (d0 : Dev nD) (v1651 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1652 : BitVec 1 := Scalar.cmpi .sge v1651 v22
  let c4096_i32_483 : BitVec 32 := 4096#32
  let v1653 : BitVec 32 := Scalar.addi v22 c4096_i32_483
  let v1654 : BitVec 1 := Scalar.cmpi .slt v1651 v1653
  let v1655 : BitVec 1 := Scalar.andi v1652 v1654
  let v1656 : BitVec 32 := Scalar.subi v1651 v22
  let c4096_i32_484 : BitVec 32 := 4096#32
  let v1657 : BitVec 32 := Scalar.select v1655 v1656 c4096_i32_484
  let v1658 : Index := Scalar.indexCast v1657
  let c0_485 : Index := 0#32
  ![v1658.toNat, 0]

def k0_chk117 (d0 : Dev nD) (v1651 : BitVec 32) : Prop :=
  (∀ a, (k0_off234 d0 v1651) a + S1x512.size a ≤ S4104x512.size a)
theorem k0_off234_inb : ∀ (d0 : Dev nD) (v1651 : BitVec 32) (k0_hw117 : k0_chk117 d0 v1651), ∀ a, (k0_off234 d0 v1651) a + S1x512.size a ≤ S4104x512.size a := fun d0 v1651 k0_hw117 => k0_hw117

def k0_off235 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c117_i32 : BitVec 32 := 117#32
  let v1663 : BitVec 32 := Scalar.addi v23 c117_i32
  let v1664 : Index := Scalar.indexCast v1663
  ![v1664.toNat]
def k0_off236 (d0 : Dev nD) (v1665 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1666 : BitVec 1 := Scalar.cmpi .sge v1665 v22
  let c4096_i32_487 : BitVec 32 := 4096#32
  let v1667 : BitVec 32 := Scalar.addi v22 c4096_i32_487
  let v1668 : BitVec 1 := Scalar.cmpi .slt v1665 v1667
  let v1669 : BitVec 1 := Scalar.andi v1666 v1668
  let v1670 : BitVec 32 := Scalar.subi v1665 v22
  let c4096_i32_488 : BitVec 32 := 4096#32
  let v1671 : BitVec 32 := Scalar.select v1669 v1670 c4096_i32_488
  let v1672 : Index := Scalar.indexCast v1671
  let c0_489 : Index := 0#32
  ![v1672.toNat, 0]

def k0_chk118 (d0 : Dev nD) (v1665 : BitVec 32) : Prop :=
  (∀ a, (k0_off236 d0 v1665) a + S1x512.size a ≤ S4104x512.size a)
theorem k0_off236_inb : ∀ (d0 : Dev nD) (v1665 : BitVec 32) (k0_hw118 : k0_chk118 d0 v1665), ∀ a, (k0_off236 d0 v1665) a + S1x512.size a ≤ S4104x512.size a := fun d0 v1665 k0_hw118 => k0_hw118

def k0_off237 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c118_i32 : BitVec 32 := 118#32
  let v1677 : BitVec 32 := Scalar.addi v23 c118_i32
  let v1678 : Index := Scalar.indexCast v1677
  ![v1678.toNat]
def k0_off238 (d0 : Dev nD) (v1679 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1680 : BitVec 1 := Scalar.cmpi .sge v1679 v22
  let c4096_i32_491 : BitVec 32 := 4096#32
  let v1681 : BitVec 32 := Scalar.addi v22 c4096_i32_491
  let v1682 : BitVec 1 := Scalar.cmpi .slt v1679 v1681
  let v1683 : BitVec 1 := Scalar.andi v1680 v1682
  let v1684 : BitVec 32 := Scalar.subi v1679 v22
  let c4096_i32_492 : BitVec 32 := 4096#32
  let v1685 : BitVec 32 := Scalar.select v1683 v1684 c4096_i32_492
  let v1686 : Index := Scalar.indexCast v1685
  let c0_493 : Index := 0#32
  ![v1686.toNat, 0]

def k0_chk119 (d0 : Dev nD) (v1679 : BitVec 32) : Prop :=
  (∀ a, (k0_off238 d0 v1679) a + S1x512.size a ≤ S4104x512.size a)
theorem k0_off238_inb : ∀ (d0 : Dev nD) (v1679 : BitVec 32) (k0_hw119 : k0_chk119 d0 v1679), ∀ a, (k0_off238 d0 v1679) a + S1x512.size a ≤ S4104x512.size a := fun d0 v1679 k0_hw119 => k0_hw119

def k0_off239 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c119_i32 : BitVec 32 := 119#32
  let v1691 : BitVec 32 := Scalar.addi v23 c119_i32
  let v1692 : Index := Scalar.indexCast v1691
  ![v1692.toNat]
def k0_off240 (d0 : Dev nD) (v1693 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1694 : BitVec 1 := Scalar.cmpi .sge v1693 v22
  let c4096_i32_495 : BitVec 32 := 4096#32
  let v1695 : BitVec 32 := Scalar.addi v22 c4096_i32_495
  let v1696 : BitVec 1 := Scalar.cmpi .slt v1693 v1695
  let v1697 : BitVec 1 := Scalar.andi v1694 v1696
  let v1698 : BitVec 32 := Scalar.subi v1693 v22
  let c4096_i32_496 : BitVec 32 := 4096#32
  let v1699 : BitVec 32 := Scalar.select v1697 v1698 c4096_i32_496
  let v1700 : Index := Scalar.indexCast v1699
  let c0_497 : Index := 0#32
  ![v1700.toNat, 0]

def k0_chk120 (d0 : Dev nD) (v1693 : BitVec 32) : Prop :=
  (∀ a, (k0_off240 d0 v1693) a + S1x512.size a ≤ S4104x512.size a)
theorem k0_off240_inb : ∀ (d0 : Dev nD) (v1693 : BitVec 32) (k0_hw120 : k0_chk120 d0 v1693), ∀ a, (k0_off240 d0 v1693) a + S1x512.size a ≤ S4104x512.size a := fun d0 v1693 k0_hw120 => k0_hw120

def k0_off241 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c120_i32 : BitVec 32 := 120#32
  let v1705 : BitVec 32 := Scalar.addi v23 c120_i32
  let v1706 : Index := Scalar.indexCast v1705
  ![v1706.toNat]
def k0_off242 (d0 : Dev nD) (v1707 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1708 : BitVec 1 := Scalar.cmpi .sge v1707 v22
  let c4096_i32_499 : BitVec 32 := 4096#32
  let v1709 : BitVec 32 := Scalar.addi v22 c4096_i32_499
  let v1710 : BitVec 1 := Scalar.cmpi .slt v1707 v1709
  let v1711 : BitVec 1 := Scalar.andi v1708 v1710
  let v1712 : BitVec 32 := Scalar.subi v1707 v22
  let c4096_i32_500 : BitVec 32 := 4096#32
  let v1713 : BitVec 32 := Scalar.select v1711 v1712 c4096_i32_500
  let v1714 : Index := Scalar.indexCast v1713
  let c0_501 : Index := 0#32
  ![v1714.toNat, 0]

def k0_chk121 (d0 : Dev nD) (v1707 : BitVec 32) : Prop :=
  (∀ a, (k0_off242 d0 v1707) a + S1x512.size a ≤ S4104x512.size a)
theorem k0_off242_inb : ∀ (d0 : Dev nD) (v1707 : BitVec 32) (k0_hw121 : k0_chk121 d0 v1707), ∀ a, (k0_off242 d0 v1707) a + S1x512.size a ≤ S4104x512.size a := fun d0 v1707 k0_hw121 => k0_hw121

def k0_off243 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c121_i32 : BitVec 32 := 121#32
  let v1719 : BitVec 32 := Scalar.addi v23 c121_i32
  let v1720 : Index := Scalar.indexCast v1719
  ![v1720.toNat]
def k0_off244 (d0 : Dev nD) (v1721 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1722 : BitVec 1 := Scalar.cmpi .sge v1721 v22
  let c4096_i32_503 : BitVec 32 := 4096#32
  let v1723 : BitVec 32 := Scalar.addi v22 c4096_i32_503
  let v1724 : BitVec 1 := Scalar.cmpi .slt v1721 v1723
  let v1725 : BitVec 1 := Scalar.andi v1722 v1724
  let v1726 : BitVec 32 := Scalar.subi v1721 v22
  let c4096_i32_504 : BitVec 32 := 4096#32
  let v1727 : BitVec 32 := Scalar.select v1725 v1726 c4096_i32_504
  let v1728 : Index := Scalar.indexCast v1727
  let c0_505 : Index := 0#32
  ![v1728.toNat, 0]

def k0_chk122 (d0 : Dev nD) (v1721 : BitVec 32) : Prop :=
  (∀ a, (k0_off244 d0 v1721) a + S1x512.size a ≤ S4104x512.size a)
theorem k0_off244_inb : ∀ (d0 : Dev nD) (v1721 : BitVec 32) (k0_hw122 : k0_chk122 d0 v1721), ∀ a, (k0_off244 d0 v1721) a + S1x512.size a ≤ S4104x512.size a := fun d0 v1721 k0_hw122 => k0_hw122

def k0_off245 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c122_i32 : BitVec 32 := 122#32
  let v1733 : BitVec 32 := Scalar.addi v23 c122_i32
  let v1734 : Index := Scalar.indexCast v1733
  ![v1734.toNat]
def k0_off246 (d0 : Dev nD) (v1735 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1736 : BitVec 1 := Scalar.cmpi .sge v1735 v22
  let c4096_i32_507 : BitVec 32 := 4096#32
  let v1737 : BitVec 32 := Scalar.addi v22 c4096_i32_507
  let v1738 : BitVec 1 := Scalar.cmpi .slt v1735 v1737
  let v1739 : BitVec 1 := Scalar.andi v1736 v1738
  let v1740 : BitVec 32 := Scalar.subi v1735 v22
  let c4096_i32_508 : BitVec 32 := 4096#32
  let v1741 : BitVec 32 := Scalar.select v1739 v1740 c4096_i32_508
  let v1742 : Index := Scalar.indexCast v1741
  let c0_509 : Index := 0#32
  ![v1742.toNat, 0]

def k0_chk123 (d0 : Dev nD) (v1735 : BitVec 32) : Prop :=
  (∀ a, (k0_off246 d0 v1735) a + S1x512.size a ≤ S4104x512.size a)
theorem k0_off246_inb : ∀ (d0 : Dev nD) (v1735 : BitVec 32) (k0_hw123 : k0_chk123 d0 v1735), ∀ a, (k0_off246 d0 v1735) a + S1x512.size a ≤ S4104x512.size a := fun d0 v1735 k0_hw123 => k0_hw123

def k0_off247 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c123_i32 : BitVec 32 := 123#32
  let v1747 : BitVec 32 := Scalar.addi v23 c123_i32
  let v1748 : Index := Scalar.indexCast v1747
  ![v1748.toNat]
def k0_off248 (d0 : Dev nD) (v1749 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1750 : BitVec 1 := Scalar.cmpi .sge v1749 v22
  let c4096_i32_511 : BitVec 32 := 4096#32
  let v1751 : BitVec 32 := Scalar.addi v22 c4096_i32_511
  let v1752 : BitVec 1 := Scalar.cmpi .slt v1749 v1751
  let v1753 : BitVec 1 := Scalar.andi v1750 v1752
  let v1754 : BitVec 32 := Scalar.subi v1749 v22
  let c4096_i32_512 : BitVec 32 := 4096#32
  let v1755 : BitVec 32 := Scalar.select v1753 v1754 c4096_i32_512
  let v1756 : Index := Scalar.indexCast v1755
  let c0_513 : Index := 0#32
  ![v1756.toNat, 0]

def k0_chk124 (d0 : Dev nD) (v1749 : BitVec 32) : Prop :=
  (∀ a, (k0_off248 d0 v1749) a + S1x512.size a ≤ S4104x512.size a)
theorem k0_off248_inb : ∀ (d0 : Dev nD) (v1749 : BitVec 32) (k0_hw124 : k0_chk124 d0 v1749), ∀ a, (k0_off248 d0 v1749) a + S1x512.size a ≤ S4104x512.size a := fun d0 v1749 k0_hw124 => k0_hw124

def k0_off249 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c124_i32 : BitVec 32 := 124#32
  let v1761 : BitVec 32 := Scalar.addi v23 c124_i32
  let v1762 : Index := Scalar.indexCast v1761
  ![v1762.toNat]
def k0_off250 (d0 : Dev nD) (v1763 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1764 : BitVec 1 := Scalar.cmpi .sge v1763 v22
  let c4096_i32_515 : BitVec 32 := 4096#32
  let v1765 : BitVec 32 := Scalar.addi v22 c4096_i32_515
  let v1766 : BitVec 1 := Scalar.cmpi .slt v1763 v1765
  let v1767 : BitVec 1 := Scalar.andi v1764 v1766
  let v1768 : BitVec 32 := Scalar.subi v1763 v22
  let c4096_i32_516 : BitVec 32 := 4096#32
  let v1769 : BitVec 32 := Scalar.select v1767 v1768 c4096_i32_516
  let v1770 : Index := Scalar.indexCast v1769
  let c0_517 : Index := 0#32
  ![v1770.toNat, 0]

def k0_chk125 (d0 : Dev nD) (v1763 : BitVec 32) : Prop :=
  (∀ a, (k0_off250 d0 v1763) a + S1x512.size a ≤ S4104x512.size a)
theorem k0_off250_inb : ∀ (d0 : Dev nD) (v1763 : BitVec 32) (k0_hw125 : k0_chk125 d0 v1763), ∀ a, (k0_off250 d0 v1763) a + S1x512.size a ≤ S4104x512.size a := fun d0 v1763 k0_hw125 => k0_hw125

def k0_off251 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c125_i32 : BitVec 32 := 125#32
  let v1775 : BitVec 32 := Scalar.addi v23 c125_i32
  let v1776 : Index := Scalar.indexCast v1775
  ![v1776.toNat]
def k0_off252 (d0 : Dev nD) (v1777 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1778 : BitVec 1 := Scalar.cmpi .sge v1777 v22
  let c4096_i32_519 : BitVec 32 := 4096#32
  let v1779 : BitVec 32 := Scalar.addi v22 c4096_i32_519
  let v1780 : BitVec 1 := Scalar.cmpi .slt v1777 v1779
  let v1781 : BitVec 1 := Scalar.andi v1778 v1780
  let v1782 : BitVec 32 := Scalar.subi v1777 v22
  let c4096_i32_520 : BitVec 32 := 4096#32
  let v1783 : BitVec 32 := Scalar.select v1781 v1782 c4096_i32_520
  let v1784 : Index := Scalar.indexCast v1783
  let c0_521 : Index := 0#32
  ![v1784.toNat, 0]

def k0_chk126 (d0 : Dev nD) (v1777 : BitVec 32) : Prop :=
  (∀ a, (k0_off252 d0 v1777) a + S1x512.size a ≤ S4104x512.size a)
theorem k0_off252_inb : ∀ (d0 : Dev nD) (v1777 : BitVec 32) (k0_hw126 : k0_chk126 d0 v1777), ∀ a, (k0_off252 d0 v1777) a + S1x512.size a ≤ S4104x512.size a := fun d0 v1777 k0_hw126 => k0_hw126

def k0_off253 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c126_i32 : BitVec 32 := 126#32
  let v1789 : BitVec 32 := Scalar.addi v23 c126_i32
  let v1790 : Index := Scalar.indexCast v1789
  ![v1790.toNat]
def k0_off254 (d0 : Dev nD) (v1791 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1792 : BitVec 1 := Scalar.cmpi .sge v1791 v22
  let c4096_i32_523 : BitVec 32 := 4096#32
  let v1793 : BitVec 32 := Scalar.addi v22 c4096_i32_523
  let v1794 : BitVec 1 := Scalar.cmpi .slt v1791 v1793
  let v1795 : BitVec 1 := Scalar.andi v1792 v1794
  let v1796 : BitVec 32 := Scalar.subi v1791 v22
  let c4096_i32_524 : BitVec 32 := 4096#32
  let v1797 : BitVec 32 := Scalar.select v1795 v1796 c4096_i32_524
  let v1798 : Index := Scalar.indexCast v1797
  let c0_525 : Index := 0#32
  ![v1798.toNat, 0]

def k0_chk127 (d0 : Dev nD) (v1791 : BitVec 32) : Prop :=
  (∀ a, (k0_off254 d0 v1791) a + S1x512.size a ≤ S4104x512.size a)
theorem k0_off254_inb : ∀ (d0 : Dev nD) (v1791 : BitVec 32) (k0_hw127 : k0_chk127 d0 v1791), ∀ a, (k0_off254 d0 v1791) a + S1x512.size a ≤ S4104x512.size a := fun d0 v1791 k0_hw127 => k0_hw127

def k0_off255 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c127_i32 : BitVec 32 := 127#32
  let v1803 : BitVec 32 := Scalar.addi v23 c127_i32
  let v1804 : Index := Scalar.indexCast v1803
  ![v1804.toNat]
def k0_off256 (d0 : Dev nD) (v1805 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1806 : BitVec 1 := Scalar.cmpi .sge v1805 v22
  let c4096_i32_527 : BitVec 32 := 4096#32
  let v1807 : BitVec 32 := Scalar.addi v22 c4096_i32_527
  let v1808 : BitVec 1 := Scalar.cmpi .slt v1805 v1807
  let v1809 : BitVec 1 := Scalar.andi v1806 v1808
  let v1810 : BitVec 32 := Scalar.subi v1805 v22
  let c4096_i32_528 : BitVec 32 := 4096#32
  let v1811 : BitVec 32 := Scalar.select v1809 v1810 c4096_i32_528
  let v1812 : Index := Scalar.indexCast v1811
  let c0_529 : Index := 0#32
  ![v1812.toNat, 0]

def k0_chk128 (d0 : Dev nD) (v1805 : BitVec 32) : Prop :=
  (∀ a, (k0_off256 d0 v1805) a + S1x512.size a ≤ S4104x512.size a)
theorem k0_off256_inb : ∀ (d0 : Dev nD) (v1805 : BitVec 32) (k0_hw128 : k0_chk128 d0 v1805), ∀ a, (k0_off256 d0 v1805) a + S1x512.size a ≤ S4104x512.size a := fun d0 v1805 k0_hw128 => k0_hw128

def k0_off257 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c128_i32 : BitVec 32 := 128#32
  let v1817 : BitVec 32 := Scalar.addi v23 c128_i32
  let v1818 : Index := Scalar.indexCast v1817
  ![v1818.toNat]
def k0_off258 (d0 : Dev nD) (v1819 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1820 : BitVec 1 := Scalar.cmpi .sge v1819 v22
  let c4096_i32_531 : BitVec 32 := 4096#32
  let v1821 : BitVec 32 := Scalar.addi v22 c4096_i32_531
  let v1822 : BitVec 1 := Scalar.cmpi .slt v1819 v1821
  let v1823 : BitVec 1 := Scalar.andi v1820 v1822
  let v1824 : BitVec 32 := Scalar.subi v1819 v22
  let c4096_i32_532 : BitVec 32 := 4096#32
  let v1825 : BitVec 32 := Scalar.select v1823 v1824 c4096_i32_532
  let v1826 : Index := Scalar.indexCast v1825
  let c0_533 : Index := 0#32
  ![v1826.toNat, 0]

def k0_chk129 (d0 : Dev nD) (v1819 : BitVec 32) : Prop :=
  (∀ a, (k0_off258 d0 v1819) a + S1x512.size a ≤ S4104x512.size a)
theorem k0_off258_inb : ∀ (d0 : Dev nD) (v1819 : BitVec 32) (k0_hw129 : k0_chk129 d0 v1819), ∀ a, (k0_off258 d0 v1819) a + S1x512.size a ≤ S4104x512.size a := fun d0 v1819 k0_hw129 => k0_hw129

def k0_off259 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c129_i32 : BitVec 32 := 129#32
  let v1831 : BitVec 32 := Scalar.addi v23 c129_i32
  let v1832 : Index := Scalar.indexCast v1831
  ![v1832.toNat]
def k0_off260 (d0 : Dev nD) (v1833 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1834 : BitVec 1 := Scalar.cmpi .sge v1833 v22
  let c4096_i32_535 : BitVec 32 := 4096#32
  let v1835 : BitVec 32 := Scalar.addi v22 c4096_i32_535
  let v1836 : BitVec 1 := Scalar.cmpi .slt v1833 v1835
  let v1837 : BitVec 1 := Scalar.andi v1834 v1836
  let v1838 : BitVec 32 := Scalar.subi v1833 v22
  let c4096_i32_536 : BitVec 32 := 4096#32
  let v1839 : BitVec 32 := Scalar.select v1837 v1838 c4096_i32_536
  let v1840 : Index := Scalar.indexCast v1839
  let c0_537 : Index := 0#32
  ![v1840.toNat, 0]

def k0_chk130 (d0 : Dev nD) (v1833 : BitVec 32) : Prop :=
  (∀ a, (k0_off260 d0 v1833) a + S1x512.size a ≤ S4104x512.size a)
theorem k0_off260_inb : ∀ (d0 : Dev nD) (v1833 : BitVec 32) (k0_hw130 : k0_chk130 d0 v1833), ∀ a, (k0_off260 d0 v1833) a + S1x512.size a ≤ S4104x512.size a := fun d0 v1833 k0_hw130 => k0_hw130

def k0_off261 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c130_i32 : BitVec 32 := 130#32
  let v1845 : BitVec 32 := Scalar.addi v23 c130_i32
  let v1846 : Index := Scalar.indexCast v1845
  ![v1846.toNat]
def k0_off262 (d0 : Dev nD) (v1847 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1848 : BitVec 1 := Scalar.cmpi .sge v1847 v22
  let c4096_i32_539 : BitVec 32 := 4096#32
  let v1849 : BitVec 32 := Scalar.addi v22 c4096_i32_539
  let v1850 : BitVec 1 := Scalar.cmpi .slt v1847 v1849
  let v1851 : BitVec 1 := Scalar.andi v1848 v1850
  let v1852 : BitVec 32 := Scalar.subi v1847 v22
  let c4096_i32_540 : BitVec 32 := 4096#32
  let v1853 : BitVec 32 := Scalar.select v1851 v1852 c4096_i32_540
  let v1854 : Index := Scalar.indexCast v1853
  let c0_541 : Index := 0#32
  ![v1854.toNat, 0]

def k0_chk131 (d0 : Dev nD) (v1847 : BitVec 32) : Prop :=
  (∀ a, (k0_off262 d0 v1847) a + S1x512.size a ≤ S4104x512.size a)
theorem k0_off262_inb : ∀ (d0 : Dev nD) (v1847 : BitVec 32) (k0_hw131 : k0_chk131 d0 v1847), ∀ a, (k0_off262 d0 v1847) a + S1x512.size a ≤ S4104x512.size a := fun d0 v1847 k0_hw131 => k0_hw131

def k0_off263 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c131_i32 : BitVec 32 := 131#32
  let v1859 : BitVec 32 := Scalar.addi v23 c131_i32
  let v1860 : Index := Scalar.indexCast v1859
  ![v1860.toNat]
def k0_off264 (d0 : Dev nD) (v1861 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1862 : BitVec 1 := Scalar.cmpi .sge v1861 v22
  let c4096_i32_543 : BitVec 32 := 4096#32
  let v1863 : BitVec 32 := Scalar.addi v22 c4096_i32_543
  let v1864 : BitVec 1 := Scalar.cmpi .slt v1861 v1863
  let v1865 : BitVec 1 := Scalar.andi v1862 v1864
  let v1866 : BitVec 32 := Scalar.subi v1861 v22
  let c4096_i32_544 : BitVec 32 := 4096#32
  let v1867 : BitVec 32 := Scalar.select v1865 v1866 c4096_i32_544
  let v1868 : Index := Scalar.indexCast v1867
  let c0_545 : Index := 0#32
  ![v1868.toNat, 0]

def k0_chk132 (d0 : Dev nD) (v1861 : BitVec 32) : Prop :=
  (∀ a, (k0_off264 d0 v1861) a + S1x512.size a ≤ S4104x512.size a)
theorem k0_off264_inb : ∀ (d0 : Dev nD) (v1861 : BitVec 32) (k0_hw132 : k0_chk132 d0 v1861), ∀ a, (k0_off264 d0 v1861) a + S1x512.size a ≤ S4104x512.size a := fun d0 v1861 k0_hw132 => k0_hw132

def k0_off265 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c132_i32 : BitVec 32 := 132#32
  let v1873 : BitVec 32 := Scalar.addi v23 c132_i32
  let v1874 : Index := Scalar.indexCast v1873
  ![v1874.toNat]
def k0_off266 (d0 : Dev nD) (v1875 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1876 : BitVec 1 := Scalar.cmpi .sge v1875 v22
  let c4096_i32_547 : BitVec 32 := 4096#32
  let v1877 : BitVec 32 := Scalar.addi v22 c4096_i32_547
  let v1878 : BitVec 1 := Scalar.cmpi .slt v1875 v1877
  let v1879 : BitVec 1 := Scalar.andi v1876 v1878
  let v1880 : BitVec 32 := Scalar.subi v1875 v22
  let c4096_i32_548 : BitVec 32 := 4096#32
  let v1881 : BitVec 32 := Scalar.select v1879 v1880 c4096_i32_548
  let v1882 : Index := Scalar.indexCast v1881
  let c0_549 : Index := 0#32
  ![v1882.toNat, 0]

def k0_chk133 (d0 : Dev nD) (v1875 : BitVec 32) : Prop :=
  (∀ a, (k0_off266 d0 v1875) a + S1x512.size a ≤ S4104x512.size a)
theorem k0_off266_inb : ∀ (d0 : Dev nD) (v1875 : BitVec 32) (k0_hw133 : k0_chk133 d0 v1875), ∀ a, (k0_off266 d0 v1875) a + S1x512.size a ≤ S4104x512.size a := fun d0 v1875 k0_hw133 => k0_hw133

def k0_off267 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c133_i32 : BitVec 32 := 133#32
  let v1887 : BitVec 32 := Scalar.addi v23 c133_i32
  let v1888 : Index := Scalar.indexCast v1887
  ![v1888.toNat]
def k0_off268 (d0 : Dev nD) (v1889 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1890 : BitVec 1 := Scalar.cmpi .sge v1889 v22
  let c4096_i32_551 : BitVec 32 := 4096#32
  let v1891 : BitVec 32 := Scalar.addi v22 c4096_i32_551
  let v1892 : BitVec 1 := Scalar.cmpi .slt v1889 v1891
  let v1893 : BitVec 1 := Scalar.andi v1890 v1892
  let v1894 : BitVec 32 := Scalar.subi v1889 v22
  let c4096_i32_552 : BitVec 32 := 4096#32
  let v1895 : BitVec 32 := Scalar.select v1893 v1894 c4096_i32_552
  let v1896 : Index := Scalar.indexCast v1895
  let c0_553 : Index := 0#32
  ![v1896.toNat, 0]

def k0_chk134 (d0 : Dev nD) (v1889 : BitVec 32) : Prop :=
  (∀ a, (k0_off268 d0 v1889) a + S1x512.size a ≤ S4104x512.size a)
theorem k0_off268_inb : ∀ (d0 : Dev nD) (v1889 : BitVec 32) (k0_hw134 : k0_chk134 d0 v1889), ∀ a, (k0_off268 d0 v1889) a + S1x512.size a ≤ S4104x512.size a := fun d0 v1889 k0_hw134 => k0_hw134

def k0_off269 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c134_i32 : BitVec 32 := 134#32
  let v1901 : BitVec 32 := Scalar.addi v23 c134_i32
  let v1902 : Index := Scalar.indexCast v1901
  ![v1902.toNat]
def k0_off270 (d0 : Dev nD) (v1903 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1904 : BitVec 1 := Scalar.cmpi .sge v1903 v22
  let c4096_i32_555 : BitVec 32 := 4096#32
  let v1905 : BitVec 32 := Scalar.addi v22 c4096_i32_555
  let v1906 : BitVec 1 := Scalar.cmpi .slt v1903 v1905
  let v1907 : BitVec 1 := Scalar.andi v1904 v1906
  let v1908 : BitVec 32 := Scalar.subi v1903 v22
  let c4096_i32_556 : BitVec 32 := 4096#32
  let v1909 : BitVec 32 := Scalar.select v1907 v1908 c4096_i32_556
  let v1910 : Index := Scalar.indexCast v1909
  let c0_557 : Index := 0#32
  ![v1910.toNat, 0]

def k0_chk135 (d0 : Dev nD) (v1903 : BitVec 32) : Prop :=
  (∀ a, (k0_off270 d0 v1903) a + S1x512.size a ≤ S4104x512.size a)
theorem k0_off270_inb : ∀ (d0 : Dev nD) (v1903 : BitVec 32) (k0_hw135 : k0_chk135 d0 v1903), ∀ a, (k0_off270 d0 v1903) a + S1x512.size a ≤ S4104x512.size a := fun d0 v1903 k0_hw135 => k0_hw135

def k0_off271 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c135_i32 : BitVec 32 := 135#32
  let v1915 : BitVec 32 := Scalar.addi v23 c135_i32
  let v1916 : Index := Scalar.indexCast v1915
  ![v1916.toNat]
def k0_off272 (d0 : Dev nD) (v1917 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1918 : BitVec 1 := Scalar.cmpi .sge v1917 v22
  let c4096_i32_559 : BitVec 32 := 4096#32
  let v1919 : BitVec 32 := Scalar.addi v22 c4096_i32_559
  let v1920 : BitVec 1 := Scalar.cmpi .slt v1917 v1919
  let v1921 : BitVec 1 := Scalar.andi v1918 v1920
  let v1922 : BitVec 32 := Scalar.subi v1917 v22
  let c4096_i32_560 : BitVec 32 := 4096#32
  let v1923 : BitVec 32 := Scalar.select v1921 v1922 c4096_i32_560
  let v1924 : Index := Scalar.indexCast v1923
  let c0_561 : Index := 0#32
  ![v1924.toNat, 0]

def k0_chk136 (d0 : Dev nD) (v1917 : BitVec 32) : Prop :=
  (∀ a, (k0_off272 d0 v1917) a + S1x512.size a ≤ S4104x512.size a)
theorem k0_off272_inb : ∀ (d0 : Dev nD) (v1917 : BitVec 32) (k0_hw136 : k0_chk136 d0 v1917), ∀ a, (k0_off272 d0 v1917) a + S1x512.size a ≤ S4104x512.size a := fun d0 v1917 k0_hw136 => k0_hw136

def k0_off273 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c136_i32 : BitVec 32 := 136#32
  let v1929 : BitVec 32 := Scalar.addi v23 c136_i32
  let v1930 : Index := Scalar.indexCast v1929
  ![v1930.toNat]
def k0_off274 (d0 : Dev nD) (v1931 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1932 : BitVec 1 := Scalar.cmpi .sge v1931 v22
  let c4096_i32_563 : BitVec 32 := 4096#32
  let v1933 : BitVec 32 := Scalar.addi v22 c4096_i32_563
  let v1934 : BitVec 1 := Scalar.cmpi .slt v1931 v1933
  let v1935 : BitVec 1 := Scalar.andi v1932 v1934
  let v1936 : BitVec 32 := Scalar.subi v1931 v22
  let c4096_i32_564 : BitVec 32 := 4096#32
  let v1937 : BitVec 32 := Scalar.select v1935 v1936 c4096_i32_564
  let v1938 : Index := Scalar.indexCast v1937
  let c0_565 : Index := 0#32
  ![v1938.toNat, 0]

def k0_chk137 (d0 : Dev nD) (v1931 : BitVec 32) : Prop :=
  (∀ a, (k0_off274 d0 v1931) a + S1x512.size a ≤ S4104x512.size a)
theorem k0_off274_inb : ∀ (d0 : Dev nD) (v1931 : BitVec 32) (k0_hw137 : k0_chk137 d0 v1931), ∀ a, (k0_off274 d0 v1931) a + S1x512.size a ≤ S4104x512.size a := fun d0 v1931 k0_hw137 => k0_hw137

def k0_off275 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c137_i32 : BitVec 32 := 137#32
  let v1943 : BitVec 32 := Scalar.addi v23 c137_i32
  let v1944 : Index := Scalar.indexCast v1943
  ![v1944.toNat]
def k0_off276 (d0 : Dev nD) (v1945 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1946 : BitVec 1 := Scalar.cmpi .sge v1945 v22
  let c4096_i32_567 : BitVec 32 := 4096#32
  let v1947 : BitVec 32 := Scalar.addi v22 c4096_i32_567
  let v1948 : BitVec 1 := Scalar.cmpi .slt v1945 v1947
  let v1949 : BitVec 1 := Scalar.andi v1946 v1948
  let v1950 : BitVec 32 := Scalar.subi v1945 v22
  let c4096_i32_568 : BitVec 32 := 4096#32
  let v1951 : BitVec 32 := Scalar.select v1949 v1950 c4096_i32_568
  let v1952 : Index := Scalar.indexCast v1951
  let c0_569 : Index := 0#32
  ![v1952.toNat, 0]

def k0_chk138 (d0 : Dev nD) (v1945 : BitVec 32) : Prop :=
  (∀ a, (k0_off276 d0 v1945) a + S1x512.size a ≤ S4104x512.size a)
theorem k0_off276_inb : ∀ (d0 : Dev nD) (v1945 : BitVec 32) (k0_hw138 : k0_chk138 d0 v1945), ∀ a, (k0_off276 d0 v1945) a + S1x512.size a ≤ S4104x512.size a := fun d0 v1945 k0_hw138 => k0_hw138

def k0_off277 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c138_i32 : BitVec 32 := 138#32
  let v1957 : BitVec 32 := Scalar.addi v23 c138_i32
  let v1958 : Index := Scalar.indexCast v1957
  ![v1958.toNat]
def k0_off278 (d0 : Dev nD) (v1959 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1960 : BitVec 1 := Scalar.cmpi .sge v1959 v22
  let c4096_i32_571 : BitVec 32 := 4096#32
  let v1961 : BitVec 32 := Scalar.addi v22 c4096_i32_571
  let v1962 : BitVec 1 := Scalar.cmpi .slt v1959 v1961
  let v1963 : BitVec 1 := Scalar.andi v1960 v1962
  let v1964 : BitVec 32 := Scalar.subi v1959 v22
  let c4096_i32_572 : BitVec 32 := 4096#32
  let v1965 : BitVec 32 := Scalar.select v1963 v1964 c4096_i32_572
  let v1966 : Index := Scalar.indexCast v1965
  let c0_573 : Index := 0#32
  ![v1966.toNat, 0]

def k0_chk139 (d0 : Dev nD) (v1959 : BitVec 32) : Prop :=
  (∀ a, (k0_off278 d0 v1959) a + S1x512.size a ≤ S4104x512.size a)
theorem k0_off278_inb : ∀ (d0 : Dev nD) (v1959 : BitVec 32) (k0_hw139 : k0_chk139 d0 v1959), ∀ a, (k0_off278 d0 v1959) a + S1x512.size a ≤ S4104x512.size a := fun d0 v1959 k0_hw139 => k0_hw139

def k0_off279 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c139_i32 : BitVec 32 := 139#32
  let v1971 : BitVec 32 := Scalar.addi v23 c139_i32
  let v1972 : Index := Scalar.indexCast v1971
  ![v1972.toNat]
def k0_off280 (d0 : Dev nD) (v1973 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1974 : BitVec 1 := Scalar.cmpi .sge v1973 v22
  let c4096_i32_575 : BitVec 32 := 4096#32
  let v1975 : BitVec 32 := Scalar.addi v22 c4096_i32_575
  let v1976 : BitVec 1 := Scalar.cmpi .slt v1973 v1975
  let v1977 : BitVec 1 := Scalar.andi v1974 v1976
  let v1978 : BitVec 32 := Scalar.subi v1973 v22
  let c4096_i32_576 : BitVec 32 := 4096#32
  let v1979 : BitVec 32 := Scalar.select v1977 v1978 c4096_i32_576
  let v1980 : Index := Scalar.indexCast v1979
  let c0_577 : Index := 0#32
  ![v1980.toNat, 0]

def k0_chk140 (d0 : Dev nD) (v1973 : BitVec 32) : Prop :=
  (∀ a, (k0_off280 d0 v1973) a + S1x512.size a ≤ S4104x512.size a)
theorem k0_off280_inb : ∀ (d0 : Dev nD) (v1973 : BitVec 32) (k0_hw140 : k0_chk140 d0 v1973), ∀ a, (k0_off280 d0 v1973) a + S1x512.size a ≤ S4104x512.size a := fun d0 v1973 k0_hw140 => k0_hw140

def k0_off281 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c140_i32 : BitVec 32 := 140#32
  let v1985 : BitVec 32 := Scalar.addi v23 c140_i32
  let v1986 : Index := Scalar.indexCast v1985
  ![v1986.toNat]
def k0_off282 (d0 : Dev nD) (v1987 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v1988 : BitVec 1 := Scalar.cmpi .sge v1987 v22
  let c4096_i32_579 : BitVec 32 := 4096#32
  let v1989 : BitVec 32 := Scalar.addi v22 c4096_i32_579
  let v1990 : BitVec 1 := Scalar.cmpi .slt v1987 v1989
  let v1991 : BitVec 1 := Scalar.andi v1988 v1990
  let v1992 : BitVec 32 := Scalar.subi v1987 v22
  let c4096_i32_580 : BitVec 32 := 4096#32
  let v1993 : BitVec 32 := Scalar.select v1991 v1992 c4096_i32_580
  let v1994 : Index := Scalar.indexCast v1993
  let c0_581 : Index := 0#32
  ![v1994.toNat, 0]

def k0_chk141 (d0 : Dev nD) (v1987 : BitVec 32) : Prop :=
  (∀ a, (k0_off282 d0 v1987) a + S1x512.size a ≤ S4104x512.size a)
theorem k0_off282_inb : ∀ (d0 : Dev nD) (v1987 : BitVec 32) (k0_hw141 : k0_chk141 d0 v1987), ∀ a, (k0_off282 d0 v1987) a + S1x512.size a ≤ S4104x512.size a := fun d0 v1987 k0_hw141 => k0_hw141

def k0_off283 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c141_i32 : BitVec 32 := 141#32
  let v1999 : BitVec 32 := Scalar.addi v23 c141_i32
  let v2000 : Index := Scalar.indexCast v1999
  ![v2000.toNat]
def k0_off284 (d0 : Dev nD) (v2001 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2002 : BitVec 1 := Scalar.cmpi .sge v2001 v22
  let c4096_i32_583 : BitVec 32 := 4096#32
  let v2003 : BitVec 32 := Scalar.addi v22 c4096_i32_583
  let v2004 : BitVec 1 := Scalar.cmpi .slt v2001 v2003
  let v2005 : BitVec 1 := Scalar.andi v2002 v2004
  let v2006 : BitVec 32 := Scalar.subi v2001 v22
  let c4096_i32_584 : BitVec 32 := 4096#32
  let v2007 : BitVec 32 := Scalar.select v2005 v2006 c4096_i32_584
  let v2008 : Index := Scalar.indexCast v2007
  let c0_585 : Index := 0#32
  ![v2008.toNat, 0]

def k0_chk142 (d0 : Dev nD) (v2001 : BitVec 32) : Prop :=
  (∀ a, (k0_off284 d0 v2001) a + S1x512.size a ≤ S4104x512.size a)
theorem k0_off284_inb : ∀ (d0 : Dev nD) (v2001 : BitVec 32) (k0_hw142 : k0_chk142 d0 v2001), ∀ a, (k0_off284 d0 v2001) a + S1x512.size a ≤ S4104x512.size a := fun d0 v2001 k0_hw142 => k0_hw142

def k0_off285 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c142_i32 : BitVec 32 := 142#32
  let v2013 : BitVec 32 := Scalar.addi v23 c142_i32
  let v2014 : Index := Scalar.indexCast v2013
  ![v2014.toNat]
def k0_off286 (d0 : Dev nD) (v2015 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2016 : BitVec 1 := Scalar.cmpi .sge v2015 v22
  let c4096_i32_587 : BitVec 32 := 4096#32
  let v2017 : BitVec 32 := Scalar.addi v22 c4096_i32_587
  let v2018 : BitVec 1 := Scalar.cmpi .slt v2015 v2017
  let v2019 : BitVec 1 := Scalar.andi v2016 v2018
  let v2020 : BitVec 32 := Scalar.subi v2015 v22
  let c4096_i32_588 : BitVec 32 := 4096#32
  let v2021 : BitVec 32 := Scalar.select v2019 v2020 c4096_i32_588
  let v2022 : Index := Scalar.indexCast v2021
  let c0_589 : Index := 0#32
  ![v2022.toNat, 0]

def k0_chk143 (d0 : Dev nD) (v2015 : BitVec 32) : Prop :=
  (∀ a, (k0_off286 d0 v2015) a + S1x512.size a ≤ S4104x512.size a)
theorem k0_off286_inb : ∀ (d0 : Dev nD) (v2015 : BitVec 32) (k0_hw143 : k0_chk143 d0 v2015), ∀ a, (k0_off286 d0 v2015) a + S1x512.size a ≤ S4104x512.size a := fun d0 v2015 k0_hw143 => k0_hw143

def k0_off287 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c143_i32 : BitVec 32 := 143#32
  let v2027 : BitVec 32 := Scalar.addi v23 c143_i32
  let v2028 : Index := Scalar.indexCast v2027
  ![v2028.toNat]
def k0_off288 (d0 : Dev nD) (v2029 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2030 : BitVec 1 := Scalar.cmpi .sge v2029 v22
  let c4096_i32_591 : BitVec 32 := 4096#32
  let v2031 : BitVec 32 := Scalar.addi v22 c4096_i32_591
  let v2032 : BitVec 1 := Scalar.cmpi .slt v2029 v2031
  let v2033 : BitVec 1 := Scalar.andi v2030 v2032
  let v2034 : BitVec 32 := Scalar.subi v2029 v22
  let c4096_i32_592 : BitVec 32 := 4096#32
  let v2035 : BitVec 32 := Scalar.select v2033 v2034 c4096_i32_592
  let v2036 : Index := Scalar.indexCast v2035
  let c0_593 : Index := 0#32
  ![v2036.toNat, 0]

def k0_chk144 (d0 : Dev nD) (v2029 : BitVec 32) : Prop :=
  (∀ a, (k0_off288 d0 v2029) a + S1x512.size a ≤ S4104x512.size a)
theorem k0_off288_inb : ∀ (d0 : Dev nD) (v2029 : BitVec 32) (k0_hw144 : k0_chk144 d0 v2029), ∀ a, (k0_off288 d0 v2029) a + S1x512.size a ≤ S4104x512.size a := fun d0 v2029 k0_hw144 => k0_hw144

def k0_off289 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c144_i32 : BitVec 32 := 144#32
  let v2041 : BitVec 32 := Scalar.addi v23 c144_i32
  let v2042 : Index := Scalar.indexCast v2041
  ![v2042.toNat]
def k0_off290 (d0 : Dev nD) (v2043 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2044 : BitVec 1 := Scalar.cmpi .sge v2043 v22
  let c4096_i32_595 : BitVec 32 := 4096#32
  let v2045 : BitVec 32 := Scalar.addi v22 c4096_i32_595
  let v2046 : BitVec 1 := Scalar.cmpi .slt v2043 v2045
  let v2047 : BitVec 1 := Scalar.andi v2044 v2046
  let v2048 : BitVec 32 := Scalar.subi v2043 v22
  let c4096_i32_596 : BitVec 32 := 4096#32
  let v2049 : BitVec 32 := Scalar.select v2047 v2048 c4096_i32_596
  let v2050 : Index := Scalar.indexCast v2049
  let c0_597 : Index := 0#32
  ![v2050.toNat, 0]

def k0_chk145 (d0 : Dev nD) (v2043 : BitVec 32) : Prop :=
  (∀ a, (k0_off290 d0 v2043) a + S1x512.size a ≤ S4104x512.size a)
theorem k0_off290_inb : ∀ (d0 : Dev nD) (v2043 : BitVec 32) (k0_hw145 : k0_chk145 d0 v2043), ∀ a, (k0_off290 d0 v2043) a + S1x512.size a ≤ S4104x512.size a := fun d0 v2043 k0_hw145 => k0_hw145

def k0_off291 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c145_i32 : BitVec 32 := 145#32
  let v2055 : BitVec 32 := Scalar.addi v23 c145_i32
  let v2056 : Index := Scalar.indexCast v2055
  ![v2056.toNat]
def k0_off292 (d0 : Dev nD) (v2057 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2058 : BitVec 1 := Scalar.cmpi .sge v2057 v22
  let c4096_i32_599 : BitVec 32 := 4096#32
  let v2059 : BitVec 32 := Scalar.addi v22 c4096_i32_599
  let v2060 : BitVec 1 := Scalar.cmpi .slt v2057 v2059
  let v2061 : BitVec 1 := Scalar.andi v2058 v2060
  let v2062 : BitVec 32 := Scalar.subi v2057 v22
  let c4096_i32_600 : BitVec 32 := 4096#32
  let v2063 : BitVec 32 := Scalar.select v2061 v2062 c4096_i32_600
  let v2064 : Index := Scalar.indexCast v2063
  let c0_601 : Index := 0#32
  ![v2064.toNat, 0]

def k0_chk146 (d0 : Dev nD) (v2057 : BitVec 32) : Prop :=
  (∀ a, (k0_off292 d0 v2057) a + S1x512.size a ≤ S4104x512.size a)
theorem k0_off292_inb : ∀ (d0 : Dev nD) (v2057 : BitVec 32) (k0_hw146 : k0_chk146 d0 v2057), ∀ a, (k0_off292 d0 v2057) a + S1x512.size a ≤ S4104x512.size a := fun d0 v2057 k0_hw146 => k0_hw146

def k0_off293 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c146_i32 : BitVec 32 := 146#32
  let v2069 : BitVec 32 := Scalar.addi v23 c146_i32
  let v2070 : Index := Scalar.indexCast v2069
  ![v2070.toNat]
def k0_off294 (d0 : Dev nD) (v2071 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2072 : BitVec 1 := Scalar.cmpi .sge v2071 v22
  let c4096_i32_603 : BitVec 32 := 4096#32
  let v2073 : BitVec 32 := Scalar.addi v22 c4096_i32_603
  let v2074 : BitVec 1 := Scalar.cmpi .slt v2071 v2073
  let v2075 : BitVec 1 := Scalar.andi v2072 v2074
  let v2076 : BitVec 32 := Scalar.subi v2071 v22
  let c4096_i32_604 : BitVec 32 := 4096#32
  let v2077 : BitVec 32 := Scalar.select v2075 v2076 c4096_i32_604
  let v2078 : Index := Scalar.indexCast v2077
  let c0_605 : Index := 0#32
  ![v2078.toNat, 0]

def k0_chk147 (d0 : Dev nD) (v2071 : BitVec 32) : Prop :=
  (∀ a, (k0_off294 d0 v2071) a + S1x512.size a ≤ S4104x512.size a)
theorem k0_off294_inb : ∀ (d0 : Dev nD) (v2071 : BitVec 32) (k0_hw147 : k0_chk147 d0 v2071), ∀ a, (k0_off294 d0 v2071) a + S1x512.size a ≤ S4104x512.size a := fun d0 v2071 k0_hw147 => k0_hw147

def k0_off295 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c147_i32 : BitVec 32 := 147#32
  let v2083 : BitVec 32 := Scalar.addi v23 c147_i32
  let v2084 : Index := Scalar.indexCast v2083
  ![v2084.toNat]
def k0_off296 (d0 : Dev nD) (v2085 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2086 : BitVec 1 := Scalar.cmpi .sge v2085 v22
  let c4096_i32_607 : BitVec 32 := 4096#32
  let v2087 : BitVec 32 := Scalar.addi v22 c4096_i32_607
  let v2088 : BitVec 1 := Scalar.cmpi .slt v2085 v2087
  let v2089 : BitVec 1 := Scalar.andi v2086 v2088
  let v2090 : BitVec 32 := Scalar.subi v2085 v22
  let c4096_i32_608 : BitVec 32 := 4096#32
  let v2091 : BitVec 32 := Scalar.select v2089 v2090 c4096_i32_608
  let v2092 : Index := Scalar.indexCast v2091
  let c0_609 : Index := 0#32
  ![v2092.toNat, 0]

def k0_chk148 (d0 : Dev nD) (v2085 : BitVec 32) : Prop :=
  (∀ a, (k0_off296 d0 v2085) a + S1x512.size a ≤ S4104x512.size a)
theorem k0_off296_inb : ∀ (d0 : Dev nD) (v2085 : BitVec 32) (k0_hw148 : k0_chk148 d0 v2085), ∀ a, (k0_off296 d0 v2085) a + S1x512.size a ≤ S4104x512.size a := fun d0 v2085 k0_hw148 => k0_hw148

def k0_off297 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c148_i32 : BitVec 32 := 148#32
  let v2097 : BitVec 32 := Scalar.addi v23 c148_i32
  let v2098 : Index := Scalar.indexCast v2097
  ![v2098.toNat]
def k0_off298 (d0 : Dev nD) (v2099 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2100 : BitVec 1 := Scalar.cmpi .sge v2099 v22
  let c4096_i32_611 : BitVec 32 := 4096#32
  let v2101 : BitVec 32 := Scalar.addi v22 c4096_i32_611
  let v2102 : BitVec 1 := Scalar.cmpi .slt v2099 v2101
  let v2103 : BitVec 1 := Scalar.andi v2100 v2102
  let v2104 : BitVec 32 := Scalar.subi v2099 v22
  let c4096_i32_612 : BitVec 32 := 4096#32
  let v2105 : BitVec 32 := Scalar.select v2103 v2104 c4096_i32_612
  let v2106 : Index := Scalar.indexCast v2105
  let c0_613 : Index := 0#32
  ![v2106.toNat, 0]

def k0_chk149 (d0 : Dev nD) (v2099 : BitVec 32) : Prop :=
  (∀ a, (k0_off298 d0 v2099) a + S1x512.size a ≤ S4104x512.size a)
theorem k0_off298_inb : ∀ (d0 : Dev nD) (v2099 : BitVec 32) (k0_hw149 : k0_chk149 d0 v2099), ∀ a, (k0_off298 d0 v2099) a + S1x512.size a ≤ S4104x512.size a := fun d0 v2099 k0_hw149 => k0_hw149

def k0_off299 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c149_i32 : BitVec 32 := 149#32
  let v2111 : BitVec 32 := Scalar.addi v23 c149_i32
  let v2112 : Index := Scalar.indexCast v2111
  ![v2112.toNat]
def k0_off300 (d0 : Dev nD) (v2113 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2114 : BitVec 1 := Scalar.cmpi .sge v2113 v22
  let c4096_i32_615 : BitVec 32 := 4096#32
  let v2115 : BitVec 32 := Scalar.addi v22 c4096_i32_615
  let v2116 : BitVec 1 := Scalar.cmpi .slt v2113 v2115
  let v2117 : BitVec 1 := Scalar.andi v2114 v2116
  let v2118 : BitVec 32 := Scalar.subi v2113 v22
  let c4096_i32_616 : BitVec 32 := 4096#32
  let v2119 : BitVec 32 := Scalar.select v2117 v2118 c4096_i32_616
  let v2120 : Index := Scalar.indexCast v2119
  let c0_617 : Index := 0#32
  ![v2120.toNat, 0]

def k0_chk150 (d0 : Dev nD) (v2113 : BitVec 32) : Prop :=
  (∀ a, (k0_off300 d0 v2113) a + S1x512.size a ≤ S4104x512.size a)
theorem k0_off300_inb : ∀ (d0 : Dev nD) (v2113 : BitVec 32) (k0_hw150 : k0_chk150 d0 v2113), ∀ a, (k0_off300 d0 v2113) a + S1x512.size a ≤ S4104x512.size a := fun d0 v2113 k0_hw150 => k0_hw150

def k0_off301 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c150_i32 : BitVec 32 := 150#32
  let v2125 : BitVec 32 := Scalar.addi v23 c150_i32
  let v2126 : Index := Scalar.indexCast v2125
  ![v2126.toNat]
def k0_off302 (d0 : Dev nD) (v2127 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2128 : BitVec 1 := Scalar.cmpi .sge v2127 v22
  let c4096_i32_619 : BitVec 32 := 4096#32
  let v2129 : BitVec 32 := Scalar.addi v22 c4096_i32_619
  let v2130 : BitVec 1 := Scalar.cmpi .slt v2127 v2129
  let v2131 : BitVec 1 := Scalar.andi v2128 v2130
  let v2132 : BitVec 32 := Scalar.subi v2127 v22
  let c4096_i32_620 : BitVec 32 := 4096#32
  let v2133 : BitVec 32 := Scalar.select v2131 v2132 c4096_i32_620
  let v2134 : Index := Scalar.indexCast v2133
  let c0_621 : Index := 0#32
  ![v2134.toNat, 0]

def k0_chk151 (d0 : Dev nD) (v2127 : BitVec 32) : Prop :=
  (∀ a, (k0_off302 d0 v2127) a + S1x512.size a ≤ S4104x512.size a)
theorem k0_off302_inb : ∀ (d0 : Dev nD) (v2127 : BitVec 32) (k0_hw151 : k0_chk151 d0 v2127), ∀ a, (k0_off302 d0 v2127) a + S1x512.size a ≤ S4104x512.size a := fun d0 v2127 k0_hw151 => k0_hw151

def k0_off303 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c151_i32 : BitVec 32 := 151#32
  let v2139 : BitVec 32 := Scalar.addi v23 c151_i32
  let v2140 : Index := Scalar.indexCast v2139
  ![v2140.toNat]
def k0_off304 (d0 : Dev nD) (v2141 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2142 : BitVec 1 := Scalar.cmpi .sge v2141 v22
  let c4096_i32_623 : BitVec 32 := 4096#32
  let v2143 : BitVec 32 := Scalar.addi v22 c4096_i32_623
  let v2144 : BitVec 1 := Scalar.cmpi .slt v2141 v2143
  let v2145 : BitVec 1 := Scalar.andi v2142 v2144
  let v2146 : BitVec 32 := Scalar.subi v2141 v22
  let c4096_i32_624 : BitVec 32 := 4096#32
  let v2147 : BitVec 32 := Scalar.select v2145 v2146 c4096_i32_624
  let v2148 : Index := Scalar.indexCast v2147
  let c0_625 : Index := 0#32
  ![v2148.toNat, 0]

def k0_chk152 (d0 : Dev nD) (v2141 : BitVec 32) : Prop :=
  (∀ a, (k0_off304 d0 v2141) a + S1x512.size a ≤ S4104x512.size a)
theorem k0_off304_inb : ∀ (d0 : Dev nD) (v2141 : BitVec 32) (k0_hw152 : k0_chk152 d0 v2141), ∀ a, (k0_off304 d0 v2141) a + S1x512.size a ≤ S4104x512.size a := fun d0 v2141 k0_hw152 => k0_hw152

def k0_off305 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c152_i32 : BitVec 32 := 152#32
  let v2153 : BitVec 32 := Scalar.addi v23 c152_i32
  let v2154 : Index := Scalar.indexCast v2153
  ![v2154.toNat]
def k0_off306 (d0 : Dev nD) (v2155 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2156 : BitVec 1 := Scalar.cmpi .sge v2155 v22
  let c4096_i32_627 : BitVec 32 := 4096#32
  let v2157 : BitVec 32 := Scalar.addi v22 c4096_i32_627
  let v2158 : BitVec 1 := Scalar.cmpi .slt v2155 v2157
  let v2159 : BitVec 1 := Scalar.andi v2156 v2158
  let v2160 : BitVec 32 := Scalar.subi v2155 v22
  let c4096_i32_628 : BitVec 32 := 4096#32
  let v2161 : BitVec 32 := Scalar.select v2159 v2160 c4096_i32_628
  let v2162 : Index := Scalar.indexCast v2161
  let c0_629 : Index := 0#32
  ![v2162.toNat, 0]

def k0_chk153 (d0 : Dev nD) (v2155 : BitVec 32) : Prop :=
  (∀ a, (k0_off306 d0 v2155) a + S1x512.size a ≤ S4104x512.size a)
theorem k0_off306_inb : ∀ (d0 : Dev nD) (v2155 : BitVec 32) (k0_hw153 : k0_chk153 d0 v2155), ∀ a, (k0_off306 d0 v2155) a + S1x512.size a ≤ S4104x512.size a := fun d0 v2155 k0_hw153 => k0_hw153

def k0_off307 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c153_i32 : BitVec 32 := 153#32
  let v2167 : BitVec 32 := Scalar.addi v23 c153_i32
  let v2168 : Index := Scalar.indexCast v2167
  ![v2168.toNat]
def k0_off308 (d0 : Dev nD) (v2169 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2170 : BitVec 1 := Scalar.cmpi .sge v2169 v22
  let c4096_i32_631 : BitVec 32 := 4096#32
  let v2171 : BitVec 32 := Scalar.addi v22 c4096_i32_631
  let v2172 : BitVec 1 := Scalar.cmpi .slt v2169 v2171
  let v2173 : BitVec 1 := Scalar.andi v2170 v2172
  let v2174 : BitVec 32 := Scalar.subi v2169 v22
  let c4096_i32_632 : BitVec 32 := 4096#32
  let v2175 : BitVec 32 := Scalar.select v2173 v2174 c4096_i32_632
  let v2176 : Index := Scalar.indexCast v2175
  let c0_633 : Index := 0#32
  ![v2176.toNat, 0]

def k0_chk154 (d0 : Dev nD) (v2169 : BitVec 32) : Prop :=
  (∀ a, (k0_off308 d0 v2169) a + S1x512.size a ≤ S4104x512.size a)
theorem k0_off308_inb : ∀ (d0 : Dev nD) (v2169 : BitVec 32) (k0_hw154 : k0_chk154 d0 v2169), ∀ a, (k0_off308 d0 v2169) a + S1x512.size a ≤ S4104x512.size a := fun d0 v2169 k0_hw154 => k0_hw154

def k0_off309 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c154_i32 : BitVec 32 := 154#32
  let v2181 : BitVec 32 := Scalar.addi v23 c154_i32
  let v2182 : Index := Scalar.indexCast v2181
  ![v2182.toNat]
def k0_off310 (d0 : Dev nD) (v2183 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2184 : BitVec 1 := Scalar.cmpi .sge v2183 v22
  let c4096_i32_635 : BitVec 32 := 4096#32
  let v2185 : BitVec 32 := Scalar.addi v22 c4096_i32_635
  let v2186 : BitVec 1 := Scalar.cmpi .slt v2183 v2185
  let v2187 : BitVec 1 := Scalar.andi v2184 v2186
  let v2188 : BitVec 32 := Scalar.subi v2183 v22
  let c4096_i32_636 : BitVec 32 := 4096#32
  let v2189 : BitVec 32 := Scalar.select v2187 v2188 c4096_i32_636
  let v2190 : Index := Scalar.indexCast v2189
  let c0_637 : Index := 0#32
  ![v2190.toNat, 0]

def k0_chk155 (d0 : Dev nD) (v2183 : BitVec 32) : Prop :=
  (∀ a, (k0_off310 d0 v2183) a + S1x512.size a ≤ S4104x512.size a)
theorem k0_off310_inb : ∀ (d0 : Dev nD) (v2183 : BitVec 32) (k0_hw155 : k0_chk155 d0 v2183), ∀ a, (k0_off310 d0 v2183) a + S1x512.size a ≤ S4104x512.size a := fun d0 v2183 k0_hw155 => k0_hw155

def k0_off311 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c155_i32 : BitVec 32 := 155#32
  let v2195 : BitVec 32 := Scalar.addi v23 c155_i32
  let v2196 : Index := Scalar.indexCast v2195
  ![v2196.toNat]
def k0_off312 (d0 : Dev nD) (v2197 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2198 : BitVec 1 := Scalar.cmpi .sge v2197 v22
  let c4096_i32_639 : BitVec 32 := 4096#32
  let v2199 : BitVec 32 := Scalar.addi v22 c4096_i32_639
  let v2200 : BitVec 1 := Scalar.cmpi .slt v2197 v2199
  let v2201 : BitVec 1 := Scalar.andi v2198 v2200
  let v2202 : BitVec 32 := Scalar.subi v2197 v22
  let c4096_i32_640 : BitVec 32 := 4096#32
  let v2203 : BitVec 32 := Scalar.select v2201 v2202 c4096_i32_640
  let v2204 : Index := Scalar.indexCast v2203
  let c0_641 : Index := 0#32
  ![v2204.toNat, 0]

def k0_chk156 (d0 : Dev nD) (v2197 : BitVec 32) : Prop :=
  (∀ a, (k0_off312 d0 v2197) a + S1x512.size a ≤ S4104x512.size a)
theorem k0_off312_inb : ∀ (d0 : Dev nD) (v2197 : BitVec 32) (k0_hw156 : k0_chk156 d0 v2197), ∀ a, (k0_off312 d0 v2197) a + S1x512.size a ≤ S4104x512.size a := fun d0 v2197 k0_hw156 => k0_hw156

def k0_off313 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c156_i32 : BitVec 32 := 156#32
  let v2209 : BitVec 32 := Scalar.addi v23 c156_i32
  let v2210 : Index := Scalar.indexCast v2209
  ![v2210.toNat]
def k0_off314 (d0 : Dev nD) (v2211 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2212 : BitVec 1 := Scalar.cmpi .sge v2211 v22
  let c4096_i32_643 : BitVec 32 := 4096#32
  let v2213 : BitVec 32 := Scalar.addi v22 c4096_i32_643
  let v2214 : BitVec 1 := Scalar.cmpi .slt v2211 v2213
  let v2215 : BitVec 1 := Scalar.andi v2212 v2214
  let v2216 : BitVec 32 := Scalar.subi v2211 v22
  let c4096_i32_644 : BitVec 32 := 4096#32
  let v2217 : BitVec 32 := Scalar.select v2215 v2216 c4096_i32_644
  let v2218 : Index := Scalar.indexCast v2217
  let c0_645 : Index := 0#32
  ![v2218.toNat, 0]

def k0_chk157 (d0 : Dev nD) (v2211 : BitVec 32) : Prop :=
  (∀ a, (k0_off314 d0 v2211) a + S1x512.size a ≤ S4104x512.size a)
theorem k0_off314_inb : ∀ (d0 : Dev nD) (v2211 : BitVec 32) (k0_hw157 : k0_chk157 d0 v2211), ∀ a, (k0_off314 d0 v2211) a + S1x512.size a ≤ S4104x512.size a := fun d0 v2211 k0_hw157 => k0_hw157

def k0_off315 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c157_i32 : BitVec 32 := 157#32
  let v2223 : BitVec 32 := Scalar.addi v23 c157_i32
  let v2224 : Index := Scalar.indexCast v2223
  ![v2224.toNat]
def k0_off316 (d0 : Dev nD) (v2225 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2226 : BitVec 1 := Scalar.cmpi .sge v2225 v22
  let c4096_i32_647 : BitVec 32 := 4096#32
  let v2227 : BitVec 32 := Scalar.addi v22 c4096_i32_647
  let v2228 : BitVec 1 := Scalar.cmpi .slt v2225 v2227
  let v2229 : BitVec 1 := Scalar.andi v2226 v2228
  let v2230 : BitVec 32 := Scalar.subi v2225 v22
  let c4096_i32_648 : BitVec 32 := 4096#32
  let v2231 : BitVec 32 := Scalar.select v2229 v2230 c4096_i32_648
  let v2232 : Index := Scalar.indexCast v2231
  let c0_649 : Index := 0#32
  ![v2232.toNat, 0]

def k0_chk158 (d0 : Dev nD) (v2225 : BitVec 32) : Prop :=
  (∀ a, (k0_off316 d0 v2225) a + S1x512.size a ≤ S4104x512.size a)
theorem k0_off316_inb : ∀ (d0 : Dev nD) (v2225 : BitVec 32) (k0_hw158 : k0_chk158 d0 v2225), ∀ a, (k0_off316 d0 v2225) a + S1x512.size a ≤ S4104x512.size a := fun d0 v2225 k0_hw158 => k0_hw158

def k0_off317 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c158_i32 : BitVec 32 := 158#32
  let v2237 : BitVec 32 := Scalar.addi v23 c158_i32
  let v2238 : Index := Scalar.indexCast v2237
  ![v2238.toNat]
def k0_off318 (d0 : Dev nD) (v2239 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2240 : BitVec 1 := Scalar.cmpi .sge v2239 v22
  let c4096_i32_651 : BitVec 32 := 4096#32
  let v2241 : BitVec 32 := Scalar.addi v22 c4096_i32_651
  let v2242 : BitVec 1 := Scalar.cmpi .slt v2239 v2241
  let v2243 : BitVec 1 := Scalar.andi v2240 v2242
  let v2244 : BitVec 32 := Scalar.subi v2239 v22
  let c4096_i32_652 : BitVec 32 := 4096#32
  let v2245 : BitVec 32 := Scalar.select v2243 v2244 c4096_i32_652
  let v2246 : Index := Scalar.indexCast v2245
  let c0_653 : Index := 0#32
  ![v2246.toNat, 0]

def k0_chk159 (d0 : Dev nD) (v2239 : BitVec 32) : Prop :=
  (∀ a, (k0_off318 d0 v2239) a + S1x512.size a ≤ S4104x512.size a)
theorem k0_off318_inb : ∀ (d0 : Dev nD) (v2239 : BitVec 32) (k0_hw159 : k0_chk159 d0 v2239), ∀ a, (k0_off318 d0 v2239) a + S1x512.size a ≤ S4104x512.size a := fun d0 v2239 k0_hw159 => k0_hw159

def k0_off319 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c159_i32 : BitVec 32 := 159#32
  let v2251 : BitVec 32 := Scalar.addi v23 c159_i32
  let v2252 : Index := Scalar.indexCast v2251
  ![v2252.toNat]
def k0_off320 (d0 : Dev nD) (v2253 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2254 : BitVec 1 := Scalar.cmpi .sge v2253 v22
  let c4096_i32_655 : BitVec 32 := 4096#32
  let v2255 : BitVec 32 := Scalar.addi v22 c4096_i32_655
  let v2256 : BitVec 1 := Scalar.cmpi .slt v2253 v2255
  let v2257 : BitVec 1 := Scalar.andi v2254 v2256
  let v2258 : BitVec 32 := Scalar.subi v2253 v22
  let c4096_i32_656 : BitVec 32 := 4096#32
  let v2259 : BitVec 32 := Scalar.select v2257 v2258 c4096_i32_656
  let v2260 : Index := Scalar.indexCast v2259
  let c0_657 : Index := 0#32
  ![v2260.toNat, 0]

def k0_chk160 (d0 : Dev nD) (v2253 : BitVec 32) : Prop :=
  (∀ a, (k0_off320 d0 v2253) a + S1x512.size a ≤ S4104x512.size a)
theorem k0_off320_inb : ∀ (d0 : Dev nD) (v2253 : BitVec 32) (k0_hw160 : k0_chk160 d0 v2253), ∀ a, (k0_off320 d0 v2253) a + S1x512.size a ≤ S4104x512.size a := fun d0 v2253 k0_hw160 => k0_hw160

def k0_off321 (d0 : Dev nD) (v2265 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2266 : BitVec 1 := Scalar.cmpi .sge v2265 v22
  let c4096_i32_659 : BitVec 32 := 4096#32
  let v2267 : BitVec 32 := Scalar.addi v22 c4096_i32_659
  let v2268 : BitVec 1 := Scalar.cmpi .slt v2265 v2267
  let v2269 : BitVec 1 := Scalar.andi v2266 v2268
  let v2270 : BitVec 32 := Scalar.subi v2265 v22
  let c4096_i32_660 : BitVec 32 := 4096#32
  let v2271 : BitVec 32 := Scalar.select v2269 v2270 c4096_i32_660
  let v2272 : Index := Scalar.indexCast v2271
  let c0_661 : Index := 0#32
  ![v2272.toNat, 0]

def k0_chk161 (d0 : Dev nD) (v2265 : BitVec 32) : Prop :=
  (∀ a, (k0_off321 d0 v2265) a + S1x512.size a ≤ S4104x512.size a)
theorem k0_off321_inb : ∀ (d0 : Dev nD) (v2265 : BitVec 32) (k0_hw161 : k0_chk161 d0 v2265), ∀ a, (k0_off321 d0 v2265) a + S1x512.size a ≤ S4104x512.size a := fun d0 v2265 k0_hw161 => k0_hw161

def k0_off322 (d0 : Dev nD) (v2277 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2278 : BitVec 1 := Scalar.cmpi .sge v2277 v22
  let c4096_i32_664 : BitVec 32 := 4096#32
  let v2279 : BitVec 32 := Scalar.addi v22 c4096_i32_664
  let v2280 : BitVec 1 := Scalar.cmpi .slt v2277 v2279
  let v2281 : BitVec 1 := Scalar.andi v2278 v2280
  let v2282 : BitVec 32 := Scalar.subi v2277 v22
  let c4096_i32_665 : BitVec 32 := 4096#32
  let v2283 : BitVec 32 := Scalar.select v2281 v2282 c4096_i32_665
  let v2284 : Index := Scalar.indexCast v2283
  let c0_666 : Index := 0#32
  ![v2284.toNat, 0]

def k0_chk162 (d0 : Dev nD) (v2277 : BitVec 32) : Prop :=
  (∀ a, (k0_off322 d0 v2277) a + S1x512.size a ≤ S4104x512.size a)
theorem k0_off322_inb : ∀ (d0 : Dev nD) (v2277 : BitVec 32) (k0_hw162 : k0_chk162 d0 v2277), ∀ a, (k0_off322 d0 v2277) a + S1x512.size a ≤ S4104x512.size a := fun d0 v2277 k0_hw162 => k0_hw162

def k0_off323 (d0 : Dev nD) (v2289 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2290 : BitVec 1 := Scalar.cmpi .sge v2289 v22
  let c4096_i32_669 : BitVec 32 := 4096#32
  let v2291 : BitVec 32 := Scalar.addi v22 c4096_i32_669
  let v2292 : BitVec 1 := Scalar.cmpi .slt v2289 v2291
  let v2293 : BitVec 1 := Scalar.andi v2290 v2292
  let v2294 : BitVec 32 := Scalar.subi v2289 v22
  let c4096_i32_670 : BitVec 32 := 4096#32
  let v2295 : BitVec 32 := Scalar.select v2293 v2294 c4096_i32_670
  let v2296 : Index := Scalar.indexCast v2295
  let c0_671 : Index := 0#32
  ![v2296.toNat, 0]

def k0_chk163 (d0 : Dev nD) (v2289 : BitVec 32) : Prop :=
  (∀ a, (k0_off323 d0 v2289) a + S1x512.size a ≤ S4104x512.size a)
theorem k0_off323_inb : ∀ (d0 : Dev nD) (v2289 : BitVec 32) (k0_hw163 : k0_chk163 d0 v2289), ∀ a, (k0_off323 d0 v2289) a + S1x512.size a ≤ S4104x512.size a := fun d0 v2289 k0_hw163 => k0_hw163

def k0_off324 (d0 : Dev nD) (v2301 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2302 : BitVec 1 := Scalar.cmpi .sge v2301 v22
  let c4096_i32_674 : BitVec 32 := 4096#32
  let v2303 : BitVec 32 := Scalar.addi v22 c4096_i32_674
  let v2304 : BitVec 1 := Scalar.cmpi .slt v2301 v2303
  let v2305 : BitVec 1 := Scalar.andi v2302 v2304
  let v2306 : BitVec 32 := Scalar.subi v2301 v22
  let c4096_i32_675 : BitVec 32 := 4096#32
  let v2307 : BitVec 32 := Scalar.select v2305 v2306 c4096_i32_675
  let v2308 : Index := Scalar.indexCast v2307
  let c0_676 : Index := 0#32
  ![v2308.toNat, 0]

def k0_chk164 (d0 : Dev nD) (v2301 : BitVec 32) : Prop :=
  (∀ a, (k0_off324 d0 v2301) a + S1x512.size a ≤ S4104x512.size a)
theorem k0_off324_inb : ∀ (d0 : Dev nD) (v2301 : BitVec 32) (k0_hw164 : k0_chk164 d0 v2301), ∀ a, (k0_off324 d0 v2301) a + S1x512.size a ≤ S4104x512.size a := fun d0 v2301 k0_hw164 => k0_hw164

def k0_off325 (d0 : Dev nD) (v2313 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2314 : BitVec 1 := Scalar.cmpi .sge v2313 v22
  let c4096_i32_679 : BitVec 32 := 4096#32
  let v2315 : BitVec 32 := Scalar.addi v22 c4096_i32_679
  let v2316 : BitVec 1 := Scalar.cmpi .slt v2313 v2315
  let v2317 : BitVec 1 := Scalar.andi v2314 v2316
  let v2318 : BitVec 32 := Scalar.subi v2313 v22
  let c4096_i32_680 : BitVec 32 := 4096#32
  let v2319 : BitVec 32 := Scalar.select v2317 v2318 c4096_i32_680
  let v2320 : Index := Scalar.indexCast v2319
  let c0_681 : Index := 0#32
  ![v2320.toNat, 0]

def k0_chk165 (d0 : Dev nD) (v2313 : BitVec 32) : Prop :=
  (∀ a, (k0_off325 d0 v2313) a + S1x512.size a ≤ S4104x512.size a)
theorem k0_off325_inb : ∀ (d0 : Dev nD) (v2313 : BitVec 32) (k0_hw165 : k0_chk165 d0 v2313), ∀ a, (k0_off325 d0 v2313) a + S1x512.size a ≤ S4104x512.size a := fun d0 v2313 k0_hw165 => k0_hw165

def k0_off326 (d0 : Dev nD) (v2325 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2326 : BitVec 1 := Scalar.cmpi .sge v2325 v22
  let c4096_i32_684 : BitVec 32 := 4096#32
  let v2327 : BitVec 32 := Scalar.addi v22 c4096_i32_684
  let v2328 : BitVec 1 := Scalar.cmpi .slt v2325 v2327
  let v2329 : BitVec 1 := Scalar.andi v2326 v2328
  let v2330 : BitVec 32 := Scalar.subi v2325 v22
  let c4096_i32_685 : BitVec 32 := 4096#32
  let v2331 : BitVec 32 := Scalar.select v2329 v2330 c4096_i32_685
  let v2332 : Index := Scalar.indexCast v2331
  let c0_686 : Index := 0#32
  ![v2332.toNat, 0]

def k0_chk166 (d0 : Dev nD) (v2325 : BitVec 32) : Prop :=
  (∀ a, (k0_off326 d0 v2325) a + S1x512.size a ≤ S4104x512.size a)
theorem k0_off326_inb : ∀ (d0 : Dev nD) (v2325 : BitVec 32) (k0_hw166 : k0_chk166 d0 v2325), ∀ a, (k0_off326 d0 v2325) a + S1x512.size a ≤ S4104x512.size a := fun d0 v2325 k0_hw166 => k0_hw166

def k0_off327 (d0 : Dev nD) (v2337 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2338 : BitVec 1 := Scalar.cmpi .sge v2337 v22
  let c4096_i32_689 : BitVec 32 := 4096#32
  let v2339 : BitVec 32 := Scalar.addi v22 c4096_i32_689
  let v2340 : BitVec 1 := Scalar.cmpi .slt v2337 v2339
  let v2341 : BitVec 1 := Scalar.andi v2338 v2340
  let v2342 : BitVec 32 := Scalar.subi v2337 v22
  let c4096_i32_690 : BitVec 32 := 4096#32
  let v2343 : BitVec 32 := Scalar.select v2341 v2342 c4096_i32_690
  let v2344 : Index := Scalar.indexCast v2343
  let c0_691 : Index := 0#32
  ![v2344.toNat, 0]

def k0_chk167 (d0 : Dev nD) (v2337 : BitVec 32) : Prop :=
  (∀ a, (k0_off327 d0 v2337) a + S1x512.size a ≤ S4104x512.size a)
theorem k0_off327_inb : ∀ (d0 : Dev nD) (v2337 : BitVec 32) (k0_hw167 : k0_chk167 d0 v2337), ∀ a, (k0_off327 d0 v2337) a + S1x512.size a ≤ S4104x512.size a := fun d0 v2337 k0_hw167 => k0_hw167

def k0_off328 (d0 : Dev nD) (v2349 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2350 : BitVec 1 := Scalar.cmpi .sge v2349 v22
  let c4096_i32_694 : BitVec 32 := 4096#32
  let v2351 : BitVec 32 := Scalar.addi v22 c4096_i32_694
  let v2352 : BitVec 1 := Scalar.cmpi .slt v2349 v2351
  let v2353 : BitVec 1 := Scalar.andi v2350 v2352
  let v2354 : BitVec 32 := Scalar.subi v2349 v22
  let c4096_i32_695 : BitVec 32 := 4096#32
  let v2355 : BitVec 32 := Scalar.select v2353 v2354 c4096_i32_695
  let v2356 : Index := Scalar.indexCast v2355
  let c0_696 : Index := 0#32
  ![v2356.toNat, 0]

def k0_chk168 (d0 : Dev nD) (v2349 : BitVec 32) : Prop :=
  (∀ a, (k0_off328 d0 v2349) a + S1x512.size a ≤ S4104x512.size a)
theorem k0_off328_inb : ∀ (d0 : Dev nD) (v2349 : BitVec 32) (k0_hw168 : k0_chk168 d0 v2349), ∀ a, (k0_off328 d0 v2349) a + S1x512.size a ≤ S4104x512.size a := fun d0 v2349 k0_hw168 => k0_hw168

def k0_off329 (d0 : Dev nD) (v2361 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2362 : BitVec 1 := Scalar.cmpi .sge v2361 v22
  let c4096_i32_699 : BitVec 32 := 4096#32
  let v2363 : BitVec 32 := Scalar.addi v22 c4096_i32_699
  let v2364 : BitVec 1 := Scalar.cmpi .slt v2361 v2363
  let v2365 : BitVec 1 := Scalar.andi v2362 v2364
  let v2366 : BitVec 32 := Scalar.subi v2361 v22
  let c4096_i32_700 : BitVec 32 := 4096#32
  let v2367 : BitVec 32 := Scalar.select v2365 v2366 c4096_i32_700
  let v2368 : Index := Scalar.indexCast v2367
  let c0_701 : Index := 0#32
  ![v2368.toNat, 0]

def k0_chk169 (d0 : Dev nD) (v2361 : BitVec 32) : Prop :=
  (∀ a, (k0_off329 d0 v2361) a + S1x512.size a ≤ S4104x512.size a)
theorem k0_off329_inb : ∀ (d0 : Dev nD) (v2361 : BitVec 32) (k0_hw169 : k0_chk169 d0 v2361), ∀ a, (k0_off329 d0 v2361) a + S1x512.size a ≤ S4104x512.size a := fun d0 v2361 k0_hw169 => k0_hw169

def k0_off330 (d0 : Dev nD) (v2373 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2374 : BitVec 1 := Scalar.cmpi .sge v2373 v22
  let c4096_i32_704 : BitVec 32 := 4096#32
  let v2375 : BitVec 32 := Scalar.addi v22 c4096_i32_704
  let v2376 : BitVec 1 := Scalar.cmpi .slt v2373 v2375
  let v2377 : BitVec 1 := Scalar.andi v2374 v2376
  let v2378 : BitVec 32 := Scalar.subi v2373 v22
  let c4096_i32_705 : BitVec 32 := 4096#32
  let v2379 : BitVec 32 := Scalar.select v2377 v2378 c4096_i32_705
  let v2380 : Index := Scalar.indexCast v2379
  let c0_706 : Index := 0#32
  ![v2380.toNat, 0]

def k0_chk170 (d0 : Dev nD) (v2373 : BitVec 32) : Prop :=
  (∀ a, (k0_off330 d0 v2373) a + S1x512.size a ≤ S4104x512.size a)
theorem k0_off330_inb : ∀ (d0 : Dev nD) (v2373 : BitVec 32) (k0_hw170 : k0_chk170 d0 v2373), ∀ a, (k0_off330 d0 v2373) a + S1x512.size a ≤ S4104x512.size a := fun d0 v2373 k0_hw170 => k0_hw170

def k0_off331 (d0 : Dev nD) (v2385 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2386 : BitVec 1 := Scalar.cmpi .sge v2385 v22
  let c4096_i32_709 : BitVec 32 := 4096#32
  let v2387 : BitVec 32 := Scalar.addi v22 c4096_i32_709
  let v2388 : BitVec 1 := Scalar.cmpi .slt v2385 v2387
  let v2389 : BitVec 1 := Scalar.andi v2386 v2388
  let v2390 : BitVec 32 := Scalar.subi v2385 v22
  let c4096_i32_710 : BitVec 32 := 4096#32
  let v2391 : BitVec 32 := Scalar.select v2389 v2390 c4096_i32_710
  let v2392 : Index := Scalar.indexCast v2391
  let c0_711 : Index := 0#32
  ![v2392.toNat, 0]

def k0_chk171 (d0 : Dev nD) (v2385 : BitVec 32) : Prop :=
  (∀ a, (k0_off331 d0 v2385) a + S1x512.size a ≤ S4104x512.size a)
theorem k0_off331_inb : ∀ (d0 : Dev nD) (v2385 : BitVec 32) (k0_hw171 : k0_chk171 d0 v2385), ∀ a, (k0_off331 d0 v2385) a + S1x512.size a ≤ S4104x512.size a := fun d0 v2385 k0_hw171 => k0_hw171

def k0_off332 (d0 : Dev nD) (v2397 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2398 : BitVec 1 := Scalar.cmpi .sge v2397 v22
  let c4096_i32_714 : BitVec 32 := 4096#32
  let v2399 : BitVec 32 := Scalar.addi v22 c4096_i32_714
  let v2400 : BitVec 1 := Scalar.cmpi .slt v2397 v2399
  let v2401 : BitVec 1 := Scalar.andi v2398 v2400
  let v2402 : BitVec 32 := Scalar.subi v2397 v22
  let c4096_i32_715 : BitVec 32 := 4096#32
  let v2403 : BitVec 32 := Scalar.select v2401 v2402 c4096_i32_715
  let v2404 : Index := Scalar.indexCast v2403
  let c0_716 : Index := 0#32
  ![v2404.toNat, 0]

def k0_chk172 (d0 : Dev nD) (v2397 : BitVec 32) : Prop :=
  (∀ a, (k0_off332 d0 v2397) a + S1x512.size a ≤ S4104x512.size a)
theorem k0_off332_inb : ∀ (d0 : Dev nD) (v2397 : BitVec 32) (k0_hw172 : k0_chk172 d0 v2397), ∀ a, (k0_off332 d0 v2397) a + S1x512.size a ≤ S4104x512.size a := fun d0 v2397 k0_hw172 => k0_hw172

def k0_off333 (d0 : Dev nD) (v2409 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2410 : BitVec 1 := Scalar.cmpi .sge v2409 v22
  let c4096_i32_719 : BitVec 32 := 4096#32
  let v2411 : BitVec 32 := Scalar.addi v22 c4096_i32_719
  let v2412 : BitVec 1 := Scalar.cmpi .slt v2409 v2411
  let v2413 : BitVec 1 := Scalar.andi v2410 v2412
  let v2414 : BitVec 32 := Scalar.subi v2409 v22
  let c4096_i32_720 : BitVec 32 := 4096#32
  let v2415 : BitVec 32 := Scalar.select v2413 v2414 c4096_i32_720
  let v2416 : Index := Scalar.indexCast v2415
  let c0_721 : Index := 0#32
  ![v2416.toNat, 0]

def k0_chk173 (d0 : Dev nD) (v2409 : BitVec 32) : Prop :=
  (∀ a, (k0_off333 d0 v2409) a + S1x512.size a ≤ S4104x512.size a)
theorem k0_off333_inb : ∀ (d0 : Dev nD) (v2409 : BitVec 32) (k0_hw173 : k0_chk173 d0 v2409), ∀ a, (k0_off333 d0 v2409) a + S1x512.size a ≤ S4104x512.size a := fun d0 v2409 k0_hw173 => k0_hw173

def k0_off334 (d0 : Dev nD) (v2421 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2422 : BitVec 1 := Scalar.cmpi .sge v2421 v22
  let c4096_i32_724 : BitVec 32 := 4096#32
  let v2423 : BitVec 32 := Scalar.addi v22 c4096_i32_724
  let v2424 : BitVec 1 := Scalar.cmpi .slt v2421 v2423
  let v2425 : BitVec 1 := Scalar.andi v2422 v2424
  let v2426 : BitVec 32 := Scalar.subi v2421 v22
  let c4096_i32_725 : BitVec 32 := 4096#32
  let v2427 : BitVec 32 := Scalar.select v2425 v2426 c4096_i32_725
  let v2428 : Index := Scalar.indexCast v2427
  let c0_726 : Index := 0#32
  ![v2428.toNat, 0]

def k0_chk174 (d0 : Dev nD) (v2421 : BitVec 32) : Prop :=
  (∀ a, (k0_off334 d0 v2421) a + S1x512.size a ≤ S4104x512.size a)
theorem k0_off334_inb : ∀ (d0 : Dev nD) (v2421 : BitVec 32) (k0_hw174 : k0_chk174 d0 v2421), ∀ a, (k0_off334 d0 v2421) a + S1x512.size a ≤ S4104x512.size a := fun d0 v2421 k0_hw174 => k0_hw174

def k0_off335 (d0 : Dev nD) (v2433 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2434 : BitVec 1 := Scalar.cmpi .sge v2433 v22
  let c4096_i32_729 : BitVec 32 := 4096#32
  let v2435 : BitVec 32 := Scalar.addi v22 c4096_i32_729
  let v2436 : BitVec 1 := Scalar.cmpi .slt v2433 v2435
  let v2437 : BitVec 1 := Scalar.andi v2434 v2436
  let v2438 : BitVec 32 := Scalar.subi v2433 v22
  let c4096_i32_730 : BitVec 32 := 4096#32
  let v2439 : BitVec 32 := Scalar.select v2437 v2438 c4096_i32_730
  let v2440 : Index := Scalar.indexCast v2439
  let c0_731 : Index := 0#32
  ![v2440.toNat, 0]

def k0_chk175 (d0 : Dev nD) (v2433 : BitVec 32) : Prop :=
  (∀ a, (k0_off335 d0 v2433) a + S1x512.size a ≤ S4104x512.size a)
theorem k0_off335_inb : ∀ (d0 : Dev nD) (v2433 : BitVec 32) (k0_hw175 : k0_chk175 d0 v2433), ∀ a, (k0_off335 d0 v2433) a + S1x512.size a ≤ S4104x512.size a := fun d0 v2433 k0_hw175 => k0_hw175

def k0_off336 (d0 : Dev nD) (v2445 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2446 : BitVec 1 := Scalar.cmpi .sge v2445 v22
  let c4096_i32_734 : BitVec 32 := 4096#32
  let v2447 : BitVec 32 := Scalar.addi v22 c4096_i32_734
  let v2448 : BitVec 1 := Scalar.cmpi .slt v2445 v2447
  let v2449 : BitVec 1 := Scalar.andi v2446 v2448
  let v2450 : BitVec 32 := Scalar.subi v2445 v22
  let c4096_i32_735 : BitVec 32 := 4096#32
  let v2451 : BitVec 32 := Scalar.select v2449 v2450 c4096_i32_735
  let v2452 : Index := Scalar.indexCast v2451
  let c0_736 : Index := 0#32
  ![v2452.toNat, 0]

def k0_chk176 (d0 : Dev nD) (v2445 : BitVec 32) : Prop :=
  (∀ a, (k0_off336 d0 v2445) a + S1x512.size a ≤ S4104x512.size a)
theorem k0_off336_inb : ∀ (d0 : Dev nD) (v2445 : BitVec 32) (k0_hw176 : k0_chk176 d0 v2445), ∀ a, (k0_off336 d0 v2445) a + S1x512.size a ≤ S4104x512.size a := fun d0 v2445 k0_hw176 => k0_hw176

def k0_off337 (d0 : Dev nD) (v2457 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2458 : BitVec 1 := Scalar.cmpi .sge v2457 v22
  let c4096_i32_739 : BitVec 32 := 4096#32
  let v2459 : BitVec 32 := Scalar.addi v22 c4096_i32_739
  let v2460 : BitVec 1 := Scalar.cmpi .slt v2457 v2459
  let v2461 : BitVec 1 := Scalar.andi v2458 v2460
  let v2462 : BitVec 32 := Scalar.subi v2457 v22
  let c4096_i32_740 : BitVec 32 := 4096#32
  let v2463 : BitVec 32 := Scalar.select v2461 v2462 c4096_i32_740
  let v2464 : Index := Scalar.indexCast v2463
  let c0_741 : Index := 0#32
  ![v2464.toNat, 0]

def k0_chk177 (d0 : Dev nD) (v2457 : BitVec 32) : Prop :=
  (∀ a, (k0_off337 d0 v2457) a + S1x512.size a ≤ S4104x512.size a)
theorem k0_off337_inb : ∀ (d0 : Dev nD) (v2457 : BitVec 32) (k0_hw177 : k0_chk177 d0 v2457), ∀ a, (k0_off337 d0 v2457) a + S1x512.size a ≤ S4104x512.size a := fun d0 v2457 k0_hw177 => k0_hw177

def k0_off338 (d0 : Dev nD) (v2469 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2470 : BitVec 1 := Scalar.cmpi .sge v2469 v22
  let c4096_i32_744 : BitVec 32 := 4096#32
  let v2471 : BitVec 32 := Scalar.addi v22 c4096_i32_744
  let v2472 : BitVec 1 := Scalar.cmpi .slt v2469 v2471
  let v2473 : BitVec 1 := Scalar.andi v2470 v2472
  let v2474 : BitVec 32 := Scalar.subi v2469 v22
  let c4096_i32_745 : BitVec 32 := 4096#32
  let v2475 : BitVec 32 := Scalar.select v2473 v2474 c4096_i32_745
  let v2476 : Index := Scalar.indexCast v2475
  let c0_746 : Index := 0#32
  ![v2476.toNat, 0]

def k0_chk178 (d0 : Dev nD) (v2469 : BitVec 32) : Prop :=
  (∀ a, (k0_off338 d0 v2469) a + S1x512.size a ≤ S4104x512.size a)
theorem k0_off338_inb : ∀ (d0 : Dev nD) (v2469 : BitVec 32) (k0_hw178 : k0_chk178 d0 v2469), ∀ a, (k0_off338 d0 v2469) a + S1x512.size a ≤ S4104x512.size a := fun d0 v2469 k0_hw178 => k0_hw178

def k0_off339 (d0 : Dev nD) (v2481 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2482 : BitVec 1 := Scalar.cmpi .sge v2481 v22
  let c4096_i32_749 : BitVec 32 := 4096#32
  let v2483 : BitVec 32 := Scalar.addi v22 c4096_i32_749
  let v2484 : BitVec 1 := Scalar.cmpi .slt v2481 v2483
  let v2485 : BitVec 1 := Scalar.andi v2482 v2484
  let v2486 : BitVec 32 := Scalar.subi v2481 v22
  let c4096_i32_750 : BitVec 32 := 4096#32
  let v2487 : BitVec 32 := Scalar.select v2485 v2486 c4096_i32_750
  let v2488 : Index := Scalar.indexCast v2487
  let c0_751 : Index := 0#32
  ![v2488.toNat, 0]

def k0_chk179 (d0 : Dev nD) (v2481 : BitVec 32) : Prop :=
  (∀ a, (k0_off339 d0 v2481) a + S1x512.size a ≤ S4104x512.size a)
theorem k0_off339_inb : ∀ (d0 : Dev nD) (v2481 : BitVec 32) (k0_hw179 : k0_chk179 d0 v2481), ∀ a, (k0_off339 d0 v2481) a + S1x512.size a ≤ S4104x512.size a := fun d0 v2481 k0_hw179 => k0_hw179

def k0_off340 (d0 : Dev nD) (v2493 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2494 : BitVec 1 := Scalar.cmpi .sge v2493 v22
  let c4096_i32_754 : BitVec 32 := 4096#32
  let v2495 : BitVec 32 := Scalar.addi v22 c4096_i32_754
  let v2496 : BitVec 1 := Scalar.cmpi .slt v2493 v2495
  let v2497 : BitVec 1 := Scalar.andi v2494 v2496
  let v2498 : BitVec 32 := Scalar.subi v2493 v22
  let c4096_i32_755 : BitVec 32 := 4096#32
  let v2499 : BitVec 32 := Scalar.select v2497 v2498 c4096_i32_755
  let v2500 : Index := Scalar.indexCast v2499
  let c0_756 : Index := 0#32
  ![v2500.toNat, 0]

def k0_chk180 (d0 : Dev nD) (v2493 : BitVec 32) : Prop :=
  (∀ a, (k0_off340 d0 v2493) a + S1x512.size a ≤ S4104x512.size a)
theorem k0_off340_inb : ∀ (d0 : Dev nD) (v2493 : BitVec 32) (k0_hw180 : k0_chk180 d0 v2493), ∀ a, (k0_off340 d0 v2493) a + S1x512.size a ≤ S4104x512.size a := fun d0 v2493 k0_hw180 => k0_hw180

def k0_off341 (d0 : Dev nD) (v2505 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2506 : BitVec 1 := Scalar.cmpi .sge v2505 v22
  let c4096_i32_759 : BitVec 32 := 4096#32
  let v2507 : BitVec 32 := Scalar.addi v22 c4096_i32_759
  let v2508 : BitVec 1 := Scalar.cmpi .slt v2505 v2507
  let v2509 : BitVec 1 := Scalar.andi v2506 v2508
  let v2510 : BitVec 32 := Scalar.subi v2505 v22
  let c4096_i32_760 : BitVec 32 := 4096#32
  let v2511 : BitVec 32 := Scalar.select v2509 v2510 c4096_i32_760
  let v2512 : Index := Scalar.indexCast v2511
  let c0_761 : Index := 0#32
  ![v2512.toNat, 0]

def k0_chk181 (d0 : Dev nD) (v2505 : BitVec 32) : Prop :=
  (∀ a, (k0_off341 d0 v2505) a + S1x512.size a ≤ S4104x512.size a)
theorem k0_off341_inb : ∀ (d0 : Dev nD) (v2505 : BitVec 32) (k0_hw181 : k0_chk181 d0 v2505), ∀ a, (k0_off341 d0 v2505) a + S1x512.size a ≤ S4104x512.size a := fun d0 v2505 k0_hw181 => k0_hw181

def k0_off342 (d0 : Dev nD) (v2517 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2518 : BitVec 1 := Scalar.cmpi .sge v2517 v22
  let c4096_i32_764 : BitVec 32 := 4096#32
  let v2519 : BitVec 32 := Scalar.addi v22 c4096_i32_764
  let v2520 : BitVec 1 := Scalar.cmpi .slt v2517 v2519
  let v2521 : BitVec 1 := Scalar.andi v2518 v2520
  let v2522 : BitVec 32 := Scalar.subi v2517 v22
  let c4096_i32_765 : BitVec 32 := 4096#32
  let v2523 : BitVec 32 := Scalar.select v2521 v2522 c4096_i32_765
  let v2524 : Index := Scalar.indexCast v2523
  let c0_766 : Index := 0#32
  ![v2524.toNat, 0]

def k0_chk182 (d0 : Dev nD) (v2517 : BitVec 32) : Prop :=
  (∀ a, (k0_off342 d0 v2517) a + S1x512.size a ≤ S4104x512.size a)
theorem k0_off342_inb : ∀ (d0 : Dev nD) (v2517 : BitVec 32) (k0_hw182 : k0_chk182 d0 v2517), ∀ a, (k0_off342 d0 v2517) a + S1x512.size a ≤ S4104x512.size a := fun d0 v2517 k0_hw182 => k0_hw182

def k0_off343 (d0 : Dev nD) (v2529 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2530 : BitVec 1 := Scalar.cmpi .sge v2529 v22
  let c4096_i32_769 : BitVec 32 := 4096#32
  let v2531 : BitVec 32 := Scalar.addi v22 c4096_i32_769
  let v2532 : BitVec 1 := Scalar.cmpi .slt v2529 v2531
  let v2533 : BitVec 1 := Scalar.andi v2530 v2532
  let v2534 : BitVec 32 := Scalar.subi v2529 v22
  let c4096_i32_770 : BitVec 32 := 4096#32
  let v2535 : BitVec 32 := Scalar.select v2533 v2534 c4096_i32_770
  let v2536 : Index := Scalar.indexCast v2535
  let c0_771 : Index := 0#32
  ![v2536.toNat, 0]

def k0_chk183 (d0 : Dev nD) (v2529 : BitVec 32) : Prop :=
  (∀ a, (k0_off343 d0 v2529) a + S1x512.size a ≤ S4104x512.size a)
theorem k0_off343_inb : ∀ (d0 : Dev nD) (v2529 : BitVec 32) (k0_hw183 : k0_chk183 d0 v2529), ∀ a, (k0_off343 d0 v2529) a + S1x512.size a ≤ S4104x512.size a := fun d0 v2529 k0_hw183 => k0_hw183

def k0_off344 (d0 : Dev nD) (v2541 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2542 : BitVec 1 := Scalar.cmpi .sge v2541 v22
  let c4096_i32_774 : BitVec 32 := 4096#32
  let v2543 : BitVec 32 := Scalar.addi v22 c4096_i32_774
  let v2544 : BitVec 1 := Scalar.cmpi .slt v2541 v2543
  let v2545 : BitVec 1 := Scalar.andi v2542 v2544
  let v2546 : BitVec 32 := Scalar.subi v2541 v22
  let c4096_i32_775 : BitVec 32 := 4096#32
  let v2547 : BitVec 32 := Scalar.select v2545 v2546 c4096_i32_775
  let v2548 : Index := Scalar.indexCast v2547
  let c0_776 : Index := 0#32
  ![v2548.toNat, 0]

def k0_chk184 (d0 : Dev nD) (v2541 : BitVec 32) : Prop :=
  (∀ a, (k0_off344 d0 v2541) a + S1x512.size a ≤ S4104x512.size a)
theorem k0_off344_inb : ∀ (d0 : Dev nD) (v2541 : BitVec 32) (k0_hw184 : k0_chk184 d0 v2541), ∀ a, (k0_off344 d0 v2541) a + S1x512.size a ≤ S4104x512.size a := fun d0 v2541 k0_hw184 => k0_hw184

def k0_off345 (d0 : Dev nD) (v2553 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2554 : BitVec 1 := Scalar.cmpi .sge v2553 v22
  let c4096_i32_779 : BitVec 32 := 4096#32
  let v2555 : BitVec 32 := Scalar.addi v22 c4096_i32_779
  let v2556 : BitVec 1 := Scalar.cmpi .slt v2553 v2555
  let v2557 : BitVec 1 := Scalar.andi v2554 v2556
  let v2558 : BitVec 32 := Scalar.subi v2553 v22
  let c4096_i32_780 : BitVec 32 := 4096#32
  let v2559 : BitVec 32 := Scalar.select v2557 v2558 c4096_i32_780
  let v2560 : Index := Scalar.indexCast v2559
  let c0_781 : Index := 0#32
  ![v2560.toNat, 0]

def k0_chk185 (d0 : Dev nD) (v2553 : BitVec 32) : Prop :=
  (∀ a, (k0_off345 d0 v2553) a + S1x512.size a ≤ S4104x512.size a)
theorem k0_off345_inb : ∀ (d0 : Dev nD) (v2553 : BitVec 32) (k0_hw185 : k0_chk185 d0 v2553), ∀ a, (k0_off345 d0 v2553) a + S1x512.size a ≤ S4104x512.size a := fun d0 v2553 k0_hw185 => k0_hw185

def k0_off346 (d0 : Dev nD) (v2565 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2566 : BitVec 1 := Scalar.cmpi .sge v2565 v22
  let c4096_i32_784 : BitVec 32 := 4096#32
  let v2567 : BitVec 32 := Scalar.addi v22 c4096_i32_784
  let v2568 : BitVec 1 := Scalar.cmpi .slt v2565 v2567
  let v2569 : BitVec 1 := Scalar.andi v2566 v2568
  let v2570 : BitVec 32 := Scalar.subi v2565 v22
  let c4096_i32_785 : BitVec 32 := 4096#32
  let v2571 : BitVec 32 := Scalar.select v2569 v2570 c4096_i32_785
  let v2572 : Index := Scalar.indexCast v2571
  let c0_786 : Index := 0#32
  ![v2572.toNat, 0]

def k0_chk186 (d0 : Dev nD) (v2565 : BitVec 32) : Prop :=
  (∀ a, (k0_off346 d0 v2565) a + S1x512.size a ≤ S4104x512.size a)
theorem k0_off346_inb : ∀ (d0 : Dev nD) (v2565 : BitVec 32) (k0_hw186 : k0_chk186 d0 v2565), ∀ a, (k0_off346 d0 v2565) a + S1x512.size a ≤ S4104x512.size a := fun d0 v2565 k0_hw186 => k0_hw186

def k0_off347 (d0 : Dev nD) (v2577 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2578 : BitVec 1 := Scalar.cmpi .sge v2577 v22
  let c4096_i32_789 : BitVec 32 := 4096#32
  let v2579 : BitVec 32 := Scalar.addi v22 c4096_i32_789
  let v2580 : BitVec 1 := Scalar.cmpi .slt v2577 v2579
  let v2581 : BitVec 1 := Scalar.andi v2578 v2580
  let v2582 : BitVec 32 := Scalar.subi v2577 v22
  let c4096_i32_790 : BitVec 32 := 4096#32
  let v2583 : BitVec 32 := Scalar.select v2581 v2582 c4096_i32_790
  let v2584 : Index := Scalar.indexCast v2583
  let c0_791 : Index := 0#32
  ![v2584.toNat, 0]

def k0_chk187 (d0 : Dev nD) (v2577 : BitVec 32) : Prop :=
  (∀ a, (k0_off347 d0 v2577) a + S1x512.size a ≤ S4104x512.size a)
theorem k0_off347_inb : ∀ (d0 : Dev nD) (v2577 : BitVec 32) (k0_hw187 : k0_chk187 d0 v2577), ∀ a, (k0_off347 d0 v2577) a + S1x512.size a ≤ S4104x512.size a := fun d0 v2577 k0_hw187 => k0_hw187

def k0_off348 (d0 : Dev nD) (v2589 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2590 : BitVec 1 := Scalar.cmpi .sge v2589 v22
  let c4096_i32_794 : BitVec 32 := 4096#32
  let v2591 : BitVec 32 := Scalar.addi v22 c4096_i32_794
  let v2592 : BitVec 1 := Scalar.cmpi .slt v2589 v2591
  let v2593 : BitVec 1 := Scalar.andi v2590 v2592
  let v2594 : BitVec 32 := Scalar.subi v2589 v22
  let c4096_i32_795 : BitVec 32 := 4096#32
  let v2595 : BitVec 32 := Scalar.select v2593 v2594 c4096_i32_795
  let v2596 : Index := Scalar.indexCast v2595
  let c0_796 : Index := 0#32
  ![v2596.toNat, 0]

def k0_chk188 (d0 : Dev nD) (v2589 : BitVec 32) : Prop :=
  (∀ a, (k0_off348 d0 v2589) a + S1x512.size a ≤ S4104x512.size a)
theorem k0_off348_inb : ∀ (d0 : Dev nD) (v2589 : BitVec 32) (k0_hw188 : k0_chk188 d0 v2589), ∀ a, (k0_off348 d0 v2589) a + S1x512.size a ≤ S4104x512.size a := fun d0 v2589 k0_hw188 => k0_hw188

def k0_off349 (d0 : Dev nD) (v2601 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2602 : BitVec 1 := Scalar.cmpi .sge v2601 v22
  let c4096_i32_799 : BitVec 32 := 4096#32
  let v2603 : BitVec 32 := Scalar.addi v22 c4096_i32_799
  let v2604 : BitVec 1 := Scalar.cmpi .slt v2601 v2603
  let v2605 : BitVec 1 := Scalar.andi v2602 v2604
  let v2606 : BitVec 32 := Scalar.subi v2601 v22
  let c4096_i32_800 : BitVec 32 := 4096#32
  let v2607 : BitVec 32 := Scalar.select v2605 v2606 c4096_i32_800
  let v2608 : Index := Scalar.indexCast v2607
  let c0_801 : Index := 0#32
  ![v2608.toNat, 0]

def k0_chk189 (d0 : Dev nD) (v2601 : BitVec 32) : Prop :=
  (∀ a, (k0_off349 d0 v2601) a + S1x512.size a ≤ S4104x512.size a)
theorem k0_off349_inb : ∀ (d0 : Dev nD) (v2601 : BitVec 32) (k0_hw189 : k0_chk189 d0 v2601), ∀ a, (k0_off349 d0 v2601) a + S1x512.size a ≤ S4104x512.size a := fun d0 v2601 k0_hw189 => k0_hw189

def k0_off350 (d0 : Dev nD) (v2613 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2614 : BitVec 1 := Scalar.cmpi .sge v2613 v22
  let c4096_i32_804 : BitVec 32 := 4096#32
  let v2615 : BitVec 32 := Scalar.addi v22 c4096_i32_804
  let v2616 : BitVec 1 := Scalar.cmpi .slt v2613 v2615
  let v2617 : BitVec 1 := Scalar.andi v2614 v2616
  let v2618 : BitVec 32 := Scalar.subi v2613 v22
  let c4096_i32_805 : BitVec 32 := 4096#32
  let v2619 : BitVec 32 := Scalar.select v2617 v2618 c4096_i32_805
  let v2620 : Index := Scalar.indexCast v2619
  let c0_806 : Index := 0#32
  ![v2620.toNat, 0]

def k0_chk190 (d0 : Dev nD) (v2613 : BitVec 32) : Prop :=
  (∀ a, (k0_off350 d0 v2613) a + S1x512.size a ≤ S4104x512.size a)
theorem k0_off350_inb : ∀ (d0 : Dev nD) (v2613 : BitVec 32) (k0_hw190 : k0_chk190 d0 v2613), ∀ a, (k0_off350 d0 v2613) a + S1x512.size a ≤ S4104x512.size a := fun d0 v2613 k0_hw190 => k0_hw190

def k0_off351 (d0 : Dev nD) (v2625 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2626 : BitVec 1 := Scalar.cmpi .sge v2625 v22
  let c4096_i32_809 : BitVec 32 := 4096#32
  let v2627 : BitVec 32 := Scalar.addi v22 c4096_i32_809
  let v2628 : BitVec 1 := Scalar.cmpi .slt v2625 v2627
  let v2629 : BitVec 1 := Scalar.andi v2626 v2628
  let v2630 : BitVec 32 := Scalar.subi v2625 v22
  let c4096_i32_810 : BitVec 32 := 4096#32
  let v2631 : BitVec 32 := Scalar.select v2629 v2630 c4096_i32_810
  let v2632 : Index := Scalar.indexCast v2631
  let c0_811 : Index := 0#32
  ![v2632.toNat, 0]

def k0_chk191 (d0 : Dev nD) (v2625 : BitVec 32) : Prop :=
  (∀ a, (k0_off351 d0 v2625) a + S1x512.size a ≤ S4104x512.size a)
theorem k0_off351_inb : ∀ (d0 : Dev nD) (v2625 : BitVec 32) (k0_hw191 : k0_chk191 d0 v2625), ∀ a, (k0_off351 d0 v2625) a + S1x512.size a ≤ S4104x512.size a := fun d0 v2625 k0_hw191 => k0_hw191

def k0_off352 (d0 : Dev nD) (v2637 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2638 : BitVec 1 := Scalar.cmpi .sge v2637 v22
  let c4096_i32_814 : BitVec 32 := 4096#32
  let v2639 : BitVec 32 := Scalar.addi v22 c4096_i32_814
  let v2640 : BitVec 1 := Scalar.cmpi .slt v2637 v2639
  let v2641 : BitVec 1 := Scalar.andi v2638 v2640
  let v2642 : BitVec 32 := Scalar.subi v2637 v22
  let c4096_i32_815 : BitVec 32 := 4096#32
  let v2643 : BitVec 32 := Scalar.select v2641 v2642 c4096_i32_815
  let v2644 : Index := Scalar.indexCast v2643
  let c0_816 : Index := 0#32
  ![v2644.toNat, 0]

def k0_chk192 (d0 : Dev nD) (v2637 : BitVec 32) : Prop :=
  (∀ a, (k0_off352 d0 v2637) a + S1x512.size a ≤ S4104x512.size a)
theorem k0_off352_inb : ∀ (d0 : Dev nD) (v2637 : BitVec 32) (k0_hw192 : k0_chk192 d0 v2637), ∀ a, (k0_off352 d0 v2637) a + S1x512.size a ≤ S4104x512.size a := fun d0 v2637 k0_hw192 => k0_hw192

def k0_off353 (d0 : Dev nD) (v2649 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2650 : BitVec 1 := Scalar.cmpi .sge v2649 v22
  let c4096_i32_819 : BitVec 32 := 4096#32
  let v2651 : BitVec 32 := Scalar.addi v22 c4096_i32_819
  let v2652 : BitVec 1 := Scalar.cmpi .slt v2649 v2651
  let v2653 : BitVec 1 := Scalar.andi v2650 v2652
  let v2654 : BitVec 32 := Scalar.subi v2649 v22
  let c4096_i32_820 : BitVec 32 := 4096#32
  let v2655 : BitVec 32 := Scalar.select v2653 v2654 c4096_i32_820
  let v2656 : Index := Scalar.indexCast v2655
  let c0_821 : Index := 0#32
  ![v2656.toNat, 0]

def k0_chk193 (d0 : Dev nD) (v2649 : BitVec 32) : Prop :=
  (∀ a, (k0_off353 d0 v2649) a + S1x512.size a ≤ S4104x512.size a)
theorem k0_off353_inb : ∀ (d0 : Dev nD) (v2649 : BitVec 32) (k0_hw193 : k0_chk193 d0 v2649), ∀ a, (k0_off353 d0 v2649) a + S1x512.size a ≤ S4104x512.size a := fun d0 v2649 k0_hw193 => k0_hw193

def k0_off354 (d0 : Dev nD) (v2661 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2662 : BitVec 1 := Scalar.cmpi .sge v2661 v22
  let c4096_i32_824 : BitVec 32 := 4096#32
  let v2663 : BitVec 32 := Scalar.addi v22 c4096_i32_824
  let v2664 : BitVec 1 := Scalar.cmpi .slt v2661 v2663
  let v2665 : BitVec 1 := Scalar.andi v2662 v2664
  let v2666 : BitVec 32 := Scalar.subi v2661 v22
  let c4096_i32_825 : BitVec 32 := 4096#32
  let v2667 : BitVec 32 := Scalar.select v2665 v2666 c4096_i32_825
  let v2668 : Index := Scalar.indexCast v2667
  let c0_826 : Index := 0#32
  ![v2668.toNat, 0]

def k0_chk194 (d0 : Dev nD) (v2661 : BitVec 32) : Prop :=
  (∀ a, (k0_off354 d0 v2661) a + S1x512.size a ≤ S4104x512.size a)
theorem k0_off354_inb : ∀ (d0 : Dev nD) (v2661 : BitVec 32) (k0_hw194 : k0_chk194 d0 v2661), ∀ a, (k0_off354 d0 v2661) a + S1x512.size a ≤ S4104x512.size a := fun d0 v2661 k0_hw194 => k0_hw194

def k0_off355 (d0 : Dev nD) (v2673 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2674 : BitVec 1 := Scalar.cmpi .sge v2673 v22
  let c4096_i32_829 : BitVec 32 := 4096#32
  let v2675 : BitVec 32 := Scalar.addi v22 c4096_i32_829
  let v2676 : BitVec 1 := Scalar.cmpi .slt v2673 v2675
  let v2677 : BitVec 1 := Scalar.andi v2674 v2676
  let v2678 : BitVec 32 := Scalar.subi v2673 v22
  let c4096_i32_830 : BitVec 32 := 4096#32
  let v2679 : BitVec 32 := Scalar.select v2677 v2678 c4096_i32_830
  let v2680 : Index := Scalar.indexCast v2679
  let c0_831 : Index := 0#32
  ![v2680.toNat, 0]

def k0_chk195 (d0 : Dev nD) (v2673 : BitVec 32) : Prop :=
  (∀ a, (k0_off355 d0 v2673) a + S1x512.size a ≤ S4104x512.size a)
theorem k0_off355_inb : ∀ (d0 : Dev nD) (v2673 : BitVec 32) (k0_hw195 : k0_chk195 d0 v2673), ∀ a, (k0_off355 d0 v2673) a + S1x512.size a ≤ S4104x512.size a := fun d0 v2673 k0_hw195 => k0_hw195

def k0_off356 (d0 : Dev nD) (v2685 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2686 : BitVec 1 := Scalar.cmpi .sge v2685 v22
  let c4096_i32_834 : BitVec 32 := 4096#32
  let v2687 : BitVec 32 := Scalar.addi v22 c4096_i32_834
  let v2688 : BitVec 1 := Scalar.cmpi .slt v2685 v2687
  let v2689 : BitVec 1 := Scalar.andi v2686 v2688
  let v2690 : BitVec 32 := Scalar.subi v2685 v22
  let c4096_i32_835 : BitVec 32 := 4096#32
  let v2691 : BitVec 32 := Scalar.select v2689 v2690 c4096_i32_835
  let v2692 : Index := Scalar.indexCast v2691
  let c0_836 : Index := 0#32
  ![v2692.toNat, 0]

def k0_chk196 (d0 : Dev nD) (v2685 : BitVec 32) : Prop :=
  (∀ a, (k0_off356 d0 v2685) a + S1x512.size a ≤ S4104x512.size a)
theorem k0_off356_inb : ∀ (d0 : Dev nD) (v2685 : BitVec 32) (k0_hw196 : k0_chk196 d0 v2685), ∀ a, (k0_off356 d0 v2685) a + S1x512.size a ≤ S4104x512.size a := fun d0 v2685 k0_hw196 => k0_hw196

def k0_off357 (d0 : Dev nD) (v2697 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2698 : BitVec 1 := Scalar.cmpi .sge v2697 v22
  let c4096_i32_839 : BitVec 32 := 4096#32
  let v2699 : BitVec 32 := Scalar.addi v22 c4096_i32_839
  let v2700 : BitVec 1 := Scalar.cmpi .slt v2697 v2699
  let v2701 : BitVec 1 := Scalar.andi v2698 v2700
  let v2702 : BitVec 32 := Scalar.subi v2697 v22
  let c4096_i32_840 : BitVec 32 := 4096#32
  let v2703 : BitVec 32 := Scalar.select v2701 v2702 c4096_i32_840
  let v2704 : Index := Scalar.indexCast v2703
  let c0_841 : Index := 0#32
  ![v2704.toNat, 0]

def k0_chk197 (d0 : Dev nD) (v2697 : BitVec 32) : Prop :=
  (∀ a, (k0_off357 d0 v2697) a + S1x512.size a ≤ S4104x512.size a)
theorem k0_off357_inb : ∀ (d0 : Dev nD) (v2697 : BitVec 32) (k0_hw197 : k0_chk197 d0 v2697), ∀ a, (k0_off357 d0 v2697) a + S1x512.size a ≤ S4104x512.size a := fun d0 v2697 k0_hw197 => k0_hw197

def k0_off358 (d0 : Dev nD) (v2709 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2710 : BitVec 1 := Scalar.cmpi .sge v2709 v22
  let c4096_i32_844 : BitVec 32 := 4096#32
  let v2711 : BitVec 32 := Scalar.addi v22 c4096_i32_844
  let v2712 : BitVec 1 := Scalar.cmpi .slt v2709 v2711
  let v2713 : BitVec 1 := Scalar.andi v2710 v2712
  let v2714 : BitVec 32 := Scalar.subi v2709 v22
  let c4096_i32_845 : BitVec 32 := 4096#32
  let v2715 : BitVec 32 := Scalar.select v2713 v2714 c4096_i32_845
  let v2716 : Index := Scalar.indexCast v2715
  let c0_846 : Index := 0#32
  ![v2716.toNat, 0]

def k0_chk198 (d0 : Dev nD) (v2709 : BitVec 32) : Prop :=
  (∀ a, (k0_off358 d0 v2709) a + S1x512.size a ≤ S4104x512.size a)
theorem k0_off358_inb : ∀ (d0 : Dev nD) (v2709 : BitVec 32) (k0_hw198 : k0_chk198 d0 v2709), ∀ a, (k0_off358 d0 v2709) a + S1x512.size a ≤ S4104x512.size a := fun d0 v2709 k0_hw198 => k0_hw198

def k0_off359 (d0 : Dev nD) (v2721 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2722 : BitVec 1 := Scalar.cmpi .sge v2721 v22
  let c4096_i32_849 : BitVec 32 := 4096#32
  let v2723 : BitVec 32 := Scalar.addi v22 c4096_i32_849
  let v2724 : BitVec 1 := Scalar.cmpi .slt v2721 v2723
  let v2725 : BitVec 1 := Scalar.andi v2722 v2724
  let v2726 : BitVec 32 := Scalar.subi v2721 v22
  let c4096_i32_850 : BitVec 32 := 4096#32
  let v2727 : BitVec 32 := Scalar.select v2725 v2726 c4096_i32_850
  let v2728 : Index := Scalar.indexCast v2727
  let c0_851 : Index := 0#32
  ![v2728.toNat, 0]

def k0_chk199 (d0 : Dev nD) (v2721 : BitVec 32) : Prop :=
  (∀ a, (k0_off359 d0 v2721) a + S1x512.size a ≤ S4104x512.size a)
theorem k0_off359_inb : ∀ (d0 : Dev nD) (v2721 : BitVec 32) (k0_hw199 : k0_chk199 d0 v2721), ∀ a, (k0_off359 d0 v2721) a + S1x512.size a ≤ S4104x512.size a := fun d0 v2721 k0_hw199 => k0_hw199

def k0_off360 (d0 : Dev nD) (v2733 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2734 : BitVec 1 := Scalar.cmpi .sge v2733 v22
  let c4096_i32_854 : BitVec 32 := 4096#32
  let v2735 : BitVec 32 := Scalar.addi v22 c4096_i32_854
  let v2736 : BitVec 1 := Scalar.cmpi .slt v2733 v2735
  let v2737 : BitVec 1 := Scalar.andi v2734 v2736
  let v2738 : BitVec 32 := Scalar.subi v2733 v22
  let c4096_i32_855 : BitVec 32 := 4096#32
  let v2739 : BitVec 32 := Scalar.select v2737 v2738 c4096_i32_855
  let v2740 : Index := Scalar.indexCast v2739
  let c0_856 : Index := 0#32
  ![v2740.toNat, 0]

def k0_chk200 (d0 : Dev nD) (v2733 : BitVec 32) : Prop :=
  (∀ a, (k0_off360 d0 v2733) a + S1x512.size a ≤ S4104x512.size a)
theorem k0_off360_inb : ∀ (d0 : Dev nD) (v2733 : BitVec 32) (k0_hw200 : k0_chk200 d0 v2733), ∀ a, (k0_off360 d0 v2733) a + S1x512.size a ≤ S4104x512.size a := fun d0 v2733 k0_hw200 => k0_hw200

def k0_off361 (d0 : Dev nD) (v2745 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2746 : BitVec 1 := Scalar.cmpi .sge v2745 v22
  let c4096_i32_859 : BitVec 32 := 4096#32
  let v2747 : BitVec 32 := Scalar.addi v22 c4096_i32_859
  let v2748 : BitVec 1 := Scalar.cmpi .slt v2745 v2747
  let v2749 : BitVec 1 := Scalar.andi v2746 v2748
  let v2750 : BitVec 32 := Scalar.subi v2745 v22
  let c4096_i32_860 : BitVec 32 := 4096#32
  let v2751 : BitVec 32 := Scalar.select v2749 v2750 c4096_i32_860
  let v2752 : Index := Scalar.indexCast v2751
  let c0_861 : Index := 0#32
  ![v2752.toNat, 0]

def k0_chk201 (d0 : Dev nD) (v2745 : BitVec 32) : Prop :=
  (∀ a, (k0_off361 d0 v2745) a + S1x512.size a ≤ S4104x512.size a)
theorem k0_off361_inb : ∀ (d0 : Dev nD) (v2745 : BitVec 32) (k0_hw201 : k0_chk201 d0 v2745), ∀ a, (k0_off361 d0 v2745) a + S1x512.size a ≤ S4104x512.size a := fun d0 v2745 k0_hw201 => k0_hw201

def k0_off362 (d0 : Dev nD) (v2757 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2758 : BitVec 1 := Scalar.cmpi .sge v2757 v22
  let c4096_i32_864 : BitVec 32 := 4096#32
  let v2759 : BitVec 32 := Scalar.addi v22 c4096_i32_864
  let v2760 : BitVec 1 := Scalar.cmpi .slt v2757 v2759
  let v2761 : BitVec 1 := Scalar.andi v2758 v2760
  let v2762 : BitVec 32 := Scalar.subi v2757 v22
  let c4096_i32_865 : BitVec 32 := 4096#32
  let v2763 : BitVec 32 := Scalar.select v2761 v2762 c4096_i32_865
  let v2764 : Index := Scalar.indexCast v2763
  let c0_866 : Index := 0#32
  ![v2764.toNat, 0]

def k0_chk202 (d0 : Dev nD) (v2757 : BitVec 32) : Prop :=
  (∀ a, (k0_off362 d0 v2757) a + S1x512.size a ≤ S4104x512.size a)
theorem k0_off362_inb : ∀ (d0 : Dev nD) (v2757 : BitVec 32) (k0_hw202 : k0_chk202 d0 v2757), ∀ a, (k0_off362 d0 v2757) a + S1x512.size a ≤ S4104x512.size a := fun d0 v2757 k0_hw202 => k0_hw202

def k0_off363 (d0 : Dev nD) (v2769 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2770 : BitVec 1 := Scalar.cmpi .sge v2769 v22
  let c4096_i32_869 : BitVec 32 := 4096#32
  let v2771 : BitVec 32 := Scalar.addi v22 c4096_i32_869
  let v2772 : BitVec 1 := Scalar.cmpi .slt v2769 v2771
  let v2773 : BitVec 1 := Scalar.andi v2770 v2772
  let v2774 : BitVec 32 := Scalar.subi v2769 v22
  let c4096_i32_870 : BitVec 32 := 4096#32
  let v2775 : BitVec 32 := Scalar.select v2773 v2774 c4096_i32_870
  let v2776 : Index := Scalar.indexCast v2775
  let c0_871 : Index := 0#32
  ![v2776.toNat, 0]

def k0_chk203 (d0 : Dev nD) (v2769 : BitVec 32) : Prop :=
  (∀ a, (k0_off363 d0 v2769) a + S1x512.size a ≤ S4104x512.size a)
theorem k0_off363_inb : ∀ (d0 : Dev nD) (v2769 : BitVec 32) (k0_hw203 : k0_chk203 d0 v2769), ∀ a, (k0_off363 d0 v2769) a + S1x512.size a ≤ S4104x512.size a := fun d0 v2769 k0_hw203 => k0_hw203

def k0_off364 (d0 : Dev nD) (v2781 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2782 : BitVec 1 := Scalar.cmpi .sge v2781 v22
  let c4096_i32_874 : BitVec 32 := 4096#32
  let v2783 : BitVec 32 := Scalar.addi v22 c4096_i32_874
  let v2784 : BitVec 1 := Scalar.cmpi .slt v2781 v2783
  let v2785 : BitVec 1 := Scalar.andi v2782 v2784
  let v2786 : BitVec 32 := Scalar.subi v2781 v22
  let c4096_i32_875 : BitVec 32 := 4096#32
  let v2787 : BitVec 32 := Scalar.select v2785 v2786 c4096_i32_875
  let v2788 : Index := Scalar.indexCast v2787
  let c0_876 : Index := 0#32
  ![v2788.toNat, 0]

def k0_chk204 (d0 : Dev nD) (v2781 : BitVec 32) : Prop :=
  (∀ a, (k0_off364 d0 v2781) a + S1x512.size a ≤ S4104x512.size a)
theorem k0_off364_inb : ∀ (d0 : Dev nD) (v2781 : BitVec 32) (k0_hw204 : k0_chk204 d0 v2781), ∀ a, (k0_off364 d0 v2781) a + S1x512.size a ≤ S4104x512.size a := fun d0 v2781 k0_hw204 => k0_hw204

def k0_off365 (d0 : Dev nD) (v2793 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2794 : BitVec 1 := Scalar.cmpi .sge v2793 v22
  let c4096_i32_879 : BitVec 32 := 4096#32
  let v2795 : BitVec 32 := Scalar.addi v22 c4096_i32_879
  let v2796 : BitVec 1 := Scalar.cmpi .slt v2793 v2795
  let v2797 : BitVec 1 := Scalar.andi v2794 v2796
  let v2798 : BitVec 32 := Scalar.subi v2793 v22
  let c4096_i32_880 : BitVec 32 := 4096#32
  let v2799 : BitVec 32 := Scalar.select v2797 v2798 c4096_i32_880
  let v2800 : Index := Scalar.indexCast v2799
  let c0_881 : Index := 0#32
  ![v2800.toNat, 0]

def k0_chk205 (d0 : Dev nD) (v2793 : BitVec 32) : Prop :=
  (∀ a, (k0_off365 d0 v2793) a + S1x512.size a ≤ S4104x512.size a)
theorem k0_off365_inb : ∀ (d0 : Dev nD) (v2793 : BitVec 32) (k0_hw205 : k0_chk205 d0 v2793), ∀ a, (k0_off365 d0 v2793) a + S1x512.size a ≤ S4104x512.size a := fun d0 v2793 k0_hw205 => k0_hw205

def k0_off366 (d0 : Dev nD) (v2805 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2806 : BitVec 1 := Scalar.cmpi .sge v2805 v22
  let c4096_i32_884 : BitVec 32 := 4096#32
  let v2807 : BitVec 32 := Scalar.addi v22 c4096_i32_884
  let v2808 : BitVec 1 := Scalar.cmpi .slt v2805 v2807
  let v2809 : BitVec 1 := Scalar.andi v2806 v2808
  let v2810 : BitVec 32 := Scalar.subi v2805 v22
  let c4096_i32_885 : BitVec 32 := 4096#32
  let v2811 : BitVec 32 := Scalar.select v2809 v2810 c4096_i32_885
  let v2812 : Index := Scalar.indexCast v2811
  let c0_886 : Index := 0#32
  ![v2812.toNat, 0]

def k0_chk206 (d0 : Dev nD) (v2805 : BitVec 32) : Prop :=
  (∀ a, (k0_off366 d0 v2805) a + S1x512.size a ≤ S4104x512.size a)
theorem k0_off366_inb : ∀ (d0 : Dev nD) (v2805 : BitVec 32) (k0_hw206 : k0_chk206 d0 v2805), ∀ a, (k0_off366 d0 v2805) a + S1x512.size a ≤ S4104x512.size a := fun d0 v2805 k0_hw206 => k0_hw206

def k0_off367 (d0 : Dev nD) (v2817 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2818 : BitVec 1 := Scalar.cmpi .sge v2817 v22
  let c4096_i32_889 : BitVec 32 := 4096#32
  let v2819 : BitVec 32 := Scalar.addi v22 c4096_i32_889
  let v2820 : BitVec 1 := Scalar.cmpi .slt v2817 v2819
  let v2821 : BitVec 1 := Scalar.andi v2818 v2820
  let v2822 : BitVec 32 := Scalar.subi v2817 v22
  let c4096_i32_890 : BitVec 32 := 4096#32
  let v2823 : BitVec 32 := Scalar.select v2821 v2822 c4096_i32_890
  let v2824 : Index := Scalar.indexCast v2823
  let c0_891 : Index := 0#32
  ![v2824.toNat, 0]

def k0_chk207 (d0 : Dev nD) (v2817 : BitVec 32) : Prop :=
  (∀ a, (k0_off367 d0 v2817) a + S1x512.size a ≤ S4104x512.size a)
theorem k0_off367_inb : ∀ (d0 : Dev nD) (v2817 : BitVec 32) (k0_hw207 : k0_chk207 d0 v2817), ∀ a, (k0_off367 d0 v2817) a + S1x512.size a ≤ S4104x512.size a := fun d0 v2817 k0_hw207 => k0_hw207

def k0_off368 (d0 : Dev nD) (v2829 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2830 : BitVec 1 := Scalar.cmpi .sge v2829 v22
  let c4096_i32_894 : BitVec 32 := 4096#32
  let v2831 : BitVec 32 := Scalar.addi v22 c4096_i32_894
  let v2832 : BitVec 1 := Scalar.cmpi .slt v2829 v2831
  let v2833 : BitVec 1 := Scalar.andi v2830 v2832
  let v2834 : BitVec 32 := Scalar.subi v2829 v22
  let c4096_i32_895 : BitVec 32 := 4096#32
  let v2835 : BitVec 32 := Scalar.select v2833 v2834 c4096_i32_895
  let v2836 : Index := Scalar.indexCast v2835
  let c0_896 : Index := 0#32
  ![v2836.toNat, 0]

def k0_chk208 (d0 : Dev nD) (v2829 : BitVec 32) : Prop :=
  (∀ a, (k0_off368 d0 v2829) a + S1x512.size a ≤ S4104x512.size a)
theorem k0_off368_inb : ∀ (d0 : Dev nD) (v2829 : BitVec 32) (k0_hw208 : k0_chk208 d0 v2829), ∀ a, (k0_off368 d0 v2829) a + S1x512.size a ≤ S4104x512.size a := fun d0 v2829 k0_hw208 => k0_hw208

def k0_off369 (d0 : Dev nD) (v2841 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2842 : BitVec 1 := Scalar.cmpi .sge v2841 v22
  let c4096_i32_899 : BitVec 32 := 4096#32
  let v2843 : BitVec 32 := Scalar.addi v22 c4096_i32_899
  let v2844 : BitVec 1 := Scalar.cmpi .slt v2841 v2843
  let v2845 : BitVec 1 := Scalar.andi v2842 v2844
  let v2846 : BitVec 32 := Scalar.subi v2841 v22
  let c4096_i32_900 : BitVec 32 := 4096#32
  let v2847 : BitVec 32 := Scalar.select v2845 v2846 c4096_i32_900
  let v2848 : Index := Scalar.indexCast v2847
  let c0_901 : Index := 0#32
  ![v2848.toNat, 0]

def k0_chk209 (d0 : Dev nD) (v2841 : BitVec 32) : Prop :=
  (∀ a, (k0_off369 d0 v2841) a + S1x512.size a ≤ S4104x512.size a)
theorem k0_off369_inb : ∀ (d0 : Dev nD) (v2841 : BitVec 32) (k0_hw209 : k0_chk209 d0 v2841), ∀ a, (k0_off369 d0 v2841) a + S1x512.size a ≤ S4104x512.size a := fun d0 v2841 k0_hw209 => k0_hw209

def k0_off370 (d0 : Dev nD) (v2853 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2854 : BitVec 1 := Scalar.cmpi .sge v2853 v22
  let c4096_i32_904 : BitVec 32 := 4096#32
  let v2855 : BitVec 32 := Scalar.addi v22 c4096_i32_904
  let v2856 : BitVec 1 := Scalar.cmpi .slt v2853 v2855
  let v2857 : BitVec 1 := Scalar.andi v2854 v2856
  let v2858 : BitVec 32 := Scalar.subi v2853 v22
  let c4096_i32_905 : BitVec 32 := 4096#32
  let v2859 : BitVec 32 := Scalar.select v2857 v2858 c4096_i32_905
  let v2860 : Index := Scalar.indexCast v2859
  let c0_906 : Index := 0#32
  ![v2860.toNat, 0]

def k0_chk210 (d0 : Dev nD) (v2853 : BitVec 32) : Prop :=
  (∀ a, (k0_off370 d0 v2853) a + S1x512.size a ≤ S4104x512.size a)
theorem k0_off370_inb : ∀ (d0 : Dev nD) (v2853 : BitVec 32) (k0_hw210 : k0_chk210 d0 v2853), ∀ a, (k0_off370 d0 v2853) a + S1x512.size a ≤ S4104x512.size a := fun d0 v2853 k0_hw210 => k0_hw210

def k0_off371 (d0 : Dev nD) (v2865 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2866 : BitVec 1 := Scalar.cmpi .sge v2865 v22
  let c4096_i32_909 : BitVec 32 := 4096#32
  let v2867 : BitVec 32 := Scalar.addi v22 c4096_i32_909
  let v2868 : BitVec 1 := Scalar.cmpi .slt v2865 v2867
  let v2869 : BitVec 1 := Scalar.andi v2866 v2868
  let v2870 : BitVec 32 := Scalar.subi v2865 v22
  let c4096_i32_910 : BitVec 32 := 4096#32
  let v2871 : BitVec 32 := Scalar.select v2869 v2870 c4096_i32_910
  let v2872 : Index := Scalar.indexCast v2871
  let c0_911 : Index := 0#32
  ![v2872.toNat, 0]

def k0_chk211 (d0 : Dev nD) (v2865 : BitVec 32) : Prop :=
  (∀ a, (k0_off371 d0 v2865) a + S1x512.size a ≤ S4104x512.size a)
theorem k0_off371_inb : ∀ (d0 : Dev nD) (v2865 : BitVec 32) (k0_hw211 : k0_chk211 d0 v2865), ∀ a, (k0_off371 d0 v2865) a + S1x512.size a ≤ S4104x512.size a := fun d0 v2865 k0_hw211 => k0_hw211

def k0_off372 (d0 : Dev nD) (v2877 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2878 : BitVec 1 := Scalar.cmpi .sge v2877 v22
  let c4096_i32_914 : BitVec 32 := 4096#32
  let v2879 : BitVec 32 := Scalar.addi v22 c4096_i32_914
  let v2880 : BitVec 1 := Scalar.cmpi .slt v2877 v2879
  let v2881 : BitVec 1 := Scalar.andi v2878 v2880
  let v2882 : BitVec 32 := Scalar.subi v2877 v22
  let c4096_i32_915 : BitVec 32 := 4096#32
  let v2883 : BitVec 32 := Scalar.select v2881 v2882 c4096_i32_915
  let v2884 : Index := Scalar.indexCast v2883
  let c0_916 : Index := 0#32
  ![v2884.toNat, 0]

def k0_chk212 (d0 : Dev nD) (v2877 : BitVec 32) : Prop :=
  (∀ a, (k0_off372 d0 v2877) a + S1x512.size a ≤ S4104x512.size a)
theorem k0_off372_inb : ∀ (d0 : Dev nD) (v2877 : BitVec 32) (k0_hw212 : k0_chk212 d0 v2877), ∀ a, (k0_off372 d0 v2877) a + S1x512.size a ≤ S4104x512.size a := fun d0 v2877 k0_hw212 => k0_hw212

def k0_off373 (d0 : Dev nD) (v2889 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2890 : BitVec 1 := Scalar.cmpi .sge v2889 v22
  let c4096_i32_919 : BitVec 32 := 4096#32
  let v2891 : BitVec 32 := Scalar.addi v22 c4096_i32_919
  let v2892 : BitVec 1 := Scalar.cmpi .slt v2889 v2891
  let v2893 : BitVec 1 := Scalar.andi v2890 v2892
  let v2894 : BitVec 32 := Scalar.subi v2889 v22
  let c4096_i32_920 : BitVec 32 := 4096#32
  let v2895 : BitVec 32 := Scalar.select v2893 v2894 c4096_i32_920
  let v2896 : Index := Scalar.indexCast v2895
  let c0_921 : Index := 0#32
  ![v2896.toNat, 0]

def k0_chk213 (d0 : Dev nD) (v2889 : BitVec 32) : Prop :=
  (∀ a, (k0_off373 d0 v2889) a + S1x512.size a ≤ S4104x512.size a)
theorem k0_off373_inb : ∀ (d0 : Dev nD) (v2889 : BitVec 32) (k0_hw213 : k0_chk213 d0 v2889), ∀ a, (k0_off373 d0 v2889) a + S1x512.size a ≤ S4104x512.size a := fun d0 v2889 k0_hw213 => k0_hw213

def k0_off374 (d0 : Dev nD) (v2901 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2902 : BitVec 1 := Scalar.cmpi .sge v2901 v22
  let c4096_i32_924 : BitVec 32 := 4096#32
  let v2903 : BitVec 32 := Scalar.addi v22 c4096_i32_924
  let v2904 : BitVec 1 := Scalar.cmpi .slt v2901 v2903
  let v2905 : BitVec 1 := Scalar.andi v2902 v2904
  let v2906 : BitVec 32 := Scalar.subi v2901 v22
  let c4096_i32_925 : BitVec 32 := 4096#32
  let v2907 : BitVec 32 := Scalar.select v2905 v2906 c4096_i32_925
  let v2908 : Index := Scalar.indexCast v2907
  let c0_926 : Index := 0#32
  ![v2908.toNat, 0]

def k0_chk214 (d0 : Dev nD) (v2901 : BitVec 32) : Prop :=
  (∀ a, (k0_off374 d0 v2901) a + S1x512.size a ≤ S4104x512.size a)
theorem k0_off374_inb : ∀ (d0 : Dev nD) (v2901 : BitVec 32) (k0_hw214 : k0_chk214 d0 v2901), ∀ a, (k0_off374 d0 v2901) a + S1x512.size a ≤ S4104x512.size a := fun d0 v2901 k0_hw214 => k0_hw214

def k0_off375 (d0 : Dev nD) (v2913 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2914 : BitVec 1 := Scalar.cmpi .sge v2913 v22
  let c4096_i32_929 : BitVec 32 := 4096#32
  let v2915 : BitVec 32 := Scalar.addi v22 c4096_i32_929
  let v2916 : BitVec 1 := Scalar.cmpi .slt v2913 v2915
  let v2917 : BitVec 1 := Scalar.andi v2914 v2916
  let v2918 : BitVec 32 := Scalar.subi v2913 v22
  let c4096_i32_930 : BitVec 32 := 4096#32
  let v2919 : BitVec 32 := Scalar.select v2917 v2918 c4096_i32_930
  let v2920 : Index := Scalar.indexCast v2919
  let c0_931 : Index := 0#32
  ![v2920.toNat, 0]

def k0_chk215 (d0 : Dev nD) (v2913 : BitVec 32) : Prop :=
  (∀ a, (k0_off375 d0 v2913) a + S1x512.size a ≤ S4104x512.size a)
theorem k0_off375_inb : ∀ (d0 : Dev nD) (v2913 : BitVec 32) (k0_hw215 : k0_chk215 d0 v2913), ∀ a, (k0_off375 d0 v2913) a + S1x512.size a ≤ S4104x512.size a := fun d0 v2913 k0_hw215 => k0_hw215

def k0_off376 (d0 : Dev nD) (v2925 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2926 : BitVec 1 := Scalar.cmpi .sge v2925 v22
  let c4096_i32_934 : BitVec 32 := 4096#32
  let v2927 : BitVec 32 := Scalar.addi v22 c4096_i32_934
  let v2928 : BitVec 1 := Scalar.cmpi .slt v2925 v2927
  let v2929 : BitVec 1 := Scalar.andi v2926 v2928
  let v2930 : BitVec 32 := Scalar.subi v2925 v22
  let c4096_i32_935 : BitVec 32 := 4096#32
  let v2931 : BitVec 32 := Scalar.select v2929 v2930 c4096_i32_935
  let v2932 : Index := Scalar.indexCast v2931
  let c0_936 : Index := 0#32
  ![v2932.toNat, 0]

def k0_chk216 (d0 : Dev nD) (v2925 : BitVec 32) : Prop :=
  (∀ a, (k0_off376 d0 v2925) a + S1x512.size a ≤ S4104x512.size a)
theorem k0_off376_inb : ∀ (d0 : Dev nD) (v2925 : BitVec 32) (k0_hw216 : k0_chk216 d0 v2925), ∀ a, (k0_off376 d0 v2925) a + S1x512.size a ≤ S4104x512.size a := fun d0 v2925 k0_hw216 => k0_hw216

def k0_off377 (d0 : Dev nD) (v2937 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2938 : BitVec 1 := Scalar.cmpi .sge v2937 v22
  let c4096_i32_939 : BitVec 32 := 4096#32
  let v2939 : BitVec 32 := Scalar.addi v22 c4096_i32_939
  let v2940 : BitVec 1 := Scalar.cmpi .slt v2937 v2939
  let v2941 : BitVec 1 := Scalar.andi v2938 v2940
  let v2942 : BitVec 32 := Scalar.subi v2937 v22
  let c4096_i32_940 : BitVec 32 := 4096#32
  let v2943 : BitVec 32 := Scalar.select v2941 v2942 c4096_i32_940
  let v2944 : Index := Scalar.indexCast v2943
  let c0_941 : Index := 0#32
  ![v2944.toNat, 0]

def k0_chk217 (d0 : Dev nD) (v2937 : BitVec 32) : Prop :=
  (∀ a, (k0_off377 d0 v2937) a + S1x512.size a ≤ S4104x512.size a)
theorem k0_off377_inb : ∀ (d0 : Dev nD) (v2937 : BitVec 32) (k0_hw217 : k0_chk217 d0 v2937), ∀ a, (k0_off377 d0 v2937) a + S1x512.size a ≤ S4104x512.size a := fun d0 v2937 k0_hw217 => k0_hw217

def k0_off378 (d0 : Dev nD) (v2949 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2950 : BitVec 1 := Scalar.cmpi .sge v2949 v22
  let c4096_i32_944 : BitVec 32 := 4096#32
  let v2951 : BitVec 32 := Scalar.addi v22 c4096_i32_944
  let v2952 : BitVec 1 := Scalar.cmpi .slt v2949 v2951
  let v2953 : BitVec 1 := Scalar.andi v2950 v2952
  let v2954 : BitVec 32 := Scalar.subi v2949 v22
  let c4096_i32_945 : BitVec 32 := 4096#32
  let v2955 : BitVec 32 := Scalar.select v2953 v2954 c4096_i32_945
  let v2956 : Index := Scalar.indexCast v2955
  let c0_946 : Index := 0#32
  ![v2956.toNat, 0]

def k0_chk218 (d0 : Dev nD) (v2949 : BitVec 32) : Prop :=
  (∀ a, (k0_off378 d0 v2949) a + S1x512.size a ≤ S4104x512.size a)
theorem k0_off378_inb : ∀ (d0 : Dev nD) (v2949 : BitVec 32) (k0_hw218 : k0_chk218 d0 v2949), ∀ a, (k0_off378 d0 v2949) a + S1x512.size a ≤ S4104x512.size a := fun d0 v2949 k0_hw218 => k0_hw218

def k0_off379 (d0 : Dev nD) (v2961 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2962 : BitVec 1 := Scalar.cmpi .sge v2961 v22
  let c4096_i32_949 : BitVec 32 := 4096#32
  let v2963 : BitVec 32 := Scalar.addi v22 c4096_i32_949
  let v2964 : BitVec 1 := Scalar.cmpi .slt v2961 v2963
  let v2965 : BitVec 1 := Scalar.andi v2962 v2964
  let v2966 : BitVec 32 := Scalar.subi v2961 v22
  let c4096_i32_950 : BitVec 32 := 4096#32
  let v2967 : BitVec 32 := Scalar.select v2965 v2966 c4096_i32_950
  let v2968 : Index := Scalar.indexCast v2967
  let c0_951 : Index := 0#32
  ![v2968.toNat, 0]

def k0_chk219 (d0 : Dev nD) (v2961 : BitVec 32) : Prop :=
  (∀ a, (k0_off379 d0 v2961) a + S1x512.size a ≤ S4104x512.size a)
theorem k0_off379_inb : ∀ (d0 : Dev nD) (v2961 : BitVec 32) (k0_hw219 : k0_chk219 d0 v2961), ∀ a, (k0_off379 d0 v2961) a + S1x512.size a ≤ S4104x512.size a := fun d0 v2961 k0_hw219 => k0_hw219

def k0_off380 (d0 : Dev nD) (v2973 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2974 : BitVec 1 := Scalar.cmpi .sge v2973 v22
  let c4096_i32_954 : BitVec 32 := 4096#32
  let v2975 : BitVec 32 := Scalar.addi v22 c4096_i32_954
  let v2976 : BitVec 1 := Scalar.cmpi .slt v2973 v2975
  let v2977 : BitVec 1 := Scalar.andi v2974 v2976
  let v2978 : BitVec 32 := Scalar.subi v2973 v22
  let c4096_i32_955 : BitVec 32 := 4096#32
  let v2979 : BitVec 32 := Scalar.select v2977 v2978 c4096_i32_955
  let v2980 : Index := Scalar.indexCast v2979
  let c0_956 : Index := 0#32
  ![v2980.toNat, 0]

def k0_chk220 (d0 : Dev nD) (v2973 : BitVec 32) : Prop :=
  (∀ a, (k0_off380 d0 v2973) a + S1x512.size a ≤ S4104x512.size a)
theorem k0_off380_inb : ∀ (d0 : Dev nD) (v2973 : BitVec 32) (k0_hw220 : k0_chk220 d0 v2973), ∀ a, (k0_off380 d0 v2973) a + S1x512.size a ≤ S4104x512.size a := fun d0 v2973 k0_hw220 => k0_hw220

def k0_off381 (d0 : Dev nD) (v2985 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2986 : BitVec 1 := Scalar.cmpi .sge v2985 v22
  let c4096_i32_959 : BitVec 32 := 4096#32
  let v2987 : BitVec 32 := Scalar.addi v22 c4096_i32_959
  let v2988 : BitVec 1 := Scalar.cmpi .slt v2985 v2987
  let v2989 : BitVec 1 := Scalar.andi v2986 v2988
  let v2990 : BitVec 32 := Scalar.subi v2985 v22
  let c4096_i32_960 : BitVec 32 := 4096#32
  let v2991 : BitVec 32 := Scalar.select v2989 v2990 c4096_i32_960
  let v2992 : Index := Scalar.indexCast v2991
  let c0_961 : Index := 0#32
  ![v2992.toNat, 0]

def k0_chk221 (d0 : Dev nD) (v2985 : BitVec 32) : Prop :=
  (∀ a, (k0_off381 d0 v2985) a + S1x512.size a ≤ S4104x512.size a)
theorem k0_off381_inb : ∀ (d0 : Dev nD) (v2985 : BitVec 32) (k0_hw221 : k0_chk221 d0 v2985), ∀ a, (k0_off381 d0 v2985) a + S1x512.size a ≤ S4104x512.size a := fun d0 v2985 k0_hw221 => k0_hw221

def k0_off382 (d0 : Dev nD) (v2997 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v2998 : BitVec 1 := Scalar.cmpi .sge v2997 v22
  let c4096_i32_964 : BitVec 32 := 4096#32
  let v2999 : BitVec 32 := Scalar.addi v22 c4096_i32_964
  let v3000 : BitVec 1 := Scalar.cmpi .slt v2997 v2999
  let v3001 : BitVec 1 := Scalar.andi v2998 v3000
  let v3002 : BitVec 32 := Scalar.subi v2997 v22
  let c4096_i32_965 : BitVec 32 := 4096#32
  let v3003 : BitVec 32 := Scalar.select v3001 v3002 c4096_i32_965
  let v3004 : Index := Scalar.indexCast v3003
  let c0_966 : Index := 0#32
  ![v3004.toNat, 0]

def k0_chk222 (d0 : Dev nD) (v2997 : BitVec 32) : Prop :=
  (∀ a, (k0_off382 d0 v2997) a + S1x512.size a ≤ S4104x512.size a)
theorem k0_off382_inb : ∀ (d0 : Dev nD) (v2997 : BitVec 32) (k0_hw222 : k0_chk222 d0 v2997), ∀ a, (k0_off382 d0 v2997) a + S1x512.size a ≤ S4104x512.size a := fun d0 v2997 k0_hw222 => k0_hw222

def k0_off383 (d0 : Dev nD) (v3009 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3010 : BitVec 1 := Scalar.cmpi .sge v3009 v22
  let c4096_i32_969 : BitVec 32 := 4096#32
  let v3011 : BitVec 32 := Scalar.addi v22 c4096_i32_969
  let v3012 : BitVec 1 := Scalar.cmpi .slt v3009 v3011
  let v3013 : BitVec 1 := Scalar.andi v3010 v3012
  let v3014 : BitVec 32 := Scalar.subi v3009 v22
  let c4096_i32_970 : BitVec 32 := 4096#32
  let v3015 : BitVec 32 := Scalar.select v3013 v3014 c4096_i32_970
  let v3016 : Index := Scalar.indexCast v3015
  let c0_971 : Index := 0#32
  ![v3016.toNat, 0]

def k0_chk223 (d0 : Dev nD) (v3009 : BitVec 32) : Prop :=
  (∀ a, (k0_off383 d0 v3009) a + S1x512.size a ≤ S4104x512.size a)
theorem k0_off383_inb : ∀ (d0 : Dev nD) (v3009 : BitVec 32) (k0_hw223 : k0_chk223 d0 v3009), ∀ a, (k0_off383 d0 v3009) a + S1x512.size a ≤ S4104x512.size a := fun d0 v3009 k0_hw223 => k0_hw223

def k0_off384 (d0 : Dev nD) (v3021 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3022 : BitVec 1 := Scalar.cmpi .sge v3021 v22
  let c4096_i32_974 : BitVec 32 := 4096#32
  let v3023 : BitVec 32 := Scalar.addi v22 c4096_i32_974
  let v3024 : BitVec 1 := Scalar.cmpi .slt v3021 v3023
  let v3025 : BitVec 1 := Scalar.andi v3022 v3024
  let v3026 : BitVec 32 := Scalar.subi v3021 v22
  let c4096_i32_975 : BitVec 32 := 4096#32
  let v3027 : BitVec 32 := Scalar.select v3025 v3026 c4096_i32_975
  let v3028 : Index := Scalar.indexCast v3027
  let c0_976 : Index := 0#32
  ![v3028.toNat, 0]

def k0_chk224 (d0 : Dev nD) (v3021 : BitVec 32) : Prop :=
  (∀ a, (k0_off384 d0 v3021) a + S1x512.size a ≤ S4104x512.size a)
theorem k0_off384_inb : ∀ (d0 : Dev nD) (v3021 : BitVec 32) (k0_hw224 : k0_chk224 d0 v3021), ∀ a, (k0_off384 d0 v3021) a + S1x512.size a ≤ S4104x512.size a := fun d0 v3021 k0_hw224 => k0_hw224

def k0_off385 (d0 : Dev nD) (v3033 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3034 : BitVec 1 := Scalar.cmpi .sge v3033 v22
  let c4096_i32_979 : BitVec 32 := 4096#32
  let v3035 : BitVec 32 := Scalar.addi v22 c4096_i32_979
  let v3036 : BitVec 1 := Scalar.cmpi .slt v3033 v3035
  let v3037 : BitVec 1 := Scalar.andi v3034 v3036
  let v3038 : BitVec 32 := Scalar.subi v3033 v22
  let c4096_i32_980 : BitVec 32 := 4096#32
  let v3039 : BitVec 32 := Scalar.select v3037 v3038 c4096_i32_980
  let v3040 : Index := Scalar.indexCast v3039
  let c0_981 : Index := 0#32
  ![v3040.toNat, 0]

def k0_chk225 (d0 : Dev nD) (v3033 : BitVec 32) : Prop :=
  (∀ a, (k0_off385 d0 v3033) a + S1x512.size a ≤ S4104x512.size a)
theorem k0_off385_inb : ∀ (d0 : Dev nD) (v3033 : BitVec 32) (k0_hw225 : k0_chk225 d0 v3033), ∀ a, (k0_off385 d0 v3033) a + S1x512.size a ≤ S4104x512.size a := fun d0 v3033 k0_hw225 => k0_hw225

def k0_off386 (d0 : Dev nD) (v3045 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3046 : BitVec 1 := Scalar.cmpi .sge v3045 v22
  let c4096_i32_984 : BitVec 32 := 4096#32
  let v3047 : BitVec 32 := Scalar.addi v22 c4096_i32_984
  let v3048 : BitVec 1 := Scalar.cmpi .slt v3045 v3047
  let v3049 : BitVec 1 := Scalar.andi v3046 v3048
  let v3050 : BitVec 32 := Scalar.subi v3045 v22
  let c4096_i32_985 : BitVec 32 := 4096#32
  let v3051 : BitVec 32 := Scalar.select v3049 v3050 c4096_i32_985
  let v3052 : Index := Scalar.indexCast v3051
  let c0_986 : Index := 0#32
  ![v3052.toNat, 0]

def k0_chk226 (d0 : Dev nD) (v3045 : BitVec 32) : Prop :=
  (∀ a, (k0_off386 d0 v3045) a + S1x512.size a ≤ S4104x512.size a)
theorem k0_off386_inb : ∀ (d0 : Dev nD) (v3045 : BitVec 32) (k0_hw226 : k0_chk226 d0 v3045), ∀ a, (k0_off386 d0 v3045) a + S1x512.size a ≤ S4104x512.size a := fun d0 v3045 k0_hw226 => k0_hw226

def k0_off387 (d0 : Dev nD) (v3057 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3058 : BitVec 1 := Scalar.cmpi .sge v3057 v22
  let c4096_i32_989 : BitVec 32 := 4096#32
  let v3059 : BitVec 32 := Scalar.addi v22 c4096_i32_989
  let v3060 : BitVec 1 := Scalar.cmpi .slt v3057 v3059
  let v3061 : BitVec 1 := Scalar.andi v3058 v3060
  let v3062 : BitVec 32 := Scalar.subi v3057 v22
  let c4096_i32_990 : BitVec 32 := 4096#32
  let v3063 : BitVec 32 := Scalar.select v3061 v3062 c4096_i32_990
  let v3064 : Index := Scalar.indexCast v3063
  let c0_991 : Index := 0#32
  ![v3064.toNat, 0]

def k0_chk227 (d0 : Dev nD) (v3057 : BitVec 32) : Prop :=
  (∀ a, (k0_off387 d0 v3057) a + S1x512.size a ≤ S4104x512.size a)
theorem k0_off387_inb : ∀ (d0 : Dev nD) (v3057 : BitVec 32) (k0_hw227 : k0_chk227 d0 v3057), ∀ a, (k0_off387 d0 v3057) a + S1x512.size a ≤ S4104x512.size a := fun d0 v3057 k0_hw227 => k0_hw227

def k0_off388 (d0 : Dev nD) (v3069 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3070 : BitVec 1 := Scalar.cmpi .sge v3069 v22
  let c4096_i32_994 : BitVec 32 := 4096#32
  let v3071 : BitVec 32 := Scalar.addi v22 c4096_i32_994
  let v3072 : BitVec 1 := Scalar.cmpi .slt v3069 v3071
  let v3073 : BitVec 1 := Scalar.andi v3070 v3072
  let v3074 : BitVec 32 := Scalar.subi v3069 v22
  let c4096_i32_995 : BitVec 32 := 4096#32
  let v3075 : BitVec 32 := Scalar.select v3073 v3074 c4096_i32_995
  let v3076 : Index := Scalar.indexCast v3075
  let c0_996 : Index := 0#32
  ![v3076.toNat, 0]

def k0_chk228 (d0 : Dev nD) (v3069 : BitVec 32) : Prop :=
  (∀ a, (k0_off388 d0 v3069) a + S1x512.size a ≤ S4104x512.size a)
theorem k0_off388_inb : ∀ (d0 : Dev nD) (v3069 : BitVec 32) (k0_hw228 : k0_chk228 d0 v3069), ∀ a, (k0_off388 d0 v3069) a + S1x512.size a ≤ S4104x512.size a := fun d0 v3069 k0_hw228 => k0_hw228

def k0_off389 (d0 : Dev nD) (v3081 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3082 : BitVec 1 := Scalar.cmpi .sge v3081 v22
  let c4096_i32_999 : BitVec 32 := 4096#32
  let v3083 : BitVec 32 := Scalar.addi v22 c4096_i32_999
  let v3084 : BitVec 1 := Scalar.cmpi .slt v3081 v3083
  let v3085 : BitVec 1 := Scalar.andi v3082 v3084
  let v3086 : BitVec 32 := Scalar.subi v3081 v22
  let c4096_i32_1000 : BitVec 32 := 4096#32
  let v3087 : BitVec 32 := Scalar.select v3085 v3086 c4096_i32_1000
  let v3088 : Index := Scalar.indexCast v3087
  let c0_1001 : Index := 0#32
  ![v3088.toNat, 0]

def k0_chk229 (d0 : Dev nD) (v3081 : BitVec 32) : Prop :=
  (∀ a, (k0_off389 d0 v3081) a + S1x512.size a ≤ S4104x512.size a)
theorem k0_off389_inb : ∀ (d0 : Dev nD) (v3081 : BitVec 32) (k0_hw229 : k0_chk229 d0 v3081), ∀ a, (k0_off389 d0 v3081) a + S1x512.size a ≤ S4104x512.size a := fun d0 v3081 k0_hw229 => k0_hw229

def k0_off390 (d0 : Dev nD) (v3093 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3094 : BitVec 1 := Scalar.cmpi .sge v3093 v22
  let c4096_i32_1004 : BitVec 32 := 4096#32
  let v3095 : BitVec 32 := Scalar.addi v22 c4096_i32_1004
  let v3096 : BitVec 1 := Scalar.cmpi .slt v3093 v3095
  let v3097 : BitVec 1 := Scalar.andi v3094 v3096
  let v3098 : BitVec 32 := Scalar.subi v3093 v22
  let c4096_i32_1005 : BitVec 32 := 4096#32
  let v3099 : BitVec 32 := Scalar.select v3097 v3098 c4096_i32_1005
  let v3100 : Index := Scalar.indexCast v3099
  let c0_1006 : Index := 0#32
  ![v3100.toNat, 0]

def k0_chk230 (d0 : Dev nD) (v3093 : BitVec 32) : Prop :=
  (∀ a, (k0_off390 d0 v3093) a + S1x512.size a ≤ S4104x512.size a)
theorem k0_off390_inb : ∀ (d0 : Dev nD) (v3093 : BitVec 32) (k0_hw230 : k0_chk230 d0 v3093), ∀ a, (k0_off390 d0 v3093) a + S1x512.size a ≤ S4104x512.size a := fun d0 v3093 k0_hw230 => k0_hw230

def k0_off391 (d0 : Dev nD) (v3105 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3106 : BitVec 1 := Scalar.cmpi .sge v3105 v22
  let c4096_i32_1009 : BitVec 32 := 4096#32
  let v3107 : BitVec 32 := Scalar.addi v22 c4096_i32_1009
  let v3108 : BitVec 1 := Scalar.cmpi .slt v3105 v3107
  let v3109 : BitVec 1 := Scalar.andi v3106 v3108
  let v3110 : BitVec 32 := Scalar.subi v3105 v22
  let c4096_i32_1010 : BitVec 32 := 4096#32
  let v3111 : BitVec 32 := Scalar.select v3109 v3110 c4096_i32_1010
  let v3112 : Index := Scalar.indexCast v3111
  let c0_1011 : Index := 0#32
  ![v3112.toNat, 0]

def k0_chk231 (d0 : Dev nD) (v3105 : BitVec 32) : Prop :=
  (∀ a, (k0_off391 d0 v3105) a + S1x512.size a ≤ S4104x512.size a)
theorem k0_off391_inb : ∀ (d0 : Dev nD) (v3105 : BitVec 32) (k0_hw231 : k0_chk231 d0 v3105), ∀ a, (k0_off391 d0 v3105) a + S1x512.size a ≤ S4104x512.size a := fun d0 v3105 k0_hw231 => k0_hw231

def k0_off392 (d0 : Dev nD) (v3117 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3118 : BitVec 1 := Scalar.cmpi .sge v3117 v22
  let c4096_i32_1014 : BitVec 32 := 4096#32
  let v3119 : BitVec 32 := Scalar.addi v22 c4096_i32_1014
  let v3120 : BitVec 1 := Scalar.cmpi .slt v3117 v3119
  let v3121 : BitVec 1 := Scalar.andi v3118 v3120
  let v3122 : BitVec 32 := Scalar.subi v3117 v22
  let c4096_i32_1015 : BitVec 32 := 4096#32
  let v3123 : BitVec 32 := Scalar.select v3121 v3122 c4096_i32_1015
  let v3124 : Index := Scalar.indexCast v3123
  let c0_1016 : Index := 0#32
  ![v3124.toNat, 0]

def k0_chk232 (d0 : Dev nD) (v3117 : BitVec 32) : Prop :=
  (∀ a, (k0_off392 d0 v3117) a + S1x512.size a ≤ S4104x512.size a)
theorem k0_off392_inb : ∀ (d0 : Dev nD) (v3117 : BitVec 32) (k0_hw232 : k0_chk232 d0 v3117), ∀ a, (k0_off392 d0 v3117) a + S1x512.size a ≤ S4104x512.size a := fun d0 v3117 k0_hw232 => k0_hw232

def k0_off393 (d0 : Dev nD) (v3129 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3130 : BitVec 1 := Scalar.cmpi .sge v3129 v22
  let c4096_i32_1019 : BitVec 32 := 4096#32
  let v3131 : BitVec 32 := Scalar.addi v22 c4096_i32_1019
  let v3132 : BitVec 1 := Scalar.cmpi .slt v3129 v3131
  let v3133 : BitVec 1 := Scalar.andi v3130 v3132
  let v3134 : BitVec 32 := Scalar.subi v3129 v22
  let c4096_i32_1020 : BitVec 32 := 4096#32
  let v3135 : BitVec 32 := Scalar.select v3133 v3134 c4096_i32_1020
  let v3136 : Index := Scalar.indexCast v3135
  let c0_1021 : Index := 0#32
  ![v3136.toNat, 0]

def k0_chk233 (d0 : Dev nD) (v3129 : BitVec 32) : Prop :=
  (∀ a, (k0_off393 d0 v3129) a + S1x512.size a ≤ S4104x512.size a)
theorem k0_off393_inb : ∀ (d0 : Dev nD) (v3129 : BitVec 32) (k0_hw233 : k0_chk233 d0 v3129), ∀ a, (k0_off393 d0 v3129) a + S1x512.size a ≤ S4104x512.size a := fun d0 v3129 k0_hw233 => k0_hw233

def k0_off394 (d0 : Dev nD) (v3141 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3142 : BitVec 1 := Scalar.cmpi .sge v3141 v22
  let c4096_i32_1024 : BitVec 32 := 4096#32
  let v3143 : BitVec 32 := Scalar.addi v22 c4096_i32_1024
  let v3144 : BitVec 1 := Scalar.cmpi .slt v3141 v3143
  let v3145 : BitVec 1 := Scalar.andi v3142 v3144
  let v3146 : BitVec 32 := Scalar.subi v3141 v22
  let c4096_i32_1025 : BitVec 32 := 4096#32
  let v3147 : BitVec 32 := Scalar.select v3145 v3146 c4096_i32_1025
  let v3148 : Index := Scalar.indexCast v3147
  let c0_1026 : Index := 0#32
  ![v3148.toNat, 0]

def k0_chk234 (d0 : Dev nD) (v3141 : BitVec 32) : Prop :=
  (∀ a, (k0_off394 d0 v3141) a + S1x512.size a ≤ S4104x512.size a)
theorem k0_off394_inb : ∀ (d0 : Dev nD) (v3141 : BitVec 32) (k0_hw234 : k0_chk234 d0 v3141), ∀ a, (k0_off394 d0 v3141) a + S1x512.size a ≤ S4104x512.size a := fun d0 v3141 k0_hw234 => k0_hw234

def k0_off395 (d0 : Dev nD) (v3153 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3154 : BitVec 1 := Scalar.cmpi .sge v3153 v22
  let c4096_i32_1029 : BitVec 32 := 4096#32
  let v3155 : BitVec 32 := Scalar.addi v22 c4096_i32_1029
  let v3156 : BitVec 1 := Scalar.cmpi .slt v3153 v3155
  let v3157 : BitVec 1 := Scalar.andi v3154 v3156
  let v3158 : BitVec 32 := Scalar.subi v3153 v22
  let c4096_i32_1030 : BitVec 32 := 4096#32
  let v3159 : BitVec 32 := Scalar.select v3157 v3158 c4096_i32_1030
  let v3160 : Index := Scalar.indexCast v3159
  let c0_1031 : Index := 0#32
  ![v3160.toNat, 0]

def k0_chk235 (d0 : Dev nD) (v3153 : BitVec 32) : Prop :=
  (∀ a, (k0_off395 d0 v3153) a + S1x512.size a ≤ S4104x512.size a)
theorem k0_off395_inb : ∀ (d0 : Dev nD) (v3153 : BitVec 32) (k0_hw235 : k0_chk235 d0 v3153), ∀ a, (k0_off395 d0 v3153) a + S1x512.size a ≤ S4104x512.size a := fun d0 v3153 k0_hw235 => k0_hw235

def k0_off396 (d0 : Dev nD) (v3165 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3166 : BitVec 1 := Scalar.cmpi .sge v3165 v22
  let c4096_i32_1034 : BitVec 32 := 4096#32
  let v3167 : BitVec 32 := Scalar.addi v22 c4096_i32_1034
  let v3168 : BitVec 1 := Scalar.cmpi .slt v3165 v3167
  let v3169 : BitVec 1 := Scalar.andi v3166 v3168
  let v3170 : BitVec 32 := Scalar.subi v3165 v22
  let c4096_i32_1035 : BitVec 32 := 4096#32
  let v3171 : BitVec 32 := Scalar.select v3169 v3170 c4096_i32_1035
  let v3172 : Index := Scalar.indexCast v3171
  let c0_1036 : Index := 0#32
  ![v3172.toNat, 0]

def k0_chk236 (d0 : Dev nD) (v3165 : BitVec 32) : Prop :=
  (∀ a, (k0_off396 d0 v3165) a + S1x512.size a ≤ S4104x512.size a)
theorem k0_off396_inb : ∀ (d0 : Dev nD) (v3165 : BitVec 32) (k0_hw236 : k0_chk236 d0 v3165), ∀ a, (k0_off396 d0 v3165) a + S1x512.size a ≤ S4104x512.size a := fun d0 v3165 k0_hw236 => k0_hw236

def k0_off397 (d0 : Dev nD) (v3177 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3178 : BitVec 1 := Scalar.cmpi .sge v3177 v22
  let c4096_i32_1039 : BitVec 32 := 4096#32
  let v3179 : BitVec 32 := Scalar.addi v22 c4096_i32_1039
  let v3180 : BitVec 1 := Scalar.cmpi .slt v3177 v3179
  let v3181 : BitVec 1 := Scalar.andi v3178 v3180
  let v3182 : BitVec 32 := Scalar.subi v3177 v22
  let c4096_i32_1040 : BitVec 32 := 4096#32
  let v3183 : BitVec 32 := Scalar.select v3181 v3182 c4096_i32_1040
  let v3184 : Index := Scalar.indexCast v3183
  let c0_1041 : Index := 0#32
  ![v3184.toNat, 0]

def k0_chk237 (d0 : Dev nD) (v3177 : BitVec 32) : Prop :=
  (∀ a, (k0_off397 d0 v3177) a + S1x512.size a ≤ S4104x512.size a)
theorem k0_off397_inb : ∀ (d0 : Dev nD) (v3177 : BitVec 32) (k0_hw237 : k0_chk237 d0 v3177), ∀ a, (k0_off397 d0 v3177) a + S1x512.size a ≤ S4104x512.size a := fun d0 v3177 k0_hw237 => k0_hw237

def k0_off398 (d0 : Dev nD) (v3189 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3190 : BitVec 1 := Scalar.cmpi .sge v3189 v22
  let c4096_i32_1044 : BitVec 32 := 4096#32
  let v3191 : BitVec 32 := Scalar.addi v22 c4096_i32_1044
  let v3192 : BitVec 1 := Scalar.cmpi .slt v3189 v3191
  let v3193 : BitVec 1 := Scalar.andi v3190 v3192
  let v3194 : BitVec 32 := Scalar.subi v3189 v22
  let c4096_i32_1045 : BitVec 32 := 4096#32
  let v3195 : BitVec 32 := Scalar.select v3193 v3194 c4096_i32_1045
  let v3196 : Index := Scalar.indexCast v3195
  let c0_1046 : Index := 0#32
  ![v3196.toNat, 0]

def k0_chk238 (d0 : Dev nD) (v3189 : BitVec 32) : Prop :=
  (∀ a, (k0_off398 d0 v3189) a + S1x512.size a ≤ S4104x512.size a)
theorem k0_off398_inb : ∀ (d0 : Dev nD) (v3189 : BitVec 32) (k0_hw238 : k0_chk238 d0 v3189), ∀ a, (k0_off398 d0 v3189) a + S1x512.size a ≤ S4104x512.size a := fun d0 v3189 k0_hw238 => k0_hw238

def k0_off399 (d0 : Dev nD) (v3201 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3202 : BitVec 1 := Scalar.cmpi .sge v3201 v22
  let c4096_i32_1049 : BitVec 32 := 4096#32
  let v3203 : BitVec 32 := Scalar.addi v22 c4096_i32_1049
  let v3204 : BitVec 1 := Scalar.cmpi .slt v3201 v3203
  let v3205 : BitVec 1 := Scalar.andi v3202 v3204
  let v3206 : BitVec 32 := Scalar.subi v3201 v22
  let c4096_i32_1050 : BitVec 32 := 4096#32
  let v3207 : BitVec 32 := Scalar.select v3205 v3206 c4096_i32_1050
  let v3208 : Index := Scalar.indexCast v3207
  let c0_1051 : Index := 0#32
  ![v3208.toNat, 0]

def k0_chk239 (d0 : Dev nD) (v3201 : BitVec 32) : Prop :=
  (∀ a, (k0_off399 d0 v3201) a + S1x512.size a ≤ S4104x512.size a)
theorem k0_off399_inb : ∀ (d0 : Dev nD) (v3201 : BitVec 32) (k0_hw239 : k0_chk239 d0 v3201), ∀ a, (k0_off399 d0 v3201) a + S1x512.size a ≤ S4104x512.size a := fun d0 v3201 k0_hw239 => k0_hw239

def k0_off400 (d0 : Dev nD) (v3213 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3214 : BitVec 1 := Scalar.cmpi .sge v3213 v22
  let c4096_i32_1054 : BitVec 32 := 4096#32
  let v3215 : BitVec 32 := Scalar.addi v22 c4096_i32_1054
  let v3216 : BitVec 1 := Scalar.cmpi .slt v3213 v3215
  let v3217 : BitVec 1 := Scalar.andi v3214 v3216
  let v3218 : BitVec 32 := Scalar.subi v3213 v22
  let c4096_i32_1055 : BitVec 32 := 4096#32
  let v3219 : BitVec 32 := Scalar.select v3217 v3218 c4096_i32_1055
  let v3220 : Index := Scalar.indexCast v3219
  let c0_1056 : Index := 0#32
  ![v3220.toNat, 0]

def k0_chk240 (d0 : Dev nD) (v3213 : BitVec 32) : Prop :=
  (∀ a, (k0_off400 d0 v3213) a + S1x512.size a ≤ S4104x512.size a)
theorem k0_off400_inb : ∀ (d0 : Dev nD) (v3213 : BitVec 32) (k0_hw240 : k0_chk240 d0 v3213), ∀ a, (k0_off400 d0 v3213) a + S1x512.size a ≤ S4104x512.size a := fun d0 v3213 k0_hw240 => k0_hw240

def k0_off401 (d0 : Dev nD) (v3225 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3226 : BitVec 1 := Scalar.cmpi .sge v3225 v22
  let c4096_i32_1059 : BitVec 32 := 4096#32
  let v3227 : BitVec 32 := Scalar.addi v22 c4096_i32_1059
  let v3228 : BitVec 1 := Scalar.cmpi .slt v3225 v3227
  let v3229 : BitVec 1 := Scalar.andi v3226 v3228
  let v3230 : BitVec 32 := Scalar.subi v3225 v22
  let c4096_i32_1060 : BitVec 32 := 4096#32
  let v3231 : BitVec 32 := Scalar.select v3229 v3230 c4096_i32_1060
  let v3232 : Index := Scalar.indexCast v3231
  let c0_1061 : Index := 0#32
  ![v3232.toNat, 0]

def k0_chk241 (d0 : Dev nD) (v3225 : BitVec 32) : Prop :=
  (∀ a, (k0_off401 d0 v3225) a + S1x512.size a ≤ S4104x512.size a)
theorem k0_off401_inb : ∀ (d0 : Dev nD) (v3225 : BitVec 32) (k0_hw241 : k0_chk241 d0 v3225), ∀ a, (k0_off401 d0 v3225) a + S1x512.size a ≤ S4104x512.size a := fun d0 v3225 k0_hw241 => k0_hw241

def k0_off402 (d0 : Dev nD) (v3237 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3238 : BitVec 1 := Scalar.cmpi .sge v3237 v22
  let c4096_i32_1064 : BitVec 32 := 4096#32
  let v3239 : BitVec 32 := Scalar.addi v22 c4096_i32_1064
  let v3240 : BitVec 1 := Scalar.cmpi .slt v3237 v3239
  let v3241 : BitVec 1 := Scalar.andi v3238 v3240
  let v3242 : BitVec 32 := Scalar.subi v3237 v22
  let c4096_i32_1065 : BitVec 32 := 4096#32
  let v3243 : BitVec 32 := Scalar.select v3241 v3242 c4096_i32_1065
  let v3244 : Index := Scalar.indexCast v3243
  let c0_1066 : Index := 0#32
  ![v3244.toNat, 0]

def k0_chk242 (d0 : Dev nD) (v3237 : BitVec 32) : Prop :=
  (∀ a, (k0_off402 d0 v3237) a + S1x512.size a ≤ S4104x512.size a)
theorem k0_off402_inb : ∀ (d0 : Dev nD) (v3237 : BitVec 32) (k0_hw242 : k0_chk242 d0 v3237), ∀ a, (k0_off402 d0 v3237) a + S1x512.size a ≤ S4104x512.size a := fun d0 v3237 k0_hw242 => k0_hw242

def k0_off403 (d0 : Dev nD) (v3249 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3250 : BitVec 1 := Scalar.cmpi .sge v3249 v22
  let c4096_i32_1069 : BitVec 32 := 4096#32
  let v3251 : BitVec 32 := Scalar.addi v22 c4096_i32_1069
  let v3252 : BitVec 1 := Scalar.cmpi .slt v3249 v3251
  let v3253 : BitVec 1 := Scalar.andi v3250 v3252
  let v3254 : BitVec 32 := Scalar.subi v3249 v22
  let c4096_i32_1070 : BitVec 32 := 4096#32
  let v3255 : BitVec 32 := Scalar.select v3253 v3254 c4096_i32_1070
  let v3256 : Index := Scalar.indexCast v3255
  let c0_1071 : Index := 0#32
  ![v3256.toNat, 0]

def k0_chk243 (d0 : Dev nD) (v3249 : BitVec 32) : Prop :=
  (∀ a, (k0_off403 d0 v3249) a + S1x512.size a ≤ S4104x512.size a)
theorem k0_off403_inb : ∀ (d0 : Dev nD) (v3249 : BitVec 32) (k0_hw243 : k0_chk243 d0 v3249), ∀ a, (k0_off403 d0 v3249) a + S1x512.size a ≤ S4104x512.size a := fun d0 v3249 k0_hw243 => k0_hw243

def k0_off404 (d0 : Dev nD) (v3261 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3262 : BitVec 1 := Scalar.cmpi .sge v3261 v22
  let c4096_i32_1074 : BitVec 32 := 4096#32
  let v3263 : BitVec 32 := Scalar.addi v22 c4096_i32_1074
  let v3264 : BitVec 1 := Scalar.cmpi .slt v3261 v3263
  let v3265 : BitVec 1 := Scalar.andi v3262 v3264
  let v3266 : BitVec 32 := Scalar.subi v3261 v22
  let c4096_i32_1075 : BitVec 32 := 4096#32
  let v3267 : BitVec 32 := Scalar.select v3265 v3266 c4096_i32_1075
  let v3268 : Index := Scalar.indexCast v3267
  let c0_1076 : Index := 0#32
  ![v3268.toNat, 0]

def k0_chk244 (d0 : Dev nD) (v3261 : BitVec 32) : Prop :=
  (∀ a, (k0_off404 d0 v3261) a + S1x512.size a ≤ S4104x512.size a)
theorem k0_off404_inb : ∀ (d0 : Dev nD) (v3261 : BitVec 32) (k0_hw244 : k0_chk244 d0 v3261), ∀ a, (k0_off404 d0 v3261) a + S1x512.size a ≤ S4104x512.size a := fun d0 v3261 k0_hw244 => k0_hw244

def k0_off405 (d0 : Dev nD) (v3273 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3274 : BitVec 1 := Scalar.cmpi .sge v3273 v22
  let c4096_i32_1079 : BitVec 32 := 4096#32
  let v3275 : BitVec 32 := Scalar.addi v22 c4096_i32_1079
  let v3276 : BitVec 1 := Scalar.cmpi .slt v3273 v3275
  let v3277 : BitVec 1 := Scalar.andi v3274 v3276
  let v3278 : BitVec 32 := Scalar.subi v3273 v22
  let c4096_i32_1080 : BitVec 32 := 4096#32
  let v3279 : BitVec 32 := Scalar.select v3277 v3278 c4096_i32_1080
  let v3280 : Index := Scalar.indexCast v3279
  let c0_1081 : Index := 0#32
  ![v3280.toNat, 0]

def k0_chk245 (d0 : Dev nD) (v3273 : BitVec 32) : Prop :=
  (∀ a, (k0_off405 d0 v3273) a + S1x512.size a ≤ S4104x512.size a)
theorem k0_off405_inb : ∀ (d0 : Dev nD) (v3273 : BitVec 32) (k0_hw245 : k0_chk245 d0 v3273), ∀ a, (k0_off405 d0 v3273) a + S1x512.size a ≤ S4104x512.size a := fun d0 v3273 k0_hw245 => k0_hw245

def k0_off406 (d0 : Dev nD) (v3285 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3286 : BitVec 1 := Scalar.cmpi .sge v3285 v22
  let c4096_i32_1084 : BitVec 32 := 4096#32
  let v3287 : BitVec 32 := Scalar.addi v22 c4096_i32_1084
  let v3288 : BitVec 1 := Scalar.cmpi .slt v3285 v3287
  let v3289 : BitVec 1 := Scalar.andi v3286 v3288
  let v3290 : BitVec 32 := Scalar.subi v3285 v22
  let c4096_i32_1085 : BitVec 32 := 4096#32
  let v3291 : BitVec 32 := Scalar.select v3289 v3290 c4096_i32_1085
  let v3292 : Index := Scalar.indexCast v3291
  let c0_1086 : Index := 0#32
  ![v3292.toNat, 0]

def k0_chk246 (d0 : Dev nD) (v3285 : BitVec 32) : Prop :=
  (∀ a, (k0_off406 d0 v3285) a + S1x512.size a ≤ S4104x512.size a)
theorem k0_off406_inb : ∀ (d0 : Dev nD) (v3285 : BitVec 32) (k0_hw246 : k0_chk246 d0 v3285), ∀ a, (k0_off406 d0 v3285) a + S1x512.size a ≤ S4104x512.size a := fun d0 v3285 k0_hw246 => k0_hw246

def k0_off407 (d0 : Dev nD) (v3297 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3298 : BitVec 1 := Scalar.cmpi .sge v3297 v22
  let c4096_i32_1089 : BitVec 32 := 4096#32
  let v3299 : BitVec 32 := Scalar.addi v22 c4096_i32_1089
  let v3300 : BitVec 1 := Scalar.cmpi .slt v3297 v3299
  let v3301 : BitVec 1 := Scalar.andi v3298 v3300
  let v3302 : BitVec 32 := Scalar.subi v3297 v22
  let c4096_i32_1090 : BitVec 32 := 4096#32
  let v3303 : BitVec 32 := Scalar.select v3301 v3302 c4096_i32_1090
  let v3304 : Index := Scalar.indexCast v3303
  let c0_1091 : Index := 0#32
  ![v3304.toNat, 0]

def k0_chk247 (d0 : Dev nD) (v3297 : BitVec 32) : Prop :=
  (∀ a, (k0_off407 d0 v3297) a + S1x512.size a ≤ S4104x512.size a)
theorem k0_off407_inb : ∀ (d0 : Dev nD) (v3297 : BitVec 32) (k0_hw247 : k0_chk247 d0 v3297), ∀ a, (k0_off407 d0 v3297) a + S1x512.size a ≤ S4104x512.size a := fun d0 v3297 k0_hw247 => k0_hw247

def k0_off408 (d0 : Dev nD) (v3309 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3310 : BitVec 1 := Scalar.cmpi .sge v3309 v22
  let c4096_i32_1094 : BitVec 32 := 4096#32
  let v3311 : BitVec 32 := Scalar.addi v22 c4096_i32_1094
  let v3312 : BitVec 1 := Scalar.cmpi .slt v3309 v3311
  let v3313 : BitVec 1 := Scalar.andi v3310 v3312
  let v3314 : BitVec 32 := Scalar.subi v3309 v22
  let c4096_i32_1095 : BitVec 32 := 4096#32
  let v3315 : BitVec 32 := Scalar.select v3313 v3314 c4096_i32_1095
  let v3316 : Index := Scalar.indexCast v3315
  let c0_1096 : Index := 0#32
  ![v3316.toNat, 0]

def k0_chk248 (d0 : Dev nD) (v3309 : BitVec 32) : Prop :=
  (∀ a, (k0_off408 d0 v3309) a + S1x512.size a ≤ S4104x512.size a)
theorem k0_off408_inb : ∀ (d0 : Dev nD) (v3309 : BitVec 32) (k0_hw248 : k0_chk248 d0 v3309), ∀ a, (k0_off408 d0 v3309) a + S1x512.size a ≤ S4104x512.size a := fun d0 v3309 k0_hw248 => k0_hw248

def k0_off409 (d0 : Dev nD) (v3321 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3322 : BitVec 1 := Scalar.cmpi .sge v3321 v22
  let c4096_i32_1099 : BitVec 32 := 4096#32
  let v3323 : BitVec 32 := Scalar.addi v22 c4096_i32_1099
  let v3324 : BitVec 1 := Scalar.cmpi .slt v3321 v3323
  let v3325 : BitVec 1 := Scalar.andi v3322 v3324
  let v3326 : BitVec 32 := Scalar.subi v3321 v22
  let c4096_i32_1100 : BitVec 32 := 4096#32
  let v3327 : BitVec 32 := Scalar.select v3325 v3326 c4096_i32_1100
  let v3328 : Index := Scalar.indexCast v3327
  let c0_1101 : Index := 0#32
  ![v3328.toNat, 0]

def k0_chk249 (d0 : Dev nD) (v3321 : BitVec 32) : Prop :=
  (∀ a, (k0_off409 d0 v3321) a + S1x512.size a ≤ S4104x512.size a)
theorem k0_off409_inb : ∀ (d0 : Dev nD) (v3321 : BitVec 32) (k0_hw249 : k0_chk249 d0 v3321), ∀ a, (k0_off409 d0 v3321) a + S1x512.size a ≤ S4104x512.size a := fun d0 v3321 k0_hw249 => k0_hw249

def k0_off410 (d0 : Dev nD) (v3333 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3334 : BitVec 1 := Scalar.cmpi .sge v3333 v22
  let c4096_i32_1104 : BitVec 32 := 4096#32
  let v3335 : BitVec 32 := Scalar.addi v22 c4096_i32_1104
  let v3336 : BitVec 1 := Scalar.cmpi .slt v3333 v3335
  let v3337 : BitVec 1 := Scalar.andi v3334 v3336
  let v3338 : BitVec 32 := Scalar.subi v3333 v22
  let c4096_i32_1105 : BitVec 32 := 4096#32
  let v3339 : BitVec 32 := Scalar.select v3337 v3338 c4096_i32_1105
  let v3340 : Index := Scalar.indexCast v3339
  let c0_1106 : Index := 0#32
  ![v3340.toNat, 0]

def k0_chk250 (d0 : Dev nD) (v3333 : BitVec 32) : Prop :=
  (∀ a, (k0_off410 d0 v3333) a + S1x512.size a ≤ S4104x512.size a)
theorem k0_off410_inb : ∀ (d0 : Dev nD) (v3333 : BitVec 32) (k0_hw250 : k0_chk250 d0 v3333), ∀ a, (k0_off410 d0 v3333) a + S1x512.size a ≤ S4104x512.size a := fun d0 v3333 k0_hw250 => k0_hw250

def k0_off411 (d0 : Dev nD) (v3345 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3346 : BitVec 1 := Scalar.cmpi .sge v3345 v22
  let c4096_i32_1109 : BitVec 32 := 4096#32
  let v3347 : BitVec 32 := Scalar.addi v22 c4096_i32_1109
  let v3348 : BitVec 1 := Scalar.cmpi .slt v3345 v3347
  let v3349 : BitVec 1 := Scalar.andi v3346 v3348
  let v3350 : BitVec 32 := Scalar.subi v3345 v22
  let c4096_i32_1110 : BitVec 32 := 4096#32
  let v3351 : BitVec 32 := Scalar.select v3349 v3350 c4096_i32_1110
  let v3352 : Index := Scalar.indexCast v3351
  let c0_1111 : Index := 0#32
  ![v3352.toNat, 0]

def k0_chk251 (d0 : Dev nD) (v3345 : BitVec 32) : Prop :=
  (∀ a, (k0_off411 d0 v3345) a + S1x512.size a ≤ S4104x512.size a)
theorem k0_off411_inb : ∀ (d0 : Dev nD) (v3345 : BitVec 32) (k0_hw251 : k0_chk251 d0 v3345), ∀ a, (k0_off411 d0 v3345) a + S1x512.size a ≤ S4104x512.size a := fun d0 v3345 k0_hw251 => k0_hw251

def k0_off412 (d0 : Dev nD) (v3357 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3358 : BitVec 1 := Scalar.cmpi .sge v3357 v22
  let c4096_i32_1114 : BitVec 32 := 4096#32
  let v3359 : BitVec 32 := Scalar.addi v22 c4096_i32_1114
  let v3360 : BitVec 1 := Scalar.cmpi .slt v3357 v3359
  let v3361 : BitVec 1 := Scalar.andi v3358 v3360
  let v3362 : BitVec 32 := Scalar.subi v3357 v22
  let c4096_i32_1115 : BitVec 32 := 4096#32
  let v3363 : BitVec 32 := Scalar.select v3361 v3362 c4096_i32_1115
  let v3364 : Index := Scalar.indexCast v3363
  let c0_1116 : Index := 0#32
  ![v3364.toNat, 0]

def k0_chk252 (d0 : Dev nD) (v3357 : BitVec 32) : Prop :=
  (∀ a, (k0_off412 d0 v3357) a + S1x512.size a ≤ S4104x512.size a)
theorem k0_off412_inb : ∀ (d0 : Dev nD) (v3357 : BitVec 32) (k0_hw252 : k0_chk252 d0 v3357), ∀ a, (k0_off412 d0 v3357) a + S1x512.size a ≤ S4104x512.size a := fun d0 v3357 k0_hw252 => k0_hw252

def k0_off413 (d0 : Dev nD) (v3369 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3370 : BitVec 1 := Scalar.cmpi .sge v3369 v22
  let c4096_i32_1119 : BitVec 32 := 4096#32
  let v3371 : BitVec 32 := Scalar.addi v22 c4096_i32_1119
  let v3372 : BitVec 1 := Scalar.cmpi .slt v3369 v3371
  let v3373 : BitVec 1 := Scalar.andi v3370 v3372
  let v3374 : BitVec 32 := Scalar.subi v3369 v22
  let c4096_i32_1120 : BitVec 32 := 4096#32
  let v3375 : BitVec 32 := Scalar.select v3373 v3374 c4096_i32_1120
  let v3376 : Index := Scalar.indexCast v3375
  let c0_1121 : Index := 0#32
  ![v3376.toNat, 0]

def k0_chk253 (d0 : Dev nD) (v3369 : BitVec 32) : Prop :=
  (∀ a, (k0_off413 d0 v3369) a + S1x512.size a ≤ S4104x512.size a)
theorem k0_off413_inb : ∀ (d0 : Dev nD) (v3369 : BitVec 32) (k0_hw253 : k0_chk253 d0 v3369), ∀ a, (k0_off413 d0 v3369) a + S1x512.size a ≤ S4104x512.size a := fun d0 v3369 k0_hw253 => k0_hw253

def k0_off414 (d0 : Dev nD) (v3381 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3382 : BitVec 1 := Scalar.cmpi .sge v3381 v22
  let c4096_i32_1124 : BitVec 32 := 4096#32
  let v3383 : BitVec 32 := Scalar.addi v22 c4096_i32_1124
  let v3384 : BitVec 1 := Scalar.cmpi .slt v3381 v3383
  let v3385 : BitVec 1 := Scalar.andi v3382 v3384
  let v3386 : BitVec 32 := Scalar.subi v3381 v22
  let c4096_i32_1125 : BitVec 32 := 4096#32
  let v3387 : BitVec 32 := Scalar.select v3385 v3386 c4096_i32_1125
  let v3388 : Index := Scalar.indexCast v3387
  let c0_1126 : Index := 0#32
  ![v3388.toNat, 0]

def k0_chk254 (d0 : Dev nD) (v3381 : BitVec 32) : Prop :=
  (∀ a, (k0_off414 d0 v3381) a + S1x512.size a ≤ S4104x512.size a)
theorem k0_off414_inb : ∀ (d0 : Dev nD) (v3381 : BitVec 32) (k0_hw254 : k0_chk254 d0 v3381), ∀ a, (k0_off414 d0 v3381) a + S1x512.size a ≤ S4104x512.size a := fun d0 v3381 k0_hw254 => k0_hw254

def k0_off415 (d0 : Dev nD) (v3393 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3394 : BitVec 1 := Scalar.cmpi .sge v3393 v22
  let c4096_i32_1129 : BitVec 32 := 4096#32
  let v3395 : BitVec 32 := Scalar.addi v22 c4096_i32_1129
  let v3396 : BitVec 1 := Scalar.cmpi .slt v3393 v3395
  let v3397 : BitVec 1 := Scalar.andi v3394 v3396
  let v3398 : BitVec 32 := Scalar.subi v3393 v22
  let c4096_i32_1130 : BitVec 32 := 4096#32
  let v3399 : BitVec 32 := Scalar.select v3397 v3398 c4096_i32_1130
  let v3400 : Index := Scalar.indexCast v3399
  let c0_1131 : Index := 0#32
  ![v3400.toNat, 0]

def k0_chk255 (d0 : Dev nD) (v3393 : BitVec 32) : Prop :=
  (∀ a, (k0_off415 d0 v3393) a + S1x512.size a ≤ S4104x512.size a)
theorem k0_off415_inb : ∀ (d0 : Dev nD) (v3393 : BitVec 32) (k0_hw255 : k0_chk255 d0 v3393), ∀ a, (k0_off415 d0 v3393) a + S1x512.size a ≤ S4104x512.size a := fun d0 v3393 k0_hw255 => k0_hw255

def k0_off416 (d0 : Dev nD) (v3405 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3406 : BitVec 1 := Scalar.cmpi .sge v3405 v22
  let c4096_i32_1134 : BitVec 32 := 4096#32
  let v3407 : BitVec 32 := Scalar.addi v22 c4096_i32_1134
  let v3408 : BitVec 1 := Scalar.cmpi .slt v3405 v3407
  let v3409 : BitVec 1 := Scalar.andi v3406 v3408
  let v3410 : BitVec 32 := Scalar.subi v3405 v22
  let c4096_i32_1135 : BitVec 32 := 4096#32
  let v3411 : BitVec 32 := Scalar.select v3409 v3410 c4096_i32_1135
  let v3412 : Index := Scalar.indexCast v3411
  let c0_1136 : Index := 0#32
  ![v3412.toNat, 0]

def k0_chk256 (d0 : Dev nD) (v3405 : BitVec 32) : Prop :=
  (∀ a, (k0_off416 d0 v3405) a + S1x512.size a ≤ S4104x512.size a)
theorem k0_off416_inb : ∀ (d0 : Dev nD) (v3405 : BitVec 32) (k0_hw256 : k0_chk256 d0 v3405), ∀ a, (k0_off416 d0 v3405) a + S1x512.size a ≤ S4104x512.size a := fun d0 v3405 k0_hw256 => k0_hw256

def k0_off417 (d0 : Dev nD) (v3417 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3418 : BitVec 1 := Scalar.cmpi .sge v3417 v22
  let c4096_i32_1139 : BitVec 32 := 4096#32
  let v3419 : BitVec 32 := Scalar.addi v22 c4096_i32_1139
  let v3420 : BitVec 1 := Scalar.cmpi .slt v3417 v3419
  let v3421 : BitVec 1 := Scalar.andi v3418 v3420
  let v3422 : BitVec 32 := Scalar.subi v3417 v22
  let c4096_i32_1140 : BitVec 32 := 4096#32
  let v3423 : BitVec 32 := Scalar.select v3421 v3422 c4096_i32_1140
  let v3424 : Index := Scalar.indexCast v3423
  let c0_1141 : Index := 0#32
  ![v3424.toNat, 0]

def k0_chk257 (d0 : Dev nD) (v3417 : BitVec 32) : Prop :=
  (∀ a, (k0_off417 d0 v3417) a + S1x512.size a ≤ S4104x512.size a)
theorem k0_off417_inb : ∀ (d0 : Dev nD) (v3417 : BitVec 32) (k0_hw257 : k0_chk257 d0 v3417), ∀ a, (k0_off417 d0 v3417) a + S1x512.size a ≤ S4104x512.size a := fun d0 v3417 k0_hw257 => k0_hw257

def k0_off418 (d0 : Dev nD) (v3429 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3430 : BitVec 1 := Scalar.cmpi .sge v3429 v22
  let c4096_i32_1143 : BitVec 32 := 4096#32
  let v3431 : BitVec 32 := Scalar.addi v22 c4096_i32_1143
  let v3432 : BitVec 1 := Scalar.cmpi .slt v3429 v3431
  let v3433 : BitVec 1 := Scalar.andi v3430 v3432
  let v3434 : BitVec 32 := Scalar.subi v3429 v22
  let c4096_i32_1144 : BitVec 32 := 4096#32
  let v3435 : BitVec 32 := Scalar.select v3433 v3434 c4096_i32_1144
  let v3436 : Index := Scalar.indexCast v3435
  let c0_1145 : Index := 0#32
  ![v3436.toNat, 0]

def k0_chk258 (d0 : Dev nD) (v3429 : BitVec 32) : Prop :=
  (∀ a, (k0_off418 d0 v3429) a + S1x512.size a ≤ S4104x512.size a)
theorem k0_off418_inb : ∀ (d0 : Dev nD) (v3429 : BitVec 32) (k0_hw258 : k0_chk258 d0 v3429), ∀ a, (k0_off418 d0 v3429) a + S1x512.size a ≤ S4104x512.size a := fun d0 v3429 k0_hw258 => k0_hw258

def k0_off419 (d0 : Dev nD) (v3441 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3442 : BitVec 1 := Scalar.cmpi .sge v3441 v22
  let c4096_i32_1147 : BitVec 32 := 4096#32
  let v3443 : BitVec 32 := Scalar.addi v22 c4096_i32_1147
  let v3444 : BitVec 1 := Scalar.cmpi .slt v3441 v3443
  let v3445 : BitVec 1 := Scalar.andi v3442 v3444
  let v3446 : BitVec 32 := Scalar.subi v3441 v22
  let c4096_i32_1148 : BitVec 32 := 4096#32
  let v3447 : BitVec 32 := Scalar.select v3445 v3446 c4096_i32_1148
  let v3448 : Index := Scalar.indexCast v3447
  let c0_1149 : Index := 0#32
  ![v3448.toNat, 0]

def k0_chk259 (d0 : Dev nD) (v3441 : BitVec 32) : Prop :=
  (∀ a, (k0_off419 d0 v3441) a + S1x512.size a ≤ S4104x512.size a)
theorem k0_off419_inb : ∀ (d0 : Dev nD) (v3441 : BitVec 32) (k0_hw259 : k0_chk259 d0 v3441), ∀ a, (k0_off419 d0 v3441) a + S1x512.size a ≤ S4104x512.size a := fun d0 v3441 k0_hw259 => k0_hw259

def k0_off420 (d0 : Dev nD) (v3453 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3454 : BitVec 1 := Scalar.cmpi .sge v3453 v22
  let c4096_i32_1151 : BitVec 32 := 4096#32
  let v3455 : BitVec 32 := Scalar.addi v22 c4096_i32_1151
  let v3456 : BitVec 1 := Scalar.cmpi .slt v3453 v3455
  let v3457 : BitVec 1 := Scalar.andi v3454 v3456
  let v3458 : BitVec 32 := Scalar.subi v3453 v22
  let c4096_i32_1152 : BitVec 32 := 4096#32
  let v3459 : BitVec 32 := Scalar.select v3457 v3458 c4096_i32_1152
  let v3460 : Index := Scalar.indexCast v3459
  let c0_1153 : Index := 0#32
  ![v3460.toNat, 0]

def k0_chk260 (d0 : Dev nD) (v3453 : BitVec 32) : Prop :=
  (∀ a, (k0_off420 d0 v3453) a + S1x512.size a ≤ S4104x512.size a)
theorem k0_off420_inb : ∀ (d0 : Dev nD) (v3453 : BitVec 32) (k0_hw260 : k0_chk260 d0 v3453), ∀ a, (k0_off420 d0 v3453) a + S1x512.size a ≤ S4104x512.size a := fun d0 v3453 k0_hw260 => k0_hw260

def k0_off421 (d0 : Dev nD) (v3465 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3466 : BitVec 1 := Scalar.cmpi .sge v3465 v22
  let c4096_i32_1155 : BitVec 32 := 4096#32
  let v3467 : BitVec 32 := Scalar.addi v22 c4096_i32_1155
  let v3468 : BitVec 1 := Scalar.cmpi .slt v3465 v3467
  let v3469 : BitVec 1 := Scalar.andi v3466 v3468
  let v3470 : BitVec 32 := Scalar.subi v3465 v22
  let c4096_i32_1156 : BitVec 32 := 4096#32
  let v3471 : BitVec 32 := Scalar.select v3469 v3470 c4096_i32_1156
  let v3472 : Index := Scalar.indexCast v3471
  let c0_1157 : Index := 0#32
  ![v3472.toNat, 0]

def k0_chk261 (d0 : Dev nD) (v3465 : BitVec 32) : Prop :=
  (∀ a, (k0_off421 d0 v3465) a + S1x512.size a ≤ S4104x512.size a)
theorem k0_off421_inb : ∀ (d0 : Dev nD) (v3465 : BitVec 32) (k0_hw261 : k0_chk261 d0 v3465), ∀ a, (k0_off421 d0 v3465) a + S1x512.size a ≤ S4104x512.size a := fun d0 v3465 k0_hw261 => k0_hw261

def k0_off422 (d0 : Dev nD) (v3477 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3478 : BitVec 1 := Scalar.cmpi .sge v3477 v22
  let c4096_i32_1159 : BitVec 32 := 4096#32
  let v3479 : BitVec 32 := Scalar.addi v22 c4096_i32_1159
  let v3480 : BitVec 1 := Scalar.cmpi .slt v3477 v3479
  let v3481 : BitVec 1 := Scalar.andi v3478 v3480
  let v3482 : BitVec 32 := Scalar.subi v3477 v22
  let c4096_i32_1160 : BitVec 32 := 4096#32
  let v3483 : BitVec 32 := Scalar.select v3481 v3482 c4096_i32_1160
  let v3484 : Index := Scalar.indexCast v3483
  let c0_1161 : Index := 0#32
  ![v3484.toNat, 0]

def k0_chk262 (d0 : Dev nD) (v3477 : BitVec 32) : Prop :=
  (∀ a, (k0_off422 d0 v3477) a + S1x512.size a ≤ S4104x512.size a)
theorem k0_off422_inb : ∀ (d0 : Dev nD) (v3477 : BitVec 32) (k0_hw262 : k0_chk262 d0 v3477), ∀ a, (k0_off422 d0 v3477) a + S1x512.size a ≤ S4104x512.size a := fun d0 v3477 k0_hw262 => k0_hw262

def k0_off423 (d0 : Dev nD) (v3489 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3490 : BitVec 1 := Scalar.cmpi .sge v3489 v22
  let c4096_i32_1163 : BitVec 32 := 4096#32
  let v3491 : BitVec 32 := Scalar.addi v22 c4096_i32_1163
  let v3492 : BitVec 1 := Scalar.cmpi .slt v3489 v3491
  let v3493 : BitVec 1 := Scalar.andi v3490 v3492
  let v3494 : BitVec 32 := Scalar.subi v3489 v22
  let c4096_i32_1164 : BitVec 32 := 4096#32
  let v3495 : BitVec 32 := Scalar.select v3493 v3494 c4096_i32_1164
  let v3496 : Index := Scalar.indexCast v3495
  let c0_1165 : Index := 0#32
  ![v3496.toNat, 0]

def k0_chk263 (d0 : Dev nD) (v3489 : BitVec 32) : Prop :=
  (∀ a, (k0_off423 d0 v3489) a + S1x512.size a ≤ S4104x512.size a)
theorem k0_off423_inb : ∀ (d0 : Dev nD) (v3489 : BitVec 32) (k0_hw263 : k0_chk263 d0 v3489), ∀ a, (k0_off423 d0 v3489) a + S1x512.size a ≤ S4104x512.size a := fun d0 v3489 k0_hw263 => k0_hw263

def k0_off424 (d0 : Dev nD) (v3501 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3502 : BitVec 1 := Scalar.cmpi .sge v3501 v22
  let c4096_i32_1167 : BitVec 32 := 4096#32
  let v3503 : BitVec 32 := Scalar.addi v22 c4096_i32_1167
  let v3504 : BitVec 1 := Scalar.cmpi .slt v3501 v3503
  let v3505 : BitVec 1 := Scalar.andi v3502 v3504
  let v3506 : BitVec 32 := Scalar.subi v3501 v22
  let c4096_i32_1168 : BitVec 32 := 4096#32
  let v3507 : BitVec 32 := Scalar.select v3505 v3506 c4096_i32_1168
  let v3508 : Index := Scalar.indexCast v3507
  let c0_1169 : Index := 0#32
  ![v3508.toNat, 0]

def k0_chk264 (d0 : Dev nD) (v3501 : BitVec 32) : Prop :=
  (∀ a, (k0_off424 d0 v3501) a + S1x512.size a ≤ S4104x512.size a)
theorem k0_off424_inb : ∀ (d0 : Dev nD) (v3501 : BitVec 32) (k0_hw264 : k0_chk264 d0 v3501), ∀ a, (k0_off424 d0 v3501) a + S1x512.size a ≤ S4104x512.size a := fun d0 v3501 k0_hw264 => k0_hw264

def k0_off425 (d0 : Dev nD) (v3513 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3514 : BitVec 1 := Scalar.cmpi .sge v3513 v22
  let c4096_i32_1171 : BitVec 32 := 4096#32
  let v3515 : BitVec 32 := Scalar.addi v22 c4096_i32_1171
  let v3516 : BitVec 1 := Scalar.cmpi .slt v3513 v3515
  let v3517 : BitVec 1 := Scalar.andi v3514 v3516
  let v3518 : BitVec 32 := Scalar.subi v3513 v22
  let c4096_i32_1172 : BitVec 32 := 4096#32
  let v3519 : BitVec 32 := Scalar.select v3517 v3518 c4096_i32_1172
  let v3520 : Index := Scalar.indexCast v3519
  let c0_1173 : Index := 0#32
  ![v3520.toNat, 0]

def k0_chk265 (d0 : Dev nD) (v3513 : BitVec 32) : Prop :=
  (∀ a, (k0_off425 d0 v3513) a + S1x512.size a ≤ S4104x512.size a)
theorem k0_off425_inb : ∀ (d0 : Dev nD) (v3513 : BitVec 32) (k0_hw265 : k0_chk265 d0 v3513), ∀ a, (k0_off425 d0 v3513) a + S1x512.size a ≤ S4104x512.size a := fun d0 v3513 k0_hw265 => k0_hw265

def k0_off426 (d0 : Dev nD) (v3525 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3526 : BitVec 1 := Scalar.cmpi .sge v3525 v22
  let c4096_i32_1175 : BitVec 32 := 4096#32
  let v3527 : BitVec 32 := Scalar.addi v22 c4096_i32_1175
  let v3528 : BitVec 1 := Scalar.cmpi .slt v3525 v3527
  let v3529 : BitVec 1 := Scalar.andi v3526 v3528
  let v3530 : BitVec 32 := Scalar.subi v3525 v22
  let c4096_i32_1176 : BitVec 32 := 4096#32
  let v3531 : BitVec 32 := Scalar.select v3529 v3530 c4096_i32_1176
  let v3532 : Index := Scalar.indexCast v3531
  let c0_1177 : Index := 0#32
  ![v3532.toNat, 0]

def k0_chk266 (d0 : Dev nD) (v3525 : BitVec 32) : Prop :=
  (∀ a, (k0_off426 d0 v3525) a + S1x512.size a ≤ S4104x512.size a)
theorem k0_off426_inb : ∀ (d0 : Dev nD) (v3525 : BitVec 32) (k0_hw266 : k0_chk266 d0 v3525), ∀ a, (k0_off426 d0 v3525) a + S1x512.size a ≤ S4104x512.size a := fun d0 v3525 k0_hw266 => k0_hw266

def k0_off427 (d0 : Dev nD) (v3537 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3538 : BitVec 1 := Scalar.cmpi .sge v3537 v22
  let c4096_i32_1179 : BitVec 32 := 4096#32
  let v3539 : BitVec 32 := Scalar.addi v22 c4096_i32_1179
  let v3540 : BitVec 1 := Scalar.cmpi .slt v3537 v3539
  let v3541 : BitVec 1 := Scalar.andi v3538 v3540
  let v3542 : BitVec 32 := Scalar.subi v3537 v22
  let c4096_i32_1180 : BitVec 32 := 4096#32
  let v3543 : BitVec 32 := Scalar.select v3541 v3542 c4096_i32_1180
  let v3544 : Index := Scalar.indexCast v3543
  let c0_1181 : Index := 0#32
  ![v3544.toNat, 0]

def k0_chk267 (d0 : Dev nD) (v3537 : BitVec 32) : Prop :=
  (∀ a, (k0_off427 d0 v3537) a + S1x512.size a ≤ S4104x512.size a)
theorem k0_off427_inb : ∀ (d0 : Dev nD) (v3537 : BitVec 32) (k0_hw267 : k0_chk267 d0 v3537), ∀ a, (k0_off427 d0 v3537) a + S1x512.size a ≤ S4104x512.size a := fun d0 v3537 k0_hw267 => k0_hw267

def k0_off428 (d0 : Dev nD) (v3549 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3550 : BitVec 1 := Scalar.cmpi .sge v3549 v22
  let c4096_i32_1183 : BitVec 32 := 4096#32
  let v3551 : BitVec 32 := Scalar.addi v22 c4096_i32_1183
  let v3552 : BitVec 1 := Scalar.cmpi .slt v3549 v3551
  let v3553 : BitVec 1 := Scalar.andi v3550 v3552
  let v3554 : BitVec 32 := Scalar.subi v3549 v22
  let c4096_i32_1184 : BitVec 32 := 4096#32
  let v3555 : BitVec 32 := Scalar.select v3553 v3554 c4096_i32_1184
  let v3556 : Index := Scalar.indexCast v3555
  let c0_1185 : Index := 0#32
  ![v3556.toNat, 0]

def k0_chk268 (d0 : Dev nD) (v3549 : BitVec 32) : Prop :=
  (∀ a, (k0_off428 d0 v3549) a + S1x512.size a ≤ S4104x512.size a)
theorem k0_off428_inb : ∀ (d0 : Dev nD) (v3549 : BitVec 32) (k0_hw268 : k0_chk268 d0 v3549), ∀ a, (k0_off428 d0 v3549) a + S1x512.size a ≤ S4104x512.size a := fun d0 v3549 k0_hw268 => k0_hw268

def k0_off429 (d0 : Dev nD) (v3561 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3562 : BitVec 1 := Scalar.cmpi .sge v3561 v22
  let c4096_i32_1187 : BitVec 32 := 4096#32
  let v3563 : BitVec 32 := Scalar.addi v22 c4096_i32_1187
  let v3564 : BitVec 1 := Scalar.cmpi .slt v3561 v3563
  let v3565 : BitVec 1 := Scalar.andi v3562 v3564
  let v3566 : BitVec 32 := Scalar.subi v3561 v22
  let c4096_i32_1188 : BitVec 32 := 4096#32
  let v3567 : BitVec 32 := Scalar.select v3565 v3566 c4096_i32_1188
  let v3568 : Index := Scalar.indexCast v3567
  let c0_1189 : Index := 0#32
  ![v3568.toNat, 0]

def k0_chk269 (d0 : Dev nD) (v3561 : BitVec 32) : Prop :=
  (∀ a, (k0_off429 d0 v3561) a + S1x512.size a ≤ S4104x512.size a)
theorem k0_off429_inb : ∀ (d0 : Dev nD) (v3561 : BitVec 32) (k0_hw269 : k0_chk269 d0 v3561), ∀ a, (k0_off429 d0 v3561) a + S1x512.size a ≤ S4104x512.size a := fun d0 v3561 k0_hw269 => k0_hw269

def k0_off430 (d0 : Dev nD) (v3573 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3574 : BitVec 1 := Scalar.cmpi .sge v3573 v22
  let c4096_i32_1191 : BitVec 32 := 4096#32
  let v3575 : BitVec 32 := Scalar.addi v22 c4096_i32_1191
  let v3576 : BitVec 1 := Scalar.cmpi .slt v3573 v3575
  let v3577 : BitVec 1 := Scalar.andi v3574 v3576
  let v3578 : BitVec 32 := Scalar.subi v3573 v22
  let c4096_i32_1192 : BitVec 32 := 4096#32
  let v3579 : BitVec 32 := Scalar.select v3577 v3578 c4096_i32_1192
  let v3580 : Index := Scalar.indexCast v3579
  let c0_1193 : Index := 0#32
  ![v3580.toNat, 0]

def k0_chk270 (d0 : Dev nD) (v3573 : BitVec 32) : Prop :=
  (∀ a, (k0_off430 d0 v3573) a + S1x512.size a ≤ S4104x512.size a)
theorem k0_off430_inb : ∀ (d0 : Dev nD) (v3573 : BitVec 32) (k0_hw270 : k0_chk270 d0 v3573), ∀ a, (k0_off430 d0 v3573) a + S1x512.size a ≤ S4104x512.size a := fun d0 v3573 k0_hw270 => k0_hw270

def k0_off431 (d0 : Dev nD) (v3585 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3586 : BitVec 1 := Scalar.cmpi .sge v3585 v22
  let c4096_i32_1195 : BitVec 32 := 4096#32
  let v3587 : BitVec 32 := Scalar.addi v22 c4096_i32_1195
  let v3588 : BitVec 1 := Scalar.cmpi .slt v3585 v3587
  let v3589 : BitVec 1 := Scalar.andi v3586 v3588
  let v3590 : BitVec 32 := Scalar.subi v3585 v22
  let c4096_i32_1196 : BitVec 32 := 4096#32
  let v3591 : BitVec 32 := Scalar.select v3589 v3590 c4096_i32_1196
  let v3592 : Index := Scalar.indexCast v3591
  let c0_1197 : Index := 0#32
  ![v3592.toNat, 0]

def k0_chk271 (d0 : Dev nD) (v3585 : BitVec 32) : Prop :=
  (∀ a, (k0_off431 d0 v3585) a + S1x512.size a ≤ S4104x512.size a)
theorem k0_off431_inb : ∀ (d0 : Dev nD) (v3585 : BitVec 32) (k0_hw271 : k0_chk271 d0 v3585), ∀ a, (k0_off431 d0 v3585) a + S1x512.size a ≤ S4104x512.size a := fun d0 v3585 k0_hw271 => k0_hw271

def k0_off432 (d0 : Dev nD) (v3597 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3598 : BitVec 1 := Scalar.cmpi .sge v3597 v22
  let c4096_i32_1199 : BitVec 32 := 4096#32
  let v3599 : BitVec 32 := Scalar.addi v22 c4096_i32_1199
  let v3600 : BitVec 1 := Scalar.cmpi .slt v3597 v3599
  let v3601 : BitVec 1 := Scalar.andi v3598 v3600
  let v3602 : BitVec 32 := Scalar.subi v3597 v22
  let c4096_i32_1200 : BitVec 32 := 4096#32
  let v3603 : BitVec 32 := Scalar.select v3601 v3602 c4096_i32_1200
  let v3604 : Index := Scalar.indexCast v3603
  let c0_1201 : Index := 0#32
  ![v3604.toNat, 0]

def k0_chk272 (d0 : Dev nD) (v3597 : BitVec 32) : Prop :=
  (∀ a, (k0_off432 d0 v3597) a + S1x512.size a ≤ S4104x512.size a)
theorem k0_off432_inb : ∀ (d0 : Dev nD) (v3597 : BitVec 32) (k0_hw272 : k0_chk272 d0 v3597), ∀ a, (k0_off432 d0 v3597) a + S1x512.size a ≤ S4104x512.size a := fun d0 v3597 k0_hw272 => k0_hw272

def k0_off433 (d0 : Dev nD) (v3609 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3610 : BitVec 1 := Scalar.cmpi .sge v3609 v22
  let c4096_i32_1203 : BitVec 32 := 4096#32
  let v3611 : BitVec 32 := Scalar.addi v22 c4096_i32_1203
  let v3612 : BitVec 1 := Scalar.cmpi .slt v3609 v3611
  let v3613 : BitVec 1 := Scalar.andi v3610 v3612
  let v3614 : BitVec 32 := Scalar.subi v3609 v22
  let c4096_i32_1204 : BitVec 32 := 4096#32
  let v3615 : BitVec 32 := Scalar.select v3613 v3614 c4096_i32_1204
  let v3616 : Index := Scalar.indexCast v3615
  let c0_1205 : Index := 0#32
  ![v3616.toNat, 0]

def k0_chk273 (d0 : Dev nD) (v3609 : BitVec 32) : Prop :=
  (∀ a, (k0_off433 d0 v3609) a + S1x512.size a ≤ S4104x512.size a)
theorem k0_off433_inb : ∀ (d0 : Dev nD) (v3609 : BitVec 32) (k0_hw273 : k0_chk273 d0 v3609), ∀ a, (k0_off433 d0 v3609) a + S1x512.size a ≤ S4104x512.size a := fun d0 v3609 k0_hw273 => k0_hw273

def k0_off434 (d0 : Dev nD) (v3621 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3622 : BitVec 1 := Scalar.cmpi .sge v3621 v22
  let c4096_i32_1207 : BitVec 32 := 4096#32
  let v3623 : BitVec 32 := Scalar.addi v22 c4096_i32_1207
  let v3624 : BitVec 1 := Scalar.cmpi .slt v3621 v3623
  let v3625 : BitVec 1 := Scalar.andi v3622 v3624
  let v3626 : BitVec 32 := Scalar.subi v3621 v22
  let c4096_i32_1208 : BitVec 32 := 4096#32
  let v3627 : BitVec 32 := Scalar.select v3625 v3626 c4096_i32_1208
  let v3628 : Index := Scalar.indexCast v3627
  let c0_1209 : Index := 0#32
  ![v3628.toNat, 0]

def k0_chk274 (d0 : Dev nD) (v3621 : BitVec 32) : Prop :=
  (∀ a, (k0_off434 d0 v3621) a + S1x512.size a ≤ S4104x512.size a)
theorem k0_off434_inb : ∀ (d0 : Dev nD) (v3621 : BitVec 32) (k0_hw274 : k0_chk274 d0 v3621), ∀ a, (k0_off434 d0 v3621) a + S1x512.size a ≤ S4104x512.size a := fun d0 v3621 k0_hw274 => k0_hw274

def k0_off435 (d0 : Dev nD) (v3633 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3634 : BitVec 1 := Scalar.cmpi .sge v3633 v22
  let c4096_i32_1211 : BitVec 32 := 4096#32
  let v3635 : BitVec 32 := Scalar.addi v22 c4096_i32_1211
  let v3636 : BitVec 1 := Scalar.cmpi .slt v3633 v3635
  let v3637 : BitVec 1 := Scalar.andi v3634 v3636
  let v3638 : BitVec 32 := Scalar.subi v3633 v22
  let c4096_i32_1212 : BitVec 32 := 4096#32
  let v3639 : BitVec 32 := Scalar.select v3637 v3638 c4096_i32_1212
  let v3640 : Index := Scalar.indexCast v3639
  let c0_1213 : Index := 0#32
  ![v3640.toNat, 0]

def k0_chk275 (d0 : Dev nD) (v3633 : BitVec 32) : Prop :=
  (∀ a, (k0_off435 d0 v3633) a + S1x512.size a ≤ S4104x512.size a)
theorem k0_off435_inb : ∀ (d0 : Dev nD) (v3633 : BitVec 32) (k0_hw275 : k0_chk275 d0 v3633), ∀ a, (k0_off435 d0 v3633) a + S1x512.size a ≤ S4104x512.size a := fun d0 v3633 k0_hw275 => k0_hw275

def k0_off436 (d0 : Dev nD) (v3645 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3646 : BitVec 1 := Scalar.cmpi .sge v3645 v22
  let c4096_i32_1215 : BitVec 32 := 4096#32
  let v3647 : BitVec 32 := Scalar.addi v22 c4096_i32_1215
  let v3648 : BitVec 1 := Scalar.cmpi .slt v3645 v3647
  let v3649 : BitVec 1 := Scalar.andi v3646 v3648
  let v3650 : BitVec 32 := Scalar.subi v3645 v22
  let c4096_i32_1216 : BitVec 32 := 4096#32
  let v3651 : BitVec 32 := Scalar.select v3649 v3650 c4096_i32_1216
  let v3652 : Index := Scalar.indexCast v3651
  let c0_1217 : Index := 0#32
  ![v3652.toNat, 0]

def k0_chk276 (d0 : Dev nD) (v3645 : BitVec 32) : Prop :=
  (∀ a, (k0_off436 d0 v3645) a + S1x512.size a ≤ S4104x512.size a)
theorem k0_off436_inb : ∀ (d0 : Dev nD) (v3645 : BitVec 32) (k0_hw276 : k0_chk276 d0 v3645), ∀ a, (k0_off436 d0 v3645) a + S1x512.size a ≤ S4104x512.size a := fun d0 v3645 k0_hw276 => k0_hw276

def k0_off437 (d0 : Dev nD) (v3657 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3658 : BitVec 1 := Scalar.cmpi .sge v3657 v22
  let c4096_i32_1219 : BitVec 32 := 4096#32
  let v3659 : BitVec 32 := Scalar.addi v22 c4096_i32_1219
  let v3660 : BitVec 1 := Scalar.cmpi .slt v3657 v3659
  let v3661 : BitVec 1 := Scalar.andi v3658 v3660
  let v3662 : BitVec 32 := Scalar.subi v3657 v22
  let c4096_i32_1220 : BitVec 32 := 4096#32
  let v3663 : BitVec 32 := Scalar.select v3661 v3662 c4096_i32_1220
  let v3664 : Index := Scalar.indexCast v3663
  let c0_1221 : Index := 0#32
  ![v3664.toNat, 0]

def k0_chk277 (d0 : Dev nD) (v3657 : BitVec 32) : Prop :=
  (∀ a, (k0_off437 d0 v3657) a + S1x512.size a ≤ S4104x512.size a)
theorem k0_off437_inb : ∀ (d0 : Dev nD) (v3657 : BitVec 32) (k0_hw277 : k0_chk277 d0 v3657), ∀ a, (k0_off437 d0 v3657) a + S1x512.size a ≤ S4104x512.size a := fun d0 v3657 k0_hw277 => k0_hw277

def k0_off438 (d0 : Dev nD) (v3669 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3670 : BitVec 1 := Scalar.cmpi .sge v3669 v22
  let c4096_i32_1223 : BitVec 32 := 4096#32
  let v3671 : BitVec 32 := Scalar.addi v22 c4096_i32_1223
  let v3672 : BitVec 1 := Scalar.cmpi .slt v3669 v3671
  let v3673 : BitVec 1 := Scalar.andi v3670 v3672
  let v3674 : BitVec 32 := Scalar.subi v3669 v22
  let c4096_i32_1224 : BitVec 32 := 4096#32
  let v3675 : BitVec 32 := Scalar.select v3673 v3674 c4096_i32_1224
  let v3676 : Index := Scalar.indexCast v3675
  let c0_1225 : Index := 0#32
  ![v3676.toNat, 0]

def k0_chk278 (d0 : Dev nD) (v3669 : BitVec 32) : Prop :=
  (∀ a, (k0_off438 d0 v3669) a + S1x512.size a ≤ S4104x512.size a)
theorem k0_off438_inb : ∀ (d0 : Dev nD) (v3669 : BitVec 32) (k0_hw278 : k0_chk278 d0 v3669), ∀ a, (k0_off438 d0 v3669) a + S1x512.size a ≤ S4104x512.size a := fun d0 v3669 k0_hw278 => k0_hw278

def k0_off439 (d0 : Dev nD) (v3681 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3682 : BitVec 1 := Scalar.cmpi .sge v3681 v22
  let c4096_i32_1227 : BitVec 32 := 4096#32
  let v3683 : BitVec 32 := Scalar.addi v22 c4096_i32_1227
  let v3684 : BitVec 1 := Scalar.cmpi .slt v3681 v3683
  let v3685 : BitVec 1 := Scalar.andi v3682 v3684
  let v3686 : BitVec 32 := Scalar.subi v3681 v22
  let c4096_i32_1228 : BitVec 32 := 4096#32
  let v3687 : BitVec 32 := Scalar.select v3685 v3686 c4096_i32_1228
  let v3688 : Index := Scalar.indexCast v3687
  let c0_1229 : Index := 0#32
  ![v3688.toNat, 0]

def k0_chk279 (d0 : Dev nD) (v3681 : BitVec 32) : Prop :=
  (∀ a, (k0_off439 d0 v3681) a + S1x512.size a ≤ S4104x512.size a)
theorem k0_off439_inb : ∀ (d0 : Dev nD) (v3681 : BitVec 32) (k0_hw279 : k0_chk279 d0 v3681), ∀ a, (k0_off439 d0 v3681) a + S1x512.size a ≤ S4104x512.size a := fun d0 v3681 k0_hw279 => k0_hw279

def k0_off440 (d0 : Dev nD) (v3693 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3694 : BitVec 1 := Scalar.cmpi .sge v3693 v22
  let c4096_i32_1231 : BitVec 32 := 4096#32
  let v3695 : BitVec 32 := Scalar.addi v22 c4096_i32_1231
  let v3696 : BitVec 1 := Scalar.cmpi .slt v3693 v3695
  let v3697 : BitVec 1 := Scalar.andi v3694 v3696
  let v3698 : BitVec 32 := Scalar.subi v3693 v22
  let c4096_i32_1232 : BitVec 32 := 4096#32
  let v3699 : BitVec 32 := Scalar.select v3697 v3698 c4096_i32_1232
  let v3700 : Index := Scalar.indexCast v3699
  let c0_1233 : Index := 0#32
  ![v3700.toNat, 0]

def k0_chk280 (d0 : Dev nD) (v3693 : BitVec 32) : Prop :=
  (∀ a, (k0_off440 d0 v3693) a + S1x512.size a ≤ S4104x512.size a)
theorem k0_off440_inb : ∀ (d0 : Dev nD) (v3693 : BitVec 32) (k0_hw280 : k0_chk280 d0 v3693), ∀ a, (k0_off440 d0 v3693) a + S1x512.size a ≤ S4104x512.size a := fun d0 v3693 k0_hw280 => k0_hw280

def k0_off441 (d0 : Dev nD) (v3705 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3706 : BitVec 1 := Scalar.cmpi .sge v3705 v22
  let c4096_i32_1235 : BitVec 32 := 4096#32
  let v3707 : BitVec 32 := Scalar.addi v22 c4096_i32_1235
  let v3708 : BitVec 1 := Scalar.cmpi .slt v3705 v3707
  let v3709 : BitVec 1 := Scalar.andi v3706 v3708
  let v3710 : BitVec 32 := Scalar.subi v3705 v22
  let c4096_i32_1236 : BitVec 32 := 4096#32
  let v3711 : BitVec 32 := Scalar.select v3709 v3710 c4096_i32_1236
  let v3712 : Index := Scalar.indexCast v3711
  let c0_1237 : Index := 0#32
  ![v3712.toNat, 0]

def k0_chk281 (d0 : Dev nD) (v3705 : BitVec 32) : Prop :=
  (∀ a, (k0_off441 d0 v3705) a + S1x512.size a ≤ S4104x512.size a)
theorem k0_off441_inb : ∀ (d0 : Dev nD) (v3705 : BitVec 32) (k0_hw281 : k0_chk281 d0 v3705), ∀ a, (k0_off441 d0 v3705) a + S1x512.size a ≤ S4104x512.size a := fun d0 v3705 k0_hw281 => k0_hw281

def k0_off442 (d0 : Dev nD) (v3717 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3718 : BitVec 1 := Scalar.cmpi .sge v3717 v22
  let c4096_i32_1239 : BitVec 32 := 4096#32
  let v3719 : BitVec 32 := Scalar.addi v22 c4096_i32_1239
  let v3720 : BitVec 1 := Scalar.cmpi .slt v3717 v3719
  let v3721 : BitVec 1 := Scalar.andi v3718 v3720
  let v3722 : BitVec 32 := Scalar.subi v3717 v22
  let c4096_i32_1240 : BitVec 32 := 4096#32
  let v3723 : BitVec 32 := Scalar.select v3721 v3722 c4096_i32_1240
  let v3724 : Index := Scalar.indexCast v3723
  let c0_1241 : Index := 0#32
  ![v3724.toNat, 0]

def k0_chk282 (d0 : Dev nD) (v3717 : BitVec 32) : Prop :=
  (∀ a, (k0_off442 d0 v3717) a + S1x512.size a ≤ S4104x512.size a)
theorem k0_off442_inb : ∀ (d0 : Dev nD) (v3717 : BitVec 32) (k0_hw282 : k0_chk282 d0 v3717), ∀ a, (k0_off442 d0 v3717) a + S1x512.size a ≤ S4104x512.size a := fun d0 v3717 k0_hw282 => k0_hw282

def k0_off443 (d0 : Dev nD) (v3729 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3730 : BitVec 1 := Scalar.cmpi .sge v3729 v22
  let c4096_i32_1243 : BitVec 32 := 4096#32
  let v3731 : BitVec 32 := Scalar.addi v22 c4096_i32_1243
  let v3732 : BitVec 1 := Scalar.cmpi .slt v3729 v3731
  let v3733 : BitVec 1 := Scalar.andi v3730 v3732
  let v3734 : BitVec 32 := Scalar.subi v3729 v22
  let c4096_i32_1244 : BitVec 32 := 4096#32
  let v3735 : BitVec 32 := Scalar.select v3733 v3734 c4096_i32_1244
  let v3736 : Index := Scalar.indexCast v3735
  let c0_1245 : Index := 0#32
  ![v3736.toNat, 0]

def k0_chk283 (d0 : Dev nD) (v3729 : BitVec 32) : Prop :=
  (∀ a, (k0_off443 d0 v3729) a + S1x512.size a ≤ S4104x512.size a)
theorem k0_off443_inb : ∀ (d0 : Dev nD) (v3729 : BitVec 32) (k0_hw283 : k0_chk283 d0 v3729), ∀ a, (k0_off443 d0 v3729) a + S1x512.size a ≤ S4104x512.size a := fun d0 v3729 k0_hw283 => k0_hw283

def k0_off444 (d0 : Dev nD) (v3741 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3742 : BitVec 1 := Scalar.cmpi .sge v3741 v22
  let c4096_i32_1247 : BitVec 32 := 4096#32
  let v3743 : BitVec 32 := Scalar.addi v22 c4096_i32_1247
  let v3744 : BitVec 1 := Scalar.cmpi .slt v3741 v3743
  let v3745 : BitVec 1 := Scalar.andi v3742 v3744
  let v3746 : BitVec 32 := Scalar.subi v3741 v22
  let c4096_i32_1248 : BitVec 32 := 4096#32
  let v3747 : BitVec 32 := Scalar.select v3745 v3746 c4096_i32_1248
  let v3748 : Index := Scalar.indexCast v3747
  let c0_1249 : Index := 0#32
  ![v3748.toNat, 0]

def k0_chk284 (d0 : Dev nD) (v3741 : BitVec 32) : Prop :=
  (∀ a, (k0_off444 d0 v3741) a + S1x512.size a ≤ S4104x512.size a)
theorem k0_off444_inb : ∀ (d0 : Dev nD) (v3741 : BitVec 32) (k0_hw284 : k0_chk284 d0 v3741), ∀ a, (k0_off444 d0 v3741) a + S1x512.size a ≤ S4104x512.size a := fun d0 v3741 k0_hw284 => k0_hw284

def k0_off445 (d0 : Dev nD) (v3753 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3754 : BitVec 1 := Scalar.cmpi .sge v3753 v22
  let c4096_i32_1251 : BitVec 32 := 4096#32
  let v3755 : BitVec 32 := Scalar.addi v22 c4096_i32_1251
  let v3756 : BitVec 1 := Scalar.cmpi .slt v3753 v3755
  let v3757 : BitVec 1 := Scalar.andi v3754 v3756
  let v3758 : BitVec 32 := Scalar.subi v3753 v22
  let c4096_i32_1252 : BitVec 32 := 4096#32
  let v3759 : BitVec 32 := Scalar.select v3757 v3758 c4096_i32_1252
  let v3760 : Index := Scalar.indexCast v3759
  let c0_1253 : Index := 0#32
  ![v3760.toNat, 0]

def k0_chk285 (d0 : Dev nD) (v3753 : BitVec 32) : Prop :=
  (∀ a, (k0_off445 d0 v3753) a + S1x512.size a ≤ S4104x512.size a)
theorem k0_off445_inb : ∀ (d0 : Dev nD) (v3753 : BitVec 32) (k0_hw285 : k0_chk285 d0 v3753), ∀ a, (k0_off445 d0 v3753) a + S1x512.size a ≤ S4104x512.size a := fun d0 v3753 k0_hw285 => k0_hw285

def k0_off446 (d0 : Dev nD) (v3765 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3766 : BitVec 1 := Scalar.cmpi .sge v3765 v22
  let c4096_i32_1255 : BitVec 32 := 4096#32
  let v3767 : BitVec 32 := Scalar.addi v22 c4096_i32_1255
  let v3768 : BitVec 1 := Scalar.cmpi .slt v3765 v3767
  let v3769 : BitVec 1 := Scalar.andi v3766 v3768
  let v3770 : BitVec 32 := Scalar.subi v3765 v22
  let c4096_i32_1256 : BitVec 32 := 4096#32
  let v3771 : BitVec 32 := Scalar.select v3769 v3770 c4096_i32_1256
  let v3772 : Index := Scalar.indexCast v3771
  let c0_1257 : Index := 0#32
  ![v3772.toNat, 0]

def k0_chk286 (d0 : Dev nD) (v3765 : BitVec 32) : Prop :=
  (∀ a, (k0_off446 d0 v3765) a + S1x512.size a ≤ S4104x512.size a)
theorem k0_off446_inb : ∀ (d0 : Dev nD) (v3765 : BitVec 32) (k0_hw286 : k0_chk286 d0 v3765), ∀ a, (k0_off446 d0 v3765) a + S1x512.size a ≤ S4104x512.size a := fun d0 v3765 k0_hw286 => k0_hw286

def k0_off447 (d0 : Dev nD) (v3777 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3778 : BitVec 1 := Scalar.cmpi .sge v3777 v22
  let c4096_i32_1259 : BitVec 32 := 4096#32
  let v3779 : BitVec 32 := Scalar.addi v22 c4096_i32_1259
  let v3780 : BitVec 1 := Scalar.cmpi .slt v3777 v3779
  let v3781 : BitVec 1 := Scalar.andi v3778 v3780
  let v3782 : BitVec 32 := Scalar.subi v3777 v22
  let c4096_i32_1260 : BitVec 32 := 4096#32
  let v3783 : BitVec 32 := Scalar.select v3781 v3782 c4096_i32_1260
  let v3784 : Index := Scalar.indexCast v3783
  let c0_1261 : Index := 0#32
  ![v3784.toNat, 0]

def k0_chk287 (d0 : Dev nD) (v3777 : BitVec 32) : Prop :=
  (∀ a, (k0_off447 d0 v3777) a + S1x512.size a ≤ S4104x512.size a)
theorem k0_off447_inb : ∀ (d0 : Dev nD) (v3777 : BitVec 32) (k0_hw287 : k0_chk287 d0 v3777), ∀ a, (k0_off447 d0 v3777) a + S1x512.size a ≤ S4104x512.size a := fun d0 v3777 k0_hw287 => k0_hw287

def k0_off448 (d0 : Dev nD) (v3789 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3790 : BitVec 1 := Scalar.cmpi .sge v3789 v22
  let c4096_i32_1263 : BitVec 32 := 4096#32
  let v3791 : BitVec 32 := Scalar.addi v22 c4096_i32_1263
  let v3792 : BitVec 1 := Scalar.cmpi .slt v3789 v3791
  let v3793 : BitVec 1 := Scalar.andi v3790 v3792
  let v3794 : BitVec 32 := Scalar.subi v3789 v22
  let c4096_i32_1264 : BitVec 32 := 4096#32
  let v3795 : BitVec 32 := Scalar.select v3793 v3794 c4096_i32_1264
  let v3796 : Index := Scalar.indexCast v3795
  let c0_1265 : Index := 0#32
  ![v3796.toNat, 0]

def k0_chk288 (d0 : Dev nD) (v3789 : BitVec 32) : Prop :=
  (∀ a, (k0_off448 d0 v3789) a + S1x512.size a ≤ S4104x512.size a)
theorem k0_off448_inb : ∀ (d0 : Dev nD) (v3789 : BitVec 32) (k0_hw288 : k0_chk288 d0 v3789), ∀ a, (k0_off448 d0 v3789) a + S1x512.size a ≤ S4104x512.size a := fun d0 v3789 k0_hw288 => k0_hw288

def k0_off449 (d0 : Dev nD) (v3801 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3802 : BitVec 1 := Scalar.cmpi .sge v3801 v22
  let c4096_i32_1267 : BitVec 32 := 4096#32
  let v3803 : BitVec 32 := Scalar.addi v22 c4096_i32_1267
  let v3804 : BitVec 1 := Scalar.cmpi .slt v3801 v3803
  let v3805 : BitVec 1 := Scalar.andi v3802 v3804
  let v3806 : BitVec 32 := Scalar.subi v3801 v22
  let c4096_i32_1268 : BitVec 32 := 4096#32
  let v3807 : BitVec 32 := Scalar.select v3805 v3806 c4096_i32_1268
  let v3808 : Index := Scalar.indexCast v3807
  let c0_1269 : Index := 0#32
  ![v3808.toNat, 0]

def k0_chk289 (d0 : Dev nD) (v3801 : BitVec 32) : Prop :=
  (∀ a, (k0_off449 d0 v3801) a + S1x512.size a ≤ S4104x512.size a)
theorem k0_off449_inb : ∀ (d0 : Dev nD) (v3801 : BitVec 32) (k0_hw289 : k0_chk289 d0 v3801), ∀ a, (k0_off449 d0 v3801) a + S1x512.size a ≤ S4104x512.size a := fun d0 v3801 k0_hw289 => k0_hw289

def k0_off450 (d0 : Dev nD) (v3813 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3814 : BitVec 1 := Scalar.cmpi .sge v3813 v22
  let c4096_i32_1271 : BitVec 32 := 4096#32
  let v3815 : BitVec 32 := Scalar.addi v22 c4096_i32_1271
  let v3816 : BitVec 1 := Scalar.cmpi .slt v3813 v3815
  let v3817 : BitVec 1 := Scalar.andi v3814 v3816
  let v3818 : BitVec 32 := Scalar.subi v3813 v22
  let c4096_i32_1272 : BitVec 32 := 4096#32
  let v3819 : BitVec 32 := Scalar.select v3817 v3818 c4096_i32_1272
  let v3820 : Index := Scalar.indexCast v3819
  let c0_1273 : Index := 0#32
  ![v3820.toNat, 0]

def k0_chk290 (d0 : Dev nD) (v3813 : BitVec 32) : Prop :=
  (∀ a, (k0_off450 d0 v3813) a + S1x512.size a ≤ S4104x512.size a)
theorem k0_off450_inb : ∀ (d0 : Dev nD) (v3813 : BitVec 32) (k0_hw290 : k0_chk290 d0 v3813), ∀ a, (k0_off450 d0 v3813) a + S1x512.size a ≤ S4104x512.size a := fun d0 v3813 k0_hw290 => k0_hw290

def k0_off451 (d0 : Dev nD) (v3825 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3826 : BitVec 1 := Scalar.cmpi .sge v3825 v22
  let c4096_i32_1275 : BitVec 32 := 4096#32
  let v3827 : BitVec 32 := Scalar.addi v22 c4096_i32_1275
  let v3828 : BitVec 1 := Scalar.cmpi .slt v3825 v3827
  let v3829 : BitVec 1 := Scalar.andi v3826 v3828
  let v3830 : BitVec 32 := Scalar.subi v3825 v22
  let c4096_i32_1276 : BitVec 32 := 4096#32
  let v3831 : BitVec 32 := Scalar.select v3829 v3830 c4096_i32_1276
  let v3832 : Index := Scalar.indexCast v3831
  let c0_1277 : Index := 0#32
  ![v3832.toNat, 0]

def k0_chk291 (d0 : Dev nD) (v3825 : BitVec 32) : Prop :=
  (∀ a, (k0_off451 d0 v3825) a + S1x512.size a ≤ S4104x512.size a)
theorem k0_off451_inb : ∀ (d0 : Dev nD) (v3825 : BitVec 32) (k0_hw291 : k0_chk291 d0 v3825), ∀ a, (k0_off451 d0 v3825) a + S1x512.size a ≤ S4104x512.size a := fun d0 v3825 k0_hw291 => k0_hw291

def k0_off452 (d0 : Dev nD) (v3837 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3838 : BitVec 1 := Scalar.cmpi .sge v3837 v22
  let c4096_i32_1279 : BitVec 32 := 4096#32
  let v3839 : BitVec 32 := Scalar.addi v22 c4096_i32_1279
  let v3840 : BitVec 1 := Scalar.cmpi .slt v3837 v3839
  let v3841 : BitVec 1 := Scalar.andi v3838 v3840
  let v3842 : BitVec 32 := Scalar.subi v3837 v22
  let c4096_i32_1280 : BitVec 32 := 4096#32
  let v3843 : BitVec 32 := Scalar.select v3841 v3842 c4096_i32_1280
  let v3844 : Index := Scalar.indexCast v3843
  let c0_1281 : Index := 0#32
  ![v3844.toNat, 0]

def k0_chk292 (d0 : Dev nD) (v3837 : BitVec 32) : Prop :=
  (∀ a, (k0_off452 d0 v3837) a + S1x512.size a ≤ S4104x512.size a)
theorem k0_off452_inb : ∀ (d0 : Dev nD) (v3837 : BitVec 32) (k0_hw292 : k0_chk292 d0 v3837), ∀ a, (k0_off452 d0 v3837) a + S1x512.size a ≤ S4104x512.size a := fun d0 v3837 k0_hw292 => k0_hw292

def k0_off453 (d0 : Dev nD) (v3849 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3850 : BitVec 1 := Scalar.cmpi .sge v3849 v22
  let c4096_i32_1283 : BitVec 32 := 4096#32
  let v3851 : BitVec 32 := Scalar.addi v22 c4096_i32_1283
  let v3852 : BitVec 1 := Scalar.cmpi .slt v3849 v3851
  let v3853 : BitVec 1 := Scalar.andi v3850 v3852
  let v3854 : BitVec 32 := Scalar.subi v3849 v22
  let c4096_i32_1284 : BitVec 32 := 4096#32
  let v3855 : BitVec 32 := Scalar.select v3853 v3854 c4096_i32_1284
  let v3856 : Index := Scalar.indexCast v3855
  let c0_1285 : Index := 0#32
  ![v3856.toNat, 0]

def k0_chk293 (d0 : Dev nD) (v3849 : BitVec 32) : Prop :=
  (∀ a, (k0_off453 d0 v3849) a + S1x512.size a ≤ S4104x512.size a)
theorem k0_off453_inb : ∀ (d0 : Dev nD) (v3849 : BitVec 32) (k0_hw293 : k0_chk293 d0 v3849), ∀ a, (k0_off453 d0 v3849) a + S1x512.size a ≤ S4104x512.size a := fun d0 v3849 k0_hw293 => k0_hw293

def k0_off454 (d0 : Dev nD) (v3861 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3862 : BitVec 1 := Scalar.cmpi .sge v3861 v22
  let c4096_i32_1287 : BitVec 32 := 4096#32
  let v3863 : BitVec 32 := Scalar.addi v22 c4096_i32_1287
  let v3864 : BitVec 1 := Scalar.cmpi .slt v3861 v3863
  let v3865 : BitVec 1 := Scalar.andi v3862 v3864
  let v3866 : BitVec 32 := Scalar.subi v3861 v22
  let c4096_i32_1288 : BitVec 32 := 4096#32
  let v3867 : BitVec 32 := Scalar.select v3865 v3866 c4096_i32_1288
  let v3868 : Index := Scalar.indexCast v3867
  let c0_1289 : Index := 0#32
  ![v3868.toNat, 0]

def k0_chk294 (d0 : Dev nD) (v3861 : BitVec 32) : Prop :=
  (∀ a, (k0_off454 d0 v3861) a + S1x512.size a ≤ S4104x512.size a)
theorem k0_off454_inb : ∀ (d0 : Dev nD) (v3861 : BitVec 32) (k0_hw294 : k0_chk294 d0 v3861), ∀ a, (k0_off454 d0 v3861) a + S1x512.size a ≤ S4104x512.size a := fun d0 v3861 k0_hw294 => k0_hw294

def k0_off455 (d0 : Dev nD) (v3873 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3874 : BitVec 1 := Scalar.cmpi .sge v3873 v22
  let c4096_i32_1291 : BitVec 32 := 4096#32
  let v3875 : BitVec 32 := Scalar.addi v22 c4096_i32_1291
  let v3876 : BitVec 1 := Scalar.cmpi .slt v3873 v3875
  let v3877 : BitVec 1 := Scalar.andi v3874 v3876
  let v3878 : BitVec 32 := Scalar.subi v3873 v22
  let c4096_i32_1292 : BitVec 32 := 4096#32
  let v3879 : BitVec 32 := Scalar.select v3877 v3878 c4096_i32_1292
  let v3880 : Index := Scalar.indexCast v3879
  let c0_1293 : Index := 0#32
  ![v3880.toNat, 0]

def k0_chk295 (d0 : Dev nD) (v3873 : BitVec 32) : Prop :=
  (∀ a, (k0_off455 d0 v3873) a + S1x512.size a ≤ S4104x512.size a)
theorem k0_off455_inb : ∀ (d0 : Dev nD) (v3873 : BitVec 32) (k0_hw295 : k0_chk295 d0 v3873), ∀ a, (k0_off455 d0 v3873) a + S1x512.size a ≤ S4104x512.size a := fun d0 v3873 k0_hw295 => k0_hw295

def k0_off456 (d0 : Dev nD) (v3885 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3886 : BitVec 1 := Scalar.cmpi .sge v3885 v22
  let c4096_i32_1295 : BitVec 32 := 4096#32
  let v3887 : BitVec 32 := Scalar.addi v22 c4096_i32_1295
  let v3888 : BitVec 1 := Scalar.cmpi .slt v3885 v3887
  let v3889 : BitVec 1 := Scalar.andi v3886 v3888
  let v3890 : BitVec 32 := Scalar.subi v3885 v22
  let c4096_i32_1296 : BitVec 32 := 4096#32
  let v3891 : BitVec 32 := Scalar.select v3889 v3890 c4096_i32_1296
  let v3892 : Index := Scalar.indexCast v3891
  let c0_1297 : Index := 0#32
  ![v3892.toNat, 0]

def k0_chk296 (d0 : Dev nD) (v3885 : BitVec 32) : Prop :=
  (∀ a, (k0_off456 d0 v3885) a + S1x512.size a ≤ S4104x512.size a)
theorem k0_off456_inb : ∀ (d0 : Dev nD) (v3885 : BitVec 32) (k0_hw296 : k0_chk296 d0 v3885), ∀ a, (k0_off456 d0 v3885) a + S1x512.size a ≤ S4104x512.size a := fun d0 v3885 k0_hw296 => k0_hw296

def k0_off457 (d0 : Dev nD) (v3897 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3898 : BitVec 1 := Scalar.cmpi .sge v3897 v22
  let c4096_i32_1299 : BitVec 32 := 4096#32
  let v3899 : BitVec 32 := Scalar.addi v22 c4096_i32_1299
  let v3900 : BitVec 1 := Scalar.cmpi .slt v3897 v3899
  let v3901 : BitVec 1 := Scalar.andi v3898 v3900
  let v3902 : BitVec 32 := Scalar.subi v3897 v22
  let c4096_i32_1300 : BitVec 32 := 4096#32
  let v3903 : BitVec 32 := Scalar.select v3901 v3902 c4096_i32_1300
  let v3904 : Index := Scalar.indexCast v3903
  let c0_1301 : Index := 0#32
  ![v3904.toNat, 0]

def k0_chk297 (d0 : Dev nD) (v3897 : BitVec 32) : Prop :=
  (∀ a, (k0_off457 d0 v3897) a + S1x512.size a ≤ S4104x512.size a)
theorem k0_off457_inb : ∀ (d0 : Dev nD) (v3897 : BitVec 32) (k0_hw297 : k0_chk297 d0 v3897), ∀ a, (k0_off457 d0 v3897) a + S1x512.size a ≤ S4104x512.size a := fun d0 v3897 k0_hw297 => k0_hw297

def k0_off458 (d0 : Dev nD) (v3909 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3910 : BitVec 1 := Scalar.cmpi .sge v3909 v22
  let c4096_i32_1303 : BitVec 32 := 4096#32
  let v3911 : BitVec 32 := Scalar.addi v22 c4096_i32_1303
  let v3912 : BitVec 1 := Scalar.cmpi .slt v3909 v3911
  let v3913 : BitVec 1 := Scalar.andi v3910 v3912
  let v3914 : BitVec 32 := Scalar.subi v3909 v22
  let c4096_i32_1304 : BitVec 32 := 4096#32
  let v3915 : BitVec 32 := Scalar.select v3913 v3914 c4096_i32_1304
  let v3916 : Index := Scalar.indexCast v3915
  let c0_1305 : Index := 0#32
  ![v3916.toNat, 0]

def k0_chk298 (d0 : Dev nD) (v3909 : BitVec 32) : Prop :=
  (∀ a, (k0_off458 d0 v3909) a + S1x512.size a ≤ S4104x512.size a)
theorem k0_off458_inb : ∀ (d0 : Dev nD) (v3909 : BitVec 32) (k0_hw298 : k0_chk298 d0 v3909), ∀ a, (k0_off458 d0 v3909) a + S1x512.size a ≤ S4104x512.size a := fun d0 v3909 k0_hw298 => k0_hw298

def k0_off459 (d0 : Dev nD) (v3921 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3922 : BitVec 1 := Scalar.cmpi .sge v3921 v22
  let c4096_i32_1307 : BitVec 32 := 4096#32
  let v3923 : BitVec 32 := Scalar.addi v22 c4096_i32_1307
  let v3924 : BitVec 1 := Scalar.cmpi .slt v3921 v3923
  let v3925 : BitVec 1 := Scalar.andi v3922 v3924
  let v3926 : BitVec 32 := Scalar.subi v3921 v22
  let c4096_i32_1308 : BitVec 32 := 4096#32
  let v3927 : BitVec 32 := Scalar.select v3925 v3926 c4096_i32_1308
  let v3928 : Index := Scalar.indexCast v3927
  let c0_1309 : Index := 0#32
  ![v3928.toNat, 0]

def k0_chk299 (d0 : Dev nD) (v3921 : BitVec 32) : Prop :=
  (∀ a, (k0_off459 d0 v3921) a + S1x512.size a ≤ S4104x512.size a)
theorem k0_off459_inb : ∀ (d0 : Dev nD) (v3921 : BitVec 32) (k0_hw299 : k0_chk299 d0 v3921), ∀ a, (k0_off459 d0 v3921) a + S1x512.size a ≤ S4104x512.size a := fun d0 v3921 k0_hw299 => k0_hw299

def k0_off460 (d0 : Dev nD) (v3933 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3934 : BitVec 1 := Scalar.cmpi .sge v3933 v22
  let c4096_i32_1311 : BitVec 32 := 4096#32
  let v3935 : BitVec 32 := Scalar.addi v22 c4096_i32_1311
  let v3936 : BitVec 1 := Scalar.cmpi .slt v3933 v3935
  let v3937 : BitVec 1 := Scalar.andi v3934 v3936
  let v3938 : BitVec 32 := Scalar.subi v3933 v22
  let c4096_i32_1312 : BitVec 32 := 4096#32
  let v3939 : BitVec 32 := Scalar.select v3937 v3938 c4096_i32_1312
  let v3940 : Index := Scalar.indexCast v3939
  let c0_1313 : Index := 0#32
  ![v3940.toNat, 0]

def k0_chk300 (d0 : Dev nD) (v3933 : BitVec 32) : Prop :=
  (∀ a, (k0_off460 d0 v3933) a + S1x512.size a ≤ S4104x512.size a)
theorem k0_off460_inb : ∀ (d0 : Dev nD) (v3933 : BitVec 32) (k0_hw300 : k0_chk300 d0 v3933), ∀ a, (k0_off460 d0 v3933) a + S1x512.size a ≤ S4104x512.size a := fun d0 v3933 k0_hw300 => k0_hw300

def k0_off461 (d0 : Dev nD) (v3945 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3946 : BitVec 1 := Scalar.cmpi .sge v3945 v22
  let c4096_i32_1315 : BitVec 32 := 4096#32
  let v3947 : BitVec 32 := Scalar.addi v22 c4096_i32_1315
  let v3948 : BitVec 1 := Scalar.cmpi .slt v3945 v3947
  let v3949 : BitVec 1 := Scalar.andi v3946 v3948
  let v3950 : BitVec 32 := Scalar.subi v3945 v22
  let c4096_i32_1316 : BitVec 32 := 4096#32
  let v3951 : BitVec 32 := Scalar.select v3949 v3950 c4096_i32_1316
  let v3952 : Index := Scalar.indexCast v3951
  let c0_1317 : Index := 0#32
  ![v3952.toNat, 0]

def k0_chk301 (d0 : Dev nD) (v3945 : BitVec 32) : Prop :=
  (∀ a, (k0_off461 d0 v3945) a + S1x512.size a ≤ S4104x512.size a)
theorem k0_off461_inb : ∀ (d0 : Dev nD) (v3945 : BitVec 32) (k0_hw301 : k0_chk301 d0 v3945), ∀ a, (k0_off461 d0 v3945) a + S1x512.size a ≤ S4104x512.size a := fun d0 v3945 k0_hw301 => k0_hw301

def k0_off462 (d0 : Dev nD) (v3957 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3958 : BitVec 1 := Scalar.cmpi .sge v3957 v22
  let c4096_i32_1319 : BitVec 32 := 4096#32
  let v3959 : BitVec 32 := Scalar.addi v22 c4096_i32_1319
  let v3960 : BitVec 1 := Scalar.cmpi .slt v3957 v3959
  let v3961 : BitVec 1 := Scalar.andi v3958 v3960
  let v3962 : BitVec 32 := Scalar.subi v3957 v22
  let c4096_i32_1320 : BitVec 32 := 4096#32
  let v3963 : BitVec 32 := Scalar.select v3961 v3962 c4096_i32_1320
  let v3964 : Index := Scalar.indexCast v3963
  let c0_1321 : Index := 0#32
  ![v3964.toNat, 0]

def k0_chk302 (d0 : Dev nD) (v3957 : BitVec 32) : Prop :=
  (∀ a, (k0_off462 d0 v3957) a + S1x512.size a ≤ S4104x512.size a)
theorem k0_off462_inb : ∀ (d0 : Dev nD) (v3957 : BitVec 32) (k0_hw302 : k0_chk302 d0 v3957), ∀ a, (k0_off462 d0 v3957) a + S1x512.size a ≤ S4104x512.size a := fun d0 v3957 k0_hw302 => k0_hw302

def k0_off463 (d0 : Dev nD) (v3969 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3970 : BitVec 1 := Scalar.cmpi .sge v3969 v22
  let c4096_i32_1323 : BitVec 32 := 4096#32
  let v3971 : BitVec 32 := Scalar.addi v22 c4096_i32_1323
  let v3972 : BitVec 1 := Scalar.cmpi .slt v3969 v3971
  let v3973 : BitVec 1 := Scalar.andi v3970 v3972
  let v3974 : BitVec 32 := Scalar.subi v3969 v22
  let c4096_i32_1324 : BitVec 32 := 4096#32
  let v3975 : BitVec 32 := Scalar.select v3973 v3974 c4096_i32_1324
  let v3976 : Index := Scalar.indexCast v3975
  let c0_1325 : Index := 0#32
  ![v3976.toNat, 0]

def k0_chk303 (d0 : Dev nD) (v3969 : BitVec 32) : Prop :=
  (∀ a, (k0_off463 d0 v3969) a + S1x512.size a ≤ S4104x512.size a)
theorem k0_off463_inb : ∀ (d0 : Dev nD) (v3969 : BitVec 32) (k0_hw303 : k0_chk303 d0 v3969), ∀ a, (k0_off463 d0 v3969) a + S1x512.size a ≤ S4104x512.size a := fun d0 v3969 k0_hw303 => k0_hw303

def k0_off464 (d0 : Dev nD) (v3981 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3982 : BitVec 1 := Scalar.cmpi .sge v3981 v22
  let c4096_i32_1327 : BitVec 32 := 4096#32
  let v3983 : BitVec 32 := Scalar.addi v22 c4096_i32_1327
  let v3984 : BitVec 1 := Scalar.cmpi .slt v3981 v3983
  let v3985 : BitVec 1 := Scalar.andi v3982 v3984
  let v3986 : BitVec 32 := Scalar.subi v3981 v22
  let c4096_i32_1328 : BitVec 32 := 4096#32
  let v3987 : BitVec 32 := Scalar.select v3985 v3986 c4096_i32_1328
  let v3988 : Index := Scalar.indexCast v3987
  let c0_1329 : Index := 0#32
  ![v3988.toNat, 0]

def k0_chk304 (d0 : Dev nD) (v3981 : BitVec 32) : Prop :=
  (∀ a, (k0_off464 d0 v3981) a + S1x512.size a ≤ S4104x512.size a)
theorem k0_off464_inb : ∀ (d0 : Dev nD) (v3981 : BitVec 32) (k0_hw304 : k0_chk304 d0 v3981), ∀ a, (k0_off464 d0 v3981) a + S1x512.size a ≤ S4104x512.size a := fun d0 v3981 k0_hw304 => k0_hw304

def k0_off465 (d0 : Dev nD) (v3993 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v3994 : BitVec 1 := Scalar.cmpi .sge v3993 v22
  let c4096_i32_1331 : BitVec 32 := 4096#32
  let v3995 : BitVec 32 := Scalar.addi v22 c4096_i32_1331
  let v3996 : BitVec 1 := Scalar.cmpi .slt v3993 v3995
  let v3997 : BitVec 1 := Scalar.andi v3994 v3996
  let v3998 : BitVec 32 := Scalar.subi v3993 v22
  let c4096_i32_1332 : BitVec 32 := 4096#32
  let v3999 : BitVec 32 := Scalar.select v3997 v3998 c4096_i32_1332
  let v4000 : Index := Scalar.indexCast v3999
  let c0_1333 : Index := 0#32
  ![v4000.toNat, 0]

def k0_chk305 (d0 : Dev nD) (v3993 : BitVec 32) : Prop :=
  (∀ a, (k0_off465 d0 v3993) a + S1x512.size a ≤ S4104x512.size a)
theorem k0_off465_inb : ∀ (d0 : Dev nD) (v3993 : BitVec 32) (k0_hw305 : k0_chk305 d0 v3993), ∀ a, (k0_off465 d0 v3993) a + S1x512.size a ≤ S4104x512.size a := fun d0 v3993 k0_hw305 => k0_hw305

def k0_off466 (d0 : Dev nD) (v4005 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4006 : BitVec 1 := Scalar.cmpi .sge v4005 v22
  let c4096_i32_1335 : BitVec 32 := 4096#32
  let v4007 : BitVec 32 := Scalar.addi v22 c4096_i32_1335
  let v4008 : BitVec 1 := Scalar.cmpi .slt v4005 v4007
  let v4009 : BitVec 1 := Scalar.andi v4006 v4008
  let v4010 : BitVec 32 := Scalar.subi v4005 v22
  let c4096_i32_1336 : BitVec 32 := 4096#32
  let v4011 : BitVec 32 := Scalar.select v4009 v4010 c4096_i32_1336
  let v4012 : Index := Scalar.indexCast v4011
  let c0_1337 : Index := 0#32
  ![v4012.toNat, 0]

def k0_chk306 (d0 : Dev nD) (v4005 : BitVec 32) : Prop :=
  (∀ a, (k0_off466 d0 v4005) a + S1x512.size a ≤ S4104x512.size a)
theorem k0_off466_inb : ∀ (d0 : Dev nD) (v4005 : BitVec 32) (k0_hw306 : k0_chk306 d0 v4005), ∀ a, (k0_off466 d0 v4005) a + S1x512.size a ≤ S4104x512.size a := fun d0 v4005 k0_hw306 => k0_hw306

def k0_off467 (d0 : Dev nD) (v4017 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4018 : BitVec 1 := Scalar.cmpi .sge v4017 v22
  let c4096_i32_1339 : BitVec 32 := 4096#32
  let v4019 : BitVec 32 := Scalar.addi v22 c4096_i32_1339
  let v4020 : BitVec 1 := Scalar.cmpi .slt v4017 v4019
  let v4021 : BitVec 1 := Scalar.andi v4018 v4020
  let v4022 : BitVec 32 := Scalar.subi v4017 v22
  let c4096_i32_1340 : BitVec 32 := 4096#32
  let v4023 : BitVec 32 := Scalar.select v4021 v4022 c4096_i32_1340
  let v4024 : Index := Scalar.indexCast v4023
  let c0_1341 : Index := 0#32
  ![v4024.toNat, 0]

def k0_chk307 (d0 : Dev nD) (v4017 : BitVec 32) : Prop :=
  (∀ a, (k0_off467 d0 v4017) a + S1x512.size a ≤ S4104x512.size a)
theorem k0_off467_inb : ∀ (d0 : Dev nD) (v4017 : BitVec 32) (k0_hw307 : k0_chk307 d0 v4017), ∀ a, (k0_off467 d0 v4017) a + S1x512.size a ≤ S4104x512.size a := fun d0 v4017 k0_hw307 => k0_hw307

def k0_off468 (d0 : Dev nD) (v4029 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4030 : BitVec 1 := Scalar.cmpi .sge v4029 v22
  let c4096_i32_1343 : BitVec 32 := 4096#32
  let v4031 : BitVec 32 := Scalar.addi v22 c4096_i32_1343
  let v4032 : BitVec 1 := Scalar.cmpi .slt v4029 v4031
  let v4033 : BitVec 1 := Scalar.andi v4030 v4032
  let v4034 : BitVec 32 := Scalar.subi v4029 v22
  let c4096_i32_1344 : BitVec 32 := 4096#32
  let v4035 : BitVec 32 := Scalar.select v4033 v4034 c4096_i32_1344
  let v4036 : Index := Scalar.indexCast v4035
  let c0_1345 : Index := 0#32
  ![v4036.toNat, 0]

def k0_chk308 (d0 : Dev nD) (v4029 : BitVec 32) : Prop :=
  (∀ a, (k0_off468 d0 v4029) a + S1x512.size a ≤ S4104x512.size a)
theorem k0_off468_inb : ∀ (d0 : Dev nD) (v4029 : BitVec 32) (k0_hw308 : k0_chk308 d0 v4029), ∀ a, (k0_off468 d0 v4029) a + S1x512.size a ≤ S4104x512.size a := fun d0 v4029 k0_hw308 => k0_hw308

def k0_off469 (d0 : Dev nD) (v4041 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4042 : BitVec 1 := Scalar.cmpi .sge v4041 v22
  let c4096_i32_1347 : BitVec 32 := 4096#32
  let v4043 : BitVec 32 := Scalar.addi v22 c4096_i32_1347
  let v4044 : BitVec 1 := Scalar.cmpi .slt v4041 v4043
  let v4045 : BitVec 1 := Scalar.andi v4042 v4044
  let v4046 : BitVec 32 := Scalar.subi v4041 v22
  let c4096_i32_1348 : BitVec 32 := 4096#32
  let v4047 : BitVec 32 := Scalar.select v4045 v4046 c4096_i32_1348
  let v4048 : Index := Scalar.indexCast v4047
  let c0_1349 : Index := 0#32
  ![v4048.toNat, 0]

def k0_chk309 (d0 : Dev nD) (v4041 : BitVec 32) : Prop :=
  (∀ a, (k0_off469 d0 v4041) a + S1x512.size a ≤ S4104x512.size a)
theorem k0_off469_inb : ∀ (d0 : Dev nD) (v4041 : BitVec 32) (k0_hw309 : k0_chk309 d0 v4041), ∀ a, (k0_off469 d0 v4041) a + S1x512.size a ≤ S4104x512.size a := fun d0 v4041 k0_hw309 => k0_hw309

def k0_off470 (d0 : Dev nD) (v4053 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4054 : BitVec 1 := Scalar.cmpi .sge v4053 v22
  let c4096_i32_1351 : BitVec 32 := 4096#32
  let v4055 : BitVec 32 := Scalar.addi v22 c4096_i32_1351
  let v4056 : BitVec 1 := Scalar.cmpi .slt v4053 v4055
  let v4057 : BitVec 1 := Scalar.andi v4054 v4056
  let v4058 : BitVec 32 := Scalar.subi v4053 v22
  let c4096_i32_1352 : BitVec 32 := 4096#32
  let v4059 : BitVec 32 := Scalar.select v4057 v4058 c4096_i32_1352
  let v4060 : Index := Scalar.indexCast v4059
  let c0_1353 : Index := 0#32
  ![v4060.toNat, 0]

def k0_chk310 (d0 : Dev nD) (v4053 : BitVec 32) : Prop :=
  (∀ a, (k0_off470 d0 v4053) a + S1x512.size a ≤ S4104x512.size a)
theorem k0_off470_inb : ∀ (d0 : Dev nD) (v4053 : BitVec 32) (k0_hw310 : k0_chk310 d0 v4053), ∀ a, (k0_off470 d0 v4053) a + S1x512.size a ≤ S4104x512.size a := fun d0 v4053 k0_hw310 => k0_hw310

def k0_off471 (d0 : Dev nD) (v4065 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4066 : BitVec 1 := Scalar.cmpi .sge v4065 v22
  let c4096_i32_1355 : BitVec 32 := 4096#32
  let v4067 : BitVec 32 := Scalar.addi v22 c4096_i32_1355
  let v4068 : BitVec 1 := Scalar.cmpi .slt v4065 v4067
  let v4069 : BitVec 1 := Scalar.andi v4066 v4068
  let v4070 : BitVec 32 := Scalar.subi v4065 v22
  let c4096_i32_1356 : BitVec 32 := 4096#32
  let v4071 : BitVec 32 := Scalar.select v4069 v4070 c4096_i32_1356
  let v4072 : Index := Scalar.indexCast v4071
  let c0_1357 : Index := 0#32
  ![v4072.toNat, 0]

def k0_chk311 (d0 : Dev nD) (v4065 : BitVec 32) : Prop :=
  (∀ a, (k0_off471 d0 v4065) a + S1x512.size a ≤ S4104x512.size a)
theorem k0_off471_inb : ∀ (d0 : Dev nD) (v4065 : BitVec 32) (k0_hw311 : k0_chk311 d0 v4065), ∀ a, (k0_off471 d0 v4065) a + S1x512.size a ≤ S4104x512.size a := fun d0 v4065 k0_hw311 => k0_hw311

def k0_off472 (d0 : Dev nD) (v4077 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4078 : BitVec 1 := Scalar.cmpi .sge v4077 v22
  let c4096_i32_1359 : BitVec 32 := 4096#32
  let v4079 : BitVec 32 := Scalar.addi v22 c4096_i32_1359
  let v4080 : BitVec 1 := Scalar.cmpi .slt v4077 v4079
  let v4081 : BitVec 1 := Scalar.andi v4078 v4080
  let v4082 : BitVec 32 := Scalar.subi v4077 v22
  let c4096_i32_1360 : BitVec 32 := 4096#32
  let v4083 : BitVec 32 := Scalar.select v4081 v4082 c4096_i32_1360
  let v4084 : Index := Scalar.indexCast v4083
  let c0_1361 : Index := 0#32
  ![v4084.toNat, 0]

def k0_chk312 (d0 : Dev nD) (v4077 : BitVec 32) : Prop :=
  (∀ a, (k0_off472 d0 v4077) a + S1x512.size a ≤ S4104x512.size a)
theorem k0_off472_inb : ∀ (d0 : Dev nD) (v4077 : BitVec 32) (k0_hw312 : k0_chk312 d0 v4077), ∀ a, (k0_off472 d0 v4077) a + S1x512.size a ≤ S4104x512.size a := fun d0 v4077 k0_hw312 => k0_hw312

def k0_off473 (d0 : Dev nD) (v4089 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4090 : BitVec 1 := Scalar.cmpi .sge v4089 v22
  let c4096_i32_1363 : BitVec 32 := 4096#32
  let v4091 : BitVec 32 := Scalar.addi v22 c4096_i32_1363
  let v4092 : BitVec 1 := Scalar.cmpi .slt v4089 v4091
  let v4093 : BitVec 1 := Scalar.andi v4090 v4092
  let v4094 : BitVec 32 := Scalar.subi v4089 v22
  let c4096_i32_1364 : BitVec 32 := 4096#32
  let v4095 : BitVec 32 := Scalar.select v4093 v4094 c4096_i32_1364
  let v4096 : Index := Scalar.indexCast v4095
  let c0_1365 : Index := 0#32
  ![v4096.toNat, 0]

def k0_chk313 (d0 : Dev nD) (v4089 : BitVec 32) : Prop :=
  (∀ a, (k0_off473 d0 v4089) a + S1x512.size a ≤ S4104x512.size a)
theorem k0_off473_inb : ∀ (d0 : Dev nD) (v4089 : BitVec 32) (k0_hw313 : k0_chk313 d0 v4089), ∀ a, (k0_off473 d0 v4089) a + S1x512.size a ≤ S4104x512.size a := fun d0 v4089 k0_hw313 => k0_hw313

def k0_off474 (d0 : Dev nD) (v4101 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4102 : BitVec 1 := Scalar.cmpi .sge v4101 v22
  let c4096_i32_1367 : BitVec 32 := 4096#32
  let v4103 : BitVec 32 := Scalar.addi v22 c4096_i32_1367
  let v4104 : BitVec 1 := Scalar.cmpi .slt v4101 v4103
  let v4105 : BitVec 1 := Scalar.andi v4102 v4104
  let v4106 : BitVec 32 := Scalar.subi v4101 v22
  let c4096_i32_1368 : BitVec 32 := 4096#32
  let v4107 : BitVec 32 := Scalar.select v4105 v4106 c4096_i32_1368
  let v4108 : Index := Scalar.indexCast v4107
  let c0_1369 : Index := 0#32
  ![v4108.toNat, 0]

def k0_chk314 (d0 : Dev nD) (v4101 : BitVec 32) : Prop :=
  (∀ a, (k0_off474 d0 v4101) a + S1x512.size a ≤ S4104x512.size a)
theorem k0_off474_inb : ∀ (d0 : Dev nD) (v4101 : BitVec 32) (k0_hw314 : k0_chk314 d0 v4101), ∀ a, (k0_off474 d0 v4101) a + S1x512.size a ≤ S4104x512.size a := fun d0 v4101 k0_hw314 => k0_hw314

def k0_off475 (d0 : Dev nD) (v4113 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4114 : BitVec 1 := Scalar.cmpi .sge v4113 v22
  let c4096_i32_1371 : BitVec 32 := 4096#32
  let v4115 : BitVec 32 := Scalar.addi v22 c4096_i32_1371
  let v4116 : BitVec 1 := Scalar.cmpi .slt v4113 v4115
  let v4117 : BitVec 1 := Scalar.andi v4114 v4116
  let v4118 : BitVec 32 := Scalar.subi v4113 v22
  let c4096_i32_1372 : BitVec 32 := 4096#32
  let v4119 : BitVec 32 := Scalar.select v4117 v4118 c4096_i32_1372
  let v4120 : Index := Scalar.indexCast v4119
  let c0_1373 : Index := 0#32
  ![v4120.toNat, 0]

def k0_chk315 (d0 : Dev nD) (v4113 : BitVec 32) : Prop :=
  (∀ a, (k0_off475 d0 v4113) a + S1x512.size a ≤ S4104x512.size a)
theorem k0_off475_inb : ∀ (d0 : Dev nD) (v4113 : BitVec 32) (k0_hw315 : k0_chk315 d0 v4113), ∀ a, (k0_off475 d0 v4113) a + S1x512.size a ≤ S4104x512.size a := fun d0 v4113 k0_hw315 => k0_hw315

def k0_off476 (d0 : Dev nD) (v4125 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4126 : BitVec 1 := Scalar.cmpi .sge v4125 v22
  let c4096_i32_1375 : BitVec 32 := 4096#32
  let v4127 : BitVec 32 := Scalar.addi v22 c4096_i32_1375
  let v4128 : BitVec 1 := Scalar.cmpi .slt v4125 v4127
  let v4129 : BitVec 1 := Scalar.andi v4126 v4128
  let v4130 : BitVec 32 := Scalar.subi v4125 v22
  let c4096_i32_1376 : BitVec 32 := 4096#32
  let v4131 : BitVec 32 := Scalar.select v4129 v4130 c4096_i32_1376
  let v4132 : Index := Scalar.indexCast v4131
  let c0_1377 : Index := 0#32
  ![v4132.toNat, 0]

def k0_chk316 (d0 : Dev nD) (v4125 : BitVec 32) : Prop :=
  (∀ a, (k0_off476 d0 v4125) a + S1x512.size a ≤ S4104x512.size a)
theorem k0_off476_inb : ∀ (d0 : Dev nD) (v4125 : BitVec 32) (k0_hw316 : k0_chk316 d0 v4125), ∀ a, (k0_off476 d0 v4125) a + S1x512.size a ≤ S4104x512.size a := fun d0 v4125 k0_hw316 => k0_hw316

def k0_off477 (d0 : Dev nD) (v4137 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4138 : BitVec 1 := Scalar.cmpi .sge v4137 v22
  let c4096_i32_1379 : BitVec 32 := 4096#32
  let v4139 : BitVec 32 := Scalar.addi v22 c4096_i32_1379
  let v4140 : BitVec 1 := Scalar.cmpi .slt v4137 v4139
  let v4141 : BitVec 1 := Scalar.andi v4138 v4140
  let v4142 : BitVec 32 := Scalar.subi v4137 v22
  let c4096_i32_1380 : BitVec 32 := 4096#32
  let v4143 : BitVec 32 := Scalar.select v4141 v4142 c4096_i32_1380
  let v4144 : Index := Scalar.indexCast v4143
  let c0_1381 : Index := 0#32
  ![v4144.toNat, 0]

def k0_chk317 (d0 : Dev nD) (v4137 : BitVec 32) : Prop :=
  (∀ a, (k0_off477 d0 v4137) a + S1x512.size a ≤ S4104x512.size a)
theorem k0_off477_inb : ∀ (d0 : Dev nD) (v4137 : BitVec 32) (k0_hw317 : k0_chk317 d0 v4137), ∀ a, (k0_off477 d0 v4137) a + S1x512.size a ≤ S4104x512.size a := fun d0 v4137 k0_hw317 => k0_hw317

def k0_off478 (d0 : Dev nD) (v4149 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4150 : BitVec 1 := Scalar.cmpi .sge v4149 v22
  let c4096_i32_1383 : BitVec 32 := 4096#32
  let v4151 : BitVec 32 := Scalar.addi v22 c4096_i32_1383
  let v4152 : BitVec 1 := Scalar.cmpi .slt v4149 v4151
  let v4153 : BitVec 1 := Scalar.andi v4150 v4152
  let v4154 : BitVec 32 := Scalar.subi v4149 v22
  let c4096_i32_1384 : BitVec 32 := 4096#32
  let v4155 : BitVec 32 := Scalar.select v4153 v4154 c4096_i32_1384
  let v4156 : Index := Scalar.indexCast v4155
  let c0_1385 : Index := 0#32
  ![v4156.toNat, 0]

def k0_chk318 (d0 : Dev nD) (v4149 : BitVec 32) : Prop :=
  (∀ a, (k0_off478 d0 v4149) a + S1x512.size a ≤ S4104x512.size a)
theorem k0_off478_inb : ∀ (d0 : Dev nD) (v4149 : BitVec 32) (k0_hw318 : k0_chk318 d0 v4149), ∀ a, (k0_off478 d0 v4149) a + S1x512.size a ≤ S4104x512.size a := fun d0 v4149 k0_hw318 => k0_hw318

def k0_off479 (d0 : Dev nD) (v4161 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4162 : BitVec 1 := Scalar.cmpi .sge v4161 v22
  let c4096_i32_1387 : BitVec 32 := 4096#32
  let v4163 : BitVec 32 := Scalar.addi v22 c4096_i32_1387
  let v4164 : BitVec 1 := Scalar.cmpi .slt v4161 v4163
  let v4165 : BitVec 1 := Scalar.andi v4162 v4164
  let v4166 : BitVec 32 := Scalar.subi v4161 v22
  let c4096_i32_1388 : BitVec 32 := 4096#32
  let v4167 : BitVec 32 := Scalar.select v4165 v4166 c4096_i32_1388
  let v4168 : Index := Scalar.indexCast v4167
  let c0_1389 : Index := 0#32
  ![v4168.toNat, 0]

def k0_chk319 (d0 : Dev nD) (v4161 : BitVec 32) : Prop :=
  (∀ a, (k0_off479 d0 v4161) a + S1x512.size a ≤ S4104x512.size a)
theorem k0_off479_inb : ∀ (d0 : Dev nD) (v4161 : BitVec 32) (k0_hw319 : k0_chk319 d0 v4161), ∀ a, (k0_off479 d0 v4161) a + S1x512.size a ≤ S4104x512.size a := fun d0 v4161 k0_hw319 => k0_hw319

def k0_off480 (d0 : Dev nD) (v4173 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4174 : BitVec 1 := Scalar.cmpi .sge v4173 v22
  let c4096_i32_1391 : BitVec 32 := 4096#32
  let v4175 : BitVec 32 := Scalar.addi v22 c4096_i32_1391
  let v4176 : BitVec 1 := Scalar.cmpi .slt v4173 v4175
  let v4177 : BitVec 1 := Scalar.andi v4174 v4176
  let v4178 : BitVec 32 := Scalar.subi v4173 v22
  let c4096_i32_1392 : BitVec 32 := 4096#32
  let v4179 : BitVec 32 := Scalar.select v4177 v4178 c4096_i32_1392
  let v4180 : Index := Scalar.indexCast v4179
  let c0_1393 : Index := 0#32
  ![v4180.toNat, 0]

def k0_chk320 (d0 : Dev nD) (v4173 : BitVec 32) : Prop :=
  (∀ a, (k0_off480 d0 v4173) a + S1x512.size a ≤ S4104x512.size a)
theorem k0_off480_inb : ∀ (d0 : Dev nD) (v4173 : BitVec 32) (k0_hw320 : k0_chk320 d0 v4173), ∀ a, (k0_off480 d0 v4173) a + S1x512.size a ≤ S4104x512.size a := fun d0 v4173 k0_hw320 => k0_hw320

def k0_off481 (d0 : Dev nD) (v4185 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4186 : BitVec 1 := Scalar.cmpi .sge v4185 v22
  let c4096_i32_1395 : BitVec 32 := 4096#32
  let v4187 : BitVec 32 := Scalar.addi v22 c4096_i32_1395
  let v4188 : BitVec 1 := Scalar.cmpi .slt v4185 v4187
  let v4189 : BitVec 1 := Scalar.andi v4186 v4188
  let v4190 : BitVec 32 := Scalar.subi v4185 v22
  let c4096_i32_1396 : BitVec 32 := 4096#32
  let v4191 : BitVec 32 := Scalar.select v4189 v4190 c4096_i32_1396
  let v4192 : Index := Scalar.indexCast v4191
  let c0_1397 : Index := 0#32
  ![v4192.toNat, 0]

def k0_chk321 (d0 : Dev nD) (v4185 : BitVec 32) : Prop :=
  (∀ a, (k0_off481 d0 v4185) a + S1x512.size a ≤ S4104x512.size a)
theorem k0_off481_inb : ∀ (d0 : Dev nD) (v4185 : BitVec 32) (k0_hw321 : k0_chk321 d0 v4185), ∀ a, (k0_off481 d0 v4185) a + S1x512.size a ≤ S4104x512.size a := fun d0 v4185 k0_hw321 => k0_hw321

def k0_off482 (d0 : Dev nD) (v4197 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4198 : BitVec 1 := Scalar.cmpi .sge v4197 v22
  let c4096_i32_1399 : BitVec 32 := 4096#32
  let v4199 : BitVec 32 := Scalar.addi v22 c4096_i32_1399
  let v4200 : BitVec 1 := Scalar.cmpi .slt v4197 v4199
  let v4201 : BitVec 1 := Scalar.andi v4198 v4200
  let v4202 : BitVec 32 := Scalar.subi v4197 v22
  let c4096_i32_1400 : BitVec 32 := 4096#32
  let v4203 : BitVec 32 := Scalar.select v4201 v4202 c4096_i32_1400
  let v4204 : Index := Scalar.indexCast v4203
  let c0_1401 : Index := 0#32
  ![v4204.toNat, 0]

def k0_chk322 (d0 : Dev nD) (v4197 : BitVec 32) : Prop :=
  (∀ a, (k0_off482 d0 v4197) a + S1x512.size a ≤ S4104x512.size a)
theorem k0_off482_inb : ∀ (d0 : Dev nD) (v4197 : BitVec 32) (k0_hw322 : k0_chk322 d0 v4197), ∀ a, (k0_off482 d0 v4197) a + S1x512.size a ≤ S4104x512.size a := fun d0 v4197 k0_hw322 => k0_hw322

def k0_off483 (d0 : Dev nD) (v4209 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4210 : BitVec 1 := Scalar.cmpi .sge v4209 v22
  let c4096_i32_1403 : BitVec 32 := 4096#32
  let v4211 : BitVec 32 := Scalar.addi v22 c4096_i32_1403
  let v4212 : BitVec 1 := Scalar.cmpi .slt v4209 v4211
  let v4213 : BitVec 1 := Scalar.andi v4210 v4212
  let v4214 : BitVec 32 := Scalar.subi v4209 v22
  let c4096_i32_1404 : BitVec 32 := 4096#32
  let v4215 : BitVec 32 := Scalar.select v4213 v4214 c4096_i32_1404
  let v4216 : Index := Scalar.indexCast v4215
  let c0_1405 : Index := 0#32
  ![v4216.toNat, 0]

def k0_chk323 (d0 : Dev nD) (v4209 : BitVec 32) : Prop :=
  (∀ a, (k0_off483 d0 v4209) a + S1x512.size a ≤ S4104x512.size a)
theorem k0_off483_inb : ∀ (d0 : Dev nD) (v4209 : BitVec 32) (k0_hw323 : k0_chk323 d0 v4209), ∀ a, (k0_off483 d0 v4209) a + S1x512.size a ≤ S4104x512.size a := fun d0 v4209 k0_hw323 => k0_hw323

def k0_off484 (d0 : Dev nD) (v4221 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4222 : BitVec 1 := Scalar.cmpi .sge v4221 v22
  let c4096_i32_1407 : BitVec 32 := 4096#32
  let v4223 : BitVec 32 := Scalar.addi v22 c4096_i32_1407
  let v4224 : BitVec 1 := Scalar.cmpi .slt v4221 v4223
  let v4225 : BitVec 1 := Scalar.andi v4222 v4224
  let v4226 : BitVec 32 := Scalar.subi v4221 v22
  let c4096_i32_1408 : BitVec 32 := 4096#32
  let v4227 : BitVec 32 := Scalar.select v4225 v4226 c4096_i32_1408
  let v4228 : Index := Scalar.indexCast v4227
  let c0_1409 : Index := 0#32
  ![v4228.toNat, 0]

def k0_chk324 (d0 : Dev nD) (v4221 : BitVec 32) : Prop :=
  (∀ a, (k0_off484 d0 v4221) a + S1x512.size a ≤ S4104x512.size a)
theorem k0_off484_inb : ∀ (d0 : Dev nD) (v4221 : BitVec 32) (k0_hw324 : k0_chk324 d0 v4221), ∀ a, (k0_off484 d0 v4221) a + S1x512.size a ≤ S4104x512.size a := fun d0 v4221 k0_hw324 => k0_hw324

def k0_off485 (d0 : Dev nD) (v4233 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4234 : BitVec 1 := Scalar.cmpi .sge v4233 v22
  let c4096_i32_1411 : BitVec 32 := 4096#32
  let v4235 : BitVec 32 := Scalar.addi v22 c4096_i32_1411
  let v4236 : BitVec 1 := Scalar.cmpi .slt v4233 v4235
  let v4237 : BitVec 1 := Scalar.andi v4234 v4236
  let v4238 : BitVec 32 := Scalar.subi v4233 v22
  let c4096_i32_1412 : BitVec 32 := 4096#32
  let v4239 : BitVec 32 := Scalar.select v4237 v4238 c4096_i32_1412
  let v4240 : Index := Scalar.indexCast v4239
  let c0_1413 : Index := 0#32
  ![v4240.toNat, 0]

def k0_chk325 (d0 : Dev nD) (v4233 : BitVec 32) : Prop :=
  (∀ a, (k0_off485 d0 v4233) a + S1x512.size a ≤ S4104x512.size a)
theorem k0_off485_inb : ∀ (d0 : Dev nD) (v4233 : BitVec 32) (k0_hw325 : k0_chk325 d0 v4233), ∀ a, (k0_off485 d0 v4233) a + S1x512.size a ≤ S4104x512.size a := fun d0 v4233 k0_hw325 => k0_hw325

def k0_off486 (d0 : Dev nD) (v4245 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4246 : BitVec 1 := Scalar.cmpi .sge v4245 v22
  let c4096_i32_1415 : BitVec 32 := 4096#32
  let v4247 : BitVec 32 := Scalar.addi v22 c4096_i32_1415
  let v4248 : BitVec 1 := Scalar.cmpi .slt v4245 v4247
  let v4249 : BitVec 1 := Scalar.andi v4246 v4248
  let v4250 : BitVec 32 := Scalar.subi v4245 v22
  let c4096_i32_1416 : BitVec 32 := 4096#32
  let v4251 : BitVec 32 := Scalar.select v4249 v4250 c4096_i32_1416
  let v4252 : Index := Scalar.indexCast v4251
  let c0_1417 : Index := 0#32
  ![v4252.toNat, 0]

def k0_chk326 (d0 : Dev nD) (v4245 : BitVec 32) : Prop :=
  (∀ a, (k0_off486 d0 v4245) a + S1x512.size a ≤ S4104x512.size a)
theorem k0_off486_inb : ∀ (d0 : Dev nD) (v4245 : BitVec 32) (k0_hw326 : k0_chk326 d0 v4245), ∀ a, (k0_off486 d0 v4245) a + S1x512.size a ≤ S4104x512.size a := fun d0 v4245 k0_hw326 => k0_hw326

def k0_off487 (d0 : Dev nD) (v4257 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4258 : BitVec 1 := Scalar.cmpi .sge v4257 v22
  let c4096_i32_1419 : BitVec 32 := 4096#32
  let v4259 : BitVec 32 := Scalar.addi v22 c4096_i32_1419
  let v4260 : BitVec 1 := Scalar.cmpi .slt v4257 v4259
  let v4261 : BitVec 1 := Scalar.andi v4258 v4260
  let v4262 : BitVec 32 := Scalar.subi v4257 v22
  let c4096_i32_1420 : BitVec 32 := 4096#32
  let v4263 : BitVec 32 := Scalar.select v4261 v4262 c4096_i32_1420
  let v4264 : Index := Scalar.indexCast v4263
  let c0_1421 : Index := 0#32
  ![v4264.toNat, 0]

def k0_chk327 (d0 : Dev nD) (v4257 : BitVec 32) : Prop :=
  (∀ a, (k0_off487 d0 v4257) a + S1x512.size a ≤ S4104x512.size a)
theorem k0_off487_inb : ∀ (d0 : Dev nD) (v4257 : BitVec 32) (k0_hw327 : k0_chk327 d0 v4257), ∀ a, (k0_off487 d0 v4257) a + S1x512.size a ≤ S4104x512.size a := fun d0 v4257 k0_hw327 => k0_hw327

def k0_off488 (d0 : Dev nD) (v4269 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4270 : BitVec 1 := Scalar.cmpi .sge v4269 v22
  let c4096_i32_1423 : BitVec 32 := 4096#32
  let v4271 : BitVec 32 := Scalar.addi v22 c4096_i32_1423
  let v4272 : BitVec 1 := Scalar.cmpi .slt v4269 v4271
  let v4273 : BitVec 1 := Scalar.andi v4270 v4272
  let v4274 : BitVec 32 := Scalar.subi v4269 v22
  let c4096_i32_1424 : BitVec 32 := 4096#32
  let v4275 : BitVec 32 := Scalar.select v4273 v4274 c4096_i32_1424
  let v4276 : Index := Scalar.indexCast v4275
  let c0_1425 : Index := 0#32
  ![v4276.toNat, 0]

def k0_chk328 (d0 : Dev nD) (v4269 : BitVec 32) : Prop :=
  (∀ a, (k0_off488 d0 v4269) a + S1x512.size a ≤ S4104x512.size a)
theorem k0_off488_inb : ∀ (d0 : Dev nD) (v4269 : BitVec 32) (k0_hw328 : k0_chk328 d0 v4269), ∀ a, (k0_off488 d0 v4269) a + S1x512.size a ≤ S4104x512.size a := fun d0 v4269 k0_hw328 => k0_hw328

def k0_off489 (d0 : Dev nD) (v4281 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4282 : BitVec 1 := Scalar.cmpi .sge v4281 v22
  let c4096_i32_1427 : BitVec 32 := 4096#32
  let v4283 : BitVec 32 := Scalar.addi v22 c4096_i32_1427
  let v4284 : BitVec 1 := Scalar.cmpi .slt v4281 v4283
  let v4285 : BitVec 1 := Scalar.andi v4282 v4284
  let v4286 : BitVec 32 := Scalar.subi v4281 v22
  let c4096_i32_1428 : BitVec 32 := 4096#32
  let v4287 : BitVec 32 := Scalar.select v4285 v4286 c4096_i32_1428
  let v4288 : Index := Scalar.indexCast v4287
  let c0_1429 : Index := 0#32
  ![v4288.toNat, 0]

def k0_chk329 (d0 : Dev nD) (v4281 : BitVec 32) : Prop :=
  (∀ a, (k0_off489 d0 v4281) a + S1x512.size a ≤ S4104x512.size a)
theorem k0_off489_inb : ∀ (d0 : Dev nD) (v4281 : BitVec 32) (k0_hw329 : k0_chk329 d0 v4281), ∀ a, (k0_off489 d0 v4281) a + S1x512.size a ≤ S4104x512.size a := fun d0 v4281 k0_hw329 => k0_hw329

def k0_off490 (d0 : Dev nD) (v4293 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4294 : BitVec 1 := Scalar.cmpi .sge v4293 v22
  let c4096_i32_1431 : BitVec 32 := 4096#32
  let v4295 : BitVec 32 := Scalar.addi v22 c4096_i32_1431
  let v4296 : BitVec 1 := Scalar.cmpi .slt v4293 v4295
  let v4297 : BitVec 1 := Scalar.andi v4294 v4296
  let v4298 : BitVec 32 := Scalar.subi v4293 v22
  let c4096_i32_1432 : BitVec 32 := 4096#32
  let v4299 : BitVec 32 := Scalar.select v4297 v4298 c4096_i32_1432
  let v4300 : Index := Scalar.indexCast v4299
  let c0_1433 : Index := 0#32
  ![v4300.toNat, 0]

def k0_chk330 (d0 : Dev nD) (v4293 : BitVec 32) : Prop :=
  (∀ a, (k0_off490 d0 v4293) a + S1x512.size a ≤ S4104x512.size a)
theorem k0_off490_inb : ∀ (d0 : Dev nD) (v4293 : BitVec 32) (k0_hw330 : k0_chk330 d0 v4293), ∀ a, (k0_off490 d0 v4293) a + S1x512.size a ≤ S4104x512.size a := fun d0 v4293 k0_hw330 => k0_hw330

def k0_off491 (d0 : Dev nD) (v4305 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4306 : BitVec 1 := Scalar.cmpi .sge v4305 v22
  let c4096_i32_1435 : BitVec 32 := 4096#32
  let v4307 : BitVec 32 := Scalar.addi v22 c4096_i32_1435
  let v4308 : BitVec 1 := Scalar.cmpi .slt v4305 v4307
  let v4309 : BitVec 1 := Scalar.andi v4306 v4308
  let v4310 : BitVec 32 := Scalar.subi v4305 v22
  let c4096_i32_1436 : BitVec 32 := 4096#32
  let v4311 : BitVec 32 := Scalar.select v4309 v4310 c4096_i32_1436
  let v4312 : Index := Scalar.indexCast v4311
  let c0_1437 : Index := 0#32
  ![v4312.toNat, 0]

def k0_chk331 (d0 : Dev nD) (v4305 : BitVec 32) : Prop :=
  (∀ a, (k0_off491 d0 v4305) a + S1x512.size a ≤ S4104x512.size a)
theorem k0_off491_inb : ∀ (d0 : Dev nD) (v4305 : BitVec 32) (k0_hw331 : k0_chk331 d0 v4305), ∀ a, (k0_off491 d0 v4305) a + S1x512.size a ≤ S4104x512.size a := fun d0 v4305 k0_hw331 => k0_hw331

def k0_off492 (d0 : Dev nD) (v4317 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4318 : BitVec 1 := Scalar.cmpi .sge v4317 v22
  let c4096_i32_1439 : BitVec 32 := 4096#32
  let v4319 : BitVec 32 := Scalar.addi v22 c4096_i32_1439
  let v4320 : BitVec 1 := Scalar.cmpi .slt v4317 v4319
  let v4321 : BitVec 1 := Scalar.andi v4318 v4320
  let v4322 : BitVec 32 := Scalar.subi v4317 v22
  let c4096_i32_1440 : BitVec 32 := 4096#32
  let v4323 : BitVec 32 := Scalar.select v4321 v4322 c4096_i32_1440
  let v4324 : Index := Scalar.indexCast v4323
  let c0_1441 : Index := 0#32
  ![v4324.toNat, 0]

def k0_chk332 (d0 : Dev nD) (v4317 : BitVec 32) : Prop :=
  (∀ a, (k0_off492 d0 v4317) a + S1x512.size a ≤ S4104x512.size a)
theorem k0_off492_inb : ∀ (d0 : Dev nD) (v4317 : BitVec 32) (k0_hw332 : k0_chk332 d0 v4317), ∀ a, (k0_off492 d0 v4317) a + S1x512.size a ≤ S4104x512.size a := fun d0 v4317 k0_hw332 => k0_hw332

def k0_off493 (d0 : Dev nD) (v4329 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4330 : BitVec 1 := Scalar.cmpi .sge v4329 v22
  let c4096_i32_1443 : BitVec 32 := 4096#32
  let v4331 : BitVec 32 := Scalar.addi v22 c4096_i32_1443
  let v4332 : BitVec 1 := Scalar.cmpi .slt v4329 v4331
  let v4333 : BitVec 1 := Scalar.andi v4330 v4332
  let v4334 : BitVec 32 := Scalar.subi v4329 v22
  let c4096_i32_1444 : BitVec 32 := 4096#32
  let v4335 : BitVec 32 := Scalar.select v4333 v4334 c4096_i32_1444
  let v4336 : Index := Scalar.indexCast v4335
  let c0_1445 : Index := 0#32
  ![v4336.toNat, 0]

def k0_chk333 (d0 : Dev nD) (v4329 : BitVec 32) : Prop :=
  (∀ a, (k0_off493 d0 v4329) a + S1x512.size a ≤ S4104x512.size a)
theorem k0_off493_inb : ∀ (d0 : Dev nD) (v4329 : BitVec 32) (k0_hw333 : k0_chk333 d0 v4329), ∀ a, (k0_off493 d0 v4329) a + S1x512.size a ≤ S4104x512.size a := fun d0 v4329 k0_hw333 => k0_hw333

def k0_off494 (d0 : Dev nD) (v4341 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4342 : BitVec 1 := Scalar.cmpi .sge v4341 v22
  let c4096_i32_1447 : BitVec 32 := 4096#32
  let v4343 : BitVec 32 := Scalar.addi v22 c4096_i32_1447
  let v4344 : BitVec 1 := Scalar.cmpi .slt v4341 v4343
  let v4345 : BitVec 1 := Scalar.andi v4342 v4344
  let v4346 : BitVec 32 := Scalar.subi v4341 v22
  let c4096_i32_1448 : BitVec 32 := 4096#32
  let v4347 : BitVec 32 := Scalar.select v4345 v4346 c4096_i32_1448
  let v4348 : Index := Scalar.indexCast v4347
  let c0_1449 : Index := 0#32
  ![v4348.toNat, 0]

def k0_chk334 (d0 : Dev nD) (v4341 : BitVec 32) : Prop :=
  (∀ a, (k0_off494 d0 v4341) a + S1x512.size a ≤ S4104x512.size a)
theorem k0_off494_inb : ∀ (d0 : Dev nD) (v4341 : BitVec 32) (k0_hw334 : k0_chk334 d0 v4341), ∀ a, (k0_off494 d0 v4341) a + S1x512.size a ≤ S4104x512.size a := fun d0 v4341 k0_hw334 => k0_hw334

def k0_off495 (d0 : Dev nD) (v4353 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4354 : BitVec 1 := Scalar.cmpi .sge v4353 v22
  let c4096_i32_1451 : BitVec 32 := 4096#32
  let v4355 : BitVec 32 := Scalar.addi v22 c4096_i32_1451
  let v4356 : BitVec 1 := Scalar.cmpi .slt v4353 v4355
  let v4357 : BitVec 1 := Scalar.andi v4354 v4356
  let v4358 : BitVec 32 := Scalar.subi v4353 v22
  let c4096_i32_1452 : BitVec 32 := 4096#32
  let v4359 : BitVec 32 := Scalar.select v4357 v4358 c4096_i32_1452
  let v4360 : Index := Scalar.indexCast v4359
  let c0_1453 : Index := 0#32
  ![v4360.toNat, 0]

def k0_chk335 (d0 : Dev nD) (v4353 : BitVec 32) : Prop :=
  (∀ a, (k0_off495 d0 v4353) a + S1x512.size a ≤ S4104x512.size a)
theorem k0_off495_inb : ∀ (d0 : Dev nD) (v4353 : BitVec 32) (k0_hw335 : k0_chk335 d0 v4353), ∀ a, (k0_off495 d0 v4353) a + S1x512.size a ≤ S4104x512.size a := fun d0 v4353 k0_hw335 => k0_hw335

def k0_off496 (d0 : Dev nD) (v4365 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4366 : BitVec 1 := Scalar.cmpi .sge v4365 v22
  let c4096_i32_1455 : BitVec 32 := 4096#32
  let v4367 : BitVec 32 := Scalar.addi v22 c4096_i32_1455
  let v4368 : BitVec 1 := Scalar.cmpi .slt v4365 v4367
  let v4369 : BitVec 1 := Scalar.andi v4366 v4368
  let v4370 : BitVec 32 := Scalar.subi v4365 v22
  let c4096_i32_1456 : BitVec 32 := 4096#32
  let v4371 : BitVec 32 := Scalar.select v4369 v4370 c4096_i32_1456
  let v4372 : Index := Scalar.indexCast v4371
  let c0_1457 : Index := 0#32
  ![v4372.toNat, 0]

def k0_chk336 (d0 : Dev nD) (v4365 : BitVec 32) : Prop :=
  (∀ a, (k0_off496 d0 v4365) a + S1x512.size a ≤ S4104x512.size a)
theorem k0_off496_inb : ∀ (d0 : Dev nD) (v4365 : BitVec 32) (k0_hw336 : k0_chk336 d0 v4365), ∀ a, (k0_off496 d0 v4365) a + S1x512.size a ≤ S4104x512.size a := fun d0 v4365 k0_hw336 => k0_hw336

def k0_off497 (d0 : Dev nD) (v4377 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4378 : BitVec 1 := Scalar.cmpi .sge v4377 v22
  let c4096_i32_1459 : BitVec 32 := 4096#32
  let v4379 : BitVec 32 := Scalar.addi v22 c4096_i32_1459
  let v4380 : BitVec 1 := Scalar.cmpi .slt v4377 v4379
  let v4381 : BitVec 1 := Scalar.andi v4378 v4380
  let v4382 : BitVec 32 := Scalar.subi v4377 v22
  let c4096_i32_1460 : BitVec 32 := 4096#32
  let v4383 : BitVec 32 := Scalar.select v4381 v4382 c4096_i32_1460
  let v4384 : Index := Scalar.indexCast v4383
  let c0_1461 : Index := 0#32
  ![v4384.toNat, 0]

def k0_chk337 (d0 : Dev nD) (v4377 : BitVec 32) : Prop :=
  (∀ a, (k0_off497 d0 v4377) a + S1x512.size a ≤ S4104x512.size a)
theorem k0_off497_inb : ∀ (d0 : Dev nD) (v4377 : BitVec 32) (k0_hw337 : k0_chk337 d0 v4377), ∀ a, (k0_off497 d0 v4377) a + S1x512.size a ≤ S4104x512.size a := fun d0 v4377 k0_hw337 => k0_hw337

def k0_off498 (d0 : Dev nD) (v4389 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4390 : BitVec 1 := Scalar.cmpi .sge v4389 v22
  let c4096_i32_1463 : BitVec 32 := 4096#32
  let v4391 : BitVec 32 := Scalar.addi v22 c4096_i32_1463
  let v4392 : BitVec 1 := Scalar.cmpi .slt v4389 v4391
  let v4393 : BitVec 1 := Scalar.andi v4390 v4392
  let v4394 : BitVec 32 := Scalar.subi v4389 v22
  let c4096_i32_1464 : BitVec 32 := 4096#32
  let v4395 : BitVec 32 := Scalar.select v4393 v4394 c4096_i32_1464
  let v4396 : Index := Scalar.indexCast v4395
  let c0_1465 : Index := 0#32
  ![v4396.toNat, 0]

def k0_chk338 (d0 : Dev nD) (v4389 : BitVec 32) : Prop :=
  (∀ a, (k0_off498 d0 v4389) a + S1x512.size a ≤ S4104x512.size a)
theorem k0_off498_inb : ∀ (d0 : Dev nD) (v4389 : BitVec 32) (k0_hw338 : k0_chk338 d0 v4389), ∀ a, (k0_off498 d0 v4389) a + S1x512.size a ≤ S4104x512.size a := fun d0 v4389 k0_hw338 => k0_hw338

def k0_off499 (d0 : Dev nD) (v4401 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4402 : BitVec 1 := Scalar.cmpi .sge v4401 v22
  let c4096_i32_1467 : BitVec 32 := 4096#32
  let v4403 : BitVec 32 := Scalar.addi v22 c4096_i32_1467
  let v4404 : BitVec 1 := Scalar.cmpi .slt v4401 v4403
  let v4405 : BitVec 1 := Scalar.andi v4402 v4404
  let v4406 : BitVec 32 := Scalar.subi v4401 v22
  let c4096_i32_1468 : BitVec 32 := 4096#32
  let v4407 : BitVec 32 := Scalar.select v4405 v4406 c4096_i32_1468
  let v4408 : Index := Scalar.indexCast v4407
  let c0_1469 : Index := 0#32
  ![v4408.toNat, 0]

def k0_chk339 (d0 : Dev nD) (v4401 : BitVec 32) : Prop :=
  (∀ a, (k0_off499 d0 v4401) a + S1x512.size a ≤ S4104x512.size a)
theorem k0_off499_inb : ∀ (d0 : Dev nD) (v4401 : BitVec 32) (k0_hw339 : k0_chk339 d0 v4401), ∀ a, (k0_off499 d0 v4401) a + S1x512.size a ≤ S4104x512.size a := fun d0 v4401 k0_hw339 => k0_hw339

def k0_off500 (d0 : Dev nD) (v4413 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4414 : BitVec 1 := Scalar.cmpi .sge v4413 v22
  let c4096_i32_1471 : BitVec 32 := 4096#32
  let v4415 : BitVec 32 := Scalar.addi v22 c4096_i32_1471
  let v4416 : BitVec 1 := Scalar.cmpi .slt v4413 v4415
  let v4417 : BitVec 1 := Scalar.andi v4414 v4416
  let v4418 : BitVec 32 := Scalar.subi v4413 v22
  let c4096_i32_1472 : BitVec 32 := 4096#32
  let v4419 : BitVec 32 := Scalar.select v4417 v4418 c4096_i32_1472
  let v4420 : Index := Scalar.indexCast v4419
  let c0_1473 : Index := 0#32
  ![v4420.toNat, 0]

def k0_chk340 (d0 : Dev nD) (v4413 : BitVec 32) : Prop :=
  (∀ a, (k0_off500 d0 v4413) a + S1x512.size a ≤ S4104x512.size a)
theorem k0_off500_inb : ∀ (d0 : Dev nD) (v4413 : BitVec 32) (k0_hw340 : k0_chk340 d0 v4413), ∀ a, (k0_off500 d0 v4413) a + S1x512.size a ≤ S4104x512.size a := fun d0 v4413 k0_hw340 => k0_hw340

def k0_off501 (d0 : Dev nD) (v4425 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4426 : BitVec 1 := Scalar.cmpi .sge v4425 v22
  let c4096_i32_1475 : BitVec 32 := 4096#32
  let v4427 : BitVec 32 := Scalar.addi v22 c4096_i32_1475
  let v4428 : BitVec 1 := Scalar.cmpi .slt v4425 v4427
  let v4429 : BitVec 1 := Scalar.andi v4426 v4428
  let v4430 : BitVec 32 := Scalar.subi v4425 v22
  let c4096_i32_1476 : BitVec 32 := 4096#32
  let v4431 : BitVec 32 := Scalar.select v4429 v4430 c4096_i32_1476
  let v4432 : Index := Scalar.indexCast v4431
  let c0_1477 : Index := 0#32
  ![v4432.toNat, 0]

def k0_chk341 (d0 : Dev nD) (v4425 : BitVec 32) : Prop :=
  (∀ a, (k0_off501 d0 v4425) a + S1x512.size a ≤ S4104x512.size a)
theorem k0_off501_inb : ∀ (d0 : Dev nD) (v4425 : BitVec 32) (k0_hw341 : k0_chk341 d0 v4425), ∀ a, (k0_off501 d0 v4425) a + S1x512.size a ≤ S4104x512.size a := fun d0 v4425 k0_hw341 => k0_hw341

def k0_off502 (d0 : Dev nD) (v4437 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4438 : BitVec 1 := Scalar.cmpi .sge v4437 v22
  let c4096_i32_1479 : BitVec 32 := 4096#32
  let v4439 : BitVec 32 := Scalar.addi v22 c4096_i32_1479
  let v4440 : BitVec 1 := Scalar.cmpi .slt v4437 v4439
  let v4441 : BitVec 1 := Scalar.andi v4438 v4440
  let v4442 : BitVec 32 := Scalar.subi v4437 v22
  let c4096_i32_1480 : BitVec 32 := 4096#32
  let v4443 : BitVec 32 := Scalar.select v4441 v4442 c4096_i32_1480
  let v4444 : Index := Scalar.indexCast v4443
  let c0_1481 : Index := 0#32
  ![v4444.toNat, 0]

def k0_chk342 (d0 : Dev nD) (v4437 : BitVec 32) : Prop :=
  (∀ a, (k0_off502 d0 v4437) a + S1x512.size a ≤ S4104x512.size a)
theorem k0_off502_inb : ∀ (d0 : Dev nD) (v4437 : BitVec 32) (k0_hw342 : k0_chk342 d0 v4437), ∀ a, (k0_off502 d0 v4437) a + S1x512.size a ≤ S4104x512.size a := fun d0 v4437 k0_hw342 => k0_hw342

def k0_off503 (d0 : Dev nD) (v4449 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4450 : BitVec 1 := Scalar.cmpi .sge v4449 v22
  let c4096_i32_1483 : BitVec 32 := 4096#32
  let v4451 : BitVec 32 := Scalar.addi v22 c4096_i32_1483
  let v4452 : BitVec 1 := Scalar.cmpi .slt v4449 v4451
  let v4453 : BitVec 1 := Scalar.andi v4450 v4452
  let v4454 : BitVec 32 := Scalar.subi v4449 v22
  let c4096_i32_1484 : BitVec 32 := 4096#32
  let v4455 : BitVec 32 := Scalar.select v4453 v4454 c4096_i32_1484
  let v4456 : Index := Scalar.indexCast v4455
  let c0_1485 : Index := 0#32
  ![v4456.toNat, 0]

def k0_chk343 (d0 : Dev nD) (v4449 : BitVec 32) : Prop :=
  (∀ a, (k0_off503 d0 v4449) a + S1x512.size a ≤ S4104x512.size a)
theorem k0_off503_inb : ∀ (d0 : Dev nD) (v4449 : BitVec 32) (k0_hw343 : k0_chk343 d0 v4449), ∀ a, (k0_off503 d0 v4449) a + S1x512.size a ≤ S4104x512.size a := fun d0 v4449 k0_hw343 => k0_hw343

def k0_off504 (d0 : Dev nD) (v4461 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4462 : BitVec 1 := Scalar.cmpi .sge v4461 v22
  let c4096_i32_1487 : BitVec 32 := 4096#32
  let v4463 : BitVec 32 := Scalar.addi v22 c4096_i32_1487
  let v4464 : BitVec 1 := Scalar.cmpi .slt v4461 v4463
  let v4465 : BitVec 1 := Scalar.andi v4462 v4464
  let v4466 : BitVec 32 := Scalar.subi v4461 v22
  let c4096_i32_1488 : BitVec 32 := 4096#32
  let v4467 : BitVec 32 := Scalar.select v4465 v4466 c4096_i32_1488
  let v4468 : Index := Scalar.indexCast v4467
  let c0_1489 : Index := 0#32
  ![v4468.toNat, 0]

def k0_chk344 (d0 : Dev nD) (v4461 : BitVec 32) : Prop :=
  (∀ a, (k0_off504 d0 v4461) a + S1x512.size a ≤ S4104x512.size a)
theorem k0_off504_inb : ∀ (d0 : Dev nD) (v4461 : BitVec 32) (k0_hw344 : k0_chk344 d0 v4461), ∀ a, (k0_off504 d0 v4461) a + S1x512.size a ≤ S4104x512.size a := fun d0 v4461 k0_hw344 => k0_hw344

def k0_off505 (d0 : Dev nD) (v4473 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4474 : BitVec 1 := Scalar.cmpi .sge v4473 v22
  let c4096_i32_1491 : BitVec 32 := 4096#32
  let v4475 : BitVec 32 := Scalar.addi v22 c4096_i32_1491
  let v4476 : BitVec 1 := Scalar.cmpi .slt v4473 v4475
  let v4477 : BitVec 1 := Scalar.andi v4474 v4476
  let v4478 : BitVec 32 := Scalar.subi v4473 v22
  let c4096_i32_1492 : BitVec 32 := 4096#32
  let v4479 : BitVec 32 := Scalar.select v4477 v4478 c4096_i32_1492
  let v4480 : Index := Scalar.indexCast v4479
  let c0_1493 : Index := 0#32
  ![v4480.toNat, 0]

def k0_chk345 (d0 : Dev nD) (v4473 : BitVec 32) : Prop :=
  (∀ a, (k0_off505 d0 v4473) a + S1x512.size a ≤ S4104x512.size a)
theorem k0_off505_inb : ∀ (d0 : Dev nD) (v4473 : BitVec 32) (k0_hw345 : k0_chk345 d0 v4473), ∀ a, (k0_off505 d0 v4473) a + S1x512.size a ≤ S4104x512.size a := fun d0 v4473 k0_hw345 => k0_hw345

def k0_off506 (d0 : Dev nD) (v4485 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4486 : BitVec 1 := Scalar.cmpi .sge v4485 v22
  let c4096_i32_1495 : BitVec 32 := 4096#32
  let v4487 : BitVec 32 := Scalar.addi v22 c4096_i32_1495
  let v4488 : BitVec 1 := Scalar.cmpi .slt v4485 v4487
  let v4489 : BitVec 1 := Scalar.andi v4486 v4488
  let v4490 : BitVec 32 := Scalar.subi v4485 v22
  let c4096_i32_1496 : BitVec 32 := 4096#32
  let v4491 : BitVec 32 := Scalar.select v4489 v4490 c4096_i32_1496
  let v4492 : Index := Scalar.indexCast v4491
  let c0_1497 : Index := 0#32
  ![v4492.toNat, 0]

def k0_chk346 (d0 : Dev nD) (v4485 : BitVec 32) : Prop :=
  (∀ a, (k0_off506 d0 v4485) a + S1x512.size a ≤ S4104x512.size a)
theorem k0_off506_inb : ∀ (d0 : Dev nD) (v4485 : BitVec 32) (k0_hw346 : k0_chk346 d0 v4485), ∀ a, (k0_off506 d0 v4485) a + S1x512.size a ≤ S4104x512.size a := fun d0 v4485 k0_hw346 => k0_hw346

def k0_off507 (d0 : Dev nD) (v4497 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4498 : BitVec 1 := Scalar.cmpi .sge v4497 v22
  let c4096_i32_1499 : BitVec 32 := 4096#32
  let v4499 : BitVec 32 := Scalar.addi v22 c4096_i32_1499
  let v4500 : BitVec 1 := Scalar.cmpi .slt v4497 v4499
  let v4501 : BitVec 1 := Scalar.andi v4498 v4500
  let v4502 : BitVec 32 := Scalar.subi v4497 v22
  let c4096_i32_1500 : BitVec 32 := 4096#32
  let v4503 : BitVec 32 := Scalar.select v4501 v4502 c4096_i32_1500
  let v4504 : Index := Scalar.indexCast v4503
  let c0_1501 : Index := 0#32
  ![v4504.toNat, 0]

def k0_chk347 (d0 : Dev nD) (v4497 : BitVec 32) : Prop :=
  (∀ a, (k0_off507 d0 v4497) a + S1x512.size a ≤ S4104x512.size a)
theorem k0_off507_inb : ∀ (d0 : Dev nD) (v4497 : BitVec 32) (k0_hw347 : k0_chk347 d0 v4497), ∀ a, (k0_off507 d0 v4497) a + S1x512.size a ≤ S4104x512.size a := fun d0 v4497 k0_hw347 => k0_hw347

def k0_off508 (d0 : Dev nD) (v4509 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4510 : BitVec 1 := Scalar.cmpi .sge v4509 v22
  let c4096_i32_1503 : BitVec 32 := 4096#32
  let v4511 : BitVec 32 := Scalar.addi v22 c4096_i32_1503
  let v4512 : BitVec 1 := Scalar.cmpi .slt v4509 v4511
  let v4513 : BitVec 1 := Scalar.andi v4510 v4512
  let v4514 : BitVec 32 := Scalar.subi v4509 v22
  let c4096_i32_1504 : BitVec 32 := 4096#32
  let v4515 : BitVec 32 := Scalar.select v4513 v4514 c4096_i32_1504
  let v4516 : Index := Scalar.indexCast v4515
  let c0_1505 : Index := 0#32
  ![v4516.toNat, 0]

def k0_chk348 (d0 : Dev nD) (v4509 : BitVec 32) : Prop :=
  (∀ a, (k0_off508 d0 v4509) a + S1x512.size a ≤ S4104x512.size a)
theorem k0_off508_inb : ∀ (d0 : Dev nD) (v4509 : BitVec 32) (k0_hw348 : k0_chk348 d0 v4509), ∀ a, (k0_off508 d0 v4509) a + S1x512.size a ≤ S4104x512.size a := fun d0 v4509 k0_hw348 => k0_hw348

def k0_off509 (d0 : Dev nD) (v4521 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4522 : BitVec 1 := Scalar.cmpi .sge v4521 v22
  let c4096_i32_1507 : BitVec 32 := 4096#32
  let v4523 : BitVec 32 := Scalar.addi v22 c4096_i32_1507
  let v4524 : BitVec 1 := Scalar.cmpi .slt v4521 v4523
  let v4525 : BitVec 1 := Scalar.andi v4522 v4524
  let v4526 : BitVec 32 := Scalar.subi v4521 v22
  let c4096_i32_1508 : BitVec 32 := 4096#32
  let v4527 : BitVec 32 := Scalar.select v4525 v4526 c4096_i32_1508
  let v4528 : Index := Scalar.indexCast v4527
  let c0_1509 : Index := 0#32
  ![v4528.toNat, 0]

def k0_chk349 (d0 : Dev nD) (v4521 : BitVec 32) : Prop :=
  (∀ a, (k0_off509 d0 v4521) a + S1x512.size a ≤ S4104x512.size a)
theorem k0_off509_inb : ∀ (d0 : Dev nD) (v4521 : BitVec 32) (k0_hw349 : k0_chk349 d0 v4521), ∀ a, (k0_off509 d0 v4521) a + S1x512.size a ≤ S4104x512.size a := fun d0 v4521 k0_hw349 => k0_hw349

def k0_off510 (d0 : Dev nD) (v4533 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4534 : BitVec 1 := Scalar.cmpi .sge v4533 v22
  let c4096_i32_1511 : BitVec 32 := 4096#32
  let v4535 : BitVec 32 := Scalar.addi v22 c4096_i32_1511
  let v4536 : BitVec 1 := Scalar.cmpi .slt v4533 v4535
  let v4537 : BitVec 1 := Scalar.andi v4534 v4536
  let v4538 : BitVec 32 := Scalar.subi v4533 v22
  let c4096_i32_1512 : BitVec 32 := 4096#32
  let v4539 : BitVec 32 := Scalar.select v4537 v4538 c4096_i32_1512
  let v4540 : Index := Scalar.indexCast v4539
  let c0_1513 : Index := 0#32
  ![v4540.toNat, 0]

def k0_chk350 (d0 : Dev nD) (v4533 : BitVec 32) : Prop :=
  (∀ a, (k0_off510 d0 v4533) a + S1x512.size a ≤ S4104x512.size a)
theorem k0_off510_inb : ∀ (d0 : Dev nD) (v4533 : BitVec 32) (k0_hw350 : k0_chk350 d0 v4533), ∀ a, (k0_off510 d0 v4533) a + S1x512.size a ≤ S4104x512.size a := fun d0 v4533 k0_hw350 => k0_hw350

def k0_off511 (d0 : Dev nD) (v4545 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4546 : BitVec 1 := Scalar.cmpi .sge v4545 v22
  let c4096_i32_1515 : BitVec 32 := 4096#32
  let v4547 : BitVec 32 := Scalar.addi v22 c4096_i32_1515
  let v4548 : BitVec 1 := Scalar.cmpi .slt v4545 v4547
  let v4549 : BitVec 1 := Scalar.andi v4546 v4548
  let v4550 : BitVec 32 := Scalar.subi v4545 v22
  let c4096_i32_1516 : BitVec 32 := 4096#32
  let v4551 : BitVec 32 := Scalar.select v4549 v4550 c4096_i32_1516
  let v4552 : Index := Scalar.indexCast v4551
  let c0_1517 : Index := 0#32
  ![v4552.toNat, 0]

def k0_chk351 (d0 : Dev nD) (v4545 : BitVec 32) : Prop :=
  (∀ a, (k0_off511 d0 v4545) a + S1x512.size a ≤ S4104x512.size a)
theorem k0_off511_inb : ∀ (d0 : Dev nD) (v4545 : BitVec 32) (k0_hw351 : k0_chk351 d0 v4545), ∀ a, (k0_off511 d0 v4545) a + S1x512.size a ≤ S4104x512.size a := fun d0 v4545 k0_hw351 => k0_hw351

def k0_off512 (d0 : Dev nD) (v4557 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v22 : BitVec 32 := Scalar.muli v5 c4096_i32
  let v4558 : BitVec 1 := Scalar.cmpi .sge v4557 v22
  let c4096_i32_1519 : BitVec 32 := 4096#32
  let v4559 : BitVec 32 := Scalar.addi v22 c4096_i32_1519
  let v4560 : BitVec 1 := Scalar.cmpi .slt v4557 v4559
  let v4561 : BitVec 1 := Scalar.andi v4558 v4560
  let v4562 : BitVec 32 := Scalar.subi v4557 v22
  let c4096_i32_1520 : BitVec 32 := 4096#32
  let v4563 : BitVec 32 := Scalar.select v4561 v4562 c4096_i32_1520
  let v4564 : Index := Scalar.indexCast v4563
  let c0_1521 : Index := 0#32
  ![v4564.toNat, 0]

def k0_chk352 (d0 : Dev nD) (v4557 : BitVec 32) : Prop :=
  (∀ a, (k0_off512 d0 v4557) a + S1x512.size a ≤ S4104x512.size a)
theorem k0_off512_inb : ∀ (d0 : Dev nD) (v4557 : BitVec 32) (k0_hw352 : k0_chk352 d0 v4557), ∀ a, (k0_off512 d0 v4557) a + S1x512.size a ≤ S4104x512.size a := fun d0 v4557 k0_hw352 => k0_hw352

def k0_dev3 (d0 : Dev nD) : Nat :=
  let c0_i32_1531 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1530 : BitVec 32 := 2#32
  let v4574 : BitVec 32 := Scalar.muli v2 c2_i32_1530
  let v4575 : BitVec 32 := Scalar.addi c0_i32_1531 v4574
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1532 : BitVec 32 := 1#32
  let v4576 : BitVec 32 := Scalar.muli v6 c1_i32_1532
  let v4577 : BitVec 32 := Scalar.addi v4575 v4576
  v4577.toNat
def k0_dev4 (d0 : Dev nD) : Nat :=
  let c0_i32_1540 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1539 : BitVec 32 := 2#32
  let v4584 : BitVec 32 := Scalar.muli v2 c2_i32_1539
  let v4585 : BitVec 32 := Scalar.addi c0_i32_1540 v4584
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1541 : BitVec 32 := 1#32
  let v4586 : BitVec 32 := Scalar.muli v6 c1_i32_1541
  let v4587 : BitVec 32 := Scalar.addi v4585 v4586
  v4587.toNat
def k0_dev5 (d0 : Dev nD) : Nat :=
  let c0_i32_1549 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1548 : BitVec 32 := 2#32
  let v4594 : BitVec 32 := Scalar.muli v2 c2_i32_1548
  let v4595 : BitVec 32 := Scalar.addi c0_i32_1549 v4594
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1550 : BitVec 32 := 1#32
  let v4596 : BitVec 32 := Scalar.muli v6 c1_i32_1550
  let v4597 : BitVec 32 := Scalar.addi v4595 v4596
  v4597.toNat
def k0_dev6 (d0 : Dev nD) : Nat :=
  let c0_i32_1558 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1557 : BitVec 32 := 2#32
  let v4604 : BitVec 32 := Scalar.muli v2 c2_i32_1557
  let v4605 : BitVec 32 := Scalar.addi c0_i32_1558 v4604
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1559 : BitVec 32 := 1#32
  let v4606 : BitVec 32 := Scalar.muli v6 c1_i32_1559
  let v4607 : BitVec 32 := Scalar.addi v4605 v4606
  v4607.toNat
def k0_dev7 (d0 : Dev nD) : Nat :=
  let c0_i32_1566 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1565 : BitVec 32 := 2#32
  let v4614 : BitVec 32 := Scalar.muli v2 c2_i32_1565
  let v4615 : BitVec 32 := Scalar.addi c0_i32_1566 v4614
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1567 : BitVec 32 := 1#32
  let v4616 : BitVec 32 := Scalar.muli v6 c1_i32_1567
  let v4617 : BitVec 32 := Scalar.addi v4615 v4616
  v4617.toNat
def k0_off513 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c0_i32_1585 : BitVec 32 := 0#32
  let v4636 : BitVec 32 := Scalar.addi v23 c0_i32_1585
  let v4637 : Index := Scalar.indexCast v4636
  let c0_1586 : Index := 0#32
  ![v4637.toNat, 0]
def k0_dev8 (d0 : Dev nD) : Nat :=
  let c0_i32_1592 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1591 : BitVec 32 := 2#32
  let v4643 : BitVec 32 := Scalar.muli v7 c2_i32_1591
  let v4644 : BitVec 32 := Scalar.addi c0_i32_1592 v4643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1593 : BitVec 32 := 1#32
  let v4645 : BitVec 32 := Scalar.muli v5 c1_i32_1593
  let v4646 : BitVec 32 := Scalar.addi v4644 v4645
  v4646.toNat
def k0_off514 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c96_i32_1611 : BitVec 32 := 96#32
  let v4665 : BitVec 32 := Scalar.addi v23 c96_i32_1611
  let v4666 : Index := Scalar.indexCast v4665
  let c0_1612 : Index := 0#32
  ![v4666.toNat, 0]
def k0_dev9 (d0 : Dev nD) : Nat :=
  let c0_i32_1618 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1617 : BitVec 32 := 2#32
  let v4672 : BitVec 32 := Scalar.muli v7 c2_i32_1617
  let v4673 : BitVec 32 := Scalar.addi c0_i32_1618 v4672
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1619 : BitVec 32 := 1#32
  let v4674 : BitVec 32 := Scalar.muli v5 c1_i32_1619
  let v4675 : BitVec 32 := Scalar.addi v4673 v4674
  v4675.toNat
def k0_off515 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v23 : BitVec 32 := Scalar.muli v2 c256_i32
  let c144_i32_1637 : BitVec 32 := 144#32
  let v4694 : BitVec 32 := Scalar.addi v23 c144_i32_1637
  let v4695 : Index := Scalar.indexCast v4694
  let c0_1638 : Index := 0#32
  ![v4695.toNat, 0]
def k0_dev10 (d0 : Dev nD) : Nat :=
  let c0_i32_1644 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1643 : BitVec 32 := 2#32
  let v4701 : BitVec 32 := Scalar.muli v7 c2_i32_1643
  let v4702 : BitVec 32 := Scalar.addi c0_i32_1644 v4701
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1645 : BitVec 32 := 1#32
  let v4703 : BitVec 32 := Scalar.muli v5 c1_i32_1645
  let v4704 : BitVec 32 := Scalar.addi v4702 v4703
  v4704.toNat
def k0_off516 (d0 : Dev nD) : Fin 2 → Nat :=
  let c1_i32_1680 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v4737 : BitVec 32 := Scalar.subi c1_i32_1680 v2
  let c256_i32_1681 : BitVec 32 := 256#32
  let v4738 : BitVec 32 := Scalar.muli v4737 c256_i32_1681
  let c0_i32_1693 : BitVec 32 := 0#32
  let v4749 : BitVec 32 := Scalar.addi v4738 c0_i32_1693
  let v4750 : Index := Scalar.indexCast v4749
  let c0_1694 : Index := 0#32
  ![v4750.toNat, 0]
def k0_off517 (d0 : Dev nD) : Fin 2 → Nat :=
  let c1_i32_1680 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v4737 : BitVec 32 := Scalar.subi c1_i32_1680 v2
  let c256_i32_1681 : BitVec 32 := 256#32
  let v4738 : BitVec 32 := Scalar.muli v4737 c256_i32_1681
  let c96_i32_1706 : BitVec 32 := 96#32
  let v4762 : BitVec 32 := Scalar.addi v4738 c96_i32_1706
  let v4763 : Index := Scalar.indexCast v4762
  let c0_1707 : Index := 0#32
  ![v4763.toNat, 0]
def k0_off518 (d0 : Dev nD) : Fin 2 → Nat :=
  let c1_i32_1680 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v4737 : BitVec 32 := Scalar.subi c1_i32_1680 v2
  let c256_i32_1681 : BitVec 32 := 256#32
  let v4738 : BitVec 32 := Scalar.muli v4737 c256_i32_1681
  let c144_i32_1719 : BitVec 32 := 144#32
  let v4775 : BitVec 32 := Scalar.addi v4738 c144_i32_1719
  let v4776 : Index := Scalar.indexCast v4775
  let c0_1720 : Index := 0#32
  ![v4776.toNat, 0]
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Same.lean ====
/-
  The kernel as it was printed and the kernel that the algebra is about are the same program: no operation was replaced.
  Each table of the one is the table of the other, so what is proved of one run is proved of both.
-/
module

public import proofs.«01_k».proof.Defs
public import proofs.«01_k».proof.Proof.Gen.Kernel
public import proofs.«01_k».proof.Proof.Gen.KernelIdeal

@[expose] public section

set_option maxRecDepth 1000000
set_option maxHeartbeats 4000000

noncomputable section

namespace Cert.Same

open Idealize.ShloMosaic Idealize.SL.Sem

variable {F : FTy → Type} [FloatOps F]

/-- The two bodies are one text. -/
theorem body_eq : Cert.Kernel.cc0_body (F := F) = Cert.KernelIdeal.cc0_body (F := F) := by rfl

/-- The tables of the bodies: one entry. -/
theorem defs₀_eq : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, (t, s) => rw [body_eq]

/-- The tables with the pipeline's own entries. -/
theorem defs_eq : Cert.Kernel.defs (F := F) = Cert.KernelIdeal.defs (F := F) := by
  unfold Cert.Kernel.defs Cert.KernelIdeal.defs
  rw [defs₀_eq]
  rfl

/-- A run of the one from a memory is a run of the other from it. -/
theorem run_of_ideal (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq]
  exact h

end Cert.Same

end
-- ==== Proof.Base.lean ====
/-
  The vocabulary of the proof: the resource algebra, the mesh (device `c` sits at row `c / 2`, column `c % 2` of the
  2x2 mesh), the buffers of one device, and how an index of a buffer is written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.WordCmp
public import Idealize.ShloMosaic.Lib.Tactic

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (two duties per cell at most) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers -/

abbrev idsM : Memref sig .tc .smem S512 .i32 := Memref.whole cc0_stg0_0
abbrev tabM : Memref sig .tc .hbm S4096x512 .f32 := Memref.whole main_arg1
abbrev outM : Memref sig .tc .vmem S512x512 .f32 := Memref.whole cc0_stg1_0
abbrev eM : Memref sig .tc .vmem S4104x512 .f32 := Memref.whole cc0_scratch0
abbrev gM : Memref sig .tc .vmem S352x512 .f32 := Memref.whole cc0_scratch1
abbrev gbM : Memref sig .tc .vmem S352x512 .bf16 := Memref.whole cc0_scratch2
abbrev yM : Memref sig .tc .vmem S352x512 .bf16 := Memref.whole cc0_scratch3
abbrev xsM : Memref sig .tc .vmem S160x512 .bf16 := Memref.whole cc0_scratch4
abbrev xM : Memref sig .tc .vmem S160x512 .bf16 := Memref.whole cc0_scratch5

/-- Memref `M`'s buffer on device `c`: the type of its contents, -/
abbrev Bf (c : Dev nD) {sp : Space} {S : Shape} {e : EltTy} (M : Memref sig .tc sp S e) : Type := Buf (Elt F) (M.view.loc (c : Thread nD τ))
/-- and the buffer held whole at the contents `f`. -/
abbrev pt (c : Dev nD) {sp : Space} {S : Shape} {e : EltTy} (M : Memref sig .tc sp S e) (f : Bf (F := F) c M) : sProp 𝕄 :=
  M.view.loc (c : Thread nD τ) ↦{fullShare} f

/-! ## Indices written by natural numbers -/

/-- The index of the vector of 512 words at `t`. -/
def ix1 (t : ℕ) : S512.Idx := fun a => ⟨t % 512, lt_of_lt_of_eq (Nat.mod_lt _ (by decide)) (by fin_cases a; rfl)⟩

/-- The index of a matrix at row `r`, column `j`. -/
def ix2 {m n : ℕ} (hm : 0 < m) (hn : 0 < n) (r j : ℕ) : (⟨2, ![m, n]⟩ : Shape).Idx :=
  fun a => ⟨(![r % m, j % n] : Fin 2 → ℕ) a, by fin_cases a; exacts [Nat.mod_lt _ hm, Nat.mod_lt _ hn]⟩

abbrev e2 (r j : ℕ) : S4104x512.Idx := ix2 (by decide) (by decide) r j

end Cert.Embed

end
-- ==== Proof.Gather.lean ====
/-
  The gather: 352 unrolled steps, each of which reads a token id, picks the row of the table block it names (or the zero
  row, when the other device of the pair holds it) and stores it as the next row of the gather buffer.
-/
module

public import proofs.«01_k».proof.Proof.Base

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a step reads and where it stores it -/

/-- The row of the device's table block (its row 4096 is zero) that a token id picks. -/
def rowOf (c : Dev nD) (w : BitVec 32) : ℕ := k0_off2 c w 0

/-- The position among the 512 ids that step `n` reads. -/
def tok (c : Dev nD) (n : ℕ) : ℕ := if n < 160 then 256 * (c.val / 2) + n else if n < 256 then n else n + 160

/-- The kernel's arithmetic of a row, for the block's first row `v`. -/
theorem row_word (v w : BitVec 32) (hv : v = 0#32 ∨ v = 4096#32) :
    (Scalar.indexCast (Scalar.select (Scalar.andi (Scalar.cmpi .sge w v) (Scalar.cmpi .slt w (Scalar.addi v 4096#32))) (Scalar.subi w v) 4096#32)).toNat
      = if v.toInt ≤ w.toInt ∧ w.toInt < v.toInt + 4096 then (w.toInt - v.toInt).toNat else 4096 := by
  have h0 : (Scalar.addi v 4096#32).toInt = v.toInt + 4096 := by rcases hv with rfl | rfl <;> decide
  have h1 : Scalar.andi (Scalar.cmpi .sge w v) (Scalar.cmpi .slt w (Scalar.addi v 4096#32))
      = BitVec.ofBool (decide (v.toInt ≤ w.toInt ∧ w.toInt < v.toInt + 4096)) := by
    show IntOp.andi (IntOp.cmpi .sge w v) (IntOp.cmpi .slt w (Scalar.addi v 4096#32)) = _
    rw [WordCmp.cmpi_sge_eq, WordCmp.cmpi_slt_eq, WordCmp.andi_ofBool, ← Bool.decide_and, h0]
  rw [h1]
  by_cases h : v.toInt ≤ w.toInt ∧ w.toInt < v.toInt + 4096
  · rw [decide_eq_true h, if_pos h]
    show (w - v).toNat = _
    have hv' : v.toInt = 0 ∨ v.toInt = 4096 := by rcases hv with rfl | rfl <;> decide
    have hw : w.toInt = w.toNat := by
      have h3 := BitVec.toInt_eq_toNat_cond w
      have := w.isLt
      split at h3 <;> omega
    have hvn : v.toInt = v.toNat := by rcases hv with rfl | rfl <;> decide
    rw [BitVec.toNat_sub]; have := w.isLt; have := v.isLt; omega
  · rw [decide_eq_false h, if_neg h]; rfl

/-- The row an id picks: its distance from the block's first row if it lies in the block, else the zero row. -/
theorem rowOf_eq (c : Dev nD) (w : BitVec 32) :
    rowOf c w = if (4096 * (c.val % 2 : ℕ) : ℤ) ≤ w.toInt ∧ w.toInt < 4096 * (c.val % 2 : ℕ) + 4096 then (w.toInt - 4096 * (c.val % 2 : ℕ)).toNat else 4096 := by
  have hv : ∀ c : Dev nD, Scalar.muli (Scalar.remsi (Scalar.divsi (Dev.word c) 1#32) 2#32) 4096#32 = BitVec.ofNat 32 (4096 * (c.val % 2)) := by decide
  have ht : (BitVec.ofNat 32 (4096 * (c.val % 2))).toInt = (4096 * (c.val % 2 : ℕ) : ℤ) := by revert c; decide
  have h2 : BitVec.ofNat 32 (4096 * (c.val % 2)) = 0#32 ∨ BitVec.ofNat 32 (4096 * (c.val % 2)) = 4096#32 := by revert c; decide
  have h := row_word _ w h2
  rw [ht] at h
  rw [← h, ← hv c]; rfl

theorem rowOf_le (c : Dev nD) (w : BitVec 32) : rowOf c w ≤ 4096 := by
  rw [rowOf_eq]; split <;> omega

/-- Every token id passes the body's check. -/
theorem chk (c : Dev nD) (w : BitVec 32) : k0_chk1 c w := by
  intro a
  fin_cases a
  · exact (Nat.add_le_add_right (rowOf_le c w) 1).trans (by decide)
  · show 0 + 512 ≤ 512; decide

/-- The gathered matrix: row `r` is the row that the id of step `r` picks. -/
def gath (c : Dev nD) (ids : S512.Idx → BitVec 32) (e : S4104x512.Idx → F .f32) : S352x512.Idx → F .f32 :=
  fun i => e (e2 (rowOf c (ids (ix1 (tok c (i 0).val)))) (i 1).val)

/-- The row of the table block that the id `w` picks, as the load returns it. -/
def rowVec (c : Dev nD) (e : S4104x512.Idx → F .f32) (w : BitVec 32) : Vec F S1x512 .f32 :=
  fun x => e (e2 (rowOf c w) (x 1).val)

/-- What a step holds: the ids, the table block, the gather buffer with its first `n` rows gathered, and `X`. -/
def gRes (c : Dev nD) (ids : Bf (F := F) c idsM) (e : Bf (F := F) c eM) (X : sProp 𝕄) (n : ℕ) : sProp 𝕄 :=
  iprop(pt c idsM ids ∗ pt c eM e ∗ (∃ g : Bf (F := F) c gM, ⌜∀ i : S352x512.Idx, (i 0).val < n → g i = gath c ids e i⌝ ∗ pt c gM g) ∗ X)

variable {c : Dev nD} {ids : Bf (F := F) c idsM} {e : Bf (F := F) c eM} {n : ℕ}

/-- Reading a token id. -/
theorem step_id {α : Type} {Q : α → sProp 𝕄} {X : sProp 𝕄} {off : Fin 1 → ℕ} {inb : ∀ a, off a + S1.size a ≤ S512.size a}
    {k : Elt F .i32 → Prog (TpuEff nD τ sig (Elt F) Λ₀ .tc) α} (hoff : off = ![tok c n])
    (h : gRes c ids e X n ⊢ wp frame (wpE (defs₀ (F := F)) 𝒱₀ (c : Thread nD τ) none) Set.univ (k (ids (ix1 (tok c n)))) Q) :
    gRes c ids e X n ⊢ wp frame (wpE (defs₀ (F := F)) 𝒱₀ (c : Thread nD τ) none) Set.univ ((smemLoad (p := .tc) (Λ := Λ₀) (Val := Elt F) idsM (Rect.unit (s := S512) off S1.size inb) numel1_S1 rfl : Prog (TpuEff nD τ sig (Elt F) Λ₀ .tc) (Elt F .i32)) >>= k) Q := by
  subst hoff
  unfold gRes at h ⊢
  show _ ⊢ wp frame (wpE (defs₀ (F := F)) 𝒱₀ (c : Thread nD τ) none) Set.univ (smemLoadElt idsM (Rect.unit (s := S512) ![tok c n] S1.size inb) (View.loads_smem_one rfl numel1_S1) (Shape.Idx.first _) k) Q
  iintro ⟨hi, he, hg, hX⟩
  iapply (wp_smemLoadElt 𝒱₀ (c : Thread nD τ) none Set.univ (m := idsM) (r := Rect.unit (s := S512) ![tok c n] S1.size inb) (S := Finset.univ) (f := ids) (Finset.subset_univ _)) $$ hi
  iintro hi
  have hv : (idsM.access (Rect.unit (s := S512) ![tok c n] S1.size inb)).read (Elt F) ids (Shape.Idx.first (show 0 < S1.numel by decide)) = ids (ix1 (tok c n)) := by
    show ids _ = ids _
    congr 1
    funext a
    fin_cases a
    refine Fin.ext ?_
    have h0 : tok c n + 1 ≤ 512 := inb 0
    show tok c n + 1 * 0 = tok c n % 512
    rw [Nat.mod_eq_of_lt (by omega)]; omega
  rw [hv]
  iapply h
  iframe

/-- The check on a token id. -/
theorem step_chk {α : Type} {Q : α → sProp 𝕄} {P : Prop} {d : Decidable P} {k : PLift P → Prog (TpuEff nD τ sig (Elt F) Λ₀ .tc) α} (hP : P)
    {R : sProp 𝕄} (h : R ⊢ wp frame (wpE (defs₀ (F := F)) 𝒱₀ (c : Thread nD τ) none) Set.univ (k ⟨hP⟩) Q) : R ⊢ wp frame (wpE (defs₀ (F := F)) 𝒱₀ (c : Thread nD τ) none) Set.univ (Prog.lift (TpuEff.assume P d) >>= k) Q :=
  h.trans (wp_assume 𝒱₀ (c : Thread nD τ) none Set.univ hP)

/-- Loading the row an id picks. -/
theorem step_row {α : Type} {Q : α → sProp 𝕄} {X : sProp 𝕄} {w : BitVec 32} {off : Fin 2 → ℕ} {inb : ∀ a, off a + S1x512.size a ≤ S4104x512.size a}
    {hl : eM.view.LoadsAt (Rect.unit (s := S4104x512) off S1x512.size inb).toLoadRect}
    {k : Vec F S1x512 .f32 → Prog (TpuEff nD τ sig (Elt F) Λ₀ .tc) α} (hoff : off = k0_off2 c w)
    (h : gRes c ids e X n ⊢ wp frame (wpE (defs₀ (F := F)) 𝒱₀ (c : Thread nD τ) none) Set.univ (k (rowVec c e w)) Q) :
    gRes c ids e X n ⊢ wp frame (wpE (defs₀ (F := F)) 𝒱₀ (c : Thread nD τ) none) Set.univ (Prog.lift (.load eM (Rect.unit (s := S4104x512) off S1x512.size inb).toLoadRect hl) >>= k) Q := by
  subst hoff
  unfold gRes at h ⊢
  iintro ⟨hi, he, hg, hX⟩
  iapply (wp_load 𝒱₀ (c : Thread nD τ) none Set.univ (Finset.subset_univ _)) $$ he
  iintro he
  have hv : eM.view.readAt (Elt F) (Rect.unit (s := S4104x512) (k0_off2 c w) S1x512.size inb).toLoadRect e = rowVec c e w := by
    funext x
    show e _ = e _
    congr 1
    funext a
    refine Fin.ext ?_
    have h0 : rowOf c w ≤ 4096 := rowOf_le c w
    have h1 : (x 0).val < 1 := (x 0).isLt
    have h2 : (x 1).val < 512 := (x 1).isLt
    fin_cases a
    · show rowOf c w + 1 * (x 0).val = rowOf c w % 4104
      rw [Nat.mod_eq_of_lt (by omega)]; omega
    · show 0 + 1 * (x 1).val = (x 1).val % 512
      rw [Nat.mod_eq_of_lt h2]; omega
  rw [hv]
  iapply h
  iframe

/-- Loading the row about to be overwritten: its value is not used. -/
theorem step_old {α : Type} {Q : α → sProp 𝕄} {X : sProp 𝕄} {r : Rect S352x512} {hl : gM.view.LoadsAt r.toLoadRect}
    {k : Vec F r.shape .f32 → Prog (TpuEff nD τ sig (Elt F) Λ₀ .tc) α}
    (h : ∀ v, gRes c ids e X n ⊢ wp frame (wpE (defs₀ (F := F)) 𝒱₀ (c : Thread nD τ) none) Set.univ (k v) Q) :
    gRes c ids e X n ⊢ wp frame (wpE (defs₀ (F := F)) 𝒱₀ (c : Thread nD τ) none) Set.univ (Prog.lift (.load gM r.toLoadRect hl) >>= k) Q := by
  unfold gRes at h ⊢
  iintro ⟨hi, he, ⟨%g, %hg, hg⟩, hX⟩
  iapply (wp_load 𝒱₀ (c : Thread nD τ) none Set.univ (Finset.subset_univ _)) $$ hg
  iintro hg
  iapply h
  iframe hi he hX
  iexists g
  iframe hg
  ipureintro; exact ‹_›

/-- Storing the picked row as row `n` of the gather buffer. -/
theorem step_store {α : Type} {Q : α → sProp 𝕄} {X : sProp 𝕄} {r : ℕ} {inb : ∀ a, (![r, 0] : Fin 2 → ℕ) a + S1x512.size a ≤ S352x512.size a} {v : Vec F S1x512 .f32}
    {hx : (gM.access (Rect.unit (s := S352x512) ![r, 0] S1x512.size inb)).Stores Finset.univ}
    {hm : (Finset.univ : Finset (Rect.unit (s := S352x512) ![r, 0] S1x512.size inb).shape.Idx) = Finset.univ ∨ ∀ a, (Rect.unit (s := S352x512) ![r, 0] S1x512.size inb).stride a = 1}
    {k : PUnit → Prog (TpuEff nD τ sig (Elt F) Λ₀ .tc) α} (hn : n = r) (hv : v = rowVec c e (ids (ix1 (tok c r))))
    (h : gRes c ids e X (r + 1) ⊢ wp frame (wpE (defs₀ (F := F)) 𝒱₀ (c : Thread nD τ) none) Set.univ (k ⟨⟩) Q) :
    gRes c ids e X n ⊢ wp frame (wpE (defs₀ (F := F)) 𝒱₀ (c : Thread nD τ) none) Set.univ (Prog.lift (.store gM (Rect.unit (s := S352x512) ![r, 0] S1x512.size inb) v Finset.univ hx hm) >>= k) Q := by
  subst hn hv
  unfold gRes at h ⊢
  iintro ⟨hi, he, ⟨%g, %hg, hg⟩, hX⟩
  iapply (wp_store 𝒱₀ (c : Thread nD τ) none Set.univ (m := gM) (r := Rect.unit (s := S352x512) ![n, 0] S1x512.size inb) (S := Finset.univ) (f := g) (Finset.subset_univ _)) $$ hg
  iintro hg
  iapply h
  iframe hi he hX
  iexists _
  iframe hg
  ipureintro
  intro i hi
  by_cases h0 : (i 0).val = n
  · have hx : i = (gM.access (Rect.unit (s := S352x512) ![n, 0] S1x512.size inb)).emb (ix2 (m := 1) (n := 512) (by decide) (by decide) 0 (i 1).val) := by
      funext a
      refine Fin.ext ?_
      have h2 : (i 1).val < 512 := (i 1).isLt
      fin_cases a
      · show (i 0).val = n + 1 * (0 % 1)
        omega
      · show (i 1).val = 0 + 1 * ((i 1).val % 512)
        rw [Nat.mod_eq_of_lt h2]; omega
    have hi2 : (i 1).val % 512 = (i 1).val := Nat.mod_eq_of_lt (i 1).isLt
    rw [hx, View.write_emb_of_mem _ _ (Finset.mem_univ _), ← hx]
    show e (e2 (rowOf c (ids (ix1 (tok c n)))) ((i 1).val % 512)) = e (e2 (rowOf c (ids (ix1 (tok c (i 0).val)))) (i 1).val)
    rw [hi2, h0]
  · rw [View.write_of_not_mem]
    · exact hg i (by omega)
    · intro hm
      obtain ⟨x, -, hx⟩ := Finset.mem_map.1 hm
      have := congrArg (fun i : S352x512.Idx => (i 0).val) hx
      have h1 : (x 0).val < 1 := (x 0).isLt
      refine h0 (this.symm.trans ?_)
      show n + 1 * (x 0).val = n
      omega

/-- The last operation of a part returns its result. -/
theorem step_last {α : Type} {Q : α → sProp 𝕄} {R : sProp 𝕄} {p : Prog (TpuEff nD τ sig (Elt F) Λ₀ .tc) α}
    (h : R ⊢ wp frame (wpE (defs₀ (F := F)) 𝒱₀ (c : Thread nD τ) none) Set.univ (p >>= fun a => pure a) Q) :
    R ⊢ wp frame (wpE (defs₀ (F := F)) 𝒱₀ (c : Thread nD τ) none) Set.univ p Q := by
  rwa [show (p >>= fun a => pure a) = p from Prog.bind_pure p] at h

/-- The end of a part: what it returns goes on. -/
theorem step_ret {α : Type} {Q : α → sProp 𝕄} {R : sProp 𝕄} {a : α} (h : R ⊢ Q a) :
    R ⊢ wp frame (wpE (defs₀ (F := F)) 𝒱₀ (c : Thread nD τ) none) Set.univ (pure a : Prog (TpuEff nD τ sig (Elt F) Λ₀ .tc) α) Q :=
  h.trans (fupd_intro (PROP := sProp 𝕄))

/-- A part, then the rest (kept under a name while the part is run). -/
theorem step_part {α : Type} {Q : α → sProp 𝕄} {β : Type} {R : sProp 𝕄} {p : Prog (TpuEff nD τ sig (Elt F) Λ₀ .tc) β}
    {k : β → Prog (TpuEff nD τ sig (Elt F) Λ₀ .tc) α}
    (h : ∀ Q' : β → sProp 𝕄, Q' = (fun b => wp frame (wpE (defs₀ (F := F)) 𝒱₀ (c : Thread nD τ) none) Set.univ (k b) Q) →
      R ⊢ wp frame (wpE (defs₀ (F := F)) 𝒱₀ (c : Thread nD τ) none) Set.univ p Q') :
    R ⊢ wp frame (wpE (defs₀ (F := F)) 𝒱₀ (c : Thread nD τ) none) Set.univ (p >>= k) Q := by
  rw [wp_bind]; exact h _ rfl

/-- The position that the kernel computes for a step of the first 160 is `tok`. -/
theorem tok_eq (c : Dev nD) (n : ℕ) (hn : n < 160) :
    (![(Scalar.indexCast (Scalar.addi (Scalar.muli (Scalar.remsi (Scalar.divsi (Dev.word c) 2#32) 2#32) 256#32) (BitVec.ofNat 32 n))).toNat] : Fin 1 → ℕ)
      = ![tok c n] := by
  revert n c; decide +kernel

/-- The steps 160 to 255 read the position of their own number, -/
theorem tok_mid (c : Dev nD) (n : ℕ) (h : 160 ≤ n) (h' : n < 256) : (![n] : Fin 1 → ℕ) = ![tok c n] := by
  rw [tok, if_neg (by omega), if_pos h']

/-- and the steps from 256 on the position 160 further. -/
theorem tok_high (c : Dev nD) (n m : ℕ) (h : 256 ≤ n) (h' : m = n + 160) : (![m] : Fin 1 → ℕ) = ![tok c n] := by
  rw [tok, if_neg (by omega), if_neg (by omega), h']

theorem pay_eq (v : Vec F S1x512 .f32) : k0_pay2 v = v := by
  exact shapeCast_self _ _

end Cert.Embed

end
-- ==== Proof.Proto.lean ====
/-
  The protocol between the devices, as a schedule of rounds.

  Device `c` exchanges with two others: `ynbr c`, the other column of its mesh row, which holds the other half of the
  table, and `xnbr c`, the other row of its column, which does the other half of the tokens. Every semaphore is used for
  one round:
  * the barrier semaphore gets one unit from each of the two, which with it hand over the buffer that `c` will write on
    them;
  * each of the five transfers to `ynbr c` fills one piece of its receive buffer with the same piece of `c`'s narrowed
    gather buffer, which comes back on the send semaphore;
  * each of the three transfers to `xnbr c` fills one piece of its receive buffer with `c`'s combined rows.
-/
module

public import proofs.«01_k».proof.Proof.Gather

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The mesh -/

set_option backward.proofsInPublic true in
/-- The device beside `c` in its mesh row, -/
def ynbr (c : Dev nD) : Dev nD := ⟨2 * (c.val / 2) + 1 - c.val % 2, by have : c.val < 4 := c.isLt; show _ < 4; omega⟩
set_option backward.proofsInPublic true in
/-- and the one beside it in its mesh column. -/
def xnbr (c : Dev nD) : Dev nD := ⟨c.val % 2 + 2 - 2 * (c.val / 2), by have : c.val < 4 := c.isLt; show _ < 4; omega⟩

theorem ynbr_ynbr (c : Dev nD) : ynbr (ynbr c) = c := by revert c; decide
theorem xnbr_xnbr (c : Dev nD) : xnbr (xnbr c) = c := by revert c; decide

/-- Both as exchanges of the devices. -/
def yEq : Dev nD ≃ Dev nD := ⟨ynbr, ynbr, ynbr_ynbr, ynbr_ynbr⟩
def xEq : Dev nD ≃ Dev nD := ⟨xnbr, xnbr, xnbr_xnbr, xnbr_xnbr⟩

/-! ## The pieces of the buffers -/

/-- The indices of a matrix of 512 columns in the `h` rows from row `a`. -/
def rws {m : ℕ} (a h : ℕ) : Finset (⟨2, ![m, 512]⟩ : Shape).Idx := Finset.univ.filter fun i => a ≤ (i 0).val ∧ (i 0).val < a + h

theorem mem_rws {m a h : ℕ} {i : (⟨2, ![m, 512]⟩ : Shape).Idx} : i ∈ rws a h ↔ a ≤ (i 0).val ∧ (i 0).val < a + h := by
  unfold rws; rw [Finset.mem_filter]; exact ⟨fun h => h.2, fun h => ⟨Finset.mem_univ _, h⟩⟩

/-- The rectangle of whole rows is those rows. -/
theorem rect_set {m a h : ℕ} (inb : ∀ x, (![a, 0] : Fin 2 → ℕ) x + (⟨2, ![h, 512]⟩ : Shape).size x ≤ (⟨2, ![m, 512]⟩ : Shape).size x) :
    (Rect.unit (s := (⟨2, ![m, 512]⟩ : Shape)) ![a, 0] (⟨2, ![h, 512]⟩ : Shape).size inb).set = rws a h := by
  ext i
  rw [mem_rws]
  refine (Rect.mem_set_unit).trans ⟨fun H => H 0, fun H x => ?_⟩
  fin_cases x
  · exact H
  · exact ⟨Nat.zero_le _, lt_of_lt_of_eq (i 1).isLt (Nat.zero_add _).symm⟩

/-- Where the five pieces sent to `ynbr` start, -/
def yo : Fin 5 → ℕ := ![0, 96, 144, 160, 256]
/-- and how many rows they have; the three pieces sent to `xnbr` are the first three of them. -/
def yl : Fin 5 → ℕ := ![96, 48, 16, 96, 96]
abbrev xo (k : Fin 3) : ℕ := yo (k.castLE (by decide))
abbrev xl (k : Fin 3) : ℕ := yl (k.castLE (by decide))

theorem yl_pos (k : Fin 5) : 0 < yl k := by revert k; decide

/-! ## The cells -/

/-- The runtime's barrier semaphore. -/
abbrev barS : Sem sig := (SemArray.scalar (sig.barrier 0 rfl) : Sems sig S_).sem

/-- The DMA semaphores: the table's copy, the sends to and the receives from `ynbr`, the same for `xnbr`. -/
def esS : DmaSem sig := (2 : Fin 19)
def ysS (k : Fin 5) : DmaSem sig := (k.addNat 3).castLE (n := 8) (m := 19) (by decide)
def yrS (k : Fin 5) : DmaSem sig := (k.addNat 8).castLE (n := 13) (m := 19) (by decide)
def xsS (k : Fin 3) : DmaSem sig := (k.addNat 13).castLE (n := 16) (m := 19) (by decide)
def xrS (k : Fin 3) : DmaSem sig := (k.addNat 16).castLE (n := 19) (m := 19) (by decide)

abbrev barCell (c : Dev nD) : GSem nD τ sig := ((c : Thread nD τ), .reg barS)
abbrev dCell (c : Dev nD) (q : DmaSem sig) : GSem nD τ sig := ((c : Thread nD τ), .dma q)

/-- What a transfer of `h` rows of 512 bf16 elements credits, -/
def crB (h : ℕ) : ℕ := (cc0_scratch3 : Ref sig .tc).dmaCredit (⟨2, ![h, 512]⟩ : Shape) .bf16
/-- and what the copy of the table block does. -/
def crE : ℕ := (cc0_scratch0 : Ref sig .tc).dmaCredit S4096x512 .f32

theorem crB_pos {h : ℕ} (hh : 0 < h) : 0 < crB h :=
  sig.dmaCredit_pos _ _ _ _ _ (Shape.numel_pos fun a => by fin_cases a; exacts [hh, Nat.succ_pos 511])
theorem crE_pos : 0 < crE := sig.dmaCredit_pos _ _ _ _ _ (by decide)

/-- The amount of the one duty of the cell of a DMA semaphore. -/
def amt (q : DmaSem sig) : ℕ :=
  if q = esS then crE else crB (![96, 48, 16, 96, 96, 96, 48, 16, 96, 96, 96, 48, 16, 96, 48, 16] (Fin.ofNat 16 (q.val - 3)))

theorem amt_pos (q : DmaSem sig) : 0 < amt q := by
  unfold amt; split
  · exact crE_pos
  · refine crB_pos ?_
    generalize Fin.ofNat 16 (q.val - 3) = j
    revert j; decide

theorem amt_es : amt esS = crE := if_pos rfl
theorem amt_ys (k : Fin 5) : amt (ysS k) = crB (yl k) := by fin_cases k <;> rfl
theorem amt_yr (k : Fin 5) : amt (yrS k) = crB (yl k) := by fin_cases k <;> rfl
theorem amt_xs (k : Fin 3) : amt (xsS k) = crB (xl k) := by fin_cases k <;> rfl
theorem amt_xr (k : Fin 3) : amt (xrS k) = crB (xl k) := by fin_cases k <;> rfl

/-! ## Contents -/

variable (ids : (c : Dev nD) → Bf (F := F) c idsM) (tab : (c : Dev nD) → Bf (F := F) c tabM)

/-- The zero that pads the table block. -/
def zro : F .f32 := Scalar.ofBits .f32 0x00000000#32

/-- The table block on device `c` with its zero rows below. -/
def eF (c : Dev nD) : Bf (F := F) c eM :=
  fun i : S4104x512.Idx => if (i 0).val < 4096 then tab c (ix2 (m := 4096) (n := 512) (by decide) (by decide) (i 0).val (i 1).val) else zro

/-- What device `c` gathers, -/
def gF (c : Dev nD) : Bf (F := F) c gM := gath c (ids c) (eF tab c)
/-- the same narrowed, -/
def gbF (c : Dev nD) : Bf (F := F) c gbM := fun i : S352x512.Idx => FloatOps.truncf .bf16 bitsLt_bf16_f32 (gF ids tab c i : F .f32)
/-- and what it combines with the rows received. -/
def sF (c : Dev nD) (i : S352x512.Idx) : F .f32 :=
  FloatOps.addf (gF ids tab c i : F .f32) (FloatOps.extf .f32 bitsLt_bf16_f32 (gbF ids tab (ynbr c) i : F .bf16))
/-- The combined rows that device `c` sends to `xnbr c`. -/
def xF (c : Dev nD) : Bf (F := F) c xsM :=
  fun i : S160x512.Idx => FloatOps.truncf .bf16 bitsLt_bf16_f32 (sF ids tab c (ix2 (m := 352) (n := 512) (by decide) (by decide) (i 0).val (i 1).val))

/-- A buffer of 352 rows of bf16 elements: the rows of piece `k`, at contents `f`. -/
abbrev gbP (c : Dev nD) (k : Fin 5) (f : Bf (F := F) c gbM) : sProp 𝕄 := (gbM : Memref sig .tc .vmem S352x512 .bf16).view.loc (c : Thread nD τ) ↦[rws (m := 352) (yo k) (yl k)]{fullShare} f
abbrev yP (c : Dev nD) (k : Fin 5) (f : Bf (F := F) c yM) : sProp 𝕄 := (yM : Memref sig .tc .vmem S352x512 .bf16).view.loc (c : Thread nD τ) ↦[rws (m := 352) (yo k) (yl k)]{fullShare} f
abbrev xsP (c : Dev nD) (k : Fin 3) (f : Bf (F := F) c xsM) : sProp 𝕄 := (xsM : Memref sig .tc .vmem S160x512 .bf16).view.loc (c : Thread nD τ) ↦[rws (m := 160) (xo k) (xl k)]{fullShare} f
abbrev xP (c : Dev nD) (k : Fin 3) (f : Bf (F := F) c xM) : sProp 𝕄 := (xM : Memref sig .tc .vmem S160x512 .bf16).view.loc (c : Thread nD τ) ↦[rws (m := 160) (xo k) (xl k)]{fullShare} f
/-- The rows of the table buffer that the copy fills. -/
abbrev eP (c : Dev nD) (f : Bf (F := F) c eM) : sProp 𝕄 := (eM : Memref sig .tc .vmem S4104x512 .f32).view.loc (c : Thread nD τ) ↦[rws (m := 4104) 0 4096]{fullShare} f

/-! ## The schedule -/

/-- What the duty on the cell of a DMA semaphore of device `c` delivers. -/
def dPay (c : Dev nD) (q : DmaSem sig) : sProp 𝕄 :=
  match q.val with
  | 2 => iprop(eP c (eF tab c) ∗ pt c tabM (tab c))
  | 3 => gbP c 0 (gbF ids tab c) | 4 => gbP c 1 (gbF ids tab c) | 5 => gbP c 2 (gbF ids tab c) | 6 => gbP c 3 (gbF ids tab c) | 7 => gbP c 4 (gbF ids tab c)
  | 8 => yP c 0 (gbF ids tab (ynbr c)) | 9 => yP c 1 (gbF ids tab (ynbr c)) | 10 => yP c 2 (gbF ids tab (ynbr c)) | 11 => yP c 3 (gbF ids tab (ynbr c)) | 12 => yP c 4 (gbF ids tab (ynbr c))
  | 13 => xsP c 0 (xF ids tab c) | 14 => xsP c 1 (xF ids tab c) | 15 => xsP c 2 (xF ids tab c)
  | 16 => xP c 0 (xF ids tab (xnbr c)) | 17 => xP c 1 (xF ids tab (xnbr c)) | 18 => xP c 2 (xF ids tab (xnbr c))
  | _ => iprop(emp)

/-- What the two duties on the barrier cell of device `c` deliver: the receive buffer of `ynbr c` and that of `xnbr c`. -/
def bPay (c : Dev nD) (d : Bool) : sProp 𝕄 := if d then iprop(∃ f, pt (xnbr c) xM f) else iprop(∃ f, pt (ynbr c) yM f)

/-- One round: two duties of a unit on a barrier cell, one on every other. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma q => amt q
  payload g _ d := match g.2 with | .reg _ => bPay g.1.1 d | .dma q => dPay ids tab g.1.1 q
  amount_pos g _ _ _ := by
    rcases g with ⟨_, _ | q⟩
    · exact Nat.one_pos
    · exact amt_pos q

instance bPay_storable (c : Dev nD) (d : Bool) : BI.Storable (upEmb : UEmb _ 𝕄) (bPay (F := F) c d) := by
  unfold bPay; split <;> infer_instance

instance dPay_storable (c : Dev nD) (q : DmaSem sig) : BI.Storable (upEmb : UEmb _ 𝕄) (dPay ids tab c q) := by
  unfold dPay; split <;> infer_instance

instance Rd_payload_storable (g : GSem nD τ sig) (r : ℕ) (d : Bool) : BI.Storable (upEmb : UEmb _ 𝕄) ((Rd ids tab).payload g r d) := by
  rcases g with ⟨t, b | q⟩
  · exact bPay_storable _ _
  · exact dPay_storable _ _ _ _

theorem duties_later (g : GSem nD τ sig) (r : ℕ) (hr : 1 ≤ r) : (Rd ids tab).duties g r = ∅ := if_neg (by omega)
theorem duties_d (c : Dev nD) (q : DmaSem sig) : (Rd ids tab).duties (dCell c q) 0 = {false} := rfl
theorem duties_b (c : Dev nD) : (Rd ids tab).duties (barCell c) 0 = Finset.univ := rfl
theorem expect_d (c : Dev nD) (q : DmaSem sig) : (Rd ids tab).expect (dCell c q) 0 = amt q := by
  unfold Schedule.expect Schedule.amountOf; rw [duties_d, Finset.sum_singleton]; rfl
theorem expect_b (c : Dev nD) : (Rd ids tab).expect (barCell c) 0 = 2 := by
  unfold Schedule.expect Schedule.amountOf; rw [duties_b]; rfl

theorem rest_d (c : Dev nD) (q : DmaSem sig) :
    bigSep ((Rd ids tab).duties (dCell c q) 0 \ ∅) (fun d => (Rd ids tab).payload (dCell c q) 0 d) = dPay ids tab c q := by
  rw [Finset.sdiff_empty, duties_d, bigSep_singleton]; rfl
theorem rest_b (c : Dev nD) :
    bigSep ((Rd ids tab).duties (barCell c) 0 \ ∅) (fun d => (Rd ids tab).payload (barCell c) 0 d)
      = iprop((∃ f, pt (F := F) (ynbr c) yM f) ∗ ∃ f, pt (F := F) (xnbr c) xM f) := by
  rw [Finset.sdiff_empty, duties_b, bigSep_univ_eq_bigSepL [false, true] (by decide) (by decide), bigSepL_cons_cons, bigSepL_singleton]; rfl

theorem pay_ys (c : Dev nD) (k : Fin 5) : dPay ids tab c (ysS k) = gbP c k (gbF ids tab c) := by fin_cases k <;> rfl
theorem pay_yr (c : Dev nD) (k : Fin 5) : dPay ids tab c (yrS k) = yP c k (gbF ids tab (ynbr c)) := by fin_cases k <;> rfl
theorem pay_xs (c : Dev nD) (k : Fin 3) : dPay ids tab c (xsS k) = xsP c k (xF ids tab c) := by fin_cases k <;> rfl
theorem pay_xr (c : Dev nD) (k : Fin 3) : dPay ids tab c (xrS k) = xP c k (xF ids tab (xnbr c)) := by fin_cases k <;> rfl

/-! ## What a device owes, and the levels -/

/-- The sum of a list of dues. -/
def tl : List (GSem nD τ sig × ℕ) → CellTallies nD τ sig Unit
  | [] => 0
  | p :: l => tl l + tallyAt p.1 () p.2

/-- What device `c` owes at launch, in the order in which it pays. -/
def owl (c : Dev nD) : List (GSem nD τ sig × ℕ) :=
  [(barCell (ynbr c), 1), (barCell (xnbr c), 1),
   (dCell (ynbr c) (yrS 0), crB 96), (dCell (ynbr c) (yrS 1), crB 48), (dCell (ynbr c) (yrS 2), crB 16),
   (dCell (ynbr c) (yrS 3), crB 96), (dCell (ynbr c) (yrS 4), crB 96),
   (dCell (xnbr c) (xrS 0), crB 96), (dCell (xnbr c) (xrS 1), crB 48), (dCell (xnbr c) (xrS 2), crB 16)]

/-- What it owes once it has paid the first `n`. -/
def owe (c : Dev nD) (n : ℕ) : CellTallies nD τ sig Unit := tl ((owl c).drop n)

theorem tl_apply (l : List (GSem nD τ sig × ℕ)) (g : GSem nD τ sig) (u : Unit) :
    tl l g u = ((l.filter fun p => p.1 = g).map Prod.snd).sum := by
  induction l with
  | nil => rfl
  | cons p l ih =>
    show (tl l + tallyAt p.1 () p.2) g u = _
    rw [Pi.add_apply, Finsupp.add_apply, ih, tallyAt_apply]
    by_cases h : p.1 = g
    · rw [if_pos ⟨h.symm, rfl⟩, List.filter_cons_of_pos (by simpa using h), List.map_cons, List.sum_cons, Nat.add_comm]
    · rw [if_neg (fun h' => h h'.1.symm), List.filter_cons_of_neg (by simpa using h), Nat.add_zero]

theorem tl_pos {l : List (GSem nD τ sig × ℕ)} {g : GSem nD τ sig} {u : Unit} (h : 0 < tl l g u) : ∃ p ∈ l, p.1 = g := by
  induction l with
  | nil => exact absurd h (Nat.lt_irrefl 0)
  | cons p l ih =>
    by_cases hp : p.1 = g
    · exact ⟨p, List.mem_cons_self, hp⟩
    · have : tl (p :: l) g u = tl l g u := by
        show (tl l + tallyAt p.1 () p.2) g u = _
        rw [Pi.add_apply, Finsupp.add_apply, tallyAt_apply, if_neg (fun h' => hp h'.1.symm), Nat.add_zero]
      rw [this] at h
      obtain ⟨p', hm, he⟩ := ih h
      exact ⟨p', List.mem_cons_of_mem _ hm, he⟩

/-- The level of a semaphore: barrier 1, the receives from `ynbr` 2, those from `xnbr` 3, the others 0. -/
def lvS : SemLoc sig → ℕ
  | .reg _ => 1
  | .dma q => if q.val < 8 then 0 else if q.val < 13 then 2 else if q.val < 16 then 0 else 3

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed once `n` dues are paid is on a TensorCore, at a level not below the `n`-th due's. -/
theorem owl_lv (c : Dev nD) (n : ℕ) (hn : n < 10) : ∀ p ∈ (owl c).drop n, p.1.1.2 = .tc ∧ (![1, 1, 2, 2, 2, 2, 2, 3, 3, 3] : Fin 10 → ℕ) ⟨n, hn⟩ ≤ lvS p.1.2 := by
  intro p hp
  have hm : (p.1.1.2, lvS p.1.2) ∈ ((owl c).map fun p => (p.1.1.2, lvS p.1.2)).drop n := by
    rw [← List.map_drop]; exact List.mem_map_of_mem (f := fun p : GSem nD τ sig × ℕ => (p.1.1.2, lvS p.1.2)) hp
  have hl : ((owl c).map fun p => (p.1.1.2, lvS p.1.2)) = [1, 1, 2, 2, 2, 2, 2, 3, 3, 3].map fun l => ((.tc : Proc τ), l) := rfl
  rw [hl, ← List.map_drop] at hm
  obtain ⟨l, hl, he⟩ := List.mem_map.1 hm
  have hk : ∀ n : Fin 10, ∀ l ∈ ([1, 1, 2, 2, 2, 2, 2, 3, 3, 3] : List ℕ).drop n.val, (![1, 1, 2, 2, 2, 2, 2, 3, 3, 3] : Fin 10 → ℕ) n ≤ l := by decide
  exact ⟨(congrArg Prod.fst he).symm, le_of_le_of_eq (hk ⟨n, hn⟩ l hl) (congrArg Prod.snd he)⟩

/-- A device may wait at a semaphore below everything it owes. -/
theorem mayWait (c : Dev nD) (sm : SemLoc sig) (n : ℕ) (hn : ∀ h : n < 10, lvS sm < (![1, 1, 2, 2, 2, 2, 2, 3, 3, 3] : Fin 10 → ℕ) ⟨n, h⟩) :
    (levAts L lv : sProp 𝕄) ⊢ MayWait (c : Thread nD τ) sm () (owe c n) := by
  by_cases h : n < 10
  · refine Pipeline.mayWait_of_levAts (by rw [L_tc]; exact Finset.mem_singleton_self _) fun g u hg => ?_
    obtain ⟨p, hp, rfl⟩ := tl_pos hg
    obtain ⟨h1, h2⟩ := owl_lv c n h p hp
    exact ⟨by unfold L; rw [if_pos h1]; exact Finset.mem_singleton_self _, lt_of_lt_of_le (hn h) h2⟩
  · have : owe c n = 0 := by unfold owe; rw [List.drop_eq_nil_of_le (by show 10 ≤ n; omega)]; rfl
    rw [this, MayWait_zero]; iintro -; iempintro

end Cert.Embed

end
-- ==== Proof.Steps.lean ====
/-
  The steps of the protocol: a rule for each signal, transfer and wait of the body, stated over what a device holds.
-/
module

public import proofs.«01_k».proof.Proof.Proto

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The records: every cell's invariant and that its round is reached -/

/-- The semaphore of cell `j` of a device: the barrier, then the DMA semaphores 2 to 18. -/
def csem (j : Fin 18) : SemLoc sig := if j = 0 then .reg barS else .dma (⟨j.val + 1, by have := j.isLt; omega⟩ : Fin 19)
def kcell (ck : Dev nD × Fin 18) : GSem nD τ sig := ((ck.1 : Thread nD τ), csem ck.2)

variable (ids : (c : Dev nD) → Bf (F := F) c idsM) (tab : (c : Dev nD) → Bf (F := F) c tabM)

def recd (g : GSem nD τ sig) : sProp 𝕄 := iprop((∃ κ : ℕ, cellInv ER (Rd ids tab) κ g) ∗ reached ER g 0)
instance recd_persistent (g : GSem nD τ sig) : Persistent (recd ids tab g) := by unfold recd; infer_instance

def records : sProp 𝕄 := bigSep (Finset.univ : Finset (Dev nD × Fin 18)) fun ck => recd ids tab (kcell ck)
instance records_persistent : Persistent (records ids tab) := by unfold records; infer_instance

theorem rec_at (ck : Dev nD × Fin 18) : records ids tab ⊢ recd ids tab (kcell ck) := by
  unfold records
  exact bigSep_elim (Finset.mem_univ ck)

theorem rec_bar (c : Dev nD) : records ids tab ⊢ recd ids tab (barCell c) := rec_at ids tab (c, 0)

theorem rec_d (c : Dev nD) (q : DmaSem sig) (hq : 2 ≤ q.val) : records ids tab ⊢ recd ids tab (dCell c q) := by
  have h19 : q.val < 19 := q.isLt
  have h := rec_at ids tab (c, (⟨q.val - 1, by omega⟩ : Fin 18))
  have e : kcell (c, (⟨q.val - 1, by omega⟩ : Fin 18)) = dCell c q := by
    unfold kcell csem
    rw [if_neg (fun h => by have := congrArg Fin.val h; simp only [Fin.val_zero] at this; omega)]
    show ((c : Thread nD τ), SemLoc.dma _) = ((c : Thread nD τ), SemLoc.dma q)
    congr 2
    exact Fin.ext (by show q.val - 1 + 1 = q.val; omega)
  rwa [e] at h

/-! ## What a device holds of a cell -/

/-- It may wait at the DMA semaphore `q`. -/
def wt (c : Dev nD) (q : DmaSem sig) : sProp 𝕄 := iprop(atPos ER (dCell c q) 0 ∅ 0 ∗ cred (tallyAt (dCell c q) () (amt q)))
/-- It has waited, and `q` is at zero for good. -/
def sv (c : Dev nD) (q : DmaSem sig) : sProp 𝕄 := semVal (dCell c q) 0
/-- It owes what is left once `n` dues are paid. -/
def ow (c : Dev nD) (n : ℕ) : sProp 𝕄 := iprop(∃ W, owes (c : Thread nD τ) (owe c n) W)

/-- The signal to `ynbr`'s barrier hands over the buffer that `ynbr` writes. -/
theorem signal_y {α : Type} {Q : α → sProp 𝕄} {k : PUnit → Prog (TpuEff nD τ sig (Elt F) Λ₀ .tc) α} (c n : Dev nD) (hn : n = ynbr c) :
    iprop(records ids tab ∗ ow c 0 ∗ dutyTok ER (barCell (ynbr c)) 0 false ∗ (∃ f, pt (F := F) c yM f))
      ⊢ iprop((ow c 1 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold ow
  iintro ⟨#HR, ⟨%W, HO⟩, Ht, Hy⟩ Hk
  ihave Hb := (rec_bar ids tab (ynbr c)) $$ HR
  unfold recd
  icases Hb with ⟨⟨%κ, HI⟩, Hr⟩
  have hp : iprop(∃ f, pt (F := F) c yM f) ⊢ (Rd ids tab).payload (barCell (ynbr c)) 0 false := by
    show _ ⊢ iprop(∃ f, pt (F := F) (ynbr (ynbr c)) yM f)
    rw [ynbr_ynbr]
  iapply (Rounds.wp_signal 𝒱₀ ER (Rd ids tab) (c : Thread nD τ) none (dst := (ynbr c : Thread nD τ)) (κ := κ) (r := 0)
      (d := false) (by rw [duties_b]; exact Finset.mem_univ _) rfl () (O₀ := owe c 0) (owe c 1) rfl (W := W)) $$ [HO Ht Hy HI Hr]
  · iframe HI HO Ht Hr
    iapply hp; iexact Hy
  iintro HO
  iapply Hk
  iexists W; iexact HO

/-- The signal to `xnbr`'s barrier hands over the buffer that `xnbr` writes. -/
theorem signal_x {α : Type} {Q : α → sProp 𝕄} {k : PUnit → Prog (TpuEff nD τ sig (Elt F) Λ₀ .tc) α} (c n : Dev nD) (hn : n = xnbr c) :
    iprop(records ids tab ∗ ow c 1 ∗ dutyTok ER (barCell (xnbr c)) 0 true ∗ (∃ f, pt (F := F) c xM f))
      ⊢ iprop((ow c 2 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  unfold ow
  iintro ⟨#HR, ⟨%W, HO⟩, Ht, Hy⟩ Hk
  ihave Hb := (rec_bar ids tab (xnbr c)) $$ HR
  unfold recd
  icases Hb with ⟨⟨%κ, HI⟩, Hr⟩
  have hp : iprop(∃ f, pt (F := F) c xM f) ⊢ (Rd ids tab).payload (barCell (xnbr c)) 0 true := by
    show _ ⊢ iprop(∃ f, pt (F := F) (xnbr (xnbr c)) xM f)
    rw [xnbr_xnbr]
  iapply (Rounds.wp_signal 𝒱₀ ER (Rd ids tab) (c : Thread nD τ) none (dst := (xnbr c : Thread nD τ)) (κ := κ) (r := 0)
      (d := true) (by rw [duties_b]; exact Finset.mem_univ _) rfl () (O₀ := owe c 1) (owe c 2) rfl (W := W)) $$ [HO Ht Hy HI Hr]
  · iframe HI HO Ht Hr
    iapply hp; iexact Hy
  iintro HO
  iapply Hk
  iexists W; iexact HO

/-- The barrier's wait: both buffers that `c` writes are handed over. -/
theorem wait_bar {α : Type} {Q : α → sProp 𝕄} {k : PUnit → Prog (TpuEff nD τ sig (Elt F) Λ₀ .tc) α} (c : Dev nD) :
    iprop(records ids tab ∗ levAts L lv ∗ ow c 2 ∗ atPos ER (barCell c) 0 ∅ 0 ∗ cred (tallyAt (barCell c) () 2))
      ⊢ iprop(((ow c 2 ∗ semVal (barCell c) 0 ∗ (∃ f, pt (F := F) (ynbr c) yM f) ∗ (∃ f, pt (F := F) (xnbr c) xM f))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  unfold ow
  iintro ⟨#HR, #Hlev, ⟨%W, HO⟩, Hat, Hc⟩ Hk
  ihave Hb := (rec_bar ids tab c) $$ HR
  unfold recd
  icases Hb with ⟨⟨%κ, #HI⟩, -⟩
  iapply (Rounds.wp_wait_rest_token 𝒱₀ ER (Rd ids tab) (c : Thread nD τ) none (κ := κ)
      (wpE_semWait_eq 𝒱₀ (c : Thread nD τ) none Set.univ) (Set.mem_univ _) () (O := owe c 2) (W := W) (R := 0) (m := 0) (T := ∅)
      (by rw [expect_b])) $$ [HO Hat Hc]
  · iframe HI Hc HO Hat
    iapply (mayWait c (.reg barS) 2 (fun _ => (by decide : (1 : ℕ) < 2))); iexact Hlev
  iintro ⟨HO, Hat, -, Hp⟩
  ihave Hp := (Entails.of_eq (rest_b ids tab c)) $$ Hp
  icases Hp with ⟨Hy, Hx⟩
  imod (Rounds.cell_close ER (Rd ids tab) (κ := κ) (g := barCell c) (Es := Set.univ) (Set.mem_univ κ) (fun h => h) (R := 0 + 1) (duties_later ids tab (barCell c))) $$ [Hat] with Hs
  · iframe HI Hat
  iapply Hk
  iframe Hs Hy Hx
  iexists _; iexact HO

/-- The wait at a DMA semaphore: what its transfer delivers. -/
theorem wait_d {α : Type} {Q : α → sProp 𝕄} {k : PUnit → Prog (TpuEff nD τ sig (Elt F) Λ₀ .tc) α} (c : Dev nD) (q : DmaSem sig) (hq : 2 ≤ q.val) (n : ℕ) {sm : DmaSem sig} (hsm : sm = q) {sp sp' : Space} {s : Shape} {e : EltTy}
    {src : Memref sig .tc sp s e} {dst : Memref sig .tc sp' s e} {hsrc : src.view.WordExact} {hdst : dst.view.WordExact}
    (hcr : dst.view.dmaCredit = amt q)
    (hn : ∀ h : n < 10, lvS (.dma q) < (![1, 1, 2, 2, 2, 2, 2, 3, 3, 3] : Fin 10 → ℕ) ⟨n, h⟩) :
    iprop(records ids tab ∗ levAts L lv ∗ ow c n ∗ wt c q)
      ⊢ iprop(((ow c n ∗ sv c q ∗ dPay ids tab c q)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  unfold ow wt sv
  iintro ⟨#HR, #Hlev, ⟨%W, HO⟩, Hat, Hc⟩ Hk
  ihave Hb := (rec_d ids tab c sm hq) $$ HR
  unfold recd
  icases Hb with ⟨⟨%κ, #HI⟩, -⟩
  rw [← hcr]
  iapply (Rounds.wp_wait_rest_token 𝒱₀ ER (Rd ids tab) (c : Thread nD τ) none (κ := κ)
      (wpE_waitDma2_eq 𝒱₀ (c : Thread nD τ) none Set.univ) (Set.mem_univ _) () (O := owe c n) (W := W) (R := 0) (m := 0) (T := ∅)
      (by rw [expect_d, hcr, Nat.zero_add])) $$ [HO Hat Hc]
  · iframe HI Hc HO Hat
    iapply (mayWait c (.dma sm) n hn); iexact Hlev
  iintro ⟨HO, Hat, -, Hp⟩
  ihave Hp := (Entails.of_eq (rest_d ids tab c sm)) $$ Hp
  imod (Rounds.cell_close ER (Rd ids tab) (κ := κ) (g := dCell c sm) (Es := Set.univ) (Set.mem_univ κ) (fun h => h) (R := 0 + 1) (duties_later ids tab (dCell c sm))) $$ [Hat] with Hs
  · iframe HI Hat
  iapply Hk
  iframe Hs Hp
  iexists _; iexact HO

theorem ysS_two (j : Fin 5) : 2 ≤ (ysS j).val := by revert j; decide
theorem yrS_two (j : Fin 5) : 2 ≤ (yrS j).val := by revert j; decide
theorem xsS_two (j : Fin 3) : 2 ≤ (xsS j).val := by revert j; decide
theorem xrS_two (j : Fin 3) : 2 ≤ (xrS j).val := by revert j; decide

/-- The dues of the transfers come off one by one. -/
theorem owe_y (c : Dev nD) (j : Fin 5) : owe c (j.val + 2) = owe c (j.val + 3) + tallyAt (dCell (ynbr c) (yrS j)) () (crB (yl j)) := by
  fin_cases j <;> rfl
theorem owe_x (c : Dev nD) (j : Fin 3) : owe c (j.val + 7) = owe c (j.val + 8) + tallyAt (dCell (xnbr c) (xrS j)) () (crB (xl j)) := by
  fin_cases j <;> rfl

/-- Piece `k` of the narrowed rows sent to `ynbr`. -/
theorem send_y {α : Type} {Q : α → sProp 𝕄} {k : PUnit → Prog (TpuEff nD τ sig (Elt F) Λ₀ .tc) α} (c n : Dev nD) (hn : n = ynbr c) (j : Fin 5) (n₀ n₁ : ℕ) (h₀ : n₀ = j.val + 2) (h₁ : n₁ = j.val + 3) {a h : ℕ} (ha : a = yo j) (hh : h = yl j)
    {inb inb' : ∀ x, (![a, 0] : Fin 2 → ℕ) x + (⟨2, ![h, 512]⟩ : Shape).size x ≤ S352x512.size x}
    {hs hs' : ∀ x, (Rect.unit (s := S352x512) ![a, 0] (⟨2, ![h, 512]⟩ : Shape).size inb).stride x = 1}
    {sS sR : DmaSem sig} (hsS : sS = ysS j) (hsR : sR = yrS j) {hsc} {hsrc} {hdst} {hsem} :
    iprop(records ids tab ∗ ow c n₀ ∗ gbP c j (gbF ids tab c) ∗ (∃ f, yP (F := F) (ynbr c) j f)
        ∗ dutyTok ER (dCell c (ysS j)) 0 false ∗ dutyTok ER (dCell (ynbr c) (yrS j)) 0 false ∗ atPos ER (dCell c (ysS j)) 0 ∅ 0)
      ⊢ iprop(((ow c n₁ ∗ wt c (ysS j))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (gbM.slice (Rect.unit (s := S352x512) ![a, 0] (⟨2, ![h, 512]⟩ : Shape).size inb) hs)
            (.remote (Dev.tc n : Thread nD τ) (yM.slice (Rect.unit (s := S352x512) ![a, 0] (⟨2, ![h, 512]⟩ : Shape).size inb') hs') (.dma sS) hsc) (.dma sR) hsrc hdst hsem) k) Q) := by
  subst hn ha hh hsS hsR h₀ h₁
  unfold ow wt
  iintro ⟨#HR, ⟨%W, HO⟩, Hg, ⟨%f, Hy⟩, Ht1, Ht2, Hat⟩ Hk
  ihave Hb := (rec_d ids tab c (ysS j) (ysS_two j)) $$ HR
  ihave Hb' := (rec_d ids tab (ynbr c) (yrS j) (yrS_two j)) $$ HR
  unfold recd
  icases Hb with ⟨⟨%κ, #HI⟩, #Hr⟩
  icases Hb' with ⟨⟨%κ', #HI'⟩, #Hr'⟩
  have hset : ((gbM.slice (Rect.unit (s := S352x512) ![yo j, 0] (⟨2, ![yl j, 512]⟩ : Shape).size inb) hs).view).set = rws (m := 352) (yo j) (yl j) :=
    (View.set_slice_whole (cc0_scratch2 : Ref sig .tc) (Rect.unit (s := S352x512) ![yo j, 0] (⟨2, ![yl j, 512]⟩ : Shape).size inb)).trans (rect_set _)
  have hset' : ((yM.slice (Rect.unit (s := S352x512) ![yo j, 0] (⟨2, ![yl j, 512]⟩ : Shape).size inb') hs').view).set = rws (m := 352) (yo j) (yl j) :=
    (View.set_slice_whole (cc0_scratch3 : Ref sig .tc) (Rect.unit (s := S352x512) ![yo j, 0] (⟨2, ![yl j, 512]⟩ : Shape).size inb')).trans (rect_set _)
  have hland : ∀ i ∈ rws (m := 352) (yo j) (yl j), (yM.slice (Rect.unit (s := S352x512) ![yo j, 0] (⟨2, ![yl j, 512]⟩ : Shape).size inb') hs').view.write (Elt F) f
      ((gbM.slice (Rect.unit (s := S352x512) ![yo j, 0] (⟨2, ![yl j, 512]⟩ : Shape).size inb) hs).view.read (Elt F) (gbF ids tab c)) Finset.univ i = gbF ids tab c i := by
    intro i hi
    rw [← hset'] at hi
    obtain ⟨x, -, rfl⟩ := Finset.mem_map.1 hi
    rw [View.write_emb_of_mem _ _ (Finset.mem_univ _)]
    rfl
  iapply (Rounds.wp_send_pointsTo 𝒱₀ ER (Rd ids tab) (c : Thread nD τ) none (c' := (ynbr c : Thread nD τ)) (κ₁ := κ) (κ₂ := κ')
    (src := gbM.slice (Rect.unit (s := S352x512) ![yo j, 0] (⟨2, ![yl j, 512]⟩ : Shape).size inb) hs)
    (dst := yM.slice (Rect.unit (s := S352x512) ![yo j, 0] (⟨2, ![yl j, 512]⟩ : Shape).size inb') hs')
    (r₁ := 0) (r₂ := 0) (d₁ := false) (d₂ := false) (q := fullShare) (fs := gbF ids tab c) (fd := f)
    (by rw [duties_d]; exact Finset.mem_singleton_self _) (by rw [duties_d]; exact Finset.mem_singleton_self _)
    () () (amt (ysS j)) (by rw [amt_ys]; rfl) rfl (by show amt (yrS j) = _; rw [amt_ys, amt_yr])
    (O₀ := owe c (j.val + 2)) (owe c (j.val + 3)) (by rw [amt_ys]; exact owe_y c j) (W := W)
    (by show _ ⊢ dPay ids tab c (ysS j); rw [pay_ys, hset])
    (by show _ ⊢ dPay ids tab (ynbr c) (yrS j); rw [pay_yr, hset', ynbr_ynbr]; exact Entails.of_eq (pointsTo_congr hland))) $$ [HO Hg Hy Ht1 Ht2]
  · rw [hset, hset']
    isplitr; · iexact HI
    isplitr; · iexact HI'
    isplitl [Hg]; · iexact Hg
    isplitl [Hy]; · iexact Hy
    isplitl [HO]; · iexact HO
    isplitl [Ht1]; · iexact Ht1
    isplitr; · iexact Hr
    isplitl [Ht2]; · iexact Ht2
    iexact Hr'
  iintro ⟨Hc, HO⟩
  iapply Hk
  iframe Hat Hc
  iexists W; iexact HO

/-- Piece `k` of the combined rows sent to `xnbr`. -/
theorem send_x {α : Type} {Q : α → sProp 𝕄} {k : PUnit → Prog (TpuEff nD τ sig (Elt F) Λ₀ .tc) α} (c n : Dev nD) (hn : n = xnbr c) (j : Fin 3) (n₀ n₁ : ℕ) (h₀ : n₀ = j.val + 7) (h₁ : n₁ = j.val + 8) {a h : ℕ} (ha : a = xo j) (hh : h = xl j)
    {inb inb' : ∀ x, (![a, 0] : Fin 2 → ℕ) x + (⟨2, ![h, 512]⟩ : Shape).size x ≤ S160x512.size x}
    {hs hs' : ∀ x, (Rect.unit (s := S160x512) ![a, 0] (⟨2, ![h, 512]⟩ : Shape).size inb).stride x = 1}
    {sS sR : DmaSem sig} (hsS : sS = xsS j) (hsR : sR = xrS j) {hsc} {hsrc} {hdst} {hsem} :
    iprop(records ids tab ∗ ow c n₀ ∗ xsP c j (xF ids tab c) ∗ (∃ f, xP (F := F) (xnbr c) j f)
        ∗ dutyTok ER (dCell c (xsS j)) 0 false ∗ dutyTok ER (dCell (xnbr c) (xrS j)) 0 false ∗ atPos ER (dCell c (xsS j)) 0 ∅ 0)
      ⊢ iprop(((ow c n₁ ∗ wt c (xsS j))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xsM.slice (Rect.unit (s := S160x512) ![a, 0] (⟨2, ![h, 512]⟩ : Shape).size inb) hs)
            (.remote (Dev.tc n : Thread nD τ) (xM.slice (Rect.unit (s := S160x512) ![a, 0] (⟨2, ![h, 512]⟩ : Shape).size inb') hs') (.dma sS) hsc) (.dma sR) hsrc hdst hsem) k) Q) := by
  subst hn ha hh hsS hsR h₀ h₁
  unfold ow wt
  iintro ⟨#HR, ⟨%W, HO⟩, Hg, ⟨%f, Hy⟩, Ht1, Ht2, Hat⟩ Hk
  ihave Hb := (rec_d ids tab c (xsS j) (xsS_two j)) $$ HR
  ihave Hb' := (rec_d ids tab (xnbr c) (xrS j) (xrS_two j)) $$ HR
  unfold recd
  icases Hb with ⟨⟨%κ, #HI⟩, #Hr⟩
  icases Hb' with ⟨⟨%κ', #HI'⟩, #Hr'⟩
  have hset : ((xsM.slice (Rect.unit (s := S160x512) ![xo j, 0] (⟨2, ![xl j, 512]⟩ : Shape).size inb) hs).view).set = rws (m := 160) (xo j) (xl j) :=
    (View.set_slice_whole (cc0_scratch4 : Ref sig .tc) (Rect.unit (s := S160x512) ![xo j, 0] (⟨2, ![xl j, 512]⟩ : Shape).size inb)).trans (rect_set _)
  have hset' : ((xM.slice (Rect.unit (s := S160x512) ![xo j, 0] (⟨2, ![xl j, 512]⟩ : Shape).size inb') hs').view).set = rws (m := 160) (xo j) (xl j) :=
    (View.set_slice_whole (cc0_scratch5 : Ref sig .tc) (Rect.unit (s := S160x512) ![xo j, 0] (⟨2, ![xl j, 512]⟩ : Shape).size inb')).trans (rect_set _)
  have hland : ∀ i ∈ rws (m := 160) (xo j) (xl j), (xM.slice (Rect.unit (s := S160x512) ![xo j, 0] (⟨2, ![xl j, 512]⟩ : Shape).size inb') hs').view.write (Elt F) f
      ((xsM.slice (Rect.unit (s := S160x512) ![xo j, 0] (⟨2, ![xl j, 512]⟩ : Shape).size inb) hs).view.read (Elt F) (xF ids tab c)) Finset.univ i = xF ids tab c i := by
    intro i hi
    rw [← hset'] at hi
    obtain ⟨x, -, rfl⟩ := Finset.mem_map.1 hi
    rw [View.write_emb_of_mem _ _ (Finset.mem_univ _)]
    rfl
  iapply (Rounds.wp_send_pointsTo 𝒱₀ ER (Rd ids tab) (c : Thread nD τ) none (c' := (xnbr c : Thread nD τ)) (κ₁ := κ) (κ₂ := κ')
    (src := xsM.slice (Rect.unit (s := S160x512) ![xo j, 0] (⟨2, ![xl j, 512]⟩ : Shape).size inb) hs)
    (dst := xM.slice (Rect.unit (s := S160x512) ![xo j, 0] (⟨2, ![xl j, 512]⟩ : Shape).size inb') hs')
    (r₁ := 0) (r₂ := 0) (d₁ := false) (d₂ := false) (q := fullShare) (fs := xF ids tab c) (fd := f)
    (by rw [duties_d]; exact Finset.mem_singleton_self _) (by rw [duties_d]; exact Finset.mem_singleton_self _)
    () () (amt (xsS j)) (by rw [amt_xs]; rfl) rfl (by show amt (xrS j) = _; rw [amt_xs, amt_xr])
    (O₀ := owe c (j.val + 7)) (owe c (j.val + 8)) (by rw [amt_xs]; exact owe_x c j) (W := W)
    (by show _ ⊢ dPay ids tab c (xsS j); rw [pay_xs, hset])
    (by show _ ⊢ dPay ids tab (xnbr c) (xrS j); rw [pay_xr, hset', xnbr_xnbr]; exact Entails.of_eq (pointsTo_congr hland))) $$ [HO Hg Hy Ht1 Ht2]
  · rw [hset, hset']
    isplitr; · iexact HI
    isplitr; · iexact HI'
    isplitl [Hg]; · iexact Hg
    isplitl [Hy]; · iexact Hy
    isplitl [HO]; · iexact HO
    isplitl [Ht1]; · iexact Ht1
    isplitr; · iexact Hr
    isplitl [Ht2]; · iexact Ht2
    iexact Hr'
  iintro ⟨Hc, HO⟩
  iapply Hk
  iframe Hat Hc
  iexists W; iexact HO

/-- The copy of the table block into the table buffer. -/
theorem copy_e {α : Type} {Q : α → sProp 𝕄} {k : PUnit → Prog (TpuEff nD τ sig (Elt F) Λ₀ .tc) α} (c : Dev nD)
    {inb : ∀ x, (![0, 0] : Fin 2 → ℕ) x + S4096x512.size x ≤ S4104x512.size x}
    {hs : ∀ x, (Rect.unit (s := S4104x512) ![0, 0] S4096x512.size inb).stride x = 1}
    {sS : DmaSem sig} (hsS : sS = esS) {hsrc} {hdst} {hsem} :
    iprop(records ids tab ∗ pt c tabM (tab c) ∗ (∃ f, eP (F := F) c f) ∗ dutyTok ER (dCell c esS) 0 false ∗ atPos ER (dCell c esS) 0 ∅ 0)
      ⊢ iprop((wt c esS -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma tabM (.here (eM.slice (Rect.unit (s := S4104x512) ![0, 0] S4096x512.size inb) hs)) (.dma sS) hsrc hdst hsem) k) Q) := by
  subst hsS
  unfold wt
  iintro ⟨#HR, Ht, ⟨%f, He⟩, Htk, Hat⟩ Hk
  ihave Hb := (rec_d ids tab c esS (by decide)) $$ HR
  unfold recd
  icases Hb with ⟨⟨%κ, #HI⟩, #Hr⟩
  have hset : ((eM.slice (Rect.unit (s := S4104x512) ![0, 0] S4096x512.size inb) hs).view).set = rws (m := 4104) 0 4096 :=
    (View.set_slice_whole (cc0_scratch0 : Ref sig .tc) (Rect.unit (s := S4104x512) ![0, 0] S4096x512.size inb)).trans (rect_set _)
  have hland : ∀ i ∈ rws (m := 4104) 0 4096, (eM.slice (Rect.unit (s := S4104x512) ![0, 0] S4096x512.size inb) hs).view.write (Elt F) f
      (tabM.view.read (Elt F) (tab c)) Finset.univ i = eF tab c i := by
    intro i hi
    have hi0 := mem_rws.1 hi
    rw [← hset] at hi
    obtain ⟨x, -, rfl⟩ := Finset.mem_map.1 hi
    rw [View.write_emb_of_mem _ _ (Finset.mem_univ _)]
    unfold eF
    rw [if_pos (by omega)]
    show tab c x = tab c _
    congr 1
    funext y
    refine Fin.ext ?_
    have h0 : (x 0).val < 4096 := (x 0).isLt
    have h1 : (x 1).val < 512 := (x 1).isLt
    fin_cases y
    · show (x 0).val = (0 + 1 * (x 0).val) % 4096
      rw [Nat.mod_eq_of_lt (by omega)]; omega
    · show (x 1).val = (0 + 1 * (x 1).val) % 512
      rw [Nat.mod_eq_of_lt (by omega)]; omega
  iapply (Rounds.wp_copy_pointsTo 𝒱₀ ER (Rd ids tab) (c : Thread nD τ) none (κ := κ)
    (src := tabM) (dst := eM.slice (Rect.unit (s := S4104x512) ![0, 0] S4096x512.size inb) hs) (q := fullShare) (fs := tab c) (fd := f)
    (r := 0) (d := false) (by rw [duties_d]; exact Finset.mem_singleton_self _) () (amt esS) (by rw [amt_es]; rfl) rfl
    (by
      show _ ⊢ iprop(eP c (eF tab c) ∗ pt c tabM (tab c))
      rw [hset]
      exact sep_mono (Entails.of_eq (pointsTo_congr hland)) (Entails.of_eq (by rw [show tabM.view.set = Finset.univ from View.set_whole _])))) $$ [Ht He Htk]
  · rw [hset, show tabM.view.set = Finset.univ from View.set_whole _]
    isplitr; · iexact HI
    isplitl [Ht]; · iexact Ht
    isplitl [He]; · iexact He
    isplitl [Htk]; · iexact Htk
    iexact Hr
  iintro Hc
  iapply Hk
  iframe

end Cert.Embed

end
-- ==== Proof.Mem.lean ====
/-
  The loads and stores of the body on the pieces of the buffers, and the output that a device computes.
-/
module

public import proofs.«01_k».proof.Proof.Steps

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting the buffers -/

theorem e_cover : (Finset.univ : Finset S4104x512.Idx) = rws (m := 4104) 0 4096 ∪ rws (m := 4104) 4096 8 := by
  ext i
  have h : (i 0).val < 4104 := (i 0).isLt
  simp only [Finset.mem_univ, Finset.mem_union, mem_rws, true_iff]; omega
theorem e_disj : Disjoint (rws (m := 4104) 0 4096) (rws (m := 4104) 4096 8) := by
  rw [Finset.disjoint_left]; intro i h h'; have := mem_rws.1 h; have := mem_rws.1 h'; omega

theorem y_cover : (Finset.univ : Finset S352x512.Idx) = (Finset.univ : Finset (Fin 5)).biUnion fun k => rws (m := 352) (yo k) (yl k) := by
  ext i
  have h : (i 0).val < 352 := (i 0).isLt
  have hk : ∀ r < 352, ∃ k : Fin 5, yo k ≤ r ∧ r < yo k + yl k := by
    intro r hr
    by_cases h0 : r < 96; · exact ⟨0, Nat.zero_le _, h0⟩
    by_cases h1 : r < 144; · exact ⟨1, Nat.not_lt.1 h0, h1⟩
    by_cases h2 : r < 160; · exact ⟨2, Nat.not_lt.1 h1, h2⟩
    by_cases h3 : r < 256; · exact ⟨3, Nat.not_lt.1 h2, h3⟩
    exact ⟨4, Nat.not_lt.1 h3, hr⟩
  obtain ⟨k, hk⟩ := hk _ h
  exact ⟨fun _ => Finset.mem_biUnion.2 ⟨k, Finset.mem_univ _, mem_rws.2 hk⟩, fun _ => Finset.mem_univ _⟩

theorem x_cover : (Finset.univ : Finset S160x512.Idx) = (Finset.univ : Finset (Fin 3)).biUnion fun k => rws (m := 160) (xo k) (xl k) := by
  ext i
  have h : (i 0).val < 160 := (i 0).isLt
  have hk : ∀ r < 160, ∃ k : Fin 3, xo k ≤ r ∧ r < xo k + xl k := by
    intro r hr
    by_cases h0 : r < 96; · exact ⟨0, Nat.zero_le _, h0⟩
    by_cases h1 : r < 144; · exact ⟨1, Nat.not_lt.1 h0, h1⟩
    exact ⟨2, Nat.not_lt.1 h1, hr⟩
  obtain ⟨k, hk⟩ := hk _ h
  exact ⟨fun _ => Finset.mem_biUnion.2 ⟨k, Finset.mem_univ _, mem_rws.2 hk⟩, fun _ => Finset.mem_univ _⟩

theorem y_sep : ∀ k k' : Fin 5, k ≠ k' → yo k + yl k ≤ yo k' ∨ yo k' + yl k' ≤ yo k := by decide

theorem y_disj {m : ℕ} : ∀ k k' : Fin 5, k ≠ k' → Disjoint (rws (m := m) (yo k) (yl k)) (rws (m := m) (yo k') (yl k')) := by
  intro k k' hk
  rw [Finset.disjoint_left]; intro i h h'
  have h1 := mem_rws.1 h; have h2 := mem_rws.1 h'
  rcases y_sep k k' hk with h3 | h3 <;> omega

theorem e_split (c : Dev nD) (f : Bf (F := F) c eM) :
    (pt c eM f : sProp 𝕄) = iprop(eP c f ∗ (eM : Memref sig .tc .vmem S4104x512 .f32).view.loc (c : Thread nD τ) ↦[rws (m := 4104) 4096 8]{fullShare} f) := by
  have h0 := (pointsTo_union (ℓ := (eM : Memref sig .tc .vmem S4104x512 .f32).view.loc (c : Thread nD τ)) (q := fullShare) (f := f) (Ix := Unit) (Name := ℕ) (U := UU) (Lvl := ℕ) e_disj)
  have h := equiv_iff.1 ⟨h0.1, h0.2⟩
  rw [← e_cover] at h
  exact h

theorem gb_split (c : Dev nD) (f : Bf (F := F) c gbM) :
    (pt c gbM f : sProp 𝕄) = iprop(gbP c 0 f ∗ gbP c 1 f ∗ gbP c 2 f ∗ gbP c 3 f ∗ gbP c 4 f) := by
  have h := pointsTo_biUnion (ℓ := (gbM : Memref sig .tc .vmem S352x512 .bf16).view.loc (c : Thread nD τ)) (q := fullShare) (f := f) (Ix := Unit) (Name := ℕ) (U := UU) (Lvl := ℕ)
    (Finset.univ : Finset (Fin 5)) (fun k => rws (m := 352) (yo k) (yl k)) (fun k _ k' _ hk => y_disj _ _ (hk))
  rw [← y_cover, bigSep_univ_eq_bigSepL [0, 1, 2, 3, 4] (by decide) (by decide)] at h
  exact h

theorem y_split (c : Dev nD) (f : Bf (F := F) c yM) :
    (pt c yM f : sProp 𝕄) = iprop(yP c 0 f ∗ yP c 1 f ∗ yP c 2 f ∗ yP c 3 f ∗ yP c 4 f) := by
  have h := pointsTo_biUnion (ℓ := (yM : Memref sig .tc .vmem S352x512 .bf16).view.loc (c : Thread nD τ)) (q := fullShare) (f := f) (Ix := Unit) (Name := ℕ) (U := UU) (Lvl := ℕ)
    (Finset.univ : Finset (Fin 5)) (fun k => rws (m := 352) (yo k) (yl k)) (fun k _ k' _ hk => y_disj _ _ (hk))
  rw [← y_cover, bigSep_univ_eq_bigSepL [0, 1, 2, 3, 4] (by decide) (by decide)] at h
  exact h

theorem xs_split (c : Dev nD) (f : Bf (F := F) c xsM) :
    (pt c xsM f : sProp 𝕄) = iprop(xsP c 0 f ∗ xsP c 1 f ∗ xsP c 2 f) := by
  have h := pointsTo_biUnion (ℓ := (xsM : Memref sig .tc .vmem S160x512 .bf16).view.loc (c : Thread nD τ)) (q := fullShare) (f := f) (Ix := Unit) (Name := ℕ) (U := UU) (Lvl := ℕ)
    (Finset.univ : Finset (Fin 3)) (fun k => rws (m := 160) (xo k) (xl k)) (fun k _ k' _ hk => y_disj _ _ (fun h => hk (Fin.castLE_injective _ h)))
  rw [← x_cover, bigSep_univ_eq_bigSepL [0, 1, 2] (by decide) (by decide)] at h
  exact h

theorem x_split (c : Dev nD) (f : Bf (F := F) c xM) :
    (pt c xM f : sProp 𝕄) = iprop(xP c 0 f ∗ xP c 1 f ∗ xP c 2 f) := by
  have h := pointsTo_biUnion (ℓ := (xM : Memref sig .tc .vmem S160x512 .bf16).view.loc (c : Thread nD τ)) (q := fullShare) (f := f) (Ix := Unit) (Name := ℕ) (U := UU) (Lvl := ℕ)
    (Finset.univ : Finset (Fin 3)) (fun k => rws (m := 160) (xo k) (xl k)) (fun k _ k' _ hk => y_disj _ _ (fun h => hk (Fin.castLE_injective _ h)))
  rw [← x_cover, bigSep_univ_eq_bigSepL [0, 1, 2] (by decide) (by decide)] at h
  exact h

/-! ## Loads and stores of rows -/

/-- A rectangle of whole rows, index by index. -/
theorem emb_rows {m h a : ℕ} (hm : 0 < m) (inb : ∀ x, (![a, 0] : Fin 2 → ℕ) x + (⟨2, ![h, 512]⟩ : Shape).size x ≤ (⟨2, ![m, 512]⟩ : Shape).size x)
    (x : (⟨2, ![h, 512]⟩ : Shape).Idx) :
    (Rect.unit (s := (⟨2, ![m, 512]⟩ : Shape)) ![a, 0] (⟨2, ![h, 512]⟩ : Shape).size inb).emb x = ix2 (m := m) (n := 512) hm (by decide) (a + (x 0).val) (x 1).val := by
  funext y
  refine Fin.ext ?_
  have h0 : (x 0).val < h := (x 0).isLt
  have h1 : (x 1).val < 512 := (x 1).isLt
  have h2 : a + h ≤ m := inb 0
  fin_cases y
  · show a + 1 * (x 0).val = (a + (x 0).val) % m
    rw [Nat.mod_eq_of_lt (by omega)]; omega
  · show 0 + 1 * (x 1).val = (x 1).val % 512
    rw [Nat.mod_eq_of_lt h1]; omega

/-- The entry of a matrix of 352 rows at row `r`, column `j`; of 160 rows; of 512. -/
abbrev i352 (r j : ℕ) : S352x512.Idx := ix2 (m := 352) (n := 512) (by decide) (by decide) r j
abbrev i160 (r j : ℕ) : S160x512.Idx := ix2 (m := 160) (n := 512) (by decide) (by decide) r j
abbrev i512 (r j : ℕ) : S512x512.Idx := ix2 (m := 512) (n := 512) (by decide) (by decide) r j

/-- Loading rows of the gather buffer. -/
theorem ld_g {α : Type} {Q : α → sProp 𝕄} (c : Dev nD) {a h : ℕ} {inb : ∀ x, (![a, 0] : Fin 2 → ℕ) x + (⟨2, ![h, 512]⟩ : Shape).size x ≤ S352x512.size x}
    {hl : gM.view.LoadsAt (Rect.unit (s := S352x512) ![a, 0] (⟨2, ![h, 512]⟩ : Shape).size inb).toLoadRect}
    {k : Vec F ⟨2, ![h, 512]⟩ .f32 → Prog (TpuEff nD τ sig (Elt F) Λ₀ .tc) α} (g : Bf (F := F) c gM) :
    (pt c gM g : sProp 𝕄)
      ⊢ iprop((pt c gM g -∗ wp frame (wpE (defs₀ (F := F)) 𝒱₀ (c : Thread nD τ) none) Set.univ (k fun x => g (i352 (a + (x 0).val) (x 1).val)) Q)
        -∗ wp frame (wpE (defs₀ (F := F)) 𝒱₀ (c : Thread nD τ) none) Set.univ (.op (.load gM (Rect.unit (s := S352x512) ![a, 0] (⟨2, ![h, 512]⟩ : Shape).size inb).toLoadRect hl) k) Q) := by
  have hv : gM.view.readAt (Elt F) (Rect.unit (s := S352x512) ![a, 0] (⟨2, ![h, 512]⟩ : Shape).size inb).toLoadRect g = fun x => g (i352 (a + (x 0).val) (x 1).val) :=
    funext fun x => congrArg g (emb_rows (by decide) inb x)
  have H := wp_load (defs := defs₀ (F := F)) (Γ := ∅) 𝒱₀ (c : Thread nD τ) none Set.univ (Q := Q) (m := gM) (hl := hl) (k := k) (S := Finset.univ) (q := fullShare) (f := g) (Finset.subset_univ _)
  rw [hv] at H
  exact H

/-- Loading a received piece, from `ynbr`, -/
theorem ld_y {α : Type} {Q : α → sProp 𝕄} (c : Dev nD) (j : Fin 5) {a h : ℕ} (ha : a = yo j) (hh : h = yl j) {inb : ∀ x, (![a, 0] : Fin 2 → ℕ) x + (⟨2, ![h, 512]⟩ : Shape).size x ≤ S352x512.size x}
    {hl : yM.view.LoadsAt (Rect.unit (s := S352x512) ![a, 0] (⟨2, ![h, 512]⟩ : Shape).size inb).toLoadRect}
    {k : Vec F ⟨2, ![h, 512]⟩ .bf16 → Prog (TpuEff nD τ sig (Elt F) Λ₀ .tc) α} (g : Bf (F := F) c yM) :
    (yP c j g : sProp 𝕄)
      ⊢ iprop((yP c j g -∗ wp frame (wpE (defs₀ (F := F)) 𝒱₀ (c : Thread nD τ) none) Set.univ (k fun x => g (i352 (a + (x 0).val) (x 1).val)) Q)
        -∗ wp frame (wpE (defs₀ (F := F)) 𝒱₀ (c : Thread nD τ) none) Set.univ (.op (.load yM (Rect.unit (s := S352x512) ![a, 0] (⟨2, ![h, 512]⟩ : Shape).size inb).toLoadRect hl) k) Q) := by
  subst ha hh
  have hv : yM.view.readAt (Elt F) (Rect.unit (s := S352x512) ![yo j, 0] (⟨2, ![yl j, 512]⟩ : Shape).size inb).toLoadRect g = fun x => g (i352 (yo j + (x 0).val) (x 1).val) :=
    funext fun x => congrArg g (emb_rows (by decide) inb x)
  have H := wp_load (defs := defs₀ (F := F)) (Γ := ∅) 𝒱₀ (c : Thread nD τ) none Set.univ (Q := Q) (m := yM) (hl := hl) (k := k) (S := rws (m := 352) (yo j) (yl j)) (q := fullShare) (f := g) (by
    rw [← rect_set inb]
    intro i hi
    obtain ⟨x, hx, rfl⟩ := Finset.mem_map.1 hi
    exact hx)
  rw [hv] at H
  exact H

/-- from `xnbr`. -/
theorem ld_x {α : Type} {Q : α → sProp 𝕄} (c : Dev nD) (j : Fin 3) {a h : ℕ} (ha : a = xo j) (hh : h = xl j) {inb : ∀ x, (![a, 0] : Fin 2 → ℕ) x + (⟨2, ![h, 512]⟩ : Shape).size x ≤ S160x512.size x}
    {hl : xM.view.LoadsAt (Rect.unit (s := S160x512) ![a, 0] (⟨2, ![h, 512]⟩ : Shape).size inb).toLoadRect}
    {k : Vec F ⟨2, ![h, 512]⟩ .bf16 → Prog (TpuEff nD τ sig (Elt F) Λ₀ .tc) α} (g : Bf (F := F) c xM) :
    (xP c j g : sProp 𝕄)
      ⊢ iprop((xP c j g -∗ wp frame (wpE (defs₀ (F := F)) 𝒱₀ (c : Thread nD τ) none) Set.univ (k fun x => g (i160 (a + (x 0).val) (x 1).val)) Q)
        -∗ wp frame (wpE (defs₀ (F := F)) 𝒱₀ (c : Thread nD τ) none) Set.univ (.op (.load xM (Rect.unit (s := S160x512) ![a, 0] (⟨2, ![h, 512]⟩ : Shape).size inb).toLoadRect hl) k) Q) := by
  subst ha hh
  have hv : xM.view.readAt (Elt F) (Rect.unit (s := S160x512) ![xo j, 0] (⟨2, ![xl j, 512]⟩ : Shape).size inb).toLoadRect g = fun x => g (i160 (xo j + (x 0).val) (x 1).val) :=
    funext fun x => congrArg g (emb_rows (by decide) inb x)
  have H := wp_load (defs := defs₀ (F := F)) (Γ := ∅) 𝒱₀ (c : Thread nD τ) none Set.univ (Q := Q) (m := xM) (hl := hl) (k := k) (S := rws (m := 160) (xo j) (xl j)) (q := fullShare) (f := g) (by
    rw [← rect_set inb]
    intro i hi
    obtain ⟨x, hx, rfl⟩ := Finset.mem_map.1 hi
    exact hx)
  rw [hv] at H
  exact H

variable (ids : (c : Dev nD) → Bf (F := F) c idsM) (tab : (c : Dev nD) → Bf (F := F) c tabM)

/-- Staging piece `j` of the combined rows: the load of what it overwrites, -/
theorem ld_xs {α : Type} {Q : α → sProp 𝕄} (c : Dev nD) (j : Fin 3) {a h : ℕ} (ha : a = xo j) (hh : h = xl j) {inb : ∀ x, (![a, 0] : Fin 2 → ℕ) x + (⟨2, ![h, 512]⟩ : Shape).size x ≤ S160x512.size x}
    {hl : xsM.view.LoadsAt (Rect.unit (s := S160x512) ![a, 0] (⟨2, ![h, 512]⟩ : Shape).size inb).toLoadRect}
    {k : Vec F ⟨2, ![h, 512]⟩ .bf16 → Prog (TpuEff nD τ sig (Elt F) Λ₀ .tc) α} (g : Bf (F := F) c xsM) :
    (xsP c j g : sProp 𝕄)
      ⊢ iprop((∀ v, xsP c j g -∗ wp frame (wpE (defs₀ (F := F)) 𝒱₀ (c : Thread nD τ) none) Set.univ (k v) Q)
        -∗ wp frame (wpE (defs₀ (F := F)) 𝒱₀ (c : Thread nD τ) none) Set.univ (.op (.load xsM (Rect.unit (s := S160x512) ![a, 0] (⟨2, ![h, 512]⟩ : Shape).size inb).toLoadRect hl) k) Q) := by
  subst ha hh
  iintro Hx Hk
  iapply (wp_load 𝒱₀ (c : Thread nD τ) none Set.univ (m := xsM) (r := (Rect.unit (s := S160x512) ![xo j, 0] (⟨2, ![xl j, 512]⟩ : Shape).size inb).toLoadRect) (S := rws (m := 160) (xo j) (xl j)) (f := g) (by
    rw [← rect_set inb]
    intro i hi
    obtain ⟨x, hx, rfl⟩ := Finset.mem_map.1 hi
    exact hx)) $$ Hx
  iintro Hx
  iapply Hk; iexact Hx

/-- and the store. -/
theorem st_xs {α : Type} {Q : α → sProp 𝕄} (c : Dev nD) (j : Fin 3) {a h : ℕ} (ha : a = xo j) (hh : h = xl j) {inb : ∀ x, (![a, 0] : Fin 2 → ℕ) x + (⟨2, ![h, 512]⟩ : Shape).size x ≤ S160x512.size x}
    {v : Vec F ⟨2, ![h, 512]⟩ .bf16} {hx} {hm} {k : PUnit → Prog (TpuEff nD τ sig (Elt F) Λ₀ .tc) α} (g : Bf (F := F) c xsM)
    (hv : ∀ x, v x = xF ids tab c (i160 (a + (x 0).val) (x 1).val)) :
    (xsP c j g : sProp 𝕄)
      ⊢ iprop((xsP c j (xF ids tab c) -∗ wp frame (wpE (defs₀ (F := F)) 𝒱₀ (c : Thread nD τ) none) Set.univ (k ⟨⟩) Q)
        -∗ wp frame (wpE (defs₀ (F := F)) 𝒱₀ (c : Thread nD τ) none) Set.univ (.op (.store xsM (Rect.unit (s := S160x512) ![a, 0] (⟨2, ![h, 512]⟩ : Shape).size inb) v Finset.univ hx hm) k) Q) := by
  subst ha hh
  iintro Hx Hk
  have hset : (xsM.access (Rect.unit (s := S160x512) ![xo j, 0] (⟨2, ![xl j, 512]⟩ : Shape).size inb)).set = rws (m := 160) (xo j) (xl j) :=
    (View.set_slice_whole (cc0_scratch4 : Ref sig .tc) (Rect.unit (s := S160x512) ![xo j, 0] (⟨2, ![xl j, 512]⟩ : Shape).size inb)).trans (rect_set _)
  iapply (wp_store 𝒱₀ (c : Thread nD τ) none Set.univ (m := xsM) (r := Rect.unit (s := S160x512) ![xo j, 0] (⟨2, ![xl j, 512]⟩ : Shape).size inb) (S := rws (m := 160) (xo j) (xl j)) (f := g) (by rw [← hset]; exact subset_rfl)) $$ Hx
  iintro Hx
  iapply Hk
  have hw : ∀ i ∈ rws (m := 160) (xo j) (xl j), (xsM.access (Rect.unit (s := S160x512) ![xo j, 0] (⟨2, ![xl j, 512]⟩ : Shape).size inb)).write (Elt F) g v Finset.univ i = xF ids tab c i := by
    intro i hi
    rw [← hset] at hi
    obtain ⟨x, -, rfl⟩ := Finset.mem_map.1 hi
    rw [View.write_emb_of_mem _ _ (Finset.mem_univ _)]
    exact (hv x).trans (congrArg (xF ids tab c) (emb_rows (by decide) inb x).symm)
  iapply (Entails.of_eq (pointsTo_congr hw)); iexact Hx

/-! ## The output -/

/-- What device `c` computes, by the rows of its output: 160 to 255 and 416 to 511 come from the pieces not sent on; of
    the other two groups, its own half is what it combines and the other half what `xnbr` sends. -/
def outF (c : Dev nD) : S512x512.Idx → F .f32 := fun i =>
  if 160 ≤ (i 0).val ∧ (i 0).val < 256 then sF ids tab c (i352 (i 0).val (i 1).val)
  else if 416 ≤ (i 0).val then sF ids tab c (i352 ((i 0).val - 160) (i 1).val)
  else if (i 0).val / 256 = c.val / 2 then sF ids tab c (i352 ((i 0).val % 256) (i 1).val)
  else FloatOps.extf .f32 bitsLt_bf16_f32 (xF ids tab (xnbr c) (i160 ((i 0).val % 256) (i 1).val) : F .bf16)

theorem i512_val (r j : ℕ) (hr : r < 512) (hj : j < 512) : (i512 r j 0).val = r ∧ (i512 r j 1).val = j :=
  ⟨Nat.mod_eq_of_lt hr, Nat.mod_eq_of_lt hj⟩

theorem xo_lt (k : Fin 3) : xo k + xl k ≤ 160 := by revert k; decide

theorem outF_own (c : Dev nD) (k : Fin 3) (r j : ℕ) (hr : r < xl k) (hj : j < 512) :
    outF ids tab c (i512 (256 * (c.val / 2) + xo k + r) j) = sF ids tab c (i352 (xo k + r) j) := by
  have hc : c.val < 4 := c.isLt
  have hk := xo_lt k
  obtain ⟨h0, h1⟩ := i512_val (256 * (c.val / 2) + xo k + r) j (by omega) hj
  unfold outF
  rw [h0, h1, if_neg (by omega), if_neg (by omega), if_pos (by omega), show (256 * (c.val / 2) + xo k + r) % 256 = xo k + r by omega]

theorem outF_other (c : Dev nD) (k : Fin 3) (a r j : ℕ) (ha : a + 256 * (c.val / 2) = 256 + xo k) (hr : r < xl k) (hj : j < 512) :
    outF ids tab c (i512 (a + r) j) = FloatOps.extf .f32 bitsLt_bf16_f32 (xF ids tab (xnbr c) (i160 (xo k + r) j) : F .bf16) := by
  have hc : c.val < 4 := c.isLt
  have hk := xo_lt k
  obtain ⟨h0, h1⟩ := i512_val (a + r) j (by omega) hj
  unfold outF
  rw [h0, h1, if_neg (by omega), if_neg (by omega), if_neg (by omega), show (a + r) % 256 = xo k + r by omega]

theorem outF_mid (c : Dev nD) (r j : ℕ) (hr : r < 96) (hj : j < 512) : outF ids tab c (i512 (160 + r) j) = sF ids tab c (i352 (160 + r) j) := by
  obtain ⟨h0, h1⟩ := i512_val (160 + r) j (by omega) hj
  unfold outF
  rw [h0, h1, if_pos (by omega)]

theorem outF_high (c : Dev nD) (r j : ℕ) (hr : r < 96) (hj : j < 512) : outF ids tab c (i512 (416 + r) j) = sF ids tab c (i352 (256 + r) j) := by
  obtain ⟨h0, h1⟩ := i512_val (416 + r) j (by omega) hj
  unfold outF
  rw [h0, h1, if_neg (by omega), if_pos (by omega), show 416 + r - 160 = 256 + r by omega]

/-- The output buffer with the rows that satisfy `D` computed. -/
def outR (c : Dev nD) (D : ℕ → Prop) : sProp 𝕄 :=
  iprop(∃ f : Bf (F := F) c outM, ⌜∀ i : S512x512.Idx, D (i 0).val → f i = outF ids tab c i⌝ ∗ pt c outM f)

/-- The load of the rows about to be overwritten. -/
theorem ld_out {α : Type} {Q : α → sProp 𝕄} (c : Dev nD) (D : ℕ → Prop) {r : Rect S512x512} {hl : outM.view.LoadsAt r.toLoadRect}
    {k : Vec F r.shape .f32 → Prog (TpuEff nD τ sig (Elt F) Λ₀ .tc) α} :
    (outR ids tab c D : sProp 𝕄)
      ⊢ iprop((∀ v, outR ids tab c D -∗ wp frame (wpE (defs₀ (F := F)) 𝒱₀ (c : Thread nD τ) none) Set.univ (k v) Q)
        -∗ wp frame (wpE (defs₀ (F := F)) 𝒱₀ (c : Thread nD τ) none) Set.univ (.op (.load outM r.toLoadRect hl) k) Q) := by
  unfold outR
  iintro ⟨%f, %hf, Ho⟩ Hk
  iapply (wp_load 𝒱₀ (c : Thread nD τ) none Set.univ (m := outM) (r := r.toLoadRect) (S := Finset.univ) (f := f) (Finset.subset_univ _)) $$ Ho
  iintro Ho
  iapply Hk
  iexists f
  iframe Ho
  ipureintro; exact hf

/-- A store of computed rows. -/
theorem st_out {α : Type} {Q : α → sProp 𝕄} (c : Dev nD) (D : ℕ → Prop) {off : Fin 2 → ℕ} {a h : ℕ} (ha : off = ![a, 0])
    {inb : ∀ x, off x + (⟨2, ![h, 512]⟩ : Shape).size x ≤ S512x512.size x}
    {v : Vec F ⟨2, ![h, 512]⟩ .f32} {hx} {hm} {k : PUnit → Prog (TpuEff nD τ sig (Elt F) Λ₀ .tc) α}
    (hv : ∀ x : (⟨2, ![h, 512]⟩ : Shape).Idx, v x = outF ids tab c (i512 (a + (x 0).val) (x 1).val)) :
    (outR ids tab c D : sProp 𝕄)
      ⊢ iprop((outR ids tab c (fun r => D r ∨ a ≤ r ∧ r < a + h) -∗ wp frame (wpE (defs₀ (F := F)) 𝒱₀ (c : Thread nD τ) none) Set.univ (k ⟨⟩) Q)
        -∗ wp frame (wpE (defs₀ (F := F)) 𝒱₀ (c : Thread nD τ) none) Set.univ (.op (.store outM (Rect.unit (s := S512x512) off (⟨2, ![h, 512]⟩ : Shape).size inb) v Finset.univ hx hm) k) Q) := by
  subst ha
  unfold outR
  iintro ⟨%f, %hf, Ho⟩ Hk
  have hset : (outM.access (Rect.unit (s := S512x512) ![a, 0] (⟨2, ![h, 512]⟩ : Shape).size inb)).set = rws (m := 512) a h :=
    (View.set_slice_whole (cc0_stg1_0 : Ref sig .tc) (Rect.unit (s := S512x512) ![a, 0] (⟨2, ![h, 512]⟩ : Shape).size inb)).trans (rect_set _)
  iapply (wp_store 𝒱₀ (c : Thread nD τ) none Set.univ (m := outM) (r := Rect.unit (s := S512x512) ![a, 0] (⟨2, ![h, 512]⟩ : Shape).size inb) (S := Finset.univ) (f := f) (Finset.subset_univ _)) $$ Ho
  iintro Ho
  iapply Hk
  iexists _
  iframe Ho
  ipureintro
  intro i hi
  by_cases hm : i ∈ rws (m := 512) a h
  · rw [← hset] at hm
    obtain ⟨x, -, rfl⟩ := Finset.mem_map.1 hm
    rw [View.write_emb_of_mem _ _ (Finset.mem_univ _)]
    exact (hv x).trans (congrArg (outF ids tab c) (emb_rows (by decide) inb x).symm)
  · rw [View.write_of_not_mem]
    · exact hf i (hi.resolve_right fun h => hm (mem_rws.2 h))
    · rw [← hset] at hm; exact hm

end Cert.Embed

end
-- ==== Proof.BodyA.lean ====
/-
  The first part of the body: the copy of the table block, the zero rows below it, the barrier's two signals and the
  first token id.
-/
module

public import proofs.«01_k».proof.Proof.Mem

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ids : (c : Dev nD) → Bf (F := F) c idsM) (tab : (c : Dev nD) → Bf (F := F) c tabM)

theorem dev_y (c : Dev nD) (n : Dev nD) (h : n.val = (2 * (c.val / 2) + 1) - c.val % 2) : n = ynbr c := Fin.ext h
theorem dev_x (c : Dev nD) (n : Dev nD) (h : n.val = (c.val % 2 + 2) - 2 * (c.val / 2)) : n = xnbr c := Fin.ext h

/-- The store of the zero rows. -/
theorem zero_rows (c : Dev nD) (f : Bf (F := F) c eM) {inb : ∀ x, (![4096, 0] : Fin 2 → ℕ) x + S8x512.size x ≤ S4104x512.size x} :
    ∀ i ∈ rws (m := 4104) 4096 8, (eM.access (Rect.unit (s := S4104x512) ![4096, 0] S8x512.size inb)).write (Elt F) f (k0_pay1 (F := F)) Finset.univ i = eF tab c i := by
  intro i hi
  have h0 := mem_rws.1 hi
  have hset : (eM.access (Rect.unit (s := S4104x512) ![4096, 0] S8x512.size inb)).set = rws (m := 4104) 4096 8 :=
    (View.set_slice_whole (cc0_scratch0 : Ref sig .tc) (Rect.unit (s := S4104x512) ![4096, 0] S8x512.size inb)).trans (rect_set _)
  rw [← hset] at hi
  obtain ⟨x, -, rfl⟩ := Finset.mem_map.1 hi
  rw [View.write_emb_of_mem _ _ (Finset.mem_univ _)]
  unfold eF
  rw [if_neg (by omega)]
  rfl

theorem k0_off1_tok (c : Dev nD) : k0_off1 c = ![tok c 0] := k0_off1_eq c

set_option maxHeartbeats 1600000 in
/-- Part 1. -/
theorem part1 (c : Dev nD) (X : sProp 𝕄)
    (Q : (Σ' (d0 : Dev nD) (v2 : BitVec 32) (v5 : BitVec 32) (v6 : BitVec 32) (v7 : BitVec 32) (v13 : Sems sig S_) (v22 : BitVec 32) (v23 : BitVec 32) (v27 : Elt F .i32) (k0_hw1 : k0_chk1 d0 v27), BitVec 1) → sProp 𝕄)
    (h : ∀ w₁ w₂ w₃ w₄ w₅ w₆ hw b, gRes c (ids c) (eF tab c) iprop(pt c tabM (tab c) ∗ sv c esS ∗ ow c 2 ∗ X) 0
      ⊢ Q ⟨c, w₁, w₂, w₃, w₄, SemArray.scalar (sig.barrier 0 rfl), w₅, w₆, ids c (ix1 (tok c 0)), hw, b⟩) :
    iprop(records ids tab ∗ levAts L lv ∗ pt c idsM (ids c) ∗ pt c tabM (tab c) ∗ (∃ f, pt (F := F) c eM f) ∗ (∃ f, pt (F := F) c gM f)
        ∗ dutyTok ER (dCell c esS) 0 false ∗ atPos ER (dCell c esS) 0 ∅ 0 ∗ ow c 0
        ∗ dutyTok ER (barCell (ynbr c)) 0 false ∗ (∃ f, pt (F := F) c yM f) ∗ dutyTok ER (barCell (xnbr c)) 0 true ∗ (∃ f, pt (F := F) c xM f) ∗ X)
      ⊢ wp frame (wpE (defs₀ (F := F)) 𝒱₀ (c : Thread nD τ) none) Set.univ (k0_part1 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10) Q := by
  rw [k0_part1_eq_skeleton]; unfold k0_part1_skel
  simp only [semSignalWord, Prog.lift, Prog.bind_op, Prog.bind_ret, Prog.pure_eq_ret, wp_deviceId]
  iintro ⟨#HR, #Hlev, Hi, Ht, ⟨%f, He⟩, ⟨%g, Hg⟩, Htk, Hat, HO, Hty, Hy, Htx, Hx, HX⟩
  ihave He := (Entails.of_eq (e_split c f)) $$ He
  icases He with ⟨He, Hz⟩
  iapply (copy_e ids tab c rfl) $$ [Ht He Htk Hat]
  · iframe HR Ht Htk Hat; iexists f; iexact He
  iintro Hw
  iapply (wp_load 𝒱₀ (c : Thread nD τ) none Set.univ (m := eM) (S := rws (m := 4104) 4096 8) (f := f) (by
    rw [← rect_set inb_S4104x512_S8x512_4096_0]
    intro i hi
    obtain ⟨x, hx, rfl⟩ := Finset.mem_map.1 hi
    exact hx)) $$ Hz
  iintro Hz
  iapply (wp_store 𝒱₀ (c : Thread nD τ) none Set.univ (m := eM) (r := Rect.unit (s := S4104x512) ![4096, 0] S8x512.size inb_S4104x512_S8x512_4096_0) (S := rws (m := 4104) 4096 8) (f := f) (by
    rw [show (eM.access (Rect.unit (s := S4104x512) ![4096, 0] S8x512.size inb_S4104x512_S8x512_4096_0)).setOn Finset.univ = rws (m := 4104) 4096 8 from
      (View.set_slice_whole (cc0_scratch0 : Ref sig .tc) (Rect.unit (s := S4104x512) ![4096, 0] S8x512.size inb_S4104x512_S8x512_4096_0)).trans (rect_set _)])) $$ Hz
  iintro Hz
  ihave Hz := (Entails.of_eq (pointsTo_congr (zero_rows tab c f))) $$ Hz
  iapply (signal_y ids tab c _ (dev_y c _ (k0_dev1_eq c))) $$ [HO Hty Hy]
  · iframe HR HO Hty Hy
  iintro HO
  iapply (signal_x ids tab c _ (dev_x c _ (k0_dev2_eq c))) $$ [HO Htx Hx]
  · iframe HR HO Htx Hx
  iintro HO
  iapply (wait_d ids tab c esS (by decide) 2 rfl (amt_es.symm ▸ rfl) (fun _ => (by decide : (0 : ℕ) < 2))) $$ [HO Hw]
  · iframe HR Hlev HO Hw
  iintro ⟨HO, Hs, Hp⟩
  ihave Hp := (Entails.of_eq (show dPay ids tab c esS = iprop(eP c (eF tab c) ∗ pt c tabM (tab c)) from rfl)) $$ Hp
  icases Hp with ⟨He, Ht⟩
  ihave He := (Entails.of_eq (e_split c (eF tab c)).symm) $$ [He Hz]
  · iframe He Hz
  ihave HG : gRes c (ids c) (eF tab c) iprop(pt c tabM (tab c) ∗ sv c esS ∗ ow c 2 ∗ X) 0 $$ [Hi He Hg Ht Hs HO HX]
  · unfold gRes
    iframe
    iexists g
    iframe
    ipureintro
    intro i hi
    exact absurd hi (Nat.not_lt_zero _)
  iapply (step_id (Q := Q) (c := c) (ids := ids c) (e := eF tab c) (n := 0) (k0_off1_tok c) (step_chk (chk c _) (step_ret (h _ _ _ _ _ _ _ _)))) $$ HG

end Cert.Embed

end
-- ==== Proof.BodyB.lean ====
/-
  The end of the gather, the narrowed copy of its buffer, and the barrier's wait.
-/
module

public import proofs.«01_k».proof.Proof.BodyA

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ids : (c : Dev nD) → Bf (F := F) c idsM) (tab : (c : Dev nD) → Bf (F := F) c tabM)

set_option maxHeartbeats 1600000 in
/-- Part 124: steps 350 and 351, the narrowed copy, and the wait for both neighbours' signals. -/
theorem part124 (c : Dev nD) (X : sProp 𝕄) (w₁ w₂ w₃ : BitVec 32) (hw : k0_chk351 c (ids c (ix1 (tok c 350)))) (b : BitVec 1) (w₄ : BitVec 32) (Q : PUnit → sProp 𝕄)
    (h : iprop(pt c idsM (ids c) ∗ pt c eM (eF tab c) ∗ pt c gM (gF ids tab c) ∗ pt c gbM (gbF ids tab c)
        ∗ ow c 2 ∗ semVal (barCell c) 0 ∗ (∃ f, pt (F := F) (ynbr c) yM f) ∗ (∃ f, pt (F := F) (xnbr c) xM f) ∗ X) ⊢ Q ⟨⟩) :
    gRes c (ids c) (eF tab c) iprop(records ids tab ∗ levAts L lv ∗ (∃ f, pt (F := F) c gbM f) ∗ ow c 2
        ∗ atPos ER (barCell c) 0 ∅ 0 ∗ cred (tallyAt (barCell c) () 2) ∗ X) 350
      ⊢ wp frame (wpE (defs₀ (F := F)) 𝒱₀ (c : Thread nD τ) none) Set.univ (k0_part124 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ (SemArray.scalar (sig.barrier 0 rfl)) w₃ (ids c (ix1 (tok c 350))) hw b w₄) Q := by
  sl_open_parts
  (with_reducible apply step_row (F := F)); case hoff => exact rfl
  (with_reducible apply step_old (F := F)); intro _
  (with_reducible apply step_store (F := F)); (case hn => rfl); (case hv => exact pay_eq _)
  (with_reducible apply step_id (F := F)); case hoff => (with_reducible exact tok_high c _ _ (by decide) rfl)
  (with_reducible apply step_chk (F := F)); case hP => exact chk c _
  (with_reducible apply step_row (F := F)); case hoff => exact rfl
  (with_reducible apply step_old (F := F)); intro _
  (with_reducible apply step_store (F := F)); (case hn => rfl); (case hv => exact pay_eq _)
  simp only [semWaitWord, Prog.lift, Prog.bind_op, Prog.bind_ret, Prog.pure_eq_ret]
  unfold gRes
  iintro ⟨Hi, He, ⟨%g, %hg, Hg⟩, #HR, #Hlev, ⟨%fb, Hgb⟩, HO, Hat, Hc, HX⟩
  have hgF : g = gF ids tab c := funext fun i => hg i (i 0).isLt
  subst hgF
  iapply (ld_g c (gF ids tab c)) $$ Hg
  iintro Hg
  iapply (wp_load 𝒱₀ (c : Thread nD τ) none Set.univ (m := gbM) (S := Finset.univ) (f := fb) (Finset.subset_univ _)) $$ Hgb
  iintro Hgb
  iapply (wp_store 𝒱₀ (c : Thread nD τ) none Set.univ (m := gbM) (r := Rect.unit (s := S352x512) ![0, 0] S352x512.size inb_S352x512_S352x512_0_0) (S := Finset.univ) (f := fb) (Finset.subset_univ _)) $$ Hgb
  iintro Hgb
  have hw : ∀ i : S352x512.Idx, (gbM.access (Rect.unit (s := S352x512) ![0, 0] S352x512.size inb_S352x512_S352x512_0_0)).write (Elt F) fb
      (k0_pay354 fun x => gF ids tab c (i352 (0 + (x 0).val) (x 1).val)) Finset.univ i = gbF ids tab c i := by
    intro i
    have hx : i = (gbM.access (Rect.unit (s := S352x512) ![0, 0] S352x512.size inb_S352x512_S352x512_0_0)).emb i := by
      funext y
      refine Fin.ext ?_
      fin_cases y
      · show (i 0).val = 0 + 1 * (i 0).val
        omega
      · show (i 1).val = 0 + 1 * (i 1).val
        omega
    have hp : (k0_pay354 fun x => gF ids tab c (i352 (0 + (x 0).val) (x 1).val)) = gbF ids tab c := by
      refine (shapeCast_self _ _).trans (funext fun x => ?_)
      show FloatOps.truncf .bf16 bitsLt_bf16_f32 (gF ids tab c (i352 (0 + (x 0).val) (x 1).val) : F .f32) = FloatOps.truncf .bf16 bitsLt_bf16_f32 (gF ids tab c x : F .f32)
      congr 2
      funext y
      refine Fin.ext ?_
      have h0 : (x 0).val < 352 := (x 0).isLt
      have h1 : (x 1).val < 512 := (x 1).isLt
      fin_cases y
      · show (0 + (x 0).val) % 352 = (x 0).val
        omega
      · show (x 1).val % 512 = (x 1).val
        omega
    refine (congrArg _ hx).trans ((View.write_emb_of_mem _ _ (Finset.mem_univ _)).trans ?_)
    rw [hp]; rfl
  ihave Hgb := (Entails.of_eq (congrArg (fun f => pt c gbM f) (funext hw))) $$ Hgb
  iapply (wait_bar ids tab c) $$ [HO Hat Hc]
  · iframe HR Hlev HO Hat Hc
  iintro ⟨HO, Hs, Hy, Hx⟩
  iapply (step_ret (c := c) h)
  iframe

end Cert.Embed

end
-- ==== Proof.BodyC.lean ====
/-
  The exchange of the gathered rows: with the neighbour along `y`, chunk by chunk, and of the sums with the neighbour
  along `x`. One rule per part of the kernel, each continuing at what follows the part.
-/
module

public import proofs.«01_k».proof.Proof.BodyB

@[expose] public section

set_option maxRecDepth 100000

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ids : (c : Dev nD) → Bf (F := F) c idsM) (tab : (c : Dev nD) → Bf (F := F) c tabM)

/-- What device `c` pays transfer `j` to `ynbr` with, -/
def yTok (c : Dev nD) (j : Fin 5) : sProp 𝕄 :=
  iprop(dutyTok ER (dCell c (ysS j)) 0 false ∗ dutyTok ER (dCell (ynbr c) (yrS j)) 0 false ∗ atPos ER (dCell c (ysS j)) 0 ∅ 0)
/-- and transfer `j` to `xnbr`; -/
def xTok (c : Dev nD) (j : Fin 3) : sProp 𝕄 :=
  iprop(dutyTok ER (dCell c (xsS j)) 0 false ∗ dutyTok ER (dCell (xnbr c) (xrS j)) 0 false ∗ atPos ER (dCell c (xsS j)) 0 ∅ 0)
/-- the landing chunks there, whatever they hold. -/
def yDst (c : Dev nD) (j : Fin 5) : sProp 𝕄 := iprop(∃ f, yP (F := F) (ynbr c) j f)
def xDst (c : Dev nD) (j : Fin 3) : sProp 𝕄 := iprop(∃ f, xP (F := F) (xnbr c) j f)

theorem xo_le : ∀ j : Fin 3, xo j + xl j ≤ 160 := by decide

theorem other_off (c : Dev nD) : ∀ j : Fin 3, (![256, 352, 400] : Fin 3 → ℕ) j - 256 * (c.val / 2) + 256 * (c.val / 2) = 256 + xo j := by
  revert c; decide

theorem xF_at (c : Dev nD) (r j : ℕ) (hr : r < 160) (hj : j < 512) :
    xF ids tab c (i160 r j) = FloatOps.truncf .bf16 bitsLt_bf16_f32 (sF ids tab c (i352 r j)) := by
  show FloatOps.truncf .bf16 bitsLt_bf16_f32 (sF ids tab c (i352 (r % 160) (j % 512))) = _
  rw [Nat.mod_eq_of_lt hr, Nat.mod_eq_of_lt hj]

theorem outR_mono (c : Dev nD) {D D' : ℕ → Prop} (h : ∀ r, D' r → D r) : outR ids tab c D ⊢ outR ids tab c D' := by
  unfold outR
  iintro ⟨%f, %hf, Ho⟩
  iexists f
  iframe Ho
  ipureintro
  exact fun i hi => hf i (h _ hi)

set_option maxHeartbeats 1600000 in
theorem part125 {α : Type} {Q : α → sProp 𝕄} (c : Dev nD)  (w₁ : BitVec 32) (w₂ : BitVec 32)
    {k : PUnit → Prog (TpuEff nD τ sig (Elt F) Λ₀ .tc) α} :
    iprop(records ids tab ∗ ow c 2 ∗ gbP c 0 (gbF ids tab c) ∗ yDst c 0 ∗ yTok c 0 ∗ gbP c 1 (gbF ids tab c) ∗ yDst c 1 ∗ yTok c 1 ∗ gbP c 2 (gbF ids tab c) ∗ yDst c 2 ∗ yTok c 2)
      ⊢ iprop((∀ v, (ow c 5 ∗ wt c (ysS 0) ∗ wt c (ysS 1) ∗ wt c (ysS 2)) -∗ wp frame (wpE (defs₀ (F := F)) 𝒱₀ (c : Thread nD τ) none) Set.univ (k v) Q) -∗ wp frame (wpE (defs₀ (F := F)) 𝒱₀ (c : Thread nD τ) none) Set.univ (k0_part125 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ >>= k) Q) := by
  rw [k0_part125_eq_skeleton]; unfold k0_part125_skel
  simp only [Prog.lift, Prog.bind_op, Prog.bind_ret, Prog.pure_eq_ret]
  iintro ⟨#HR, HO, Hg0, Hy0, HT0, Hg1, Hy1, HT1, Hg2, Hy2, HT2⟩ Hk
  unfold yTok yDst
  icases HT0 with ⟨Ha, Hb, Hd⟩
  iapply (send_y ids tab c _ (dev_y c _ (k0_dev3_eq c)) 0 2 3 rfl rfl rfl rfl rfl rfl) $$ [HO Hg0 Hy0 Ha Hb Hd]
  · isplitr; · iexact HR
    isplitl [HO]; · iexact HO
    isplitl [Hg0]; · iexact Hg0
    isplitl [Hy0]; · iexact Hy0
    isplitl [Ha]; · iexact Ha
    isplitl [Hb]; · iexact Hb
    iexact Hd
  iintro ⟨HO, HT0⟩
  icases HT1 with ⟨Ha, Hb, Hd⟩
  iapply (send_y ids tab c _ (dev_y c _ (k0_dev4_eq c)) 1 3 4 rfl rfl rfl rfl rfl rfl) $$ [HO Hg1 Hy1 Ha Hb Hd]
  · isplitr; · iexact HR
    isplitl [HO]; · iexact HO
    isplitl [Hg1]; · iexact Hg1
    isplitl [Hy1]; · iexact Hy1
    isplitl [Ha]; · iexact Ha
    isplitl [Hb]; · iexact Hb
    iexact Hd
  iintro ⟨HO, HT1⟩
  icases HT2 with ⟨Ha, Hb, Hd⟩
  iapply (send_y ids tab c _ (dev_y c _ (k0_dev5_eq c)) 2 4 5 rfl rfl rfl rfl rfl rfl) $$ [HO Hg2 Hy2 Ha Hb Hd]
  · isplitr; · iexact HR
    isplitl [HO]; · iexact HO
    isplitl [Hg2]; · iexact Hg2
    isplitl [Hy2]; · iexact Hy2
    isplitl [Ha]; · iexact Ha
    isplitl [Hb]; · iexact Hb
    iexact Hd
  iintro ⟨HO, HT2⟩
  iapply Hk $$ %_
  isplitl [HO]; · iexact HO
  isplitl [HT0]; · iexact HT0
  isplitl [HT1]; · iexact HT1
  iexact HT2

set_option maxHeartbeats 1600000 in
theorem part126 {α : Type} {Q : α → sProp 𝕄} (c : Dev nD) (D : ℕ → Prop)  (w₁ : BitVec 32) (w₂ : BitVec 32) (w₃ : BitVec 32)
    {k : FVec F S96x512 .bf16 → Prog (TpuEff nD τ sig (Elt F) Λ₀ .tc) α} :
    iprop(records ids tab ∗ levAts L lv ∗ ow c 5 ∗ gbP c 3 (gbF ids tab c) ∗ yDst c 3 ∗ yTok c 3 ∗ gbP c 4 (gbF ids tab c) ∗ yDst c 4 ∗ yTok c 4 ∗ wt c (yrS 0) ∗ pt c gM (gF ids tab c) ∗ outR ids tab c D)
      ⊢ iprop((∀ v : Vec F (⟨2, ![96, 512]⟩ : Shape) .bf16, ⌜∀ x, v x = xF ids tab c (i160 (xo 0 + (x 0).val) (x 1).val)⌝ -∗ (ow c 7 ∗ wt c (ysS 3) ∗ wt c (ysS 4) ∗ sv c (yrS 0) ∗ yP c 0 (gbF ids tab (ynbr c)) ∗ pt c gM (gF ids tab c) ∗ outR ids tab c (fun r => D r ∨ 256 * (c.val / 2) + xo 0 ≤ r ∧ r < 256 * (c.val / 2) + xo 0 + 96)) -∗ wp frame (wpE (defs₀ (F := F)) 𝒱₀ (c : Thread nD τ) none) Set.univ (k v) Q) -∗ wp frame (wpE (defs₀ (F := F)) 𝒱₀ (c : Thread nD τ) none) Set.univ (k0_part126 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ w₃ >>= k) Q) := by
  rw [k0_part126_eq_skeleton]; unfold k0_part126_skel
  simp only [Prog.lift, Prog.bind_op, Prog.bind_ret, Prog.pure_eq_ret]
  iintro ⟨#HR, #Hlev, HO, Hg3, Hy3, HT3, Hg4, Hy4, HT4, HW0, Hg, Hout⟩ Hk
  unfold yTok yDst
  icases HT3 with ⟨Ha, Hb, Hd⟩
  iapply (send_y ids tab c _ (dev_y c _ (k0_dev6_eq c)) 3 5 6 rfl rfl rfl rfl rfl rfl) $$ [HO Hg3 Hy3 Ha Hb Hd]
  · isplitr; · iexact HR
    isplitl [HO]; · iexact HO
    isplitl [Hg3]; · iexact Hg3
    isplitl [Hy3]; · iexact Hy3
    isplitl [Ha]; · iexact Ha
    isplitl [Hb]; · iexact Hb
    iexact Hd
  iintro ⟨HO, HT3⟩
  icases HT4 with ⟨Ha, Hb, Hd⟩
  iapply (send_y ids tab c _ (dev_y c _ (k0_dev7_eq c)) 4 6 7 rfl rfl rfl rfl rfl rfl) $$ [HO Hg4 Hy4 Ha Hb Hd]
  · isplitr; · iexact HR
    isplitl [HO]; · iexact HO
    isplitl [Hg4]; · iexact Hg4
    isplitl [Hy4]; · iexact Hy4
    isplitl [Ha]; · iexact Ha
    isplitl [Hb]; · iexact Hb
    iexact Hd
  iintro ⟨HO, HT4⟩
  iapply (wait_d ids tab c (yrS 0) (yrS_two 0) 7 rfl (Eq.trans (show _ = crB (yl 0) from rfl) (amt_yr 0).symm) (by decide)) $$ [HO HW0]
  · isplitr; · iexact HR
    isplitr; · iexact Hlev
    isplitl [HO]; · iexact HO
    iexact HW0
  iintro ⟨HO, HW0, Hy0⟩
  ihave Hy0 := (Entails.of_eq (pay_yr ids tab c 0)) $$ Hy0
  iapply (ld_g c (gF ids tab c)) $$ Hg
  iintro Hg
  iapply (ld_y c 0 rfl rfl (gbF ids tab (ynbr c))) $$ Hy0
  iintro Hy0
  iapply (ld_out ids tab c _) $$ Hout
  iintro %_ Hout
  iapply (st_out ids tab c _ (a := 256 * (c.val / 2) + xo 0) (k0_off513_eq c) (fun x => (outF_own ids tab c 0 _ _ (x 0).isLt (x 1).isLt).symm)) $$ Hout
  iintro Hout
  iapply Hk $$ %_ %(fun x => (xF_at ids tab c _ _ (lt_of_lt_of_le (Nat.add_lt_add_left (x 0).isLt _) (xo_le 0)) (x 1).isLt).symm)
  isplitl [HO]; · iexact HO
  isplitl [HT3]; · iexact HT3
  isplitl [HT4]; · iexact HT4
  isplitl [HW0]; · iexact HW0
  isplitl [Hy0]; · iexact Hy0
  isplitl [Hg]; · iexact Hg
  iexact Hout

set_option maxHeartbeats 1600000 in
theorem part127 {α : Type} {Q : α → sProp 𝕄} (c : Dev nD) (D : ℕ → Prop)  (w₁ : BitVec 32) (w₂ : BitVec 32) (w₃ : BitVec 32) (w₄ : BitVec 32) (w₅ : BitVec 32) (v : Vec F (⟨2, ![96, 512]⟩ : Shape) .bf16) (hv : ∀ x, v x = xF ids tab c (i160 (xo 0 + (x 0).val) (x 1).val))
    {k : FVec F S48x512 .bf16 → Prog (TpuEff nD τ sig (Elt F) Λ₀ .tc) α} :
    iprop(records ids tab ∗ levAts L lv ∗ ow c 7 ∗ (∃ f, xsP (F := F) c 0 f) ∗ xDst c 0 ∗ xTok c 0 ∗ wt c (yrS 1) ∗ pt c gM (gF ids tab c) ∗ outR ids tab c D)
      ⊢ iprop((∀ v : Vec F (⟨2, ![48, 512]⟩ : Shape) .bf16, ⌜∀ x, v x = xF ids tab c (i160 (xo 1 + (x 0).val) (x 1).val)⌝ -∗ (ow c 8 ∗ wt c (xsS 0) ∗ sv c (yrS 1) ∗ yP c 1 (gbF ids tab (ynbr c)) ∗ pt c gM (gF ids tab c) ∗ outR ids tab c (fun r => D r ∨ 256 * (c.val / 2) + xo 1 ≤ r ∧ r < 256 * (c.val / 2) + xo 1 + 48)) -∗ wp frame (wpE (defs₀ (F := F)) 𝒱₀ (c : Thread nD τ) none) Set.univ (k v) Q) -∗ wp frame (wpE (defs₀ (F := F)) 𝒱₀ (c : Thread nD τ) none) Set.univ (k0_part127 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ w₃ w₄ w₅ v >>= k) Q) := by
  rw [k0_part127_eq_skeleton]; unfold k0_part127_skel
  simp only [Prog.lift, Prog.bind_op, Prog.bind_ret, Prog.pure_eq_ret]
  iintro ⟨#HR, #Hlev, HO, Hs0, Hx0, HU0, HW1, Hg, Hout⟩ Hk
  icases Hs0 with ⟨%fs, Hs0⟩
  iapply (ld_xs c 0 rfl rfl fs) $$ Hs0
  iintro %_ Hs0
  iapply (st_xs ids tab c 0 rfl rfl fs (fun x => (congrFun (shapeCast_self _ _) x).trans (hv x))) $$ Hs0
  iintro Hs0
  unfold xTok xDst
  icases HU0 with ⟨Ha, Hb, Hd⟩
  iapply (send_x ids tab c _ (dev_x c _ (k0_dev8_eq c)) 0 7 8 rfl rfl rfl rfl rfl rfl) $$ [HO Hs0 Hx0 Ha Hb Hd]
  · isplitr; · iexact HR
    isplitl [HO]; · iexact HO
    isplitl [Hs0]; · iexact Hs0
    isplitl [Hx0]; · iexact Hx0
    isplitl [Ha]; · iexact Ha
    isplitl [Hb]; · iexact Hb
    iexact Hd
  iintro ⟨HO, HU0⟩
  iapply (wait_d ids tab c (yrS 1) (yrS_two 1) 8 rfl (Eq.trans (show _ = crB (yl 1) from rfl) (amt_yr 1).symm) (by decide)) $$ [HO HW1]
  · isplitr; · iexact HR
    isplitr; · iexact Hlev
    isplitl [HO]; · iexact HO
    iexact HW1
  iintro ⟨HO, HW1, Hy1⟩
  ihave Hy1 := (Entails.of_eq (pay_yr ids tab c 1)) $$ Hy1
  iapply (ld_g c (gF ids tab c)) $$ Hg
  iintro Hg
  iapply (ld_y c 1 rfl rfl (gbF ids tab (ynbr c))) $$ Hy1
  iintro Hy1
  iapply (ld_out ids tab c _) $$ Hout
  iintro %_ Hout
  iapply (st_out ids tab c _ (a := 256 * (c.val / 2) + xo 1) (k0_off514_eq c) (fun x => (outF_own ids tab c 1 _ _ (x 0).isLt (x 1).isLt).symm)) $$ Hout
  iintro Hout
  iapply Hk $$ %_ %(fun x => (xF_at ids tab c _ _ (lt_of_lt_of_le (Nat.add_lt_add_left (x 0).isLt _) (xo_le 1)) (x 1).isLt).symm)
  isplitl [HO]; · iexact HO
  isplitl [HU0]; · iexact HU0
  isplitl [HW1]; · iexact HW1
  isplitl [Hy1]; · iexact Hy1
  isplitl [Hg]; · iexact Hg
  iexact Hout

set_option maxHeartbeats 1600000 in
theorem part128 {α : Type} {Q : α → sProp 𝕄} (c : Dev nD) (D : ℕ → Prop)  (w₁ : BitVec 32) (w₂ : BitVec 32) (w₃ : BitVec 32) (w₄ : BitVec 32) (w₅ : BitVec 32) (v : Vec F (⟨2, ![48, 512]⟩ : Shape) .bf16) (hv : ∀ x, v x = xF ids tab c (i160 (xo 1 + (x 0).val) (x 1).val))
    {k : FVec F S16x512 .bf16 → Prog (TpuEff nD τ sig (Elt F) Λ₀ .tc) α} :
    iprop(records ids tab ∗ levAts L lv ∗ ow c 8 ∗ (∃ f, xsP (F := F) c 1 f) ∗ xDst c 1 ∗ xTok c 1 ∗ wt c (yrS 2) ∗ pt c gM (gF ids tab c) ∗ outR ids tab c D)
      ⊢ iprop((∀ v : Vec F (⟨2, ![16, 512]⟩ : Shape) .bf16, ⌜∀ x, v x = xF ids tab c (i160 (xo 2 + (x 0).val) (x 1).val)⌝ -∗ (ow c 9 ∗ wt c (xsS 1) ∗ sv c (yrS 2) ∗ yP c 2 (gbF ids tab (ynbr c)) ∗ pt c gM (gF ids tab c) ∗ outR ids tab c (fun r => D r ∨ 256 * (c.val / 2) + xo 2 ≤ r ∧ r < 256 * (c.val / 2) + xo 2 + 16)) -∗ wp frame (wpE (defs₀ (F := F)) 𝒱₀ (c : Thread nD τ) none) Set.univ (k v) Q) -∗ wp frame (wpE (defs₀ (F := F)) 𝒱₀ (c : Thread nD τ) none) Set.univ (k0_part128 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ w₃ w₄ w₅ v >>= k) Q) := by
  rw [k0_part128_eq_skeleton]; unfold k0_part128_skel
  simp only [Prog.lift, Prog.bind_op, Prog.bind_ret, Prog.pure_eq_ret]
  iintro ⟨#HR, #Hlev, HO, Hs1, Hx1, HU1, HW2, Hg, Hout⟩ Hk
  icases Hs1 with ⟨%fs, Hs1⟩
  iapply (ld_xs c 1 rfl rfl fs) $$ Hs1
  iintro %_ Hs1
  iapply (st_xs ids tab c 1 rfl rfl fs (fun x => (congrFun (shapeCast_self _ _) x).trans (hv x))) $$ Hs1
  iintro Hs1
  unfold xTok xDst
  icases HU1 with ⟨Ha, Hb, Hd⟩
  iapply (send_x ids tab c _ (dev_x c _ (k0_dev9_eq c)) 1 8 9 rfl rfl rfl rfl rfl rfl) $$ [HO Hs1 Hx1 Ha Hb Hd]
  · isplitr; · iexact HR
    isplitl [HO]; · iexact HO
    isplitl [Hs1]; · iexact Hs1
    isplitl [Hx1]; · iexact Hx1
    isplitl [Ha]; · iexact Ha
    isplitl [Hb]; · iexact Hb
    iexact Hd
  iintro ⟨HO, HU1⟩
  iapply (wait_d ids tab c (yrS 2) (yrS_two 2) 9 rfl (Eq.trans (show _ = crB (yl 2) from rfl) (amt_yr 2).symm) (by decide)) $$ [HO HW2]
  · isplitr; · iexact HR
    isplitr; · iexact Hlev
    isplitl [HO]; · iexact HO
    iexact HW2
  iintro ⟨HO, HW2, Hy2⟩
  ihave Hy2 := (Entails.of_eq (pay_yr ids tab c 2)) $$ Hy2
  iapply (ld_g c (gF ids tab c)) $$ Hg
  iintro Hg
  iapply (ld_y c 2 rfl rfl (gbF ids tab (ynbr c))) $$ Hy2
  iintro Hy2
  iapply (ld_out ids tab c _) $$ Hout
  iintro %_ Hout
  iapply (st_out ids tab c _ (a := 256 * (c.val / 2) + xo 2) (k0_off515_eq c) (fun x => (outF_own ids tab c 2 _ _ (x 0).isLt (x 1).isLt).symm)) $$ Hout
  iintro Hout
  iapply Hk $$ %_ %(fun x => (xF_at ids tab c _ _ (lt_of_lt_of_le (Nat.add_lt_add_left (x 0).isLt _) (xo_le 2)) (x 1).isLt).symm)
  isplitl [HO]; · iexact HO
  isplitl [HU1]; · iexact HU1
  isplitl [HW2]; · iexact HW2
  isplitl [Hy2]; · iexact Hy2
  isplitl [Hg]; · iexact Hg
  iexact Hout

set_option maxHeartbeats 1600000 in
theorem part129 {α : Type} {Q : α → sProp 𝕄} (c : Dev nD) (D : ℕ → Prop)  (w₁ : BitVec 32) (w₂ : BitVec 32) (w₃ : BitVec 32) (w₄ : BitVec 32) (v : Vec F (⟨2, ![16, 512]⟩ : Shape) .bf16) (hv : ∀ x, v x = xF ids tab c (i160 (xo 2 + (x 0).val) (x 1).val))
    {k : BitVec 32 → Prog (TpuEff nD τ sig (Elt F) Λ₀ .tc) α} :
    iprop(records ids tab ∗ levAts L lv ∗ ow c 9 ∗ (∃ f, xsP (F := F) c 2 f) ∗ xDst c 2 ∗ xTok c 2 ∗ wt c (yrS 3) ∗ pt c gM (gF ids tab c) ∗ outR ids tab c D)
      ⊢ iprop((∀ v, (ow c 10 ∗ wt c (xsS 2) ∗ sv c (yrS 3) ∗ yP c 3 (gbF ids tab (ynbr c)) ∗ pt c gM (gF ids tab c) ∗ outR ids tab c (fun r => D r ∨ 160 ≤ r ∧ r < 160 + 96)) -∗ wp frame (wpE (defs₀ (F := F)) 𝒱₀ (c : Thread nD τ) none) Set.univ (k v) Q) -∗ wp frame (wpE (defs₀ (F := F)) 𝒱₀ (c : Thread nD τ) none) Set.univ (k0_part129 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ w₃ w₄ v >>= k) Q) := by
  rw [k0_part129_eq_skeleton]; unfold k0_part129_skel
  simp only [Prog.lift, Prog.bind_op, Prog.bind_ret, Prog.pure_eq_ret]
  iintro ⟨#HR, #Hlev, HO, Hs2, Hx2, HU2, HW3, Hg, Hout⟩ Hk
  icases Hs2 with ⟨%fs, Hs2⟩
  iapply (ld_xs c 2 rfl rfl fs) $$ Hs2
  iintro %_ Hs2
  iapply (st_xs ids tab c 2 rfl rfl fs (fun x => (congrFun (shapeCast_self _ _) x).trans (hv x))) $$ Hs2
  iintro Hs2
  unfold xTok xDst
  icases HU2 with ⟨Ha, Hb, Hd⟩
  iapply (send_x ids tab c _ (dev_x c _ (k0_dev10_eq c)) 2 9 10 rfl rfl rfl rfl rfl rfl) $$ [HO Hs2 Hx2 Ha Hb Hd]
  · isplitr; · iexact HR
    isplitl [HO]; · iexact HO
    isplitl [Hs2]; · iexact Hs2
    isplitl [Hx2]; · iexact Hx2
    isplitl [Ha]; · iexact Ha
    isplitl [Hb]; · iexact Hb
    iexact Hd
  iintro ⟨HO, HU2⟩
  iapply (wait_d ids tab c (yrS 3) (yrS_two 3) 10 rfl (Eq.trans (show _ = crB (yl 3) from rfl) (amt_yr 3).symm) (by decide)) $$ [HO HW3]
  · isplitr; · iexact HR
    isplitr; · iexact Hlev
    isplitl [HO]; · iexact HO
    iexact HW3
  iintro ⟨HO, HW3, Hy3⟩
  ihave Hy3 := (Entails.of_eq (pay_yr ids tab c 3)) $$ Hy3
  iapply (ld_g c (gF ids tab c)) $$ Hg
  iintro Hg
  iapply (ld_y c 3 rfl rfl (gbF ids tab (ynbr c))) $$ Hy3
  iintro Hy3
  iapply (ld_out ids tab c _) $$ Hout
  iintro %_ Hout
  iapply (st_out ids tab c _ (a := 160) (rfl) (fun x => (outF_mid ids tab c _ _ (x 0).isLt (x 1).isLt).symm)) $$ Hout
  iintro Hout
  iapply Hk $$ %_
  isplitl [HO]; · iexact HO
  isplitl [HU2]; · iexact HU2
  isplitl [HW3]; · iexact HW3
  isplitl [Hy3]; · iexact Hy3
  isplitl [Hg]; · iexact Hg
  iexact Hout

set_option maxHeartbeats 1600000 in
theorem part130 {α : Type} {Q : α → sProp 𝕄} (c : Dev nD) (D : ℕ → Prop)  (w₁ : BitVec 32) (w₂ : BitVec 32) (w₃ : BitVec 32) (w₄ : BitVec 32) (w₅ : BitVec 32)
    {k : (Σ' (_ : BitVec 32), BitVec 32) → Prog (TpuEff nD τ sig (Elt F) Λ₀ .tc) α} :
    iprop(records ids tab ∗ levAts L lv ∗ ow c 10 ∗ wt c (yrS 4) ∗ pt c gM (gF ids tab c) ∗ wt c (xrS 0) ∗ outR ids tab c D)
      ⊢ iprop((∀ v, (ow c 10 ∗ sv c (yrS 4) ∗ yP c 4 (gbF ids tab (ynbr c)) ∗ pt c gM (gF ids tab c) ∗ sv c (xrS 0) ∗ xP c 0 (xF ids tab (xnbr c)) ∗ outR ids tab c (fun r => (D r ∨ 416 ≤ r ∧ r < 416 + 96) ∨ 256 - 256 * (c.val / 2) ≤ r ∧ r < 256 - 256 * (c.val / 2) + 96)) -∗ wp frame (wpE (defs₀ (F := F)) 𝒱₀ (c : Thread nD τ) none) Set.univ (k v) Q) -∗ wp frame (wpE (defs₀ (F := F)) 𝒱₀ (c : Thread nD τ) none) Set.univ (k0_part130 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ w₃ w₄ w₅ >>= k) Q) := by
  rw [k0_part130_eq_skeleton]; unfold k0_part130_skel
  simp only [Prog.lift, Prog.bind_op, Prog.bind_ret, Prog.pure_eq_ret]
  iintro ⟨#HR, #Hlev, HO, HW4, Hg, HV0, Hout⟩ Hk
  iapply (wait_d ids tab c (yrS 4) (yrS_two 4) 10 rfl (Eq.trans (show _ = crB (yl 4) from rfl) (amt_yr 4).symm) (by decide)) $$ [HO HW4]
  · isplitr; · iexact HR
    isplitr; · iexact Hlev
    isplitl [HO]; · iexact HO
    iexact HW4
  iintro ⟨HO, HW4, Hy4⟩
  ihave Hy4 := (Entails.of_eq (pay_yr ids tab c 4)) $$ Hy4
  iapply (ld_g c (gF ids tab c)) $$ Hg
  iintro Hg
  iapply (ld_y c 4 rfl rfl (gbF ids tab (ynbr c))) $$ Hy4
  iintro Hy4
  iapply (ld_out ids tab c _) $$ Hout
  iintro %_ Hout
  iapply (st_out ids tab c _ (a := 416) (rfl) (fun x => (outF_high ids tab c _ _ (x 0).isLt (x 1).isLt).symm)) $$ Hout
  iintro Hout
  iapply (wait_d ids tab c (xrS 0) (xrS_two 0) 10 rfl (Eq.trans (show _ = crB (xl 0) from rfl) (amt_xr 0).symm) (by decide)) $$ [HO HV0]
  · isplitr; · iexact HR
    isplitr; · iexact Hlev
    isplitl [HO]; · iexact HO
    iexact HV0
  iintro ⟨HO, HV0, Hx0⟩
  ihave Hx0 := (Entails.of_eq (pay_xr ids tab c 0)) $$ Hx0
  iapply (ld_x c 0 rfl rfl (xF ids tab (xnbr c))) $$ Hx0
  iintro Hx0
  iapply (ld_out ids tab c _) $$ Hout
  iintro %_ Hout
  iapply (st_out ids tab c _ (a := 256 - 256 * (c.val / 2)) (k0_off516_eq c) (fun x => (outF_other ids tab c 0 _ _ _ (other_off c 0) (x 0).isLt (x 1).isLt).symm)) $$ Hout
  iintro Hout
  iapply Hk $$ %_
  isplitl [HO]; · iexact HO
  isplitl [HW4]; · iexact HW4
  isplitl [Hy4]; · iexact Hy4
  isplitl [Hg]; · iexact Hg
  isplitl [HV0]; · iexact HV0
  isplitl [Hx0]; · iexact Hx0
  iexact Hout

set_option maxHeartbeats 1600000 in
theorem part131 {α : Type} {Q : α → sProp 𝕄} (c : Dev nD) (D : ℕ → Prop)  (w₁ : BitVec 32) (w₂ : BitVec 32) (w₃ : BitVec 32) (w₄ : BitVec 32)
    {k : PUnit → Prog (TpuEff nD τ sig (Elt F) Λ₀ .tc) α} :
    iprop(records ids tab ∗ levAts L lv ∗ ow c 10 ∗ wt c (xrS 1) ∗ wt c (xrS 2) ∗ outR ids tab c D)
      ⊢ iprop((∀ v, (ow c 10 ∗ sv c (xrS 1) ∗ xP c 1 (xF ids tab (xnbr c)) ∗ sv c (xrS 2) ∗ xP c 2 (xF ids tab (xnbr c)) ∗ outR ids tab c (fun r => (D r ∨ 352 - 256 * (c.val / 2) ≤ r ∧ r < 352 - 256 * (c.val / 2) + 48) ∨ 400 - 256 * (c.val / 2) ≤ r ∧ r < 400 - 256 * (c.val / 2) + 16)) -∗ wp frame (wpE (defs₀ (F := F)) 𝒱₀ (c : Thread nD τ) none) Set.univ (k v) Q) -∗ wp frame (wpE (defs₀ (F := F)) 𝒱₀ (c : Thread nD τ) none) Set.univ (k0_part131 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ w₂ w₃ w₄ >>= k) Q) := by
  rw [k0_part131_eq_skeleton]; unfold k0_part131_skel
  simp only [Prog.lift, Prog.bind_op, Prog.bind_ret, Prog.pure_eq_ret]
  iintro ⟨#HR, #Hlev, HO, HV1, HV2, Hout⟩ Hk
  iapply (wait_d ids tab c (xrS 1) (xrS_two 1) 10 rfl (Eq.trans (show _ = crB (xl 1) from rfl) (amt_xr 1).symm) (by decide)) $$ [HO HV1]
  · isplitr; · iexact HR
    isplitr; · iexact Hlev
    isplitl [HO]; · iexact HO
    iexact HV1
  iintro ⟨HO, HV1, Hx1⟩
  ihave Hx1 := (Entails.of_eq (pay_xr ids tab c 1)) $$ Hx1
  iapply (ld_x c 1 rfl rfl (xF ids tab (xnbr c))) $$ Hx1
  iintro Hx1
  iapply (ld_out ids tab c _) $$ Hout
  iintro %_ Hout
  iapply (st_out ids tab c _ (a := 352 - 256 * (c.val / 2)) (k0_off517_eq c) (fun x => (outF_other ids tab c 1 _ _ _ (other_off c 1) (x 0).isLt (x 1).isLt).symm)) $$ Hout
  iintro Hout
  iapply (wait_d ids tab c (xrS 2) (xrS_two 2) 10 rfl (Eq.trans (show _ = crB (xl 2) from rfl) (amt_xr 2).symm) (by decide)) $$ [HO HV2]
  · isplitr; · iexact HR
    isplitr; · iexact Hlev
    isplitl [HO]; · iexact HO
    iexact HV2
  iintro ⟨HO, HV2, Hx2⟩
  ihave Hx2 := (Entails.of_eq (pay_xr ids tab c 2)) $$ Hx2
  iapply (ld_x c 2 rfl rfl (xF ids tab (xnbr c))) $$ Hx2
  iintro Hx2
  iapply (ld_out ids tab c _) $$ Hout
  iintro %_ Hout
  iapply (st_out ids tab c _ (a := 400 - 256 * (c.val / 2)) (k0_off518_eq c) (fun x => (outF_other ids tab c 2 _ _ _ (other_off c 2) (x 0).isLt (x 1).isLt).symm)) $$ Hout
  iintro Hout
  iapply Hk $$ %_
  isplitl [HO]; · iexact HO
  isplitl [HV1]; · iexact HV1
  isplitl [Hx1]; · iexact Hx1
  isplitl [HV2]; · iexact HV2
  isplitl [Hx2]; · iexact Hx2
  iexact Hout

set_option maxHeartbeats 1600000 in
theorem part132 {α : Type} {Q : α → sProp 𝕄} (c : Dev nD)
    {k : PUnit → Prog (TpuEff nD τ sig (Elt F) Λ₀ .tc) α} :
    iprop(records ids tab ∗ levAts L lv ∗ ow c 10 ∗ wt c (ysS 0) ∗ wt c (ysS 1) ∗ wt c (ysS 2) ∗ wt c (ysS 3) ∗ wt c (ysS 4))
      ⊢ iprop((∀ v, (ow c 10 ∗ sv c (ysS 0) ∗ gbP c 0 (gbF ids tab c) ∗ sv c (ysS 1) ∗ gbP c 1 (gbF ids tab c) ∗ sv c (ysS 2) ∗ gbP c 2 (gbF ids tab c) ∗ sv c (ysS 3) ∗ gbP c 3 (gbF ids tab c) ∗ sv c (ysS 4) ∗ gbP c 4 (gbF ids tab c)) -∗ wp frame (wpE (defs₀ (F := F)) 𝒱₀ (c : Thread nD τ) none) Set.univ (k v) Q) -∗ wp frame (wpE (defs₀ (F := F)) 𝒱₀ (c : Thread nD τ) none) Set.univ (k0_part132 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10  >>= k) Q) := by
  rw [k0_part132_eq_skeleton]; unfold k0_part132_skel
  simp only [Prog.lift, Prog.bind_op, Prog.bind_ret, Prog.pure_eq_ret]
  iintro ⟨#HR, #Hlev, HO, HT0, HT1, HT2, HT3, HT4⟩ Hk
  iapply (wait_d ids tab c (ysS 0) (ysS_two 0) 10 rfl (Eq.trans (show _ = crB (yl 0) from rfl) (amt_ys 0).symm) (by decide)) $$ [HO HT0]
  · isplitr; · iexact HR
    isplitr; · iexact Hlev
    isplitl [HO]; · iexact HO
    iexact HT0
  iintro ⟨HO, HT0, Hg0⟩
  ihave Hg0 := (Entails.of_eq (pay_ys ids tab c 0)) $$ Hg0
  iapply (wait_d ids tab c (ysS 1) (ysS_two 1) 10 rfl (Eq.trans (show _ = crB (yl 1) from rfl) (amt_ys 1).symm) (by decide)) $$ [HO HT1]
  · isplitr; · iexact HR
    isplitr; · iexact Hlev
    isplitl [HO]; · iexact HO
    iexact HT1
  iintro ⟨HO, HT1, Hg1⟩
  ihave Hg1 := (Entails.of_eq (pay_ys ids tab c 1)) $$ Hg1
  iapply (wait_d ids tab c (ysS 2) (ysS_two 2) 10 rfl (Eq.trans (show _ = crB (yl 2) from rfl) (amt_ys 2).symm) (by decide)) $$ [HO HT2]
  · isplitr; · iexact HR
    isplitr; · iexact Hlev
    isplitl [HO]; · iexact HO
    iexact HT2
  iintro ⟨HO, HT2, Hg2⟩
  ihave Hg2 := (Entails.of_eq (pay_ys ids tab c 2)) $$ Hg2
  iapply (wait_d ids tab c (ysS 3) (ysS_two 3) 10 rfl (Eq.trans (show _ = crB (yl 3) from rfl) (amt_ys 3).symm) (by decide)) $$ [HO HT3]
  · isplitr; · iexact HR
    isplitr; · iexact Hlev
    isplitl [HO]; · iexact HO
    iexact HT3
  iintro ⟨HO, HT3, Hg3⟩
  ihave Hg3 := (Entails.of_eq (pay_ys ids tab c 3)) $$ Hg3
  iapply (wait_d ids tab c (ysS 4) (ysS_two 4) 10 rfl (Eq.trans (show _ = crB (yl 4) from rfl) (amt_ys 4).symm) (by decide)) $$ [HO HT4]
  · isplitr; · iexact HR
    isplitr; · iexact Hlev
    isplitl [HO]; · iexact HO
    iexact HT4
  iintro ⟨HO, HT4, Hg4⟩
  ihave Hg4 := (Entails.of_eq (pay_ys ids tab c 4)) $$ Hg4
  iapply Hk $$ %_
  isplitl [HO]; · iexact HO
  isplitl [HT0]; · iexact HT0
  isplitl [Hg0]; · iexact Hg0
  isplitl [HT1]; · iexact HT1
  isplitl [Hg1]; · iexact Hg1
  isplitl [HT2]; · iexact HT2
  isplitl [Hg2]; · iexact Hg2
  isplitl [HT3]; · iexact HT3
  isplitl [Hg3]; · iexact Hg3
  isplitl [HT4]; · iexact HT4
  iexact Hg4

end Cert.Embed

end
-- ==== Proof.GatherRun.lean ====
/-
  The parts of the body that only gather: from the check of the first token id to the reading of step 350's.
-/
module

public import proofs.«01_k».proof.Proof.Gather

@[expose] public section

set_option maxRecDepth 100000

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxHeartbeats 0 in
/-- The parts 1 to 60: part 1 as `h1` runs it, then the steps up to 160. -/
theorem gather133 (c : Dev nD) (ids : Bf (F := F) c idsM) (e : Bf (F := F) c eM) (X R : sProp 𝕄) (Q : (Σ' (d0 : Dev nD) (v2 : BitVec 32) (v5 : BitVec 32) (v6 : BitVec 32) (v7 : BitVec 32) (v13 : Sems sig S_) (v22 : BitVec 32) (v23 : BitVec 32) (v : Elt F .i32) (k0_hw162 : k0_chk162 d0 v) (b : BitVec 1), BitVec 32) → sProp 𝕄)
   (h1 : ∀ Q' : (Σ' (d0 : Dev nD) (v2 : BitVec 32) (v5 : BitVec 32) (v6 : BitVec 32) (v7 : BitVec 32) (v13 : Sems sig S_) (v22 : BitVec 32) (v23 : BitVec 32) (v27 : Elt F .i32) (k0_hw1 : k0_chk1 d0 v27), BitVec 1) → sProp 𝕄, (∀ w₁ w₂ w₃ w₄ w₅ w₆ hw b, gRes c ids e X 0 ⊢ Q' ⟨c, w₁, w₂, w₃, w₄, SemArray.scalar (sig.barrier 0 rfl), w₅, w₆, ids (ix1 (tok c 0)), hw, b⟩) →
     R ⊢ wp frame (wpE (defs₀ (F := F)) 𝒱₀ (c : Thread nD τ) none) Set.univ (k0_part1 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10) Q')
   (h : ∀ w₁ w₂ w₃ w₄ w₅ w₆ hw b w', gRes c ids e X 161 ⊢ Q ⟨c, w₁, w₂, w₃, w₄, SemArray.scalar (sig.barrier 0 rfl), w₅, w₆, ids (ix1 (tok c 161)), hw, b, w'⟩) :
  R ⊢ wp frame (wpE (defs₀ (F := F)) 𝒱₀ (c : Thread nD τ) none) Set.univ (k0_part133 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10) Q := by
  unfold k0_part133
  refine step_part (F := F) fun Q' hQ => ?_
  refine h1 _ fun w₁ w₂ w₃ w₄ w₅ w₆ hw b => ?_
  subst hQ
  iterate 59 (
    refine step_part (F := F) fun Q' hQ => ?_
    sl_open_parts
    repeat (first
      | ((with_reducible apply step_row (F := F)); case hoff => exact rfl)
      | ((with_reducible apply step_old (F := F)); intro _)
      | ((with_reducible apply step_store (F := F)); (case hn => rfl); (case hv => exact pay_eq _))
      | ((with_reducible apply step_id (F := F)); case hoff => first | (with_reducible exact tok_mid c _ (by decide) (by decide)) | (with_reducible exact tok_high c _ _ (by decide) rfl) | exact tok_eq c _ (by decide))
      | ((with_reducible apply step_chk (F := F)); case hP => exact chk c _))
    first
      | with_reducible apply step_ret (F := F)
      | (with_reducible apply step_last (F := F)
         first
          | ((with_reducible apply step_row (F := F)); case hoff => exact rfl)
          | ((with_reducible apply step_old (F := F)); intro _)
          | ((with_reducible apply step_store (F := F)); (case hn => rfl); (case hv => exact pay_eq _))
          | ((with_reducible apply step_id (F := F)); case hoff => first | (with_reducible exact tok_mid c _ (by decide) (by decide)) | (with_reducible exact tok_high c _ _ (by decide) rfl) | exact tok_eq c _ (by decide))
          | ((with_reducible apply step_chk (F := F)); case hP => exact chk c _)
         with_reducible apply step_ret (F := F))
    subst hQ)
  refine step_ret (F := F) ?_
  exact h _ _ _ _ _ _ _ _ _

set_option maxHeartbeats 0 in
/-- The parts 61 to 120: steps 161 to 340. -/
theorem gather134 (c : Dev nD) (ids : Bf (F := F) c idsM) (e : Bf (F := F) c eM) (X : sProp 𝕄) (w₁ : BitVec 32) (hw : k0_chk162 c (ids (ix1 (tok c 161)))) (b : BitVec 1) (w₂ : BitVec 32)
    (Q : (Σ' (v : Elt F .i32) (hw : k0_chk342 c v) (b : BitVec 1), BitVec 32) → sProp 𝕄)
    (h : ∀ hw b w, gRes c ids e X 341 ⊢ Q ⟨ids (ix1 (tok c 341)), hw, b, w⟩) :
  gRes c ids e X 161 ⊢ wp frame (wpE (defs₀ (F := F)) 𝒱₀ (c : Thread nD τ) none) Set.univ (k0_part134 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ (ids (ix1 (tok c 161))) hw b w₂) Q := by
  unfold k0_part134
  iterate 60 (
    refine step_part (F := F) fun Q' hQ => ?_
    sl_open_parts
    repeat (first
      | ((with_reducible apply step_row (F := F)); case hoff => exact rfl)
      | ((with_reducible apply step_old (F := F)); intro _)
      | ((with_reducible apply step_store (F := F)); (case hn => rfl); (case hv => exact pay_eq _))
      | ((with_reducible apply step_id (F := F)); case hoff => first | (with_reducible exact tok_mid c _ (by decide) (by decide)) | (with_reducible exact tok_high c _ _ (by decide) rfl) | exact tok_eq c _ (by decide))
      | ((with_reducible apply step_chk (F := F)); case hP => exact chk c _))
    first
      | with_reducible apply step_ret (F := F)
      | (with_reducible apply step_last (F := F)
         first
          | ((with_reducible apply step_row (F := F)); case hoff => exact rfl)
          | ((with_reducible apply step_old (F := F)); intro _)
          | ((with_reducible apply step_store (F := F)); (case hn => rfl); (case hv => exact pay_eq _))
          | ((with_reducible apply step_id (F := F)); case hoff => first | (with_reducible exact tok_mid c _ (by decide) (by decide)) | (with_reducible exact tok_high c _ _ (by decide) rfl) | exact tok_eq c _ (by decide))
          | ((with_reducible apply step_chk (F := F)); case hP => exact chk c _)
         with_reducible apply step_ret (F := F))
    subst hQ)
  refine step_ret (F := F) ?_
  exact h _ _ _

set_option maxHeartbeats 0 in
/-- The part 121: steps 341 to 343. -/
theorem gather121 (c : Dev nD) (ids : Bf (F := F) c idsM) (e : Bf (F := F) c eM) (X : sProp 𝕄) (w₁ : BitVec 32) (hw : k0_chk342 c (ids (ix1 (tok c 341)))) (b : BitVec 1) (w₂ : BitVec 32)
    (Q : (Σ' (v : Elt F .i32) (hw : k0_chk345 c v) (b : BitVec 1), BitVec 32) → sProp 𝕄)
    (h : ∀ hw b w, gRes c ids e X 344 ⊢ Q ⟨ids (ix1 (tok c 344)), hw, b, w⟩) :
  gRes c ids e X 341 ⊢ wp frame (wpE (defs₀ (F := F)) 𝒱₀ (c : Thread nD τ) none) Set.univ (k0_part121 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ (ids (ix1 (tok c 341))) hw b w₂) Q := by
  sl_open_parts
  repeat (first
    | ((with_reducible apply step_row (F := F)); case hoff => exact rfl)
    | ((with_reducible apply step_old (F := F)); intro _)
    | ((with_reducible apply step_store (F := F)); (case hn => rfl); (case hv => exact pay_eq _))
    | ((with_reducible apply step_id (F := F)); case hoff => first | (with_reducible exact tok_mid c _ (by decide) (by decide)) | (with_reducible exact tok_high c _ _ (by decide) rfl) | exact tok_eq c _ (by decide))
    | ((with_reducible apply step_chk (F := F)); case hP => exact chk c _))
  first
    | with_reducible apply step_ret (F := F)
    | (with_reducible apply step_last (F := F)
       first
        | ((with_reducible apply step_row (F := F)); case hoff => exact rfl)
        | ((with_reducible apply step_old (F := F)); intro _)
        | ((with_reducible apply step_store (F := F)); (case hn => rfl); (case hv => exact pay_eq _))
        | ((with_reducible apply step_id (F := F)); case hoff => first | (with_reducible exact tok_mid c _ (by decide) (by decide)) | (with_reducible exact tok_high c _ _ (by decide) rfl) | exact tok_eq c _ (by decide))
        | ((with_reducible apply step_chk (F := F)); case hP => exact chk c _)
       with_reducible apply step_ret (F := F))
  exact h _ _ _

set_option maxHeartbeats 0 in
/-- The part 122: steps 344 to 346. -/
theorem gather122 (c : Dev nD) (ids : Bf (F := F) c idsM) (e : Bf (F := F) c eM) (X : sProp 𝕄) (w₁ : BitVec 32) (hw : k0_chk345 c (ids (ix1 (tok c 344)))) (b : BitVec 1) (w₂ : BitVec 32)
    (Q : (Σ' (v : Elt F .i32) (hw : k0_chk348 c v) (b : BitVec 1), BitVec 32) → sProp 𝕄)
    (h : ∀ hw b w, gRes c ids e X 347 ⊢ Q ⟨ids (ix1 (tok c 347)), hw, b, w⟩) :
  gRes c ids e X 344 ⊢ wp frame (wpE (defs₀ (F := F)) 𝒱₀ (c : Thread nD τ) none) Set.univ (k0_part122 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ (ids (ix1 (tok c 344))) hw b w₂) Q := by
  sl_open_parts
  repeat (first
    | ((with_reducible apply step_row (F := F)); case hoff => exact rfl)
    | ((with_reducible apply step_old (F := F)); intro _)
    | ((with_reducible apply step_store (F := F)); (case hn => rfl); (case hv => exact pay_eq _))
    | ((with_reducible apply step_id (F := F)); case hoff => first | (with_reducible exact tok_mid c _ (by decide) (by decide)) | (with_reducible exact tok_high c _ _ (by decide) rfl) | exact tok_eq c _ (by decide))
    | ((with_reducible apply step_chk (F := F)); case hP => exact chk c _))
  first
    | with_reducible apply step_ret (F := F)
    | (with_reducible apply step_last (F := F)
       first
        | ((with_reducible apply step_row (F := F)); case hoff => exact rfl)
        | ((with_reducible apply step_old (F := F)); intro _)
        | ((with_reducible apply step_store (F := F)); (case hn => rfl); (case hv => exact pay_eq _))
        | ((with_reducible apply step_id (F := F)); case hoff => first | (with_reducible exact tok_mid c _ (by decide) (by decide)) | (with_reducible exact tok_high c _ _ (by decide) rfl) | exact tok_eq c _ (by decide))
        | ((with_reducible apply step_chk (F := F)); case hP => exact chk c _)
       with_reducible apply step_ret (F := F))
  exact h _ _ _

set_option maxHeartbeats 0 in
/-- The part 123: steps 347 to 349. -/
theorem gather123 (c : Dev nD) (ids : Bf (F := F) c idsM) (e : Bf (F := F) c eM) (X : sProp 𝕄) (w₁ : BitVec 32) (hw : k0_chk348 c (ids (ix1 (tok c 347)))) (b : BitVec 1) (w₂ : BitVec 32)
    (Q : (Σ' (v : Elt F .i32) (hw : k0_chk351 c v) (b : BitVec 1), BitVec 32) → sProp 𝕄)
    (h : ∀ hw b w, gRes c ids e X 350 ⊢ Q ⟨ids (ix1 (tok c 350)), hw, b, w⟩) :
  gRes c ids e X 347 ⊢ wp frame (wpE (defs₀ (F := F)) 𝒱₀ (c : Thread nD τ) none) Set.univ (k0_part123 (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10 c w₁ (ids (ix1 (tok c 347))) hw b w₂) Q := by
  sl_open_parts
  repeat (first
    | ((with_reducible apply step_row (F := F)); case hoff => exact rfl)
    | ((with_reducible apply step_old (F := F)); intro _)
    | ((with_reducible apply step_store (F := F)); (case hn => rfl); (case hv => exact pay_eq _))
    | ((with_reducible apply step_id (F := F)); case hoff => first | (with_reducible exact tok_mid c _ (by decide) (by decide)) | (with_reducible exact tok_high c _ _ (by decide) rfl) | exact tok_eq c _ (by decide))
    | ((with_reducible apply step_chk (F := F)); case hP => exact chk c _))
  first
    | with_reducible apply step_ret (F := F)
    | (with_reducible apply step_last (F := F)
       first
        | ((with_reducible apply step_row (F := F)); case hoff => exact rfl)
        | ((with_reducible apply step_old (F := F)); intro _)
        | ((with_reducible apply step_store (F := F)); (case hn => rfl); (case hv => exact pay_eq _))
        | ((with_reducible apply step_id (F := F)); case hoff => first | (with_reducible exact tok_mid c _ (by decide) (by decide)) | (with_reducible exact tok_high c _ _ (by decide) rfl) | exact tok_eq c _ (by decide))
        | ((with_reducible apply step_chk (F := F)); case hP => exact chk c _)
       with_reducible apply step_ret (F := F))
  exact h _ _ _

end Cert.Embed

end
-- ==== Proof.BodyD.lean ====
/-
  The body of the kernel, run once at a symbolic device.
-/
module

public import proofs.«01_k».proof.Proof.BodyC
public import proofs.«01_k».proof.Proof.GatherRun

@[expose] public section

set_option maxRecDepth 100000

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ids : (c : Dev nD) → Bf (F := F) c idsM) (tab : (c : Dev nD) → Bf (F := F) c tabM)

/-- What the exchange starts with on device `c`. -/
def xPre (c : Dev nD) : sProp 𝕄 :=
  iprop((∃ f, pt (F := F) c xsM f) ∗ outR ids tab c (fun _ => False) ∗ yTok c 0 ∗ yTok c 1 ∗ yTok c 2 ∗ yTok c 3 ∗ yTok c 4 ∗ wt c (yrS 0) ∗ wt c (yrS 1) ∗ wt c (yrS 2) ∗ wt c (yrS 3) ∗ wt c (yrS 4) ∗ xTok c 0 ∗ xTok c 1 ∗ xTok c 2 ∗ wt c (xrS 0) ∗ wt c (xrS 1) ∗ wt c (xrS 2))

/-- What the body starts with on device `c`, -/
def bPre (c : Dev nD) : sProp 𝕄 :=
  iprop(records ids tab ∗ levAts L lv ∗ pt c idsM (ids c) ∗ pt c tabM (tab c) ∗ (∃ f, pt (F := F) c eM f) ∗ (∃ f, pt (F := F) c gM f)
        ∗ dutyTok ER (dCell c esS) 0 false ∗ atPos ER (dCell c esS) 0 ∅ 0 ∗ ow c 0
        ∗ dutyTok ER (barCell (ynbr c)) 0 false ∗ (∃ f, pt (F := F) c yM f) ∗ dutyTok ER (barCell (xnbr c)) 0 true ∗ (∃ f, pt (F := F) c xM f)
        ∗ (∃ f, pt (F := F) c gbM f) ∗ atPos ER (barCell c) 0 ∅ 0 ∗ cred (tallyAt (barCell c) () 2) ∗ xPre ids tab c)
/-- every transfer semaphore of device `c` but the table's at zero, -/
def svAll (c : Dev nD) : sProp 𝕄 :=
  iprop(sv c (ysS 0) ∗ sv c (ysS 1) ∗ sv c (ysS 2) ∗ sv c (ysS 3) ∗ sv c (ysS 4) ∗ sv c (yrS 0) ∗ sv c (yrS 1) ∗ sv c (yrS 2) ∗ sv c (yrS 3) ∗ sv c (yrS 4) ∗ sv c (xsS 0) ∗ sv c (xsS 1) ∗ sv c (xsS 2) ∗ sv c (xrS 0) ∗ sv c (xrS 1) ∗ sv c (xrS 2))
/-- and what it ends with: the ids and the table block as they were, the output computed, every semaphore at zero. -/
def bPost (c : Dev nD) : sProp 𝕄 :=
  iprop(pt c idsM (ids c) ∗ pt c tabM (tab c) ∗ (∃ f, pt (F := F) c eM f) ∗ (∃ f, pt (F := F) c gM f) ∗ (∃ f, pt (F := F) c gbM f) ∗ (∃ f, pt (F := F) c yM f)
        ∗ (∃ f, pt (F := F) c xsM f) ∗ (∃ f, pt (F := F) c xM f) ∗ outR ids tab c (fun r => r < 512) ∗ ow c 10 ∗ semVal (barCell c) 0 ∗ sv c esS
        ∗ svAll c)

/-- The rows stored are all of them. -/
theorem all_rows (c : Dev nD) (r : ℕ) (hr : r < 512) :
    (((((((False ∨ 256 * (c.val / 2) + xo 0 ≤ r ∧ r < 256 * (c.val / 2) + xo 0 + 96) ∨ 256 * (c.val / 2) + xo 1 ≤ r ∧ r < 256 * (c.val / 2) + xo 1 + 48)
      ∨ 256 * (c.val / 2) + xo 2 ≤ r ∧ r < 256 * (c.val / 2) + xo 2 + 16) ∨ 160 ≤ r ∧ r < 160 + 96) ∨ 416 ≤ r ∧ r < 416 + 96)
      ∨ 256 - 256 * (c.val / 2) ≤ r ∧ r < 256 - 256 * (c.val / 2) + 96) ∨ 352 - 256 * (c.val / 2) ≤ r ∧ r < 352 - 256 * (c.val / 2) + 48)
      ∨ 400 - 256 * (c.val / 2) ≤ r ∧ r < 400 - 256 * (c.val / 2) + 16 := by
  have hc : c.val < 4 := c.isLt
  have h0 : xo 0 = 0 := rfl
  have h1 : xo 1 = 96 := rfl
  have h2 : xo 2 = 144 := rfl
  rw [h0, h1, h2]
  have : c.val / 2 = 0 ∨ c.val / 2 = 1 := by omega
  rcases this with h | h <;> rw [h] <;> omega

set_option maxHeartbeats 0 in
/-- The body from `bPre` to `bPost`. -/
theorem body_run (c : Dev nD) (Q : PUnit → sProp 𝕄) (h : bPost ids tab c ⊢ Q ⟨⟩) :
    bPre ids tab c ⊢ wp frame (wpE (defs₀ (F := F)) 𝒱₀ (c : Thread nD τ) none) Set.univ (cc0_body (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10) Q := by
  rw [cc0_body_eq_skeleton]; unfold cc0_body_skel
  refine step_part (F := F) fun Q' hQ => ?_
  refine gather133 c (ids c) (eF tab c) iprop(pt c tabM (tab c) ∗ sv c esS ∗ ow c 2 ∗ records ids tab ∗ levAts L lv ∗ (∃ f, pt (F := F) c gbM f)
      ∗ atPos ER (barCell c) 0 ∅ 0 ∗ cred (tallyAt (barCell c) () 2) ∗ xPre ids tab c) _ Q' (fun Q'' hQ'' => ?_) (fun w₁ w₂ w₃ w₄ w₅ w₆ hw b w' => ?_)
  · refine BIBase.Entails.trans ?_ (part1 ids tab c iprop(records ids tab ∗ levAts L lv ∗ (∃ f, pt (F := F) c gbM f)
      ∗ atPos ER (barCell c) 0 ∅ 0 ∗ cred (tallyAt (barCell c) () 2) ∗ xPre ids tab c) Q'' hQ'')
    unfold bPre
    iintro ⟨#HR, #Hlev, H⟩
    iframe HR Hlev
    icases H with ⟨Hi, Ht, He, Hg, Htk, Hat, HO, Hty, Hy, Htx, Hx, HX⟩
    iframe
  subst hQ
  refine step_part (F := F) fun Q' hQ => ?_
  refine gather134 c (ids c) (eF tab c) _ _ _ _ _ Q' fun hw b w => ?_
  subst hQ
  refine step_part (F := F) fun Q' hQ => ?_
  refine gather121 c (ids c) (eF tab c) _ _ _ _ _ Q' fun hw b w => ?_
  subst hQ
  refine step_part (F := F) fun Q' hQ => ?_
  refine gather122 c (ids c) (eF tab c) _ _ _ _ _ Q' fun hw b w => ?_
  subst hQ
  refine step_part (F := F) fun Q' hQ => ?_
  refine gather123 c (ids c) (eF tab c) _ _ _ _ _ Q' fun hw b w => ?_
  subst hQ
  refine step_part (F := F) fun Q' hQ => ?_
  refine BIBase.Entails.trans ?_ (part124 ids tab c iprop(records ids tab ∗ levAts L lv ∗ pt c tabM (tab c) ∗ sv c esS ∗ xPre ids tab c) _ _ _ _ _ _ Q' ?_)
  · unfold gRes
    iintro ⟨Hi, He, Hg, Ht, Hs, HO, #HR, #Hlev, Hgb, Hat, Hc, HX⟩
    iframe HR Hlev
    iframe
  subst hQ
  unfold xPre
  iintro ⟨Hi, He, Hg, Hgb, HO, Hsb, ⟨%fy, Hy⟩, ⟨%fx, Hx⟩, #HR, #Hlev, Ht, Hse, ⟨%fs, Hxs⟩, Hout, HT0, HT1, HT2, HT3, HT4, HW0, HW1, HW2, HW3, HW4, HU0, HU1, HU2, HV0, HV1, HV2⟩
  ihave Hgb := (Entails.of_eq (gb_split c (gbF ids tab c))) $$ Hgb
  icases Hgb with ⟨Hg0, Hg1, Hg2, Hg3, Hg4⟩
  ihave Hy := (Entails.of_eq (y_split (ynbr c) fy)) $$ Hy
  icases Hy with ⟨Hy0, Hy1, Hy2, Hy3, Hy4⟩
  ihave Hxs := (Entails.of_eq (xs_split c fs)) $$ Hxs
  icases Hxs with ⟨Hs0, Hs1, Hs2⟩
  ihave Hx := (Entails.of_eq (x_split (xnbr c) fx)) $$ Hx
  icases Hx with ⟨Hx0, Hx1, Hx2⟩
  iapply (part125 ids tab c _ _) $$ [HO Hg0 Hy0 HT0 Hg1 Hy1 HT1 Hg2 Hy2 HT2]
  · isplitr; · iexact HR
    isplitl [HO]; · iexact HO
    isplitl [Hg0]; · iexact Hg0
    isplitl [Hy0]; · unfold yDst; iexists _; iexact Hy0
    isplitl [HT0]; · iexact HT0
    isplitl [Hg1]; · iexact Hg1
    isplitl [Hy1]; · unfold yDst; iexists _; iexact Hy1
    isplitl [HT1]; · iexact HT1
    isplitl [Hg2]; · iexact Hg2
    isplitl [Hy2]; · unfold yDst; iexists _; iexact Hy2
    iexact HT2
  iintro %_ ⟨HO, HT0, HT1, HT2⟩
  iapply (part126 ids tab c _ _ _ _) $$ [HO Hg3 Hy3 HT3 Hg4 Hy4 HT4 HW0 Hg Hout]
  · isplitr; · iexact HR
    isplitr; · iexact Hlev
    isplitl [HO]; · iexact HO
    isplitl [Hg3]; · iexact Hg3
    isplitl [Hy3]; · unfold yDst; iexists _; iexact Hy3
    isplitl [HT3]; · iexact HT3
    isplitl [Hg4]; · iexact Hg4
    isplitl [Hy4]; · unfold yDst; iexists _; iexact Hy4
    isplitl [HT4]; · iexact HT4
    isplitl [HW0]; · iexact HW0
    isplitl [Hg]; · iexact Hg
    iexact Hout
  iintro %v0 %hv0 ⟨HO, HT3, HT4, HW0, Hy0, Hg, Hout⟩
  iapply (part127 ids tab c _ _ _ _ _ _ _ hv0) $$ [HO Hs0 Hx0 HU0 HW1 Hg Hout]
  · isplitr; · iexact HR
    isplitr; · iexact Hlev
    isplitl [HO]; · iexact HO
    isplitl [Hs0]; · iexists _; iexact Hs0
    isplitl [Hx0]; · unfold xDst; iexists _; iexact Hx0
    isplitl [HU0]; · iexact HU0
    isplitl [HW1]; · iexact HW1
    isplitl [Hg]; · iexact Hg
    iexact Hout
  iintro %v1 %hv1 ⟨HO, HU0, HW1, Hy1, Hg, Hout⟩
  iapply (part128 ids tab c _ _ _ _ _ _ _ hv1) $$ [HO Hs1 Hx1 HU1 HW2 Hg Hout]
  · isplitr; · iexact HR
    isplitr; · iexact Hlev
    isplitl [HO]; · iexact HO
    isplitl [Hs1]; · iexists _; iexact Hs1
    isplitl [Hx1]; · unfold xDst; iexists _; iexact Hx1
    isplitl [HU1]; · iexact HU1
    isplitl [HW2]; · iexact HW2
    isplitl [Hg]; · iexact Hg
    iexact Hout
  iintro %v2 %hv2 ⟨HO, HU1, HW2, Hy2, Hg, Hout⟩
  iapply (part129 ids tab c _ _ _ _ _ _ hv2) $$ [HO Hs2 Hx2 HU2 HW3 Hg Hout]
  · isplitr; · iexact HR
    isplitr; · iexact Hlev
    isplitl [HO]; · iexact HO
    isplitl [Hs2]; · iexists _; iexact Hs2
    isplitl [Hx2]; · unfold xDst; iexists _; iexact Hx2
    isplitl [HU2]; · iexact HU2
    isplitl [HW3]; · iexact HW3
    isplitl [Hg]; · iexact Hg
    iexact Hout
  iintro %_ ⟨HO, HU2, HW3, Hy3, Hg, Hout⟩
  iapply (part130 ids tab c _ _ _ _ _ _) $$ [HO HW4 Hg HV0 Hout]
  · isplitr; · iexact HR
    isplitr; · iexact Hlev
    isplitl [HO]; · iexact HO
    isplitl [HW4]; · iexact HW4
    isplitl [Hg]; · iexact Hg
    isplitl [HV0]; · iexact HV0
    iexact Hout
  iintro %_ ⟨HO, HW4, Hy4, Hg, HV0, Hx0, Hout⟩
  iapply (part131 ids tab c _ _ _ _ _) $$ [HO HV1 HV2 Hout]
  · isplitr; · iexact HR
    isplitr; · iexact Hlev
    isplitl [HO]; · iexact HO
    isplitl [HV1]; · iexact HV1
    isplitl [HV2]; · iexact HV2
    iexact Hout
  iintro %_ ⟨HO, HV1, Hx1, HV2, Hx2, Hout⟩
  iapply (part132 ids tab c) $$ [HO HT0 HT1 HT2 HT3 HT4]
  · isplitr; · iexact HR
    isplitr; · iexact Hlev
    isplitl [HO]; · iexact HO
    isplitl [HT0]; · iexact HT0
    isplitl [HT1]; · iexact HT1
    isplitl [HT2]; · iexact HT2
    isplitl [HT3]; · iexact HT3
    iexact HT4
  iintro %_ ⟨HO, HT0, Hg0, HT1, Hg1, HT2, Hg2, HT3, Hg3, HT4, Hg4⟩
  simp only [Prog.lift, Prog.bind_op, Prog.bind_ret, Prog.pure_eq_ret]
  iapply (wait_d ids tab c (xsS 0) (xsS_two 0) 10 rfl (Eq.trans (show _ = crB (xl 0) from rfl) (amt_xs 0).symm) (by decide)) $$ [HO HU0]
  · isplitr; · iexact HR
    isplitr; · iexact Hlev
    isplitl [HO]; · iexact HO
    iexact HU0
  iintro ⟨HO, HU0, Hs0⟩
  ihave Hs0 := (Entails.of_eq (pay_xs ids tab c 0)) $$ Hs0
  iapply (wait_d ids tab c (xsS 1) (xsS_two 1) 10 rfl (Eq.trans (show _ = crB (xl 1) from rfl) (amt_xs 1).symm) (by decide)) $$ [HO HU1]
  · isplitr; · iexact HR
    isplitr; · iexact Hlev
    isplitl [HO]; · iexact HO
    iexact HU1
  iintro ⟨HO, HU1, Hs1⟩
  ihave Hs1 := (Entails.of_eq (pay_xs ids tab c 1)) $$ Hs1
  iapply (wait_d ids tab c (xsS 2) (xsS_two 2) 10 rfl (Eq.trans (show _ = crB (xl 2) from rfl) (amt_xs 2).symm) (by decide)) $$ [HO HU2]
  · isplitr; · iexact HR
    isplitr; · iexact Hlev
    isplitl [HO]; · iexact HO
    iexact HU2
  iintro ⟨HO, HU2, Hs2⟩
  ihave Hs2 := (Entails.of_eq (pay_xs ids tab c 2)) $$ Hs2
  iapply (step_ret (c := c) h)
  ihave Hgb := (Entails.of_eq (gb_split c (gbF ids tab c)).symm) $$ [Hg0 Hg1 Hg2 Hg3 Hg4]
  · iframe
  ihave Hy := (Entails.of_eq (y_split c (gbF ids tab (ynbr c))).symm) $$ [Hy0 Hy1 Hy2 Hy3 Hy4]
  · iframe
  ihave Hxs := (Entails.of_eq (xs_split c (xF ids tab c)).symm) $$ [Hs0 Hs1 Hs2]
  · iframe
  ihave Hx := (Entails.of_eq (x_split c (xF ids tab (xnbr c))).symm) $$ [Hx0 Hx1 Hx2]
  · iframe
  ihave Hout := (outR_mono ids tab c (all_rows c)) $$ Hout
  unfold bPost svAll
  isplitl [Hi]; · iexact Hi
  isplitl [Ht]; · iexact Ht
  isplitl [He]; · iexists _; iexact He
  isplitl [Hg]; · iexists _; iexact Hg
  isplitl [Hgb]; · iexists _; iexact Hgb
  isplitl [Hy]; · iexists _; iexact Hy
  isplitl [Hxs]; · iexists _; iexact Hxs
  isplitl [Hx]; · iexists _; iexact Hx
  isplitl [Hout]; · iexact Hout
  isplitl [HO]; · iexact HO
  isplitl [Hsb]; · iexact Hsb
  isplitl [Hse]; · iexact Hse
  isplitl [HT0]; · iexact HT0
  isplitl [HT1]; · iexact HT1
  isplitl [HT2]; · iexact HT2
  isplitl [HT3]; · iexact HT3
  isplitl [HT4]; · iexact HT4
  isplitl [HW0]; · iexact HW0
  isplitl [HW1]; · iexact HW1
  isplitl [HW2]; · iexact HW2
  isplitl [HW3]; · iexact HW3
  isplitl [HW4]; · iexact HW4
  isplitl [HU0]; · iexact HU0
  isplitl [HU1]; · iexact HU1
  isplitl [HU2]; · iexact HU2
  isplitl [HV0]; · iexact HV0
  isplitl [HV1]; · iexact HV1
  iexact HV2

end Cert.Embed

end
-- ==== Proof.Ghost.lean ====
/-
  The ghost state of the exchange at launch: the cells and their duty tokens, dealt to the devices that pay them, and the
  credit of what the other devices owe.
-/
module

public import proofs.«01_k».proof.Proof.BodyD

@[expose] public section

set_option maxRecDepth 100000

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ids : (c : Dev nD) → Bf (F := F) c idsM) (tab : (c : Dev nD) → Bf (F := F) c tabM)

/-! ## Cells and tokens -/

/-- The semaphores of a launch of its own, as the launch theorem indexes them. -/
abbrev osem (j : Fin 17) : SemLoc sig := .dma (⟨j.val + 2, by have := j.isLt; omega⟩ : Fin 19)
theorem ownSemFacts : Pipeline.OwnSemFacts cfg0.spec osem := by decide

theorem csem_injective : ∀ j j' : Fin 18, csem j = csem j' → j = j' := by decide
theorem kcell_injective : Function.Injective kcell := by
  rintro ⟨c, j⟩ ⟨c', j'⟩ h
  have h1 : c = c' := congrArg (fun g : GSem nD τ sig => g.1.1) h
  have h2 : j = j' := csem_injective _ _ (congrArg Prod.snd h)
  rw [h1, h2]
def exCells : Finset (GSem nD τ sig) := Finset.univ.map ⟨kcell, kcell_injective⟩

/-- The duty tokens of one device's cells: the duty `false` of each, and the duty `true` of the barrier's. -/
def tokJ (j : Fin 19) : SemLoc sig × Bool := if h : j.val < 18 then (csem ⟨j.val, h⟩, false) else (csem 0, true)
def tokOf (cj : Dev nD × Fin 19) : GSem nD τ sig × ℕ × Bool := (((cj.1 : Thread nD τ), (tokJ cj.2).1), 0, (tokJ cj.2).2)
theorem tokJ_injective : ∀ j j' : Fin 19, tokJ j = tokJ j' → j = j' := by decide
theorem tokOf_injective : Function.Injective tokOf := by
  rintro ⟨c, j⟩ ⟨c', j'⟩ h
  have h1 : c = c' := congrArg (fun x : GSem nD τ sig × ℕ × Bool => x.1.1.1) h
  have h2 : tokJ j = tokJ j' := congrArg (fun x : GSem nD τ sig × ℕ × Bool => (x.1.2, x.2.2)) h
  rw [h1, tokJ_injective _ _ h2]
def exToks : Finset (GSem nD τ sig × ℕ × Bool) := Finset.univ.map ⟨tokOf, tokOf_injective⟩

/-- The device whose token `j` a device pays with: the barrier's and the receives' are a neighbour's. -/
def payTo (j : Fin 19) : Dev nD ≃ Dev nD :=
  if j.val = 0 ∨ 7 ≤ j.val ∧ j.val < 12 then yEq else if 15 ≤ j.val then xEq else Equiv.refl _

def tok1 (cj : Dev nD × Fin 19) : sProp 𝕄 := dutyTok ER (tokOf cj).1 (tokOf cj).2.1 (tokOf cj).2.2

/-- What the launch element deals device `c`, -/
def G (c : Dev nD) : sProp 𝕄 :=
  iprop((bigSep Finset.univ fun k : Fin 18 => roundState ER (Rd ids tab) (kcell (c, k)) 0)
    ∗ (bigSep Finset.univ fun k : Fin 18 => iprop(atPos ER (kcell (c, k)) 0 ∅ 0 ∗ reached ER (kcell (c, k)) 0))
    ∗ bigSep Finset.univ fun j : Fin 19 => tok1 (F := F) (c, j))

/-- what stays with it: its positions and the tokens it pays with, -/
def lin (c : Dev nD) : sProp 𝕄 :=
  iprop((bigSep Finset.univ fun k : Fin 18 => (atPos ER (kcell (c, k)) 0 ∅ 0 : sProp 𝕄)) ∗ bigSep Finset.univ fun j : Fin 19 => tok1 (F := F) (payTo j c, j))

/-- and that beside the records of all cells. -/
def G' (c : Dev nD) : sProp 𝕄 := iprop(records ids tab ∗ lin (F := F) c)

/-- The positions and the tokens, listed. -/
theorem at_list (c : Dev nD) : (bigSep Finset.univ fun k : Fin 18 => (atPos ER (kcell (c, k)) 0 ∅ 0 : sProp 𝕄))
    = iprop(atPos ER (barCell c) 0 ∅ 0 ∗ atPos ER (dCell c esS) 0 ∅ 0 ∗ atPos ER (dCell c (ysS 0)) 0 ∅ 0 ∗ atPos ER (dCell c (ysS 1)) 0 ∅ 0 ∗ atPos ER (dCell c (ysS 2)) 0 ∅ 0 ∗ atPos ER (dCell c (ysS 3)) 0 ∅ 0 ∗ atPos ER (dCell c (ysS 4)) 0 ∅ 0 ∗ atPos ER (dCell c (yrS 0)) 0 ∅ 0 ∗ atPos ER (dCell c (yrS 1)) 0 ∅ 0 ∗ atPos ER (dCell c (yrS 2)) 0 ∅ 0 ∗ atPos ER (dCell c (yrS 3)) 0 ∅ 0 ∗ atPos ER (dCell c (yrS 4)) 0 ∅ 0 ∗ atPos ER (dCell c (xsS 0)) 0 ∅ 0 ∗ atPos ER (dCell c (xsS 1)) 0 ∅ 0 ∗ atPos ER (dCell c (xsS 2)) 0 ∅ 0 ∗ atPos ER (dCell c (xrS 0)) 0 ∅ 0 ∗ atPos ER (dCell c (xrS 1)) 0 ∅ 0 ∗ atPos ER (dCell c (xrS 2)) 0 ∅ 0) :=
  (bigSep_univ_eq_bigSepL [0, 1, 2, 3, 4, 5, 6, 7, 8, 9, 10, 11, 12, 13, 14, 15, 16, 17] (by decide) (by decide) _).trans rfl
theorem tok_list (c : Dev nD) : (bigSep Finset.univ fun j : Fin 19 => (tok1 (F := F) (payTo j c, j)))
    = iprop(dutyTok ER (barCell (ynbr c)) 0 false ∗ dutyTok ER (dCell c esS) 0 false ∗ dutyTok ER (dCell c (ysS 0)) 0 false ∗ dutyTok ER (dCell c (ysS 1)) 0 false ∗ dutyTok ER (dCell c (ysS 2)) 0 false ∗ dutyTok ER (dCell c (ysS 3)) 0 false ∗ dutyTok ER (dCell c (ysS 4)) 0 false ∗ dutyTok ER (dCell (ynbr c) (yrS 0)) 0 false ∗ dutyTok ER (dCell (ynbr c) (yrS 1)) 0 false ∗ dutyTok ER (dCell (ynbr c) (yrS 2)) 0 false ∗ dutyTok ER (dCell (ynbr c) (yrS 3)) 0 false ∗ dutyTok ER (dCell (ynbr c) (yrS 4)) 0 false ∗ dutyTok ER (dCell c (xsS 0)) 0 false ∗ dutyTok ER (dCell c (xsS 1)) 0 false ∗ dutyTok ER (dCell c (xsS 2)) 0 false ∗ dutyTok ER (dCell (xnbr c) (xrS 0)) 0 false ∗ dutyTok ER (dCell (xnbr c) (xrS 1)) 0 false ∗ dutyTok ER (dCell (xnbr c) (xrS 2)) 0 false ∗ dutyTok ER (barCell (xnbr c)) 0 true) :=
  (bigSep_univ_eq_bigSepL [0, 1, 2, 3, 4, 5, 6, 7, 8, 9, 10, 11, 12, 13, 14, 15, 16, 17, 18] (by decide) (by decide) _).trans rfl

theorem fund : BI.own (ER (initOf exCells exToks)) ⊢ (|==> bigSep Finset.univ (G ids tab) : sProp 𝕄) := by
  have hX (Φ : GSem nD τ sig → sProp 𝕄) : bigSep exCells Φ = bigSep Finset.univ fun c : Dev nD => bigSep Finset.univ fun k : Fin 18 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => bigSep Finset.univ fun j : Fin 19 => tok1 (F := F) (c, j) := by
    unfold exToks; rw [bigSep_map, bigSep_univ_prod]; rfl
  iintro HX
  imod (Rounds.fund ER (Rd ids tab) exCells exToks) $$ HX with ⟨Hst, Hr, Hat, Htok⟩
  imodintro
  ihave Hst := (Entails.of_eq (hX fun g => roundState ER (Rd ids tab) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

theorem ownSems0_eq (c : Dev nD) : (Pipeline.ownSems0 (Ix := Unit) (Name := ℕ) (U := UU) (Lvl := ℕ) (Val := Elt F) (τ := τ) osem c : sProp 𝕄)
    = iprop(sv c esS ∗ sv c (ysS 0) ∗ sv c (ysS 1) ∗ sv c (ysS 2) ∗ sv c (ysS 3) ∗ sv c (ysS 4) ∗ sv c (yrS 0) ∗ sv c (yrS 1) ∗ sv c (yrS 2) ∗ sv c (yrS 3) ∗ sv c (yrS 4) ∗ sv c (xsS 0) ∗ sv c (xsS 1) ∗ sv c (xsS 2) ∗ sv c (xrS 0) ∗ sv c (xrS 1) ∗ sv c (xrS 2)) :=
  (Pipeline.ownSems0_eq_of_list c osem [0, 1, 2, 3, 4, 5, 6, 7, 8, 9, 10, 11, 12, 13, 14, 15, 16] (by decide) (by decide)).trans rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sem_list (c : Dev nD) : (bigSep Finset.univ fun k : Fin 18 => (semVal (kcell (c, k)) 0 : sProp 𝕄))
    = iprop(semVal (barCell c) 0 ∗ sv c esS ∗ sv c (ysS 0) ∗ sv c (ysS 1) ∗ sv c (ysS 2) ∗ sv c (ysS 3) ∗ sv c (ysS 4) ∗ sv c (yrS 0) ∗ sv c (yrS 1) ∗ sv c (yrS 2) ∗ sv c (yrS 3) ∗ sv c (yrS 4) ∗ sv c (xsS 0) ∗ sv c (xsS 1) ∗ sv c (xsS 2) ∗ sv c (xrS 0) ∗ sv c (xrS 1) ∗ sv c (xrS 2)) :=
  (bigSep_univ_eq_bigSepL [0, 1, 2, 3, 4, 5, 6, 7, 8, 9, 10, 11, 12, 13, 14, 15, 16, 17] (by decide) (by decide) _).trans rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 18 => semVal (kcell (c, k)) 0 : sProp 𝕄) := by
  rw [ownSems0_eq, unscopedSems0_eq, sem_list]
  iintro ⟨HS, HB⟩
  isplitl [HB]; · iexact HB
  iexact HS

/-- The invariants of one device's cells. -/
theorem core_alloc (c : Dev nD) :
    iprop(Pipeline.ownSems0 (Ix := Unit) (Name := ℕ) (U := UU) (Lvl := ℕ) (Val := Elt F) (τ := τ) osem c ∗ unscopedSems0 c ∗ G ids tab c)
      ⊢ |={Set.univ}=> iprop((bigSep Finset.univ fun k => recd ids tab (kcell (c, k)))
          ∗ (bigSep Finset.univ fun k => atPos ER (kcell (c, k)) 0 ∅ 0) ∗ bigSep Finset.univ fun j : Fin 19 => tok1 (F := F) (c, j)) := by
  unfold G
  iintro ⟨Hos, Hus, Hst, Hat, Htok⟩
  ihave Hv := (sems0_eq (F := F) c) $$ [Hos Hus]
  · isplitl [Hos] <;> iassumption
  imod (show iprop((bigSep Finset.univ fun k : Fin 18 => semVal (kcell (c, k)) 0) ∗ bigSep Finset.univ fun k : Fin 18 => roundState ER (Rd ids tab) (kcell (c, k)) 0)
      ⊢ (|={Set.univ}=> bigSep Finset.univ fun k => iprop(∃ κ : ℕ, cellInv ER (Rd ids tab) κ (kcell (c, k))) : sProp 𝕄) from by
        rw [← bigSep_sep']
        exact (bigSep_mono fun k _ => (Rounds.body_intro ER (Rd ids tab) (kcell (c, k))).trans inv_alloc).trans (bigSep_fupd _ _)) $$ [Hv Hst] with Hinv
  · isplitl [Hv] <;> iassumption
  imodintro
  ihave Hat := (Entails.of_eq (bigSep_sep' Finset.univ (fun k : Fin 18 => (atPos ER (kcell (c, k)) 0 ∅ 0 : sProp 𝕄)) (fun k => reached ER (kcell (c, k)) 0))) $$ Hat
  icases Hat with ⟨Hat, Hr⟩
  isplitl [Hinv Hr]
  · unfold recd
    iapply (Entails.of_eq (bigSep_sep' Finset.univ (fun k : Fin 18 => iprop(∃ κ : ℕ, cellInv ER (Rd ids tab) κ (kcell (c, k)))) (fun k => (reached ER (kcell (c, k)) 0 : sProp 𝕄))).symm)
    isplitl [Hinv] <;> iassumption
  isplitl [Hat]; · iexact Hat
  iexact Htok

/-- The tokens dealt to the devices that pay them. -/
theorem deal : (bigSep Finset.univ fun c : Dev nD => bigSep Finset.univ fun j : Fin 19 => tok1 (F := F) (c, j))
    = bigSep Finset.univ fun c : Dev nD => bigSep Finset.univ fun j : Fin 19 => tok1 (F := F) (payTo j c, j) := by
  rw [← bigSep_univ_prod (fun cj : Dev nD × Fin 19 => tok1 (F := F) cj), ← bigSep_univ_prod (fun cj : Dev nD × Fin 19 => tok1 (F := F) (payTo cj.2 cj.1, cj.2))]
  exact bigSep_univ_equiv ⟨fun cj => (payTo cj.2 cj.1, cj.2), fun cj => ((payTo cj.2).symm cj.1, cj.2),
    fun cj => Prod.ext (Equiv.symm_apply_apply (payTo cj.2) cj.1) rfl, fun cj => Prod.ext (Equiv.apply_symm_apply (payTo cj.2) cj.1) rfl⟩ _

theorem with_records {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem regroup : (bigSep Finset.univ fun c : Dev nD => iprop((bigSep Finset.univ fun k => recd ids tab (kcell (c, k)))
          ∗ (bigSep Finset.univ fun k => atPos ER (kcell (c, k)) 0 ∅ 0) ∗ bigSep Finset.univ fun j : Fin 19 => tok1 (F := F) (c, j)) : sProp 𝕄)
    ⊢ bigSep Finset.univ (G' ids tab) := by
  rw [bigSep_sep', bigSep_sep', deal, ← bigSep_univ_prod (fun ck : Dev nD × Fin 18 => recd ids tab (kcell ck))]
  iintro ⟨#HR, H⟩
  unfold G' lin
  iapply (with_records (R := records ids tab))
  isplitr
  · unfold records; iexact HR
  rw [bigSep_sep']
  iexact H

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G ids tab c) : sProp 𝕄)
    ⊢ |={Set.univ}=> bigSep Finset.univ (G' ids tab) := by
  exact ((bigSep_mono fun c _ => core_alloc ids tab c).trans (bigSep_fupd _ _)).trans (BI.fupd_mono (regroup ids tab))

/-! ## The launch credit -/

/-- What all devices together owe a cell of device `c`. -/
theorem owed_bar : ∀ c : Dev nD, (∑ d : Dev nD, (((owl d).filter fun p => p.1 = barCell c).map Prod.snd).sum) = 2 := by decide
theorem owed_yr : ∀ (c : Dev nD) (k : Fin 5), (∑ d : Dev nD, (((owl d).filter fun p => p.1 = dCell c (yrS k)).map Prod.snd).sum) = amt (yrS k) := by decide
theorem owed_xr : ∀ (c : Dev nD) (k : Fin 3), (∑ d : Dev nD, (((owl d).filter fun p => p.1 = dCell c (xrS k)).map Prod.snd).sum) = amt (xrS k) := by decide

theorem launch_cell (g : GSem nD τ sig) {n : ℕ} (h : (∑ d : Dev nD, (((owl d).filter fun p => p.1 = g).map Prod.snd).sum) = n) :
    tallyOn g (launchCredit (Pipeline.owing fun d => owe d 0) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => tl_apply (owl d) g ()

def credL (c : Dev nD) : sProp 𝕄 := iprop(cred (tallyAt (barCell c) () 2) ∗ cred (tallyAt (dCell c (yrS 0)) () (amt (yrS 0))) ∗ cred (tallyAt (dCell c (yrS 1)) () (amt (yrS 1))) ∗ cred (tallyAt (dCell c (yrS 2)) () (amt (yrS 2))) ∗ cred (tallyAt (dCell c (yrS 3)) () (amt (yrS 3))) ∗ cred (tallyAt (dCell c (yrS 4)) () (amt (yrS 4))) ∗ cred (tallyAt (dCell c (xrS 0)) () (amt (xrS 0))) ∗ cred (tallyAt (dCell c (xrS 1)) () (amt (xrS 1))) ∗ cred (tallyAt (dCell c (xrS 2)) () (amt (xrS 2))))

theorem creds (c : Dev nD) : (Pipeline.launchCred (fun d => owe d 0) c : sProp 𝕄) ⊢ credL (F := F) c := by
  unfold Pipeline.launchCred
  refine (bigSep_subset (Finset.subset_univ ([SemLoc.reg barS, .dma (yrS 0), .dma (yrS 1), .dma (yrS 2), .dma (yrS 3), .dma (yrS 4), .dma (xrS 0), .dma (xrS 1), .dma (xrS 2)] : List (SemLoc sig)).toFinset)).trans ?_
  rw [bigSep_eq_bigSepL_of_eq _ rfl (by decide)]
  simp only [bigSepL_cons_cons, bigSepL_singleton]
  rw [launch_cell _ (owed_bar c)]
  simp only [launch_cell _ (owed_yr c _), launch_cell _ (owed_xr c _)]
  exact BI.Entails.refl _

end Cert.Embed

end
-- ==== Proof.Launch.lean ====
/-
  The run of the kernel on the four devices, for any float values: every execution ends, the arguments as they were, the
  output array of each device computed, every semaphore at zero.
-/
module

public import proofs.«01_k».proof.Proof.Ghost
public import Idealize.ShloMosaic.Lib.Pipeline.CollectiveSegs

@[expose] public section

set_option maxRecDepth 100000

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- The ids as device `c` stages them, -/
def idsOf (c : Dev nD) : Bf (F := F) c idsM := (win0_0.blk (0 : Fin 1)).view.read (Elt F) (m ((c : Thread nD τ).loc main_arg0))
/-- and its block of the table. -/
def tabOf (c : Dev nD) : Bf (F := F) c tabM := m ((c : Thread nD τ).loc main_arg1)

/-- The scratch buffers, at whatever contents. -/
def scr (c : Dev nD) : sProp 𝕄 :=
  iprop((∃ f, pt (F := F) c eM f) ∗ (∃ f, pt (F := F) c gM f) ∗ (∃ f, pt (F := F) c gbM f) ∗ (∃ f, pt (F := F) c yM f) ∗ (∃ f, pt (F := F) c xsM f) ∗ (∃ f, pt (F := F) c xM f))

def start (c : Dev nD) : sProp 𝕄 :=
  iprop(G' (idsOf m) (tabOf m) c ∗ credL (F := F) c ∗ levAts L lv ∗ pt c tabM (tabOf m c))
def Φ₀ (c : Dev nD) : sProp 𝕄 := iprop(start m c ∗ scr (F := F) c)
def Φ₁ (c : Dev nD) : sProp 𝕄 := iprop(scr (F := F) c ∗ pt c tabM (tabOf m c) ∗ semVal (barCell c) 0 ∗ sv c esS ∗ svAll c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => idsOf m c
    | ⟨1, _⟩ => outF (idsOf m) (tabOf m) c
  Φ t := match t with
    | ⟨0, _⟩ => Φ₀ m c
    | ⟨_ + 1, _⟩ => Φ₁ m c
  q _ := fullShare
  owed t := match t with
    | ⟨0, _⟩ => owe c 0
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (idsOf m c) ∗ stg c cc0_stg1_0 (outF (idsOf m) (tabOf m) c))

/-- What the launch gives the body is what the body starts with, -/
theorem pre_intro (c : Dev nD) : bodyPre m ρ c ⊢ bPre (idsOf m) (tabOf m) c := by
  unfold bodyPre Φ₀ start G' lin credL scr bPre xPre
  rw [at_list, tok_list]
  iintro ⟨⟨⟨⟨#HR, ⟨Ha0, Ha1, Ha2, Ha3, Ha4, Ha5, Ha6, Ha7, Ha8, Ha9, Ha10, Ha11, Ha12, Ha13, Ha14, Ha15, Ha16, Ha17⟩, Ht0, Ht1, Ht2, Ht3, Ht4, Ht5, Ht6, Ht7, Ht8, Ht9, Ht10, Ht11, Ht12, Ht13, Ht14, Ht15, Ht16, Ht17, Ht18⟩, ⟨Hc0, Hc1, Hc2, Hc3, Hc4, Hc5, Hc6, Hc7, Hc8⟩, #Hlev, Htab⟩, He, Hg, Hgb, Hy, Hxs, Hx⟩, Ho, ⟨%d0, %g0, %hg0, Hids⟩, ⟨%d1, %g1, %hg1, Hout⟩⟩
  have hx : g0 = idsOf m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = owe c 0 from rfl]
  unfold wt ow outR yTok xTok
  isplitr; · iexact HR
  isplitr; · iexact Hlev
  isplitl [Hids]; · iexact Hids
  isplitl [Htab]; · iexact Htab
  isplitl [He]; · iexact He
  isplitl [Hg]; · iexact Hg
  isplitl [Ht1]; · iexact Ht1
  isplitl [Ha1]; · iexact Ha1
  isplitl [HO]; · iexists _; iexact HO
  isplitl [Ht0]; · iexact Ht0
  isplitl [Hy]; · iexact Hy
  isplitl [Ht18]; · iexact Ht18
  isplitl [Hx]; · iexact Hx
  isplitl [Hgb]; · iexact Hgb
  isplitl [Ha0]; · iexact Ha0
  isplitl [Hc0]; · iexact Hc0
  isplitl [Hxs]; · iexact Hxs
  isplitl [Hout]
  · iexists g1; isplitr; · (ipureintro; exact fun _ h => h.elim)
    iexact Hout
  isplitl [Ht2 Ht7 Ha2]
  · isplitl [Ht2]; · iexact Ht2
    isplitl [Ht7]; · iexact Ht7
    iexact Ha2
  isplitl [Ht3 Ht8 Ha3]
  · isplitl [Ht3]; · iexact Ht3
    isplitl [Ht8]; · iexact Ht8
    iexact Ha3
  isplitl [Ht4 Ht9 Ha4]
  · isplitl [Ht4]; · iexact Ht4
    isplitl [Ht9]; · iexact Ht9
    iexact Ha4
  isplitl [Ht5 Ht10 Ha5]
  · isplitl [Ht5]; · iexact Ht5
    isplitl [Ht10]; · iexact Ht10
    iexact Ha5
  isplitl [Ht6 Ht11 Ha6]
  · isplitl [Ht6]; · iexact Ht6
    isplitl [Ht11]; · iexact Ht11
    iexact Ha6
  isplitl [Ha7 Hc1]
  · isplitl [Ha7]; · iexact Ha7
    iexact Hc1
  isplitl [Ha8 Hc2]
  · isplitl [Ha8]; · iexact Ha8
    iexact Hc2
  isplitl [Ha9 Hc3]
  · isplitl [Ha9]; · iexact Ha9
    iexact Hc3
  isplitl [Ha10 Hc4]
  · isplitl [Ha10]; · iexact Ha10
    iexact Hc4
  isplitl [Ha11 Hc5]
  · isplitl [Ha11]; · iexact Ha11
    iexact Hc5
  isplitl [Ht12 Ht15 Ha12]
  · isplitl [Ht12]; · iexact Ht12
    isplitl [Ht15]; · iexact Ht15
    iexact Ha12
  isplitl [Ht13 Ht16 Ha13]
  · isplitl [Ht13]; · iexact Ht13
    isplitl [Ht16]; · iexact Ht16
    iexact Ha13
  isplitl [Ht14 Ht17 Ha14]
  · isplitl [Ht14]; · iexact Ht14
    isplitl [Ht17]; · iexact Ht17
    iexact Ha14
  isplitl [Ha15 Hc6]
  · isplitl [Ha15]; · iexact Ha15
    iexact Hc6
  isplitl [Ha16 Hc7]
  · isplitl [Ha16]; · iexact Ha16
    iexact Hc7
  isplitl [Ha17]; · iexact Ha17
  iexact Hc8

/-- and what it ends with is what the launch takes back. -/
theorem post_elim (c : Dev nD) : bPost (idsOf m) (tabOf m) c ⊢ bodyPost m ρ c := by
  unfold bPost bodyPost Φ₁ scr ow outR Dat.owesAt Pipeline.owesWithin
  iintro ⟨Hids, Htab, He, Hg, Hgb, Hy, Hxs, Hx, ⟨%f, %hf, Hout⟩, ⟨%W, HO⟩, Hb, Hs, Hall⟩
  rw [show (dats m ρ 0 c).owed t0_0.succ = owe c 10 from rfl]
  isplitl [Htab He Hg Hgb Hy Hxs Hx Hb Hs Hall]
  · isplitl [He Hg Hgb Hy Hxs Hx]
    · iframe
    isplitl [Htab]; · iexact Htab
    isplitl [Hb]; · iexact Hb
    isplitl [Hs]; · iexact Hs
    iexact Hall
  isplitl [HO]
  · iexists W
    isplitr; · ipureintro; exact fun _ _ => Or.inl trivial
    iexact HO
  isplitl [Hids]
  · iexists _; isplitr; · (ipureintro; rfl)
    iexact Hids
  iexists f
  isplitr
  · ipureintro; exact funext fun i => hf i (i 0).isLt
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (cc0_body (F := F) idsM (hstage0_0 0) tabM (Memref.isWhole_whole _) outM (hstage0_1 0) eM (Memref.isWhole_whole _) gM (Memref.isWhole_whole _) gbM (Memref.isWhole_whole _) yM (Memref.isWhole_whole _) xsM (Memref.isWhole_whole _) xM (Memref.isWhole_whole _) cc0_scratch6 cc0_scratch7 cc0_scratch8 cc0_scratch9 cc0_scratch10) (fun _ => bodyPost m ρ c)
  exact (pre_intro m ρ c).trans (body_run (idsOf m) (tabOf m) c _ (post_elim m ρ c))

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf exCells exToks)

theorem start_intro (c : Dev nD) :
    iprop(Pipeline.unscopedRestP Pipeline.Prefetch.none cfg0.spec c (fun b => m ((c : Thread nD τ).loc b)) ∗ levAts L lv
        ∗ Pipeline.launchCred (fun d => owe d 0) c ∗ prngReg c (ρ c) ∗ G' (idsOf m) (tabOf m) c)
      ⊢ |={Set.univ}=> iprop(start m c ∗ emp) := by
  rw [Pipeline.unscopedRestP_none, unscopedRest0_eq]
  iintro ⟨Ht, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Ht
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

def Y (c : Dev nD) : sProp 𝕄 := iprop(unscopedSems0 c ∗ pt c tabM (tabOf m c))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Y
  rw [unscopedSems0_eq]
  unfold Φ₁ scr svAll
  iintro ⟨Hr, Ht, Hb, Hs, Hall⟩
  isplitl [Hb Ht]
  · isplitl [Hb]; · iexact Hb
    iexact Ht
  isplitl [Hs Hall]
  · isplitl [Hs]; · iexact Hs
    iexact Hall
  iexact Hr

theorem stage_low : ∀ (w : Fin cfg0.W) (s : Fin (cfg0.win w).nbuf), lvS (.dma ((cfg0.win w).sem s)) < 1 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (fun _ => stage_low w s)
    · exact mayWait c _ 10 (fun h => absurd h (by decide))

/-- What the run ends with: each device's output array at the contents computed, its arguments as they were. -/
def QC (s : MemSt nD τ sig (Elt F)) : Prop :=
  ∀ c : Dev nD, (∀ w : Fin cfg0.W, s.mem ((cfg0.win w).arr.view.loc (c : Thread nD τ)) = (dats m ρ 0 c).arrAt w cfg0.N)
    ∧ s.mem ((c : Thread nD τ).loc main_arg1) = m ((c : Thread nD τ).loc main_arg1)

theorem read_end (c : Dev nD) (s' : Phys nD τ sig (Elt F)) :
    iprop(Y m c ∗ (iprop(emp) : sProp 𝕄) ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') := by
  unfold Y
  iintro ⟨⟨Hu, Ht⟩, -, HSI⟩
  ihave %ht := (SI_pointsTo_agree (st := s') (ℓ := (c : Thread nD τ).loc main_arg1) (I := Finset.univ) (q := fullShare) (f := tabOf m c)) $$ [HSI Ht]
  · isplitl [HSI]; · iexact HSI
    iexact Ht
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ ht⟩
  iexact HSI

theorem run_main : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe d 0) (howed₀ := fun _ => rfl) (howedN := fun _ => rfl)
    (L := L) (lv := lv) (hL := L_of_ne) (hwaits := waits m ρ)
    (G := G (idsOf m) (tabOf m)) (G' := G' (idsOf m) (tabOf m)) (u₀ := u₀)
    (hu₀ := by
      unfold u₀
      iintro Hu
      ihave H := (ownU_pair _ _) $$ Hu
      icases H with ⟨HP, HX⟩
      imod (fund (idsOf m) (tabOf m)) $$ HX with HG
      imodintro
      isplitl [HP] <;> iassumption)
    (hglob := glob (idsOf m) (tabOf m))
    (hA := fun _ _ => rfl) (hpf := fun _ k => k.elim0)
    (X := start m) (Y := Y m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨fun w => (h c).1 w, (h c).2.2.2⟩, sem_eq_zero hs fun c => (h c).2.2.1⟩)

/-- The ids array after the run holds what it held, -/
theorem arr_ids (c : Dev nD) : (dats m ρ 0 c).arrAt (0 : Fin 2) cfg0.N = m ((c : Thread nD τ).loc main_arg0) :=
  (dats (F := F) m ρ 0 c).arrAt_in (0 : Fin 2) rfl _

end Cert.Embed

end
-- ==== Proof.Value.lean ====
/-
  What the kernel computes, at exact values: device by device the rows of the whole table that the ids name, which is what
  the reference gathers.
-/
module

public import proofs.«01_k».proof.Proof.Launch
public import proofs.«01_k».proof.Defs
public import proofs.«01_k».proof.Proof.Gen.ReferenceIdeal.Run
public import Idealize.ShloMosaic.Lib.ReduceAll

@[expose] public section

noncomputable section

namespace Cert.Embed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The arrays after the run -/

section Arrays
variable {F : FTy → Type} [FloatOps F] (m : (ℓ : Loc nD τ sig) → Buf (Elt F) ℓ) (ρ : Dev nD → PrngReg)

/-- The window over the ids is the whole array. -/
theorem idsOf_eq (c : Dev nD) (i : S512.Idx) : (idsOf m c : S512.Idx → BitVec 32) i = (m ((c : Thread nD τ).loc main_arg0) : S512.Idx → BitVec 32) i := by
  show (m ((c : Thread nD τ).loc main_arg0) : S512.Idx → BitVec 32) _ = _
  congr 1
  funext a
  fin_cases a
  refine Fin.ext ?_
  show 0 + 1 * (i 0).val = (i 0).val
  omega

/-- The output array after the run is what the body computed. -/
theorem arr_out (c : Dev nD) : (dats m ρ 0 c).arrAt (1 : Fin 2) cfg0.N = outF (idsOf m) (tabOf m) c := by
  have he : ∀ (t : Fin cfg0.N) (i : S512x512.Idx), ((cfg0.win (1 : Fin 2)).blk t).view.emb i = i := by
    intro t i
    funext a
    refine Fin.ext ?_
    rw [fin_N0 t]
    fin_cases a
    · show 0 + 1 * (i 0).val = (i 0).val; omega
    · show 0 + 1 * (i 1).val = (i 1).val; omega
  refine (dats m ρ 0 c).arrAt_eq_of_cover (1 : Fin 2) _ (fun t _ => ?_) (fun i => ⟨t0_0, rfl, ?_⟩)
  · funext i
    rw [View.read_apply]
    exact (congrArg (outF (idsOf m) (tabOf m) c) (he t i)).symm
  · exact he t0_0 i ▸ View.emb_mem_set _ i

end Arrays

/-! ## The rows -/

/-- The index of the whole table at row `r`, column `j`. -/
abbrev i8192 (r j : ℕ) : (⟨2, ![8192, 512]⟩ : Shape).Idx := ix2 (m := 8192) (n := 512) (by decide) (by decide) r j

theorem zro_eq : (zro (F := Ideal)) = 0 := by
  show Ideal.ofBits .f32 0x00000000#32 = 0
  simp [Ideal.ofBits, Ideal.ieee]

theorem ynbr_row : ∀ c : Dev nD, (ynbr c).val / 2 = c.val / 2 ∧ (ynbr c).val % 2 = 1 - c.val % 2 := by decide
theorem xnbr_row : ∀ c : Dev nD, (xnbr c).val / 2 = 1 - c.val / 2 := by decide

theorem ix2_val {m n : ℕ} (hm : 0 < m) (hn : 0 < n) (r j : ℕ) : (ix2 hm hn r j 0).val = r % m ∧ (ix2 hm hn r j 1).val = j % n := ⟨rfl, rfl⟩

/-- The sides of a device's half of the table. -/
theorem pos_half : 0 < 4096 := by decide
theorem pos_row : 0 < 512 := by decide
theorem pos_one : 0 < 1 := by decide

section Rows
variable (ids : (c : Dev nD) → Bf (F := Ideal) c idsM) (tab : (c : Dev nD) → Bf (F := Ideal) c tabM)
  (w : S512.Idx → BitVec 32) (T : (⟨2, ![8192, 512]⟩ : Shape).Idx → Ideal .f32)
  (hids : ∀ (c : Dev nD) (i : S512.Idx), (ids c : S512.Idx → BitVec 32) i = w i)
  (hw : ∀ i, 0 ≤ (w i).toInt ∧ (w i).toInt < 8192)
  (htab : ∀ (c : Dev nD) (r j : ℕ), r < 4096 → j < 512 → (tab c : S4096x512.Idx → Ideal .f32) (ix2 (m := 4096) (n := 512) pos_half pos_row r j) = T (i8192 (4096 * (c.val % 2) + r) j))

/-- What the reference puts in row `t`: the row of the table that id `t` names. -/
def refRow (t j : ℕ) : Ideal .f32 := T (i8192 (w (ix1 t)).toInt.toNat j)

include hids hw htab

/-- A device gathers that row if it holds it, and zeros if not. -/
theorem gF_eq (c : Dev nD) (i : S352x512.Idx) :
    (gF ids tab c : S352x512.Idx → Ideal .f32) i
      = if (w (ix1 (tok c (i 0).val))).toInt.toNat / 4096 = c.val % 2 then refRow w T (tok c (i 0).val) (i 1).val else 0 := by
  have hj : (i 1).val < 512 := (i 1).isLt
  have hc : c.val < 4 := c.isLt
  obtain ⟨h0, h1⟩ := hw (ix1 (tok c (i 0).val))
  have hlt : rowOf c (w (ix1 (tok c (i 0).val))) < 4104 := lt_of_le_of_lt (rowOf_le _ _) (by decide)
  have hr := rowOf_eq c (w (ix1 (tok c (i 0).val)))
  show gath (F := Ideal) c (ids c : S512.Idx → BitVec 32) (eF tab c : S4104x512.Idx → Ideal .f32) i = _
  unfold gath eF
  rw [hids]
  obtain ⟨e0, e1⟩ := ix2_val (m := 4104) (n := 512) (by decide) (by decide) (rowOf c (w (ix1 (tok c (i 0).val)))) (i 1).val
  rw [e0, e1, Nat.mod_eq_of_lt hlt, Nat.mod_eq_of_lt hj]
  by_cases h : (w (ix1 (tok c (i 0).val))).toInt.toNat / 4096 = c.val % 2
  · rw [if_pos (by omega)] at hr
    rw [if_pos h, if_pos (by omega), htab c _ _ (by omega) hj, hr]
    unfold refRow
    congr 2; omega
  · rw [if_neg (by omega)] at hr
    rw [if_neg h, if_neg (by omega)]; exact zro_eq

/-- The sum of the pair's two gathered rows is that row. -/
theorem sF_eq (c : Dev nD) (i : S352x512.Idx) : sF ids tab c i = refRow w T (tok c (i 0).val) (i 1).val := by
  obtain ⟨hy, hz⟩ := ynbr_row c
  have ht : tok (ynbr c) (i 0).val = tok c (i 0).val := by unfold tok; rw [hy]
  obtain ⟨h0, h1⟩ := hw (ix1 (tok c (i 0).val))
  show FloatOps.addf (F := Ideal) (φ := .f32) ((gF ids tab c : S352x512.Idx → Ideal .f32) i) ((gF ids tab (ynbr c) : S352x512.Idx → Ideal .f32) i) = _
  rw [gF_eq ids tab w T hids hw htab c i, gF_eq ids tab w T hids hw htab (ynbr c) i, ht, hz]
  by_cases h : (w (ix1 (tok c (i 0).val))).toInt.toNat / 4096 = c.val % 2
  · rw [if_pos h, if_neg (by omega)]; exact add_zero (_ : EReal)
  · rw [if_neg h, if_pos (by omega)]; exact zero_add (_ : EReal)

/-- Every row of every device's output is the row of the table that its id names. -/
theorem outF_eq (c : Dev nD) (i : S512x512.Idx) : outF ids tab c i = refRow w T (i 0).val (i 1).val := by
  have h0 : (i 0).val < 512 := (i 0).isLt
  have hj : (i 1).val < 512 := (i 1).isLt
  have hc : c.val < 4 := c.isLt
  have key : ∀ (d : Dev nD) (r : ℕ), r < 352 → tok d r = (i 0).val → sF ids tab d (i352 r (i 1).val) = refRow w T (i 0).val (i 1).val := by
    intro d r hr ht
    rw [sF_eq ids tab w T hids hw htab d]
    obtain ⟨e0, e1⟩ := ix2_val (m := 352) (n := 512) (by decide) (by decide) r (i 1).val
    rw [e0, e1, Nat.mod_eq_of_lt hr, Nat.mod_eq_of_lt hj, ht]
  unfold outF
  split
  · exact key c _ (by omega) (by unfold tok; rw [if_neg (by omega), if_pos (by omega)])
  split
  · exact key c _ (by omega) (by unfold tok; rw [if_neg (by omega), if_neg (by omega)]; omega)
  split
  · exact key c _ (by omega) (by unfold tok; rw [if_pos (by omega)]; omega)
  · have hx := xnbr_row c
    obtain ⟨e0, e1⟩ := ix2_val (m := 160) (n := 512) (by decide) (by decide) ((i 0).val % 256) (i 1).val
    show sF ids tab (xnbr c) (i352 ((i160 ((i 0).val % 256) (i 1).val) 0).val ((i160 ((i 0).val % 256) (i 1).val) 1).val) = _
    rw [e0, e1, Nat.mod_eq_of_lt hj, Nat.mod_eq_of_lt (show (i 0).val % 256 < 160 by omega)]
    exact key (xnbr c) _ (by omega) (by unfold tok; rw [if_pos (by omega), hx]; omega)

end Rows

/-! ## The reference -/

section Reference
/-- The gather at an index: the table at the row that the start index names, held inside the table. -/
theorem gather_apply (x : (⟨2, ![8192, 512]⟩ : Shape).Idx → Ideal .f32) (idx : IVec (⟨2, ![512, 1]⟩ : Shape) 32) (y : (⟨2, ![512, 512]⟩ : Shape).Idx) :
    Host.gather Cert.ReferenceIdeal.gather_S8192x512_S512x1_S512x512_1_0_n_n_0_1_1512 x idx y
      = x (i8192 (min (idx (ix2 (m := 512) (n := 1) pos_row pos_one (y 0).val 0)).toInt.toNat 8191) (y 1).val) := by
  unfold Host.gather
  congr 1
  funext a
  refine Fin.ext ?_
  show GatherDims.start _ y idx a + GatherDims.batchCoord _ y a + GatherDims.offCoord _ y a = _
  rw [GatherDims.batchCoord_eq_zero _ _ _ (by exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (by exact List.mem_singleton.mpr rfl)]
    have hsi : (Cert.ReferenceIdeal.gather_S8192x512_S512x1_S512x512_1_0_n_n_0_1_1512).siIdx y ⟨List.idxOf (0 : Fin 2) (Cert.ReferenceIdeal.gather_S8192x512_S512x1_S512x512_1_0_n_n_0_1_1512).startIndexMap,
        List.idxOf_lt_length_iff.2 (List.mem_singleton.mpr rfl)⟩ = ix2 (m := 512) (n := 1) pos_row pos_one (y 0).val 0 := by
      funext b; refine Fin.ext ?_
      match b with
      | ⟨0, _⟩ => exact (Nat.mod_eq_of_lt (y 0).isLt).symm
      | ⟨1, _⟩ => rfl
    rw [hsi]
    show min _ (8192 - 1) + 0 + 0 = min _ 8191 % 8192
    rw [Nat.mod_eq_of_lt (by omega)]; rfl
  · unfold GatherDims.start GatherDims.offCoord
    rw [dif_neg (by decide), dif_pos (by decide)]
    show 0 + 0 + (y 1).val = (y 1).val % 512
    have hj := Nat.mod_eq_of_lt (show (y 1).val < 512 from (y 1).isLt)
    omega
end Reference

end Cert.Embed

end
-- ==== Proof.lean ====
/-
  The proof of the certificate's claims, from the run of the kernel (`Launch`), the run of the reference, and what the two
  compute (`Value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-! ## The side conditions of the precondition -/

theorem pre_facts_kernel : Cert.Pre_ids_in_range_KernelIdeal.Facts where
  bcast_S_S512 := by decide
  reducesTo_S512_S_d0 := by decide
  h_S_ := by decide
theorem pre_facts_reference : Cert.Pre_ids_in_range_ReferenceIdeal.Facts where
  bcast_S_S512 := by decide
  reducesTo_S512_S_d0 := by decide
  h_S_ := by decide

/-! ## The runs -/

/-- The run, for any float values: the arguments as they were and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨((h.1 c).1 (0 : Fin 2)).trans (Cert.Embed.arr_ids m ρ c), (h.1 c).2⟩, h.2⟩)
    (Cert.Embed.run_main m ρ)

theorem frame_ideal : Cert.quiescent_KernelIdeal := fun m ρ _ => frame_any m ρ

/-- The kernel as printed is the same program, so it runs the same. -/
theorem frame_kernel : Cert.quiescent_Kernel := fun m ρ _ =>
  Cert.Same.run_of_ideal (F := Bits) m ρ _ (frame_any (F := Bits) m ρ)

/-- The reference declares no semaphore, so none is left raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The two compute one array -/

/-- The ids. -/
abbrev IdsV : Type := (⟨1, ![512]⟩ : Shape).Idx → BitVec 32
/-- The table. -/
abbrev TabV : Type := (⟨2, ![8192, 512]⟩ : Shape).Idx → Ideal .f32

/-- The precondition read at an id: it names a row of the table. -/
theorem id_range [Cert.Pre_ids_in_range_KernelIdeal.Facts] (w : IdsV) (t : (⟨2, ![4096, 512]⟩ : Shape).Idx → Ideal .f32)
    (h : Cert.Pre_ids_in_range_KernelIdeal.fn (F := Ideal) w t = fun _ => 1#1) (i : (⟨1, ![512]⟩ : Shape).Idx) :
    0 ≤ (w i).toInt ∧ (w i).toInt < 8192 := by
  haveI : Subsingleton Cert.Pre_ids_in_range_KernelIdeal.S_.Idx := ⟨fun a b => funext fun k => k.elim0⟩
  have h0 := congrFun h (fun k => k.elim0)
  dsimp only [Cert.Pre_ids_in_range_KernelIdeal.fn] at h0
  obtain ⟨hl, hr⟩ := IntOp.andi_eq_one.1 (Host.reduce_andi_all _ _ _ _ _ h0 i)
  exact ⟨IntOp.cmpi_sge.1 hl, IntOp.cmpi_slt.1 hr⟩

/-- A device's half of the table, read at a row of the half. -/
theorem half_apply (c : Dev Cert.KernelIdeal.nD) (T : TabV) (i : (⟨2, ![4096, 512]⟩ : Shape).Idx) :
    (Layout.blockN ⟨2, ![4096, 512]⟩ ⟨2, ![8192, 512]⟩ (Layout.meshBlock [2, 2] ![[1], []] c) T) i
      = T (Cert.Embed.i8192 (4096 * (c.val % 2) + (i 0).val) (i 1).val) := by
  have hc : ∀ c : Dev Cert.KernelIdeal.nD, Layout.meshLin [2, 2] c.val [1] = c.val % 2 ∧ Layout.meshLin [2, 2] c.val [] = 0 := by decide
  have h0 : (i 0).val < 4096 := (i 0).isLt
  have h1 : (i 1).val < 512 := (i 1).isLt
  have hm : c.val % 2 < 2 := Nat.mod_lt _ (by decide)
  rw [Layout.blockN_apply]
  congr 1
  funext b
  refine Fin.ext ?_
  have hb : b = 0 ∨ b = 1 := by
    match b with
    | ⟨0, _⟩ => exact Or.inl rfl
    | ⟨1, _⟩ => exact Or.inr rfl
  rcases hb with rfl | rfl
  · show Layout.meshLin [2, 2] c.val [1] * 4096 + (i 0).val = (4096 * (c.val % 2) + (i 0).val) % 8192
    rw [(hc c).1]; omega
  · show Layout.meshLin [2, 2] c.val [] * 512 + (i 1).val = (i 1).val % 512
    rw [(hc c).2]; omega

/-- The array that both end with: row by row, the row of the table that the id names. -/
def answer (w : IdsV) (T : TabV) : (⟨2, ![512, 512]⟩ : Shape).Idx → Ideal .f32 :=
  fun i => Cert.Embed.refRow w T (i 0).val (i 1).val

/-- The reference's composed term is that array when every id names a row. -/
theorem reference_value (w : IdsV) (T : TabV) (hw : ∀ i, 0 ≤ (w i).toInt ∧ (w i).toInt < 8192) (idx : IVec (⟨2, ![512, 1]⟩ : Shape) 32)
    (hidx : ∀ t : ℕ, t < 512 → idx (Cert.Embed.ix2 (m := 512) (n := 1) Cert.Embed.pos_row Cert.Embed.pos_one t 0) = w (Cert.Embed.ix1 t)) :
    Host.gather Cert.ReferenceIdeal.gather_S8192x512_S512x1_S512x512_1_0_n_n_0_1_1512 T idx = answer w T := by
  funext y
  have hy : (y 0).val < 512 := (y 0).isLt
  rw [Cert.Embed.gather_apply, hidx _ hy]
  obtain ⟨h0, h1⟩ := hw (Cert.Embed.ix1 (y 0).val)
  rw [Nat.min_eq_left (by omega)]
  rfl

/-- The ids that are not negative are taken as they are. -/
theorem select_id (w : IdsV) (hw : ∀ i, 0 ≤ (w i).toInt ∧ (w i).toInt < 8192) (z a : IdsV) (hz : ∀ i, z i = 0#32) :
    select (cmpi .slt w z) a w = w := by
  funext i
  show (if IntOp.cmpi .slt (w i) (z i) = 1#1 then a i else w i) = w i
  rw [if_neg]
  rw [hz, IntOp.cmpi_slt]
  exact not_lt.2 (hw i).1

/-- When every id names a row, every device of the kernel ends with the array that the reference ends with. -/
theorem algebraic [hP : Cert.Pre_ids_in_range_KernelIdeal.Facts] : Cert.algebraic_KernelIdeal_ReferenceIdeal_pre_ids_in_range_KernelIdeal := by
  intro m ρ m' ρ' hpre hag
  have hw : ∀ i, 0 ≤ ((m' (((0 : Dev Cert.ReferenceIdeal.nD).tc : Thread Cert.ReferenceIdeal.nD Cert.ReferenceIdeal.τ).loc Cert.ReferenceIdeal.main_arg0) : IdsV) i).toInt
      ∧ ((m' (((0 : Dev Cert.ReferenceIdeal.nD).tc : Thread Cert.ReferenceIdeal.nD Cert.ReferenceIdeal.τ).loc Cert.ReferenceIdeal.main_arg0) : IdsV) i).toInt < 8192 := by
    intro i
    have h := id_range _ _ (hpre 0) i
    rw [(hag 0).1] at h
    exact h
  refine ⟨answer (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(((h.1 c).1 (1 : Fin 2)).trans (Cert.Embed.arr_out m ρ c)).trans (funext fun i => ?_),
      ((h.1 c).1 (0 : Fin 2)).trans (Cert.Embed.arr_ids m ρ c), (h.1 c).2⟩) (Cert.Embed.run_main m ρ)
    refine Cert.Embed.outF_eq (Cert.Embed.idsOf m) (Cert.Embed.tabOf m) _ _ (fun d j => ?_) hw (fun d r j hr hj => ?_) c i
    · exact (Cert.Embed.idsOf_eq m d j).trans (congrFun (hag d).1 j)
    · refine (congrFun (hag d).2 _).trans ((half_apply d _ _).trans ?_)
      obtain ⟨e0, e1⟩ := Cert.Embed.ix2_val (m := 4096) (n := 512) Cert.Embed.pos_half Cert.Embed.pos_row r j
      rw [e0, e1, Nat.mod_eq_of_lt hr, Nat.mod_eq_of_lt hj]
  · refine (θ_run Cert.ReferenceIdeal.defs _ _).mono (fun _ h => ⟨(h 0).1.trans ?_, (h 0).2⟩) (Cert.ReferenceIdeal.Value.run (F := Ideal) m' ρ')
    refine reference_value _ _ hw _ (fun t ht => ?_)
    show (select _ _ _ : IdsV) _ = _
    refine (congrFun (select_id _ hw _ _ (fun _ => rfl)) _).trans ?_
    congr 1
    funext a
    fin_cases a
    refine Fin.ext ?_
    rfl

/-! ## The certificate -/

theorem claim : Cert.Claim :=
  ⟨Cert.Kernel.Gen.facts, Cert.KernelIdeal.Gen.facts, Cert.ReferenceIdeal.Gen.facts, pre_facts_kernel, pre_facts_reference,
    frame_kernel, frame_ideal, fun m ρ _ => frame_ideal m ρ trivial, frame_reference, fun m ρ _ => frame_reference m ρ trivial,
    trivial, algebraic (hP := pre_facts_kernel)⟩

end Cert.Proof

end
